-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "neg_two_c0_c1" .f32 0xBD922279#32 ((-80338380498831 / 1125899906842624 : ℝ) : EReal)
  ∧ IdealRules.named_const.Statement Cert.KernelIdeal.κ "six_c0_c1" .f32 0x3E5B33B6#32 ((241015141496493 / 1125899906842624 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v121_0)) (v1 : (c : Dev Cert.KernelIdeal.nD) → Buf (Elt Ideal) ((c.tc : Thread Cert.KernelIdeal.nD Cert.KernelIdeal.τ).loc Cert.KernelIdeal.main_v121_1)) (v2 : (c : Dev Cert.KernelIdeal.nD) → Buf (Elt Ideal) ((c.tc : Thread Cert.KernelIdeal.nD Cert.KernelIdeal.τ).loc Cert.KernelIdeal.main_v121_2)) (v3 : (c : Dev Cert.KernelIdeal.nD) → Buf (Elt Ideal) ((c.tc : Thread Cert.KernelIdeal.nD Cert.KernelIdeal.τ).loc Cert.KernelIdeal.main_v121_3)) (v4 : (c : Dev Cert.KernelIdeal.nD) → Buf (Elt Ideal) ((c.tc : Thread Cert.KernelIdeal.nD Cert.KernelIdeal.τ).loc Cert.KernelIdeal.main_v121_4)) (v5 : (c : Dev Cert.KernelIdeal.nD) → Buf (Elt Ideal) ((c.tc : Thread Cert.KernelIdeal.nD Cert.KernelIdeal.τ).loc Cert.KernelIdeal.main_v121_5)) (v6 : (c : Dev Cert.KernelIdeal.nD) → Buf (Elt Ideal) ((c.tc : Thread Cert.KernelIdeal.nD Cert.KernelIdeal.τ).loc Cert.KernelIdeal.main_v121_6)) (v7 : (c : Dev Cert.KernelIdeal.nD) → Buf (Elt Ideal) ((c.tc : Thread Cert.KernelIdeal.nD Cert.KernelIdeal.τ).loc Cert.KernelIdeal.main_v121_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121_0) = v0 c
          ∧ r.2.mem ((c.tc : Thread Cert.KernelIdeal.nD Cert.KernelIdeal.τ).loc Cert.KernelIdeal.main_v121_1) = v1 c
          ∧ r.2.mem ((c.tc : Thread Cert.KernelIdeal.nD Cert.KernelIdeal.τ).loc Cert.KernelIdeal.main_v121_2) = v2 c
          ∧ r.2.mem ((c.tc : Thread Cert.KernelIdeal.nD Cert.KernelIdeal.τ).loc Cert.KernelIdeal.main_v121_3) = v3 c
          ∧ r.2.mem ((c.tc : Thread Cert.KernelIdeal.nD Cert.KernelIdeal.τ).loc Cert.KernelIdeal.main_v121_4) = v4 c
          ∧ r.2.mem ((c.tc : Thread Cert.KernelIdeal.nD Cert.KernelIdeal.τ).loc Cert.KernelIdeal.main_v121_5) = v5 c
          ∧ r.2.mem ((c.tc : Thread Cert.KernelIdeal.nD Cert.KernelIdeal.τ).loc Cert.KernelIdeal.main_v121_6) = v6 c
          ∧ r.2.mem ((c.tc : Thread Cert.KernelIdeal.nD Cert.KernelIdeal.τ).loc Cert.KernelIdeal.main_v121_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v329) = v0 c
          ∧ r.2.mem ((c.tc : Thread Cert.ReferenceIdeal.nD Cert.ReferenceIdeal.τ).loc Cert.ReferenceIdeal.main_v326) = v1 c
          ∧ r.2.mem ((c.tc : Thread Cert.ReferenceIdeal.nD Cert.ReferenceIdeal.τ).loc Cert.ReferenceIdeal.main_v328) = v2 c
          ∧ r.2.mem ((c.tc : Thread Cert.ReferenceIdeal.nD Cert.ReferenceIdeal.τ).loc Cert.ReferenceIdeal.main_v321) = v3 c
          ∧ r.2.mem ((c.tc : Thread Cert.ReferenceIdeal.nD Cert.ReferenceIdeal.τ).loc Cert.ReferenceIdeal.main_v257) = v4 c
          ∧ r.2.mem ((c.tc : Thread Cert.ReferenceIdeal.nD Cert.ReferenceIdeal.τ).loc Cert.ReferenceIdeal.main_v256) = v5 c
          ∧ r.2.mem ((c.tc : Thread Cert.ReferenceIdeal.nD Cert.ReferenceIdeal.τ).loc Cert.ReferenceIdeal.main_v330) = v6 c
          ∧ r.2.mem ((c.tc : Thread Cert.ReferenceIdeal.nD Cert.ReferenceIdeal.τ).loc Cert.ReferenceIdeal.main_v331) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)) (v5 : (c : Dev Cert.Kernel3Ideal.nD) → Buf (Elt Ideal) ((c.tc : Thread Cert.Kernel3Ideal.nD Cert.Kernel3Ideal.τ).loc Cert.Kernel3Ideal.main_v6_5)) (v6 : (c : Dev Cert.Kernel3Ideal.nD) → Buf (Elt Ideal) ((c.tc : Thread Cert.Kernel3Ideal.nD Cert.Kernel3Ideal.τ).loc Cert.Kernel3Ideal.main_v6_6)) (v7 : (c : Dev Cert.Kernel3Ideal.nD) → Buf (Elt Ideal) ((c.tc : Thread Cert.Kernel3Ideal.nD Cert.Kernel3Ideal.τ).loc Cert.Kernel3Ideal.main_v6_7)) (v8 : (c : Dev Cert.Kernel3Ideal.nD) → Buf (Elt Ideal) ((c.tc : Thread Cert.Kernel3Ideal.nD Cert.Kernel3Ideal.τ).loc Cert.Kernel3Ideal.main_v6_8)) (v9 : (c : Dev Cert.Kernel3Ideal.nD) → Buf (Elt Ideal) ((c.tc : Thread Cert.Kernel3Ideal.nD Cert.Kernel3Ideal.τ).loc Cert.Kernel3Ideal.main_v6_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_v6_5) = v5 c
          ∧ r.2.mem ((c.tc : Thread Cert.Kernel3Ideal.nD Cert.Kernel3Ideal.τ).loc Cert.Kernel3Ideal.main_v6_6) = v6 c
          ∧ r.2.mem ((c.tc : Thread Cert.Kernel3Ideal.nD Cert.Kernel3Ideal.τ).loc Cert.Kernel3Ideal.main_v6_7) = v7 c
          ∧ r.2.mem ((c.tc : Thread Cert.Kernel3Ideal.nD Cert.Kernel3Ideal.τ).loc Cert.Kernel3Ideal.main_v6_8) = v8 c
          ∧ r.2.mem ((c.tc : Thread Cert.Kernel3Ideal.nD Cert.Kernel3Ideal.τ).loc Cert.Kernel3Ideal.main_v6_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v115) = v0 c
          ∧ r.2.mem ((c.tc : Thread Cert.Reference3Ideal.nD Cert.Reference3Ideal.τ).loc Cert.Reference3Ideal.main_v117) = v1 c
          ∧ r.2.mem ((c.tc : Thread Cert.Reference3Ideal.nD Cert.Reference3Ideal.τ).loc Cert.Reference3Ideal.main_v118) = v2 c
          ∧ r.2.mem ((c.tc : Thread Cert.Reference3Ideal.nD Cert.Reference3Ideal.τ).loc Cert.Reference3Ideal.main_v119) = v3 c
          ∧ r.2.mem ((c.tc : Thread Cert.Reference3Ideal.nD Cert.Reference3Ideal.τ).loc Cert.Reference3Ideal.main_v120) = v4 c
          ∧ r.2.mem ((c.tc : Thread Cert.Reference3Ideal.nD Cert.Reference3Ideal.τ).loc Cert.Reference3Ideal.main_v121) = v5 c
          ∧ r.2.mem ((c.tc : Thread Cert.Reference3Ideal.nD Cert.Reference3Ideal.τ).loc Cert.Reference3Ideal.main_v122) = v6 c
          ∧ r.2.mem ((c.tc : Thread Cert.Reference3Ideal.nD Cert.Reference3Ideal.τ).loc Cert.Reference3Ideal.main_v123) = v7 c
          ∧ r.2.mem ((c.tc : Thread Cert.Reference3Ideal.nD Cert.Reference3Ideal.τ).loc Cert.Reference3Ideal.main_v124) = v8 c
          ∧ r.2.mem ((c.tc : Thread Cert.Reference3Ideal.nD Cert.Reference3Ideal.τ).loc Cert.Reference3Ideal.main_v125) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S8192x5120 : Shape := ⟨2, ![8192, 5120]⟩
abbrev S8192x2048 : Shape := ⟨2, ![8192, 2048]⟩
abbrev S8192x1024 : Shape := ⟨2, ![8192, 1024]⟩
abbrev S1x1024x5120 : Shape := ⟨3, ![1, 1024, 5120]⟩
abbrev S1x4x256x256 : Shape := ⟨4, ![1, 4, 256, 256]⟩
abbrev S1x1024 : Shape := ⟨2, ![1, 1024]⟩
abbrev S1x4x128x128 : Shape := ⟨4, ![1, 4, 128, 128]⟩
abbrev S1x4x128 : Shape := ⟨3, ![1, 4, 128]⟩
abbrev S_ : Shape := ⟨0, ![]⟩

class Facts : Prop where
  bcast_S_S8192x5120 : S_.BroadcastsInDim S8192x5120 (![] : Fin 0 → Fin S8192x5120.rank)
  reducesTo_S8192x5120_S_d0_1 : S8192x5120.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1x4x256x256 : S_.BroadcastsInDim S1x4x256x256 (![] : Fin 0 → Fin S1x4x256x256.rank)
  reducesTo_S1x4x256x256_S_d0_1_2_3 : S1x4x256x256.ReducesTo [0, 1, 2, 3] S_
  bcast_S_S1x1024 : S_.BroadcastsInDim S1x1024 (![] : Fin 0 → Fin S1x1024.rank)
  reducesTo_S1x1024_S_d0_1 : S1x1024.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_

variable [Facts]

def fn_part2 {F : FTy → Type} [FloatOps F] (main_arg9 : FVec F S1x4x128 .f32) (main_v33 : IVec S_ 1) : IVec S_ 1 :=
  let main_v34 : FVec F S1x4x128 .f32 := Host.absf main_arg9
  let main_cst_12 : FVec F S_ .f32 := constant S_ .f32 0x7F800000#32
  let main_v35 : FVec F S1x4x128 .f32 := broadcastInDim S1x4x128 ![] bcast_S_S1x4x128 main_cst_12
  let main_v36 : IVec S1x4x128 1 := cmpf .olt main_v34 main_v35
  let main_c_13 : IVec S_ 1 := constantI S_ 1 1#1
  let main_v37 : IVec S_ 1 := (fun x v => Host.reduce IntOp.andi x v reducesTo_S1x4x128_S_d0_1_2 h_S_) main_v36 main_c_13
  let main_v38 : IVec S_ 1 := andi main_v33 main_v37
  main_v38

def fn_part1 {F : FTy → Type} [FloatOps F] (main_arg6 : FVec F S1x1024 .f32) (main_arg7 : FVec F S1x1024 .f32) (main_arg8 : FVec F S1x4x128x128 .f32) (main_arg9 : FVec F S1x4x128 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg6
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg7
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x4x128x128 .f32 := Host.absf main_arg8
  let main_cst_10 : FVec F S_ .f32 := constant S_ .f32 0x7F800000#32
  let main_v30 : FVec F S1x4x128x128 .f32 := broadcastInDim S1x4x128x128 ![] bcast_S_S1x4x128x128 main_cst_10
  let main_v31 : IVec S1x4x128x128 1 := cmpf .olt main_v29 main_v30
  let main_c_11 : IVec S_ 1 := constantI S_ 1 1#1
  let main_v32 : IVec S_ 1 := (fun x v => Host.reduce IntOp.andi x v reducesTo_S1x4x128x128_S_d0_1_2_3 h_S_) main_v31 main_c_11
  let main_v33 : IVec S_ 1 := andi main_v28 main_v32
  fn_part2 (F := F) main_arg9 main_v33

def fn {F : FTy → Type} [FloatOps F] (main_arg0 : FVec F S8192x5120 .f32) (main_arg1 : FVec F S8192x2048 .f32) (main_arg2 : FVec F S8192x1024 .f32) (main_arg3 : FVec F S1x1024x5120 .f32) (main_arg4 : FVec F S1x4x256x256 .f32) (main_arg5 : FVec F S1x1024 .f32) (main_arg6 : FVec F S1x1024 .f32) (main_arg7 : FVec F S1x1024 .f32) (main_arg8 : FVec F S1x4x128x128 .f32) (main_arg9 : FVec F S1x4x128 .f32) : IVec S_ 1 :=
  let main_v0 : FVec F S8192x5120 .f32 := Host.absf main_arg0
  let main_cst : FVec F S_ .f32 := constant S_ .f32 0x7F800000#32
  let main_v1 : FVec F S8192x5120 .f32 := broadcastInDim S8192x5120 ![] bcast_S_S8192x5120 main_cst
  let main_v2 : IVec S8192x5120 1 := cmpf .olt main_v0 main_v1
  let main_c : IVec S_ 1 := constantI S_ 1 1#1
  let main_v3 : IVec S_ 1 := (fun x v => Host.reduce IntOp.andi x v reducesTo_S8192x5120_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S1x4x256x256 .f32 := Host.absf main_arg4
  let main_cst_2 : FVec F S_ .f32 := constant S_ .f32 0x7F800000#32
  let main_v10 : FVec F S1x4x256x256 .f32 := broadcastInDim S1x4x256x256 ![] bcast_S_S1x4x256x256 main_cst_2
  let main_v11 : IVec S1x4x256x256 1 := cmpf .olt main_v9 main_v10
  let main_c_3 : IVec S_ 1 := constantI S_ 1 1#1
  let main_v12 : IVec S_ 1 := (fun x v => Host.reduce IntOp.andi x v reducesTo_S1x4x256x256_S_d0_1_2_3 h_S_) main_v11 main_c_3
  let main_v13 : IVec S_ 1 := andi main_v8 main_v12
  let main_v14 : FVec F S1x1024 .f32 := Host.absf main_arg5
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg6 main_arg7 main_arg8 main_arg9 main_v13 main_v16
-- ==== Pre_finite3.lean ====
abbrev S8192x1024 : Shape := ⟨2, ![8192, 1024]⟩
abbrev S8192x2048 : Shape := ⟨2, ![8192, 2048]⟩
abbrev S8192x256 : Shape := ⟨2, ![8192, 256]⟩
abbrev S1x2048x1024 : Shape := ⟨3, ![1, 2048, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192x256 : S_.BroadcastsInDim S8192x256 (![] : Fin 0 → Fin S8192x256.rank)
  reducesTo_S8192x256_S_d0_1 : S8192x256.ReducesTo [0, 1] S_
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x256x1024 : S_.BroadcastsInDim S1x256x1024 (![] : Fin 0 → Fin S1x256x1024.rank)
  reducesTo_S1x256x1024_S_d0_1_2 : S1x256x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_arg8 : FVec F S1x1024 .f32) (main_arg9 : FVec F S1x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  main_v48

def fn_part1 {F : FTy → Type} [FloatOps F] (main_arg4 : FVec F S1x2048x1024 .f32) (main_arg5 : FVec F S1x1024x1024 .f32) (main_arg6 : FVec F S1x256x1024 .f32) (main_arg7 : FVec F S1x1024 .f32) (main_arg8 : FVec F S1x1024 .f32) (main_arg9 : FVec F S1x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1x2048x1024 .f32 := Host.absf main_arg4
  let main_cst_6 : FVec F S_ .f32 := constant S_ .f32 0x7F800000#32
  let main_v20 : FVec F S1x2048x1024 .f32 := broadcastInDim S1x2048x1024 ![] bcast_S_S1x2048x1024 main_cst_6
  let main_v21 : IVec S1x2048x1024 1 := cmpf .olt main_v19 main_v20
  let main_c_7 : IVec S_ 1 := constantI S_ 1 1#1
  let main_v22 : IVec S_ 1 := (fun x v => Host.reduce IntOp.andi x v reducesTo_S1x2048x1024_S_d0_1_2 h_S_) main_v21 main_c_7
  let main_v23 : IVec S_ 1 := andi main_v18 main_v22
  let main_v24 : FVec F S1x1024x1024 .f32 := Host.absf main_arg5
  let main_cst_8 : FVec F S_ .f32 := constant S_ .f32 0x7F800000#32
  let main_v25 : FVec F S1x1024x1024 .f32 := broadcastInDim S1x1024x1024 ![] bcast_S_S1x1024x1024 main_cst_8
  let main_v26 : IVec S1x1024x1024 1 := cmpf .olt main_v24 main_v25
  let main_c_9 : IVec S_ 1 := constantI S_ 1 1#1
  let main_v27 : IVec S_ 1 := (fun x v => Host.reduce IntOp.andi x v reducesTo_S1x1024x1024_S_d0_1_2 h_S_) main_v26 main_c_9
  let main_v28 : IVec S_ 1 := andi main_v23 main_v27
  let main_v29 : FVec F S1x256x1024 .f32 := Host.absf main_arg6
  let main_cst_10 : FVec F S_ .f32 := constant S_ .f32 0x7F800000#32
  let main_v30 : FVec F S1x256x1024 .f32 := broadcastInDim S1x256x1024 ![] bcast_S_S1x256x1024 main_cst_10
  let main_v31 : IVec S1x256x1024 1 := cmpf .olt main_v29 main_v30
  let main_c_11 : IVec S_ 1 := constantI S_ 1 1#1
  let main_v32 : IVec S_ 1 := (fun x v => Host.reduce IntOp.andi x v reducesTo_S1x256x1024_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x2048 .f32) (main_arg2 : FVec F S8192x256 .f32) (main_arg3 : FVec F S8192x1024 .f32) (main_arg4 : FVec F S1x2048x1024 .f32) (main_arg5 : FVec F S1x1024x1024 .f32) (main_arg6 : FVec F S1x256x1024 .f32) (main_arg7 : FVec F S1x1024 .f32) (main_arg8 : FVec F S1x1024 .f32) (main_arg9 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_v13 main_v16
-- ==== Kernel.lean ====
abbrev S8192x5120 : Shape := ⟨2, ![8192, 5120]⟩
abbrev S8192x2048 : Shape := ⟨2, ![8192, 2048]⟩
abbrev S8192x1024 : Shape := ⟨2, ![8192, 1024]⟩
abbrev S1x1024x5120 : Shape := ⟨3, ![1, 1024, 5120]⟩
abbrev S1x4x256x256 : Shape := ⟨4, ![1, 4, 256, 256]⟩
abbrev S1x1024 : Shape := ⟨2, ![1, 1024]⟩
abbrev S1x4x128x128 : Shape := ⟨4, ![1, 4, 128, 128]⟩
abbrev S1x4x128 : Shape := ⟨3, ![1, 4, 128]⟩
abbrev S8192x4x256 : Shape := ⟨3, ![8192, 4, 256]⟩
abbrev S_ : Shape := ⟨0, ![]⟩
abbrev S8192 : Shape := ⟨1, ![8192]⟩
abbrev S8192x1x256 : Shape := ⟨3, ![8192, 1, 256]⟩
abbrev S8192x256 : Shape := ⟨2, ![8192, 256]⟩
abbrev S2x256 : Shape := ⟨2, ![2, 256]⟩
abbrev S8190x256 : Shape := ⟨2, ![8190, 256]⟩
abbrev S8192x1 : Shape := ⟨2, ![8192, 1]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S4x128 : Shape := ⟨2, ![4, 128]⟩
abbrev S128x4 : Shape := ⟨2, ![128, 4]⟩
abbrev S128x4x256 : Shape := ⟨3, ![128, 4, 256]⟩
abbrev S128x1024 : Shape := ⟨2, ![128, 1024]⟩
abbrev S8192x4096 : Shape := ⟨2, ![8192, 4096]⟩
abbrev S1024x5120 : Shape := ⟨2, ![1024, 5120]⟩
abbrev S4x256x256 : Shape := ⟨3, ![4, 256, 256]⟩
abbrev S4x128x128 : Shape := ⟨3, ![4, 128, 128]⟩
abbrev S256x384 : Shape := ⟨2, ![256, 384]⟩
abbrev S1x256x384 : Shape := ⟨3, ![1, 256, 384]⟩
abbrev S4x256x384 : Shape := ⟨3, ![4, 256, 384]⟩
abbrev S8x4x32x256 : Shape := ⟨4, ![8, 4, 32, 256]⟩
abbrev S256x4096 : Shape := ⟨2, ![256, 4096]⟩
abbrev S256x2048 : Shape := ⟨2, ![256, 2048]⟩
abbrev S256x1024 : Shape := ⟨2, ![256, 1024]⟩
abbrev S256x5120 : Shape := ⟨2, ![256, 5120]⟩
abbrev S384x1024 : Shape := ⟨2, ![384, 1024]⟩
abbrev S16x1024 : Shape := ⟨2, ![16, 1024]⟩
abbrev S256x256 : Shape := ⟨2, ![256, 256]⟩
abbrev S1x256x256 : Shape := ⟨3, ![1, 256, 256]⟩
abbrev S1x256 : Shape := ⟨2, ![1, 256]⟩
abbrev S256 : Shape := ⟨1, ![256]⟩
abbrev S256x1 : Shape := ⟨2, ![256, 1]⟩
abbrev S384x256 : Shape := ⟨2, ![384, 256]⟩
abbrev S128x128 : Shape := ⟨2, ![128, 128]⟩
abbrev S1x128x128 : Shape := ⟨3, ![1, 128, 128]⟩
abbrev S128x256 : Shape := ⟨2, ![128, 256]⟩
abbrev S128 : Shape := ⟨1, ![128]⟩
abbrev S128x1 : Shape := ⟨2, ![128, 1]⟩
abbrev S1024x256 : Shape := ⟨2, ![1024, 256]⟩
abbrev S1x32x256 : Shape := ⟨3, ![1, 32, 256]⟩
abbrev S32x256 : Shape := ⟨2, ![32, 256]⟩
abbrev S1x1x32x256 : Shape := ⟨4, ![1, 1, 32, 256]⟩
abbrev S1x128 : Shape := ⟨2, ![1, 128]⟩

abbrev nBuf : Space → Nat
  | .hbm => 161
  | .vmem => 30
  | .smem => 0
  | _ => 0

abbrev hbmTy0_0 (i : Nat) : BufTy := match i % 128 with
  | 0 => ⟨S8192x5120, .f32⟩
  | 1 => ⟨S8192x2048, .f32⟩
  | 2 => ⟨S8192x1024, .f32⟩
  | 3 => ⟨S1x1024x5120, .f32⟩
  | 4 => ⟨S1x4x256x256, .f32⟩
  | 5 => ⟨S1x1024, .f32⟩
  | 6 => ⟨S1x1024, .f32⟩
  | 7 => ⟨S1x1024, .f32⟩
  | 8 => ⟨S1x4x128x128, .f32⟩
  | 9 => ⟨S1x4x128, .f32⟩
  | 10 => ⟨S8192x1024, .f32⟩
  | 11 => ⟨S8192x4x256, .f32⟩
  | 12 => ⟨S_, .f32⟩
  | 13 => ⟨S_, .f32⟩
  | 14 => ⟨S8192x4x256, .f32⟩
  | 15 => ⟨S8192, .i32⟩
  | 16 => ⟨S8192x1x256, .f32⟩
  | 17 => ⟨S8192x256, .f32⟩
  | 18 => ⟨S_, .f32⟩
  | 19 => ⟨S2x256, .f32⟩
  | 20 => ⟨S8190x256, .f32⟩
  | 21 => ⟨S8192x256, .f32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S8192, .f32⟩
  | 29 => ⟨S8192x1, .f32⟩
  | 30 => ⟨S8192x256, .f32⟩
  | 31 => ⟨S8192x256, .f32⟩
  | 32 => ⟨S8192x256, .f32⟩
  | 33 => ⟨S8192x1x256, .f32⟩
  | 34 => ⟨S8192x256, .f32⟩
  | 35 => ⟨S_, .f32⟩
  | 36 => ⟨S4x256, .f32⟩
  | 37 => ⟨S8188x256, .f32⟩
  | 38 => ⟨S8192x256, .f32⟩
  | 39 => ⟨S_, .i32⟩
  | 40 => ⟨S8192, .i32⟩
  | 41 => ⟨S8192, .i32⟩
  | 42 => ⟨S_, .i32⟩
  | 43 => ⟨S8192, .i32⟩
  | 44 => ⟨S8192, .i32⟩
  | 45 => ⟨S8192, .f32⟩
  | 46 => ⟨S8192x1, .f32⟩
  | 47 => ⟨S8192x256, .f32⟩
  | 48 => ⟨S8192x256, .f32⟩
  | 49 => ⟨S8192x256, .f32⟩
  | 50 => ⟨S8192x1x256, .f32⟩
  | 51 => ⟨S8192x256, .f32⟩
  | 52 => ⟨S_, .f32⟩
  | 53 => ⟨S8x256, .f32⟩
  | 54 => ⟨S8184x256, .f32⟩
  | 55 => ⟨S8192x256, .f32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .f32⟩
  | 63 => ⟨S8192x1, .f32⟩
  | 64 => ⟨S8192x256, .f32⟩
  | 65 => ⟨S8192x256, .f32⟩
  | 66 => ⟨S8192x256, .f32⟩
  | 67 => ⟨S8192x1x256, .f32⟩
  | 68 => ⟨S8192x256, .f32⟩
  | 69 => ⟨S_, .f32⟩
  | 70 => ⟨S16x256, .f32⟩
  | 71 => ⟨S8176x256, .f32⟩
  | 72 => ⟨S8192x256, .f32⟩
  | 73 => ⟨S_, .i32⟩
  | 74 => ⟨S8192, .i32⟩
  | 75 => ⟨S8192, .i32⟩
  | 76 => ⟨S_, .i32⟩
  | 77 => ⟨S8192, .i32⟩
  | 78 => ⟨S8192, .i32⟩
  | 79 => ⟨S8192, .f32⟩
  | 80 => ⟨S8192x1, .f32⟩
  | 81 => ⟨S8192x256, .f32⟩
  | 82 => ⟨S8192x256, .f32⟩
  | 83 => ⟨S8192x256, .f32⟩
  | 84 => ⟨S8192x1x256, .f32⟩
  | 85 => ⟨S8192x1x256, .f32⟩
  | 86 => ⟨S8192x1x256, .f32⟩
  | 87 => ⟨S8192x1x256, .f32⟩
  | 88 => ⟨S8192x4x256, .f32⟩
  | 89 => ⟨S8192x4x256, .f32⟩
  | 90 => ⟨S8192x1024, .f32⟩
  | 91 => ⟨S8192x1024, .bf16⟩
  | 92 => ⟨S4x128, .f32⟩
  | 93 => ⟨S128x4, .f32⟩
  | 94 => ⟨S128x4x256, .f32⟩
  | 95 => ⟨S128x1024, .f32⟩
  | 96 => ⟨S8192x4096, .f32⟩
  | 97 => ⟨S8192x4096, .bf16⟩
  | 98 => ⟨S1024x5120, .f32⟩
  | 99 => ⟨S1024x5120, .bf16⟩
  | 100 => ⟨S4x256x256, .f32⟩
  | 101 => ⟨S4x256x256, .bf16⟩
  | 102 => ⟨S4x128x128, .f32⟩
  | 103 => ⟨S256x384, .i32⟩
  | 104 => ⟨S256x384, .i32⟩
  | 105 => ⟨S256x384, .i32⟩
  | 106 => ⟨S_, .i32⟩
  | 107 => ⟨S256x384, .i32⟩
  | 108 => ⟨S256x384, .i1⟩
  | 109 => ⟨S_, .i32⟩
  | 110 => ⟨S256x384, .i32⟩
  | 111 => ⟨S256x384, .i1⟩
  | 112 => ⟨S256x384, .i1⟩
  | 113 => ⟨S256x384, .f32⟩
  | 114 => ⟨S256x384, .i32⟩
  | 115 => ⟨S256x384, .i32⟩
  | 116 => ⟨S256x384, .i32⟩
  | 117 => ⟨S_, .i32⟩
  | 118 => ⟨S256x384, .i32⟩
  | 119 => ⟨S256x384, .i1⟩
  | 120 => ⟨S_, .i32⟩
  | 121 => ⟨S256x384, .i32⟩
  | 122 => ⟨S256x384, .i1⟩
  | 123 => ⟨S256x384, .i1⟩
  | 124 => ⟨S256x384, .f32⟩
  | 125 => ⟨S256x384, .i32⟩
  | 126 => ⟨S256x384, .i32⟩
  | 127 => ⟨S256x384, .i32⟩
  | _ => ⟨S8192x5120, .f32⟩

abbrev hbmTy0_1 (i : Nat) : BufTy := match i % 128 with
  | 0 => ⟨S_, .i32⟩
  | 1 => ⟨S256x384, .i32⟩
  | 2 => ⟨S256x384, .i1⟩
  | 3 => ⟨S_, .i32⟩
  | 4 => ⟨S256x384, .i32⟩
  | 5 => ⟨S256x384, .i1⟩
  | 6 => ⟨S256x384, .i1⟩
  | 7 => ⟨S256x384, .f32⟩
  | 8 => ⟨S256x384, .i32⟩
  | 9 => ⟨S256x384, .i32⟩
  | 10 => ⟨S256x384, .i32⟩
  | 11 => ⟨S_, .i32⟩
  | 12 => ⟨S256x384, .i32⟩
  | 13 => ⟨S256x384, .i1⟩
  | 14 => ⟨S_, .i32⟩
  | 15 => ⟨S256x384, .i32⟩
  | 16 => ⟨S256x384, .i1⟩
  | 17 => ⟨S256x384, .i1⟩
  | 18 => ⟨S256x384, .f32⟩
  | 19 => ⟨S1x256x384, .f32⟩
  | 20 => ⟨S1x256x384, .f32⟩
  | 21 => ⟨S1x256x384, .f32⟩
  | 22 => ⟨S1x256x384, .f32⟩
  | 23 => ⟨S4x256x384, .f32⟩
  | 24 => ⟨S4x256x384, .bf16⟩
  | 25 => ⟨S8192x5120, .bf16⟩
  | 26 => ⟨S8192x1024, .f32⟩
  | 27 => ⟨S8x4x32x256, .f32⟩
  | 28 => ⟨S1x1024, .f32⟩
  | 29 => ⟨S1x1024, .f32⟩
  | 30 => ⟨S1x1024, .f32⟩
  | 31 => ⟨S4x128x128, .f32⟩
  | 32 => ⟨S4x128, .f32⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | .local _ .vmem, ⟨0, _⟩ => ⟨S256x4096, .bf16⟩
  | .local _ .vmem, ⟨1, _⟩ => ⟨S256x4096, .bf16⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1024x5120, .bf16⟩
  | .local _ .vmem, ⟨9, _⟩ => ⟨S4x256x256, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S4x128x128, .f32⟩
  | .local _ .vmem, ⟨14, _⟩ => ⟨S128x1024, .f32⟩
  | .local _ .vmem, ⟨15, _⟩ => ⟨S4x256x384, .bf16⟩
  | .local _ .vmem, ⟨16, _⟩ => ⟨S256x5120, .bf16⟩
  | .local _ .vmem, ⟨17, _⟩ => ⟨S256x5120, .bf16⟩
  | .local _ .vmem, ⟨18, _⟩ => ⟨S256x1024, .f32⟩
  | .local _ .vmem, ⟨19, _⟩ => ⟨S256x1024, .f32⟩
  | .local _ .vmem, ⟨20, _⟩ => ⟨S8x4x32x256, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S4x128x128, .f32⟩
  | .local _ .vmem, ⟨25, _⟩ => ⟨S4x128, .f32⟩
  | .local _ .vmem, ⟨26, _⟩ => ⟨S384x1024, .bf16⟩
  | .local _ .vmem, ⟨27, _⟩ => ⟨S384x1024, .bf16⟩
  | .local _ .vmem, ⟨28, _⟩ => ⟨S4x256x256, .f32⟩
  | .local _ .vmem, ⟨29, _⟩ => ⟨S128x1024, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_call0_cst : Ref sig .tc := ⟨.hbm, 12, rfl⟩
abbrev main_call0_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_10 : Ref sig .tc := ⟨.hbm, 106, rfl⟩
abbrev main_v82 : Ref sig .tc := ⟨.hbm, 107, rfl⟩
abbrev main_v83 : Ref sig .tc := ⟨.hbm, 108, rfl⟩
abbrev main_c_11 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_12 : Ref sig .tc := ⟨.hbm, 117, rfl⟩
abbrev main_v91 : Ref sig .tc := ⟨.hbm, 118, rfl⟩
abbrev main_v92 : Ref sig .tc := ⟨.hbm, 119, rfl⟩
abbrev main_c_13 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_c_14 : Ref sig .tc := ⟨.hbm, 128, rfl⟩
abbrev main_v100 : Ref sig .tc := ⟨.hbm, 129, rfl⟩
abbrev main_v101 : Ref sig .tc := ⟨.hbm, 130, rfl⟩
abbrev main_c_15 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_c_16 : Ref sig .tc := ⟨.hbm, 139, rfl⟩
abbrev main_v109 : Ref sig .tc := ⟨.hbm, 140, rfl⟩
abbrev main_v110 : Ref sig .tc := ⟨.hbm, 141, rfl⟩
abbrev main_c_17 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121_0 : Ref sig .tc := ⟨.hbm, 153, rfl⟩
abbrev main_v121_1 : Ref sig .tc := ⟨.hbm, 154, rfl⟩
abbrev main_v121_2 : Ref sig .tc := ⟨.hbm, 155, rfl⟩
abbrev main_v121_3 : Ref sig .tc := ⟨.hbm, 156, rfl⟩
abbrev main_v121_4 : Ref sig .tc := ⟨.hbm, 157, rfl⟩
abbrev main_v121_5 : Ref sig .tc := ⟨.hbm, 158, rfl⟩
abbrev main_v121_6 : Ref sig .tc := ⟨.hbm, 159, rfl⟩
abbrev main_v121_7 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_930 : BitVec 32 := 31#32
  let v1755 : BitVec 1 := Scalar.cmpi .eq arg0 c31_i32_930
  let v1756 : BitVec 32 := Scalar.extui v1755
  let c0_i32_931 : BitVec 32 := 0#32
  let v1757 : BitVec 1 := Scalar.cmpi .ne v1756 c0_i32_931
  v1757

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x5120 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x4x32x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== KernelIdeal.lean ====
variable {F : FTy → Type} [FloatOps F] [Named F]
def κ : String → Option EReal := fun
  | "neg_two_c0_c1" => some ((-80338380498831 / 1125899906842624 : ℝ) : EReal)
  | "six_c0_c1" => some ((241015141496493 / 1125899906842624 : ℝ) : EReal)
  | _ => none
-- ==== ReferenceIdeal.lean ====
abbrev S8192x5120 : Shape := ⟨2, ![8192, 5120]⟩
abbrev S8192x2048 : Shape := ⟨2, ![8192, 2048]⟩
abbrev S8192x1024 : Shape := ⟨2, ![8192, 1024]⟩
abbrev S1x1024x5120 : Shape := ⟨3, ![1, 1024, 5120]⟩
abbrev S1x4x256x256 : Shape := ⟨4, ![1, 4, 256, 256]⟩
abbrev S1x1024 : Shape := ⟨2, ![1, 1024]⟩
abbrev S1x4x128x128 : Shape := ⟨4, ![1, 4, 128, 128]⟩
abbrev S1x4x128 : Shape := ⟨3, ![1, 4, 128]⟩
abbrev S4x256x256 : Shape := ⟨3, ![4, 256, 256]⟩
abbrev S1024 : Shape := ⟨1, ![1024]⟩
abbrev S8192x4x256 : Shape := ⟨3, ![8192, 4, 256]⟩
abbrev S_ : Shape := ⟨0, ![]⟩
abbrev S8192 : Shape := ⟨1, ![8192]⟩
abbrev S8192x1x256 : Shape := ⟨3, ![8192, 1, 256]⟩
abbrev S8192x256 : Shape := ⟨2, ![8192, 256]⟩
abbrev S2x256 : Shape := ⟨2, ![2, 256]⟩
abbrev S8190x256 : Shape := ⟨2, ![8190, 256]⟩
abbrev S8192x1 : Shape := ⟨2, ![8192, 1]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S4x256x8192 : Shape := ⟨3, ![4, 256, 8192]⟩
abbrev S4x128x128 : Shape := ⟨3, ![4, 128, 128]⟩
abbrev S4x128 : Shape := ⟨2, ![4, 128]⟩
abbrev S8192x4 : Shape := ⟨2, ![8192, 4]⟩
abbrev S8192x4x1 : Shape := ⟨3, ![8192, 4, 1]⟩
abbrev S1x4x256 : Shape := ⟨3, ![1, 4, 256]⟩
abbrev S64x128x4x256 : Shape := ⟨4, ![64, 128, 4, 256]⟩
abbrev S128x128 : Shape := ⟨2, ![128, 128]⟩
abbrev S1x128x128 : Shape := ⟨3, ![1, 128, 128]⟩
abbrev S4x64x256x128 : Shape := ⟨4, ![4, 64, 256, 128]⟩
abbrev S128x4 : Shape := ⟨2, ![128, 4]⟩
abbrev S1x128x4x1 : Shape := ⟨4, ![1, 128, 4, 1]⟩
abbrev S4x8192x256 : Shape := ⟨3, ![4, 8192, 256]⟩
abbrev S1024x5120 : Shape := ⟨2, ![1024, 5120]⟩
abbrev S4x8x32x256 : Shape := ⟨4, ![4, 8, 32, 256]⟩
abbrev S8x4x32x256 : Shape := ⟨4, ![8, 4, 32, 256]⟩

abbrev nBuf : Space → Nat
  | .hbm => 442
  | .vmem => 0
  | .smem => 0
  | _ => 0

abbrev hbmTy0_0 (i : Nat) : BufTy := match i % 128 with
  | 0 => ⟨S8192x5120, .f32⟩
  | 1 => ⟨S8192x2048, .f32⟩
  | 2 => ⟨S8192x1024, .f32⟩
  | 3 => ⟨S1x1024x5120, .f32⟩
  | 4 => ⟨S1x4x256x256, .f32⟩
  | 5 => ⟨S1x1024, .f32⟩
  | 6 => ⟨S1x1024, .f32⟩
  | 7 => ⟨S1x1024, .f32⟩
  | 8 => ⟨S1x4x128x128, .f32⟩
  | 9 => ⟨S1x4x128, .f32⟩
  | 10 => ⟨S8192x1024, .f32⟩
  | 11 => ⟨S8192x1024, .f32⟩
  | 12 => ⟨S8192x1024, .f32⟩
  | 13 => ⟨S8192x2048, .f32⟩
  | 14 => ⟨S4x256x256, .f32⟩
  | 15 => ⟨S1024, .f32⟩
  | 16 => ⟨S8192x4x256, .f32⟩
  | 17 => ⟨S_, .f32⟩
  | 18 => ⟨S_, .f32⟩
  | 19 => ⟨S8192x4x256, .f32⟩
  | 20 => ⟨S8192, .i32⟩
  | 21 => ⟨S8192x1x256, .f32⟩
  | 22 => ⟨S8192x256, .f32⟩
  | 23 => ⟨S_, .f32⟩
  | 24 => ⟨S2x256, .f32⟩
  | 25 => ⟨S8190x256, .f32⟩
  | 26 => ⟨S8192x256, .f32⟩
  | 27 => ⟨S_, .f32⟩
  | 28 => ⟨S2x256, .f32⟩
  | 29 => ⟨S_, .i32⟩
  | 30 => ⟨S8192, .i32⟩
  | 31 => ⟨S8192, .i32⟩
  | 32 => ⟨S_, .i32⟩
  | 33 => ⟨S8192, .i32⟩
  | 34 => ⟨S8192, .i32⟩
  | 35 => ⟨S8192, .f32⟩
  | 36 => ⟨S8192x1, .f32⟩
  | 37 => ⟨S8192x256, .f32⟩
  | 38 => ⟨S8192x256, .f32⟩
  | 39 => ⟨S8192x256, .f32⟩
  | 40 => ⟨S8192x1x256, .f32⟩
  | 41 => ⟨S8192x256, .f32⟩
  | 42 => ⟨S_, .f32⟩
  | 43 => ⟨S4x256, .f32⟩
  | 44 => ⟨S8188x256, .f32⟩
  | 45 => ⟨S8192x256, .f32⟩
  | 46 => ⟨S_, .f32⟩
  | 47 => ⟨S4x256, .f32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192, .f32⟩
  | 55 => ⟨S8192x1, .f32⟩
  | 56 => ⟨S8192x256, .f32⟩
  | 57 => ⟨S8192x256, .f32⟩
  | 58 => ⟨S8192x256, .f32⟩
  | 59 => ⟨S8192x1x256, .f32⟩
  | 60 => ⟨S8192x256, .f32⟩
  | 61 => ⟨S_, .f32⟩
  | 62 => ⟨S8x256, .f32⟩
  | 63 => ⟨S8184x256, .f32⟩
  | 64 => ⟨S8192x256, .f32⟩
  | 65 => ⟨S_, .f32⟩
  | 66 => ⟨S8x256, .f32⟩
  | 67 => ⟨S_, .i32⟩
  | 68 => ⟨S8192, .i32⟩
  | 69 => ⟨S8192, .i32⟩
  | 70 => ⟨S_, .i32⟩
  | 71 => ⟨S8192, .i32⟩
  | 72 => ⟨S8192, .i32⟩
  | 73 => ⟨S8192, .f32⟩
  | 74 => ⟨S8192x1, .f32⟩
  | 75 => ⟨S8192x256, .f32⟩
  | 76 => ⟨S8192x256, .f32⟩
  | 77 => ⟨S8192x256, .f32⟩
  | 78 => ⟨S8192x1x256, .f32⟩
  | 79 => ⟨S8192x256, .f32⟩
  | 80 => ⟨S_, .f32⟩
  | 81 => ⟨S16x256, .f32⟩
  | 82 => ⟨S8176x256, .f32⟩
  | 83 => ⟨S8192x256, .f32⟩
  | 84 => ⟨S_, .f32⟩
  | 85 => ⟨S16x256, .f32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S8192, .f32⟩
  | 93 => ⟨S8192x1, .f32⟩
  | 94 => ⟨S8192x256, .f32⟩
  | 95 => ⟨S8192x256, .f32⟩
  | 96 => ⟨S8192x256, .f32⟩
  | 97 => ⟨S8192x1x256, .f32⟩
  | 98 => ⟨S8192x1x256, .f32⟩
  | 99 => ⟨S8192x1x256, .f32⟩
  | 100 => ⟨S8192x1x256, .f32⟩
  | 101 => ⟨S8192x4x256, .f32⟩
  | 102 => ⟨S8192x4x256, .f32⟩
  | 103 => ⟨S4x256x8192, .f32⟩
  | 104 => ⟨S8192x4x256, .f32⟩
  | 105 => ⟨S8192x1024, .f32⟩
  | 106 => ⟨S1x1024, .f32⟩
  | 107 => ⟨S8192x1024, .f32⟩
  | 108 => ⟨S8192x1024, .f32⟩
  | 109 => ⟨S1024, .f32⟩
  | 110 => ⟨S1024, .f32⟩
  | 111 => ⟨S4x128x128, .f32⟩
  | 112 => ⟨S4x128, .f32⟩
  | 113 => ⟨S8192x1024, .f32⟩
  | 114 => ⟨S8192x1024, .f32⟩
  | 115 => ⟨S8192x1024, .f32⟩
  | 116 => ⟨S_, .f32⟩
  | 117 => ⟨S8192x1024, .f32⟩
  | 118 => ⟨S8192x1024, .f32⟩
  | 119 => ⟨S_, .f32⟩
  | 120 => ⟨S8192x1024, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S8192x1024, .f32⟩
  | 127 => ⟨S_, .f32⟩
  | _ => ⟨S8192x5120, .f32⟩

abbrev hbmTy0_1 (i : Nat) : BufTy := match i % 128 with
  | 0 => ⟨S8192x1024, .f32⟩
  | 1 => ⟨S8192x1024, .f32⟩
  | 2 => ⟨S_, .f32⟩
  | 3 => ⟨S8192x1024, .f32⟩
  | 4 => ⟨S8192x1024, .f32⟩
  | 5 => ⟨S8192x1024, .f32⟩
  | 6 => ⟨S_, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S8192x4x256, .f32⟩
  | 42 => ⟨S4x256, .f32⟩
  | 43 => ⟨S4x256, .f32⟩
  | 44 => ⟨S_, .f32⟩
  | 45 => ⟨S8192x4, .f32⟩
  | 46 => ⟨S8192x4x1, .f32⟩
  | 47 => ⟨S_, .f32⟩
  | 48 => ⟨S8192x4x1, .f32⟩
  | 49 => ⟨S8192x4x1, .f32⟩
  | 50 => ⟨S8192x4x256, .f32⟩
  | 51 => ⟨S8192x4x256, .f32⟩
  | 52 => ⟨S8192x4x256, .f32⟩
  | 53 => ⟨S_, .f32⟩
  | 54 => ⟨S8192x4x256, .f32⟩
  | 55 => ⟨S8192x4x256, .f32⟩
  | 56 => ⟨S_, .f32⟩
  | 57 => ⟨S8192x4, .f32⟩
  | 58 => ⟨S8192x4x1, .f32⟩
  | 59 => ⟨S_, .f32⟩
  | 60 => ⟨S8192x4x1, .f32⟩
  | 61 => ⟨S8192x4x1, .f32⟩
  | 62 => ⟨S8192x4x256, .f32⟩
  | 63 => ⟨S8192x4x256, .f32⟩
  | 64 => ⟨S_, .f32⟩
  | 65 => ⟨S8192x4x1, .f32⟩
  | 66 => ⟨S8192x4x1, .f32⟩
  | 67 => ⟨S8192x4x1, .f32⟩
  | 68 => ⟨S8192x4x1, .f32⟩
  | 69 => ⟨S_, .f32⟩
  | 70 => ⟨S8192x4x1, .f32⟩
  | 71 => ⟨S8192x4x1, .f32⟩
  | 72 => ⟨S8192x4x256, .f32⟩
  | 73 => ⟨S8192x4x256, .f32⟩
  | 74 => ⟨S1x4x256, .f32⟩
  | 75 => ⟨S8192x4x256, .f32⟩
  | 76 => ⟨S8192x4x256, .f32⟩
  | 77 => ⟨S1x4x256, .f32⟩
  | 78 => ⟨S8192x4x256, .f32⟩
  | 79 => ⟨S8192x4x256, .f32⟩
  | 80 => ⟨S64x128x4x256, .f32⟩
  | 81 => ⟨S_, .i1⟩
  | 82 => ⟨S128x128, .i1⟩
  | 83 => ⟨S128x128, .i32⟩
  | 84 => ⟨S_, .i32⟩
  | 85 => ⟨S128x128, .i32⟩
  | 86 => ⟨S128x128, .i32⟩
  | 87 => ⟨S128x128, .i32⟩
  | 88 => ⟨S128x128, .i1⟩
  | 89 => ⟨S_, .i1⟩
  | 90 => ⟨S128x128, .i1⟩
  | 91 => ⟨S128x128, .i1⟩
  | 92 => ⟨S1x128x128, .i1⟩
  | 93 => ⟨S_, .f32⟩
  | 94 => ⟨S4x128x128, .f32⟩
  | 95 => ⟨S4x128x128, .i1⟩
  | 96 => ⟨S4x128x128, .f32⟩
  | 97 => ⟨S_, .f32⟩
  | 98 => ⟨S4x128x128, .f32⟩
  | 99 => ⟨S4x64x256x128, .f32⟩
  | 100 => ⟨S64x128x4x256, .f32⟩
  | 101 => ⟨S128x4, .f32⟩
  | 102 => ⟨S1x128x4x1, .f32⟩
  | 103 => ⟨S64x128x4x256, .f32⟩
  | 104 => ⟨S64x128x4x256, .f32⟩
  | 105 => ⟨S8192x1024, .f32⟩
  | 106 => ⟨S8192x1024, .f32⟩
  | 107 => ⟨S8192x2048, .f32⟩
  | 108 => ⟨S8192x2048, .f32⟩
  | 109 => ⟨S8192x2048, .f32⟩
  | 110 => ⟨S_, .f32⟩
  | 111 => ⟨S8192x2048, .f32⟩
  | 112 => ⟨S8192x2048, .f32⟩
  | 113 => ⟨S_, .f32⟩
  | 114 => ⟨S8192x2048, .f32⟩
  | 115 => ⟨S8192x2048, .f32⟩
  | 116 => ⟨S_, .f32⟩
  | 117 => ⟨S8192x2048, .f32⟩
  | 118 => ⟨S8192x2048, .f32⟩
  | 119 => ⟨S8192x2048, .f32⟩
  | 120 => ⟨S8192x2048, .f32⟩
  | 121 => ⟨S8192x2048, .f32⟩
  | 122 => ⟨S8192x2048, .f32⟩
  | 123 => ⟨S8192x2048, .f32⟩
  | 124 => ⟨S8192x2048, .f32⟩
  | 125 => ⟨S8192x2048, .f32⟩
  | 126 => ⟨S8192x2048, .f32⟩
  | 127 => ⟨S8192x2048, .f32⟩
  | _ => ⟨S8192x5120, .f32⟩

abbrev hbmTy0_2 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S64x128x4x256, .f32⟩
  | 5 => ⟨S_, .f32⟩
  | 6 => ⟨S128x4, .f32⟩
  | 7 => ⟨S1x128x4x1, .f32⟩
  | 8 => ⟨S_, .f32⟩
  | 9 => ⟨S128x4, .f32⟩
  | 10 => ⟨S4x128, .f32⟩
  | 11 => ⟨S4x64x256x128, .f32⟩
  | 12 => ⟨S4x128x128, .f32⟩
  | 13 => ⟨S4x64x256x128, .f32⟩
  | 14 => ⟨S64x128x4x256, .f32⟩
  | 15 => ⟨S_, .f32⟩
  | 16 => ⟨S4x128x128, .f32⟩
  | 17 => ⟨S4x128x128, .f32⟩
  | 18 => ⟨S8192x4x256, .f32⟩
  | 19 => ⟨S_, .f32⟩
  | 20 => ⟨S4x256, .f32⟩
  | 21 => ⟨S1x4x256, .f32⟩
  | 22 => ⟨S_, .f32⟩
  | 23 => ⟨S4x256, .f32⟩
  | 24 => ⟨S8192x4x256, .f32⟩
  | 25 => ⟨S_, .f32⟩
  | 26 => ⟨S4x256, .f32⟩
  | 27 => ⟨S1x4x256, .f32⟩
  | 28 => ⟨S8192x4x256, .f32⟩
  | 29 => ⟨S8192x4x256, .f32⟩
  | 30 => ⟨S_, .f32⟩
  | 31 => ⟨S4x256, .f32⟩
  | 32 => ⟨S8192x4x256, .f32⟩
  | 33 => ⟨S_, .f32⟩
  | 34 => ⟨S8192x4, .f32⟩
  | 35 => ⟨S8192x4x1, .f32⟩
  | 36 => ⟨S8192x4x256, .f32⟩
  | 37 => ⟨S8192x4x256, .f32⟩
  | 38 => ⟨S8192x4x1, .f32⟩
  | 39 => ⟨S8192x4x256, .f32⟩
  | 40 => ⟨S_, .f32⟩
  | 41 => ⟨S8192x4, .f32⟩
  | 42 => ⟨S8192x4x1, .f32⟩
  | 43 => ⟨S_, .f32⟩
  | 44 => ⟨S8192x4x1, .f32⟩
  | 45 => ⟨S8192x4x1, .f32⟩
  | 46 => ⟨S_, .f32⟩
  | 47 => ⟨S8192x4, .f32⟩
  | 48 => ⟨S8192x4x256, .f32⟩
  | 49 => ⟨S8192x4x256, .f32⟩
  | 50 => ⟨S8192x4x256, .f32⟩
  | 51 => ⟨S_, .f32⟩
  | 52 => ⟨S8192x4, .f32⟩
  | 53 => ⟨S8192x4x1, .f32⟩
  | 54 => ⟨S8192x4x256, .f32⟩
  | 55 => ⟨S8192x4x1, .f32⟩
  | 56 => ⟨S_, .f32⟩
  | 57 => ⟨S8192x4x1, .f32⟩
  | 58 => ⟨S8192x4x1, .f32⟩
  | 59 => ⟨S_, .f32⟩
  | 60 => ⟨S8192x4, .f32⟩
  | 61 => ⟨S8192x4x256, .f32⟩
  | 62 => ⟨S8192x4x256, .f32⟩
  | 63 => ⟨S1024, .f32⟩
  | 64 => ⟨S1024, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S8192x1024, .f32⟩
  | 72 => ⟨S_, .f32⟩
  | 73 => ⟨S8192x1024, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S8192x1024, .f32⟩
  | 95 => ⟨S8192x1024, .f32⟩
  | 96 => ⟨S1x4x128, .f32⟩
  | 97 => ⟨S1x4x128x128, .f32⟩
  | 98 => ⟨S1x1024, .f32⟩
  | 99 => ⟨S1x1024, .f32⟩
  | 100 => ⟨S8192x1024, .f32⟩
  | 101 => ⟨S_, .f32⟩
  | 102 => ⟨S1024, .f32⟩
  | 103 => ⟨S1x1024, .f32⟩
  | 104 => ⟨S8192x1024, .f32⟩
  | 105 => ⟨S8192x1024, .f32⟩
  | 106 => ⟨S_, .f32⟩
  | 107 => ⟨S1024, .f32⟩
  | 108 => ⟨S8192x4x256, .f32⟩
  | 109 => ⟨S4x256x8192, .f32⟩
  | 110 => ⟨S4x8192x256, .f32⟩
  | 111 => ⟨S8192x4x256, .f32⟩
  | 112 => ⟨S4x256x256, .f32⟩
  | 113 => ⟨S4x256x256, .f32⟩
  | 114 => ⟨S8192x4x256, .f32⟩
  | 115 => ⟨S8192x1x256, .f32⟩
  | 116 => ⟨S8192x256, .f32⟩
  | 117 => ⟨S8192x1x256, .f32⟩
  | 118 => ⟨S8192x256, .f32⟩
  | 119 => ⟨S8192x1x256, .f32⟩
  | 120 => ⟨S8192x256, .f32⟩
  | 121 => ⟨S8192x1x256, .f32⟩
  | 122 => ⟨S8192x256, .f32⟩
  | 123 => ⟨S8192x256, .f32⟩
  | 124 => ⟨S8192x256, .f32⟩
  | 125 => ⟨S8192x256, .f32⟩
  | 126 => ⟨S16x256, .f32⟩
  | 127 => ⟨S8176x256, .f32⟩
  | _ => ⟨S8192x5120, .f32⟩

abbrev hbmTy0_3 (i : Nat) : BufTy := match i % 128 with
  | 0 => ⟨S_, .f32⟩
  | 1 => ⟨S8192x256, .f32⟩
  | 2 => ⟨S8192x256, .f32⟩
  | 3 => ⟨S8192x1x256, .f32⟩
  | 4 => ⟨S_, .f32⟩
  | 5 => ⟨S8192x4x256, .f32⟩
  | 6 => ⟨S8192x256, .f32⟩
  | 7 => ⟨S8192x256, .f32⟩
  | 8 => ⟨S8192x256, .f32⟩
  | 9 => ⟨S8x256, .f32⟩
  | 10 => ⟨S8184x256, .f32⟩
  | 11 => ⟨S_, .f32⟩
  | 12 => ⟨S8192x256, .f32⟩
  | 13 => ⟨S8192x256, .f32⟩
  | 14 => ⟨S8192x1x256, .f32⟩
  | 15 => ⟨S_, .f32⟩
  | 16 => ⟨S8192x4x256, .f32⟩
  | 17 => ⟨S8192x4x256, .f32⟩
  | 18 => ⟨S8192x256, .f32⟩
  | 19 => ⟨S8192x256, .f32⟩
  | 20 => ⟨S8192x256, .f32⟩
  | 21 => ⟨S4x256, .f32⟩
  | 22 => ⟨S8188x256, .f32⟩
  | 23 => ⟨S_, .f32⟩
  | 24 => ⟨S8192x256, .f32⟩
  | 25 => ⟨S8192x256, .f32⟩
  | 26 => ⟨S8192x1x256, .f32⟩
  | 27 => ⟨S_, .f32⟩
  | 28 => ⟨S8192x4x256, .f32⟩
  | 29 => ⟨S8192x4x256, .f32⟩
  | 30 => ⟨S8192x256, .f32⟩
  | 31 => ⟨S8192x256, .f32⟩
  | 32 => ⟨S8192x256, .f32⟩
  | 33 => ⟨S2x256, .f32⟩
  | 34 => ⟨S8190x256, .f32⟩
  | 35 => ⟨S_, .f32⟩
  | 36 => ⟨S8192x256, .f32⟩
  | 37 => ⟨S8192x256, .f32⟩
  | 38 => ⟨S8192x1x256, .f32⟩
  | 39 => ⟨S_, .f32⟩
  | 40 => ⟨S8192x4x256, .f32⟩
  | 41 => ⟨S8192x4x256, .f32⟩
  | 42 => ⟨S_, .f32⟩
  | 43 => ⟨S_, .f32⟩
  | 44 => ⟨S8192x4x256, .f32⟩
  | 45 => ⟨S8192x4x256, .f32⟩
  | 46 => ⟨S8192x1024, .f32⟩
  | 47 => ⟨S1x1024, .f32⟩
  | 48 => ⟨S1x4x256x256, .f32⟩
  | 49 => ⟨S8192x5120, .f32⟩
  | 50 => ⟨S1024x5120, .f32⟩
  | 51 => ⟨S8192x1024, .f32⟩
  | 52 => ⟨S8192x1024, .f32⟩
  | 53 => ⟨S4x8x32x256, .f32⟩
  | 54 => ⟨S8x4x32x256, .f32⟩
  | 55 => ⟨S8192x5120, .bf16⟩
  | 56 => ⟨S4x128x128, .f32⟩
  | 57 => ⟨S4x128, .f32⟩
  | _ => ⟨S8192x5120, .f32⟩

abbrev hbmTy (i : Nat) : BufTy := match i / 128 with
  | 0 => hbmTy0_0 i
  | 1 => hbmTy0_1 i
  | 2 => hbmTy0_2 i
  | 3 => hbmTy0_3 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_call0_cst : Ref sig .tc := ⟨.hbm, 17, rfl⟩
abbrev main_call0_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_14 : Ref sig .tc := ⟨.hbm, 116, rfl⟩
abbrev main_v88 : Ref sig .tc := ⟨.hbm, 117, rfl⟩
abbrev main_v89 : Ref sig .tc := ⟨.hbm, 118, rfl⟩
abbrev main_cst_15 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_16 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_17 : Ref sig .tc := ⟨.hbm, 127, rfl⟩
abbrev main_v96 : Ref sig .tc := ⟨.hbm, 128, rfl⟩
abbrev main_v97 : Ref sig .tc := ⟨.hbm, 129, rfl⟩
abbrev main_cst_18 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_19 : Ref sig .tc := ⟨.hbm, 134, rfl⟩
abbrev main_v101 : Ref sig .tc := ⟨.hbm, 135, rfl⟩
abbrev main_v102 : Ref sig .tc := ⟨.hbm, 136, rfl⟩
abbrev main_cst_20 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_21 : Ref sig .tc := ⟨.hbm, 144, rfl⟩
abbrev main_v109 : Ref sig .tc := ⟨.hbm, 145, rfl⟩
abbrev main_v110 : Ref sig .tc := ⟨.hbm, 146, rfl⟩
abbrev main_cst_22 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_23 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_24 : Ref sig .tc := ⟨.hbm, 155, rfl⟩
abbrev main_v117 : Ref sig .tc := ⟨.hbm, 156, rfl⟩
abbrev main_v118 : Ref sig .tc := ⟨.hbm, 157, rfl⟩
abbrev main_cst_25 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_26 : Ref sig .tc := ⟨.hbm, 162, rfl⟩
abbrev main_v122 : Ref sig .tc := ⟨.hbm, 163, rfl⟩
abbrev main_v123 : Ref sig .tc := ⟨.hbm, 164, rfl⟩
abbrev main_cst_27 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_28 : Ref sig .tc := ⟨.hbm, 172, rfl⟩
abbrev main_v130 : Ref sig .tc := ⟨.hbm, 173, rfl⟩
abbrev main_v131 : Ref sig .tc := ⟨.hbm, 174, rfl⟩
abbrev main_cst_29 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_cst_30 : Ref sig .tc := ⟨.hbm, 181, rfl⟩
abbrev main_v137 : Ref sig .tc := ⟨.hbm, 182, rfl⟩
abbrev main_v138 : Ref sig .tc := ⟨.hbm, 183, rfl⟩
abbrev main_cst_31 : Ref sig .tc := ⟨.hbm, 184, rfl⟩
abbrev main_v139 : Ref sig .tc := ⟨.hbm, 185, rfl⟩
abbrev main_v140 : Ref sig .tc := ⟨.hbm, 186, rfl⟩
abbrev main_cst_32 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_33 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_34 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_c_35 : Ref sig .tc := ⟨.hbm, 209, rfl⟩
abbrev main_v160 : Ref sig .tc := ⟨.hbm, 210, rfl⟩
abbrev main_call1_v0 : Ref sig .tc := ⟨.hbm, 211, rfl⟩
abbrev main_call1_c : Ref sig .tc := ⟨.hbm, 212, rfl⟩
abbrev main_call1_v1 : Ref sig .tc := ⟨.hbm, 213, rfl⟩
abbrev main_call1_v2 : Ref sig .tc := ⟨.hbm, 214, rfl⟩
abbrev main_call1_v3 : Ref sig .tc := ⟨.hbm, 215, rfl⟩
abbrev main_call1_v4 : Ref sig .tc := ⟨.hbm, 216, rfl⟩
abbrev main_call1_c_0 : Ref sig .tc := ⟨.hbm, 217, rfl⟩
abbrev main_call1_v5 : Ref sig .tc := ⟨.hbm, 218, rfl⟩
abbrev main_v161 : Ref sig .tc := ⟨.hbm, 219, rfl⟩
abbrev main_v162 : Ref sig .tc := ⟨.hbm, 220, rfl⟩
abbrev main_cst_36 : Ref sig .tc := ⟨.hbm, 221, rfl⟩
abbrev main_v163 : Ref sig .tc := ⟨.hbm, 222, rfl⟩
abbrev main_v164_1 : Ref sig .tc := ⟨.hbm, 223, rfl⟩
abbrev main_v164_0 : Ref sig .tc := ⟨.hbm, 224, rfl⟩
abbrev main_call2_cst : Ref sig .tc := ⟨.hbm, 225, rfl⟩
abbrev main_v164_2 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_call3_v0 : Ref sig .tc := ⟨.hbm, 236, rfl⟩
abbrev main_call3_v1 : Ref sig .tc := ⟨.hbm, 237, rfl⟩
abbrev main_call3_cst : Ref sig .tc := ⟨.hbm, 238, rfl⟩
abbrev main_call3_v2 : Ref sig .tc := ⟨.hbm, 239, rfl⟩
abbrev main_call3_v3 : Ref sig .tc := ⟨.hbm, 240, rfl⟩
abbrev main_call3_cst_0 : Ref sig .tc := ⟨.hbm, 241, rfl⟩
abbrev main_call3_v4 : Ref sig .tc := ⟨.hbm, 242, rfl⟩
abbrev main_v174_2 : Ref sig .tc := ⟨.hbm, 243, rfl⟩
abbrev main_call3_cst_1 : Ref sig .tc := ⟨.hbm, 244, rfl⟩
abbrev main_call3_v6 : Ref sig .tc := ⟨.hbm, 245, rfl⟩
abbrev main_call3_v7 : Ref sig .tc := ⟨.hbm, 246, rfl⟩
abbrev main_v174_1 : Ref sig .tc := ⟨.hbm, 247, rfl⟩
abbrev main_v174_0 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_call4_v0 : Ref sig .tc := ⟨.hbm, 252, rfl⟩
abbrev main_call4_v1 : Ref sig .tc := ⟨.hbm, 253, rfl⟩
abbrev main_call4_v2 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_cst_37 : Ref sig .tc := ⟨.hbm, 261, rfl⟩
abbrev main_v184 : Ref sig .tc := ⟨.hbm, 262, rfl⟩
abbrev main_v185 : Ref sig .tc := ⟨.hbm, 263, rfl⟩
abbrev main_cst_38 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_call5_cst : Ref sig .tc := ⟨.hbm, 271, rfl⟩
abbrev main_call5_v0 : Ref sig .tc := ⟨.hbm, 272, rfl⟩
abbrev main_v192 : Ref sig .tc := ⟨.hbm, 273, rfl⟩
abbrev main_v193 : Ref sig .tc := ⟨.hbm, 274, rfl⟩
abbrev main_cst_39 : Ref sig .tc := ⟨.hbm, 275, rfl⟩
abbrev main_v194 : Ref sig .tc := ⟨.hbm, 276, rfl⟩
abbrev main_v195 : Ref sig .tc := ⟨.hbm, 277, rfl⟩
abbrev main_cst_40 : Ref sig .tc := ⟨.hbm, 278, rfl⟩
abbrev main_v196 : Ref sig .tc := ⟨.hbm, 279, rfl⟩
abbrev main_v197 : Ref sig .tc := ⟨.hbm, 280, rfl⟩
abbrev main_cst_41 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_cst_42 : Ref sig .tc := ⟨.hbm, 286, rfl⟩
abbrev main_v202 : Ref sig .tc := ⟨.hbm, 287, rfl⟩
abbrev main_v203 : Ref sig .tc := ⟨.hbm, 288, rfl⟩
abbrev main_cst_43 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_cst_44 : Ref sig .tc := ⟨.hbm, 296, rfl⟩
abbrev main_v210 : Ref sig .tc := ⟨.hbm, 297, rfl⟩
abbrev main_v211 : Ref sig .tc := ⟨.hbm, 298, rfl⟩
abbrev main_cst_45 : Ref sig .tc := ⟨.hbm, 299, rfl⟩
abbrev main_v212 : Ref sig .tc := ⟨.hbm, 300, rfl⟩
abbrev main_v213 : Ref sig .tc := ⟨.hbm, 301, rfl⟩
abbrev main_cst_46 : Ref sig .tc := ⟨.hbm, 302, rfl⟩
abbrev main_v214 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_cst_47 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_cst_48 : Ref sig .tc := ⟨.hbm, 312, rfl⟩
abbrev main_v222 : Ref sig .tc := ⟨.hbm, 313, rfl⟩
abbrev main_v223 : Ref sig .tc := ⟨.hbm, 314, rfl⟩
abbrev main_cst_49 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_v227 : Ref sig .tc := ⟨.hbm, 319, rfl⟩
abbrev main_v228 : Ref sig .tc := ⟨.hbm, 320, rfl⟩
abbrev main_v229 : Ref sig .tc := ⟨.hbm, 321, rfl⟩
abbrev main_v230 : Ref sig .tc := ⟨.hbm, 322, rfl⟩
abbrev main_v231 : Ref sig .tc := ⟨.hbm, 323, rfl⟩
abbrev main_cst_50 : Ref sig .tc := ⟨.hbm, 324, rfl⟩
abbrev main_v232 : Ref sig .tc := ⟨.hbm, 325, rfl⟩
abbrev main_v233 : Ref sig .tc := ⟨.hbm, 326, rfl⟩
abbrev main_v234 : Ref sig .tc := ⟨.hbm, 327, rfl⟩
abbrev main_cst_51 : Ref sig .tc := ⟨.hbm, 328, rfl⟩
abbrev main_v235 : Ref sig .tc := ⟨.hbm, 329, rfl⟩
abbrev main_v236 : Ref sig .tc := ⟨.hbm, 330, rfl⟩
abbrev main_v237 : Ref sig .tc := ⟨.hbm, 331, rfl⟩
abbrev main_cst_52 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_v242 : Ref sig .tc := ⟨.hbm, 337, rfl⟩
abbrev main_v243 : Ref sig .tc := ⟨.hbm, 338, rfl⟩
abbrev main_cst_53 : Ref sig .tc := ⟨.hbm, 339, rfl⟩
abbrev main_v244 : Ref sig .tc := ⟨.hbm, 340, rfl⟩
abbrev main_v245 : Ref sig .tc := ⟨.hbm, 341, rfl⟩
abbrev main_v246 : Ref sig .tc := ⟨.hbm, 342, rfl⟩
abbrev main_cst_54 : Ref sig .tc := ⟨.hbm, 343, rfl⟩
abbrev main_v247 : Ref sig .tc := ⟨.hbm, 344, rfl⟩
abbrev main_v248 : Ref sig .tc := ⟨.hbm, 345, rfl⟩
abbrev main_v249 : Ref sig .tc := ⟨.hbm, 346, rfl⟩
abbrev main_cst_55 : Ref sig .tc := ⟨.hbm, 347, rfl⟩
abbrev main_v250 : Ref sig .tc := ⟨.hbm, 348, rfl⟩
abbrev main_v251 : Ref sig .tc := ⟨.hbm, 349, rfl⟩
abbrev main_v252 : Ref sig .tc := ⟨.hbm, 350, rfl⟩
abbrev main_v253 : Ref sig .tc := ⟨.hbm, 351, rfl⟩
abbrev main_v254 : Ref sig .tc := ⟨.hbm, 352, rfl⟩
abbrev main_v255 : Ref sig .tc := ⟨.hbm, 353, rfl⟩
abbrev main_v256 : Ref sig .tc := ⟨.hbm, 354, rfl⟩
abbrev main_v257 : Ref sig .tc := ⟨.hbm, 355, rfl⟩
abbrev main_v258 : Ref sig .tc := ⟨.hbm, 356, rfl⟩
abbrev main_cst_56 : Ref sig .tc := ⟨.hbm, 357, rfl⟩
abbrev main_v259 : Ref sig .tc := ⟨.hbm, 358, rfl⟩
abbrev main_v260 : Ref sig .tc := ⟨.hbm, 359, rfl⟩
abbrev main_v261 : Ref sig .tc := ⟨.hbm, 360, rfl⟩
abbrev main_v262 : Ref sig .tc := ⟨.hbm, 361, rfl⟩
abbrev main_cst_57 : Ref sig .tc := ⟨.hbm, 362, rfl⟩
abbrev main_v263 : Ref sig .tc := ⟨.hbm, 363, rfl⟩
abbrev main_v264 : Ref sig .tc := ⟨.hbm, 364, rfl⟩
abbrev main_v265 : Ref sig .tc := ⟨.hbm, 365, rfl⟩
abbrev main_v266 : Ref sig .tc := ⟨.hbm, 366, rfl⟩
abbrev main_v267 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩
abbrev main_v271 : Ref sig .tc := ⟨.hbm, 371, rfl⟩
abbrev main_v272 : Ref sig .tc := ⟨.hbm, 372, rfl⟩
abbrev main_v273 : Ref sig .tc := ⟨.hbm, 373, rfl⟩
abbrev main_v274 : Ref sig .tc := ⟨.hbm, 374, rfl⟩
abbrev main_v275 : Ref sig .tc := ⟨.hbm, 375, rfl⟩
abbrev main_v276 : Ref sig .tc := ⟨.hbm, 376, rfl⟩
abbrev main_v277 : Ref sig .tc := ⟨.hbm, 377, rfl⟩
abbrev main_v278 : Ref sig .tc := ⟨.hbm, 378, rfl⟩
abbrev main_v279 : Ref sig .tc := ⟨.hbm, 379, rfl⟩
abbrev main_v280 : Ref sig .tc := ⟨.hbm, 380, rfl⟩
abbrev main_v281 : Ref sig .tc := ⟨.hbm, 381, rfl⟩
abbrev main_v282 : Ref sig .tc := ⟨.hbm, 382, rfl⟩
abbrev main_v283 : Ref sig .tc := ⟨.hbm, 383, rfl⟩
abbrev main_cst_58 : Ref sig .tc := ⟨.hbm, 384, rfl⟩
abbrev main_v284 : Ref sig .tc := ⟨.hbm, 385, rfl⟩
abbrev main_v285 : Ref sig .tc := ⟨.hbm, 386, rfl⟩
abbrev main_v286 : Ref sig .tc := ⟨.hbm, 387, rfl⟩
abbrev main_cst_59 : Ref sig .tc := ⟨.hbm, 388, rfl⟩
abbrev main_v287 : Ref sig .tc := ⟨.hbm, 389, rfl⟩
abbrev main_v288 : Ref sig .tc := ⟨.hbm, 390, rfl⟩
abbrev main_v289 : Ref sig .tc := ⟨.hbm, 391, rfl⟩
abbrev main_v290 : Ref sig .tc := ⟨.hbm, 392, rfl⟩
abbrev main_v291 : Ref sig .tc := ⟨.hbm, 393, rfl⟩
abbrev main_v292 : Ref sig .tc := ⟨.hbm, 394, rfl⟩
abbrev main_cst_60 : Ref sig .tc := ⟨.hbm, 395, rfl⟩
abbrev main_v293 : Ref sig .tc := ⟨.hbm, 396, rfl⟩
abbrev main_v294 : Ref sig .tc := ⟨.hbm, 397, rfl⟩
abbrev main_v295 : Ref sig .tc := ⟨.hbm, 398, rfl⟩
abbrev main_cst_61 : Ref sig .tc := ⟨.hbm, 399, rfl⟩
abbrev main_v296 : Ref sig .tc := ⟨.hbm, 400, rfl⟩
abbrev main_v297 : Ref sig .tc := ⟨.hbm, 401, rfl⟩
abbrev main_v298 : Ref sig .tc := ⟨.hbm, 402, rfl⟩
abbrev main_v299 : Ref sig .tc := ⟨.hbm, 403, rfl⟩
abbrev main_v300 : Ref sig .tc := ⟨.hbm, 404, rfl⟩
abbrev main_v301 : Ref sig .tc := ⟨.hbm, 405, rfl⟩
abbrev main_v302 : Ref sig .tc := ⟨.hbm, 406, rfl⟩
abbrev main_cst_62 : Ref sig .tc := ⟨.hbm, 407, rfl⟩
abbrev main_v303 : Ref sig .tc := ⟨.hbm, 408, rfl⟩
abbrev main_v304 : Ref sig .tc := ⟨.hbm, 409, rfl⟩
abbrev main_v305 : Ref sig .tc := ⟨.hbm, 410, rfl⟩
abbrev main_cst_63 : Ref sig .tc := ⟨.hbm, 411, rfl⟩
abbrev main_v306 : Ref sig .tc := ⟨.hbm, 412, rfl⟩
abbrev main_v307 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_v311 : Ref sig .tc := ⟨.hbm, 417, rfl⟩
abbrev main_v312 : Ref sig .tc := ⟨.hbm, 418, rfl⟩
abbrev main_cst_64 : Ref sig .tc := ⟨.hbm, 419, rfl⟩
abbrev main_v313 : Ref sig .tc := ⟨.hbm, 420, rfl⟩
abbrev main_v314 : Ref sig .tc := ⟨.hbm, 421, rfl⟩
abbrev main_v315 : Ref sig .tc := ⟨.hbm, 422, rfl⟩
abbrev main_cst_65 : Ref sig .tc := ⟨.hbm, 423, rfl⟩
abbrev main_v316 : Ref sig .tc := ⟨.hbm, 424, rfl⟩
abbrev main_v317 : Ref sig .tc := ⟨.hbm, 425, rfl⟩
abbrev main_call6_call0_cst : Ref sig .tc := ⟨.hbm, 426, rfl⟩
abbrev main_call6_call0_v0 : Ref sig .tc := ⟨.hbm, 427, rfl⟩
abbrev main_v318 : Ref sig .tc := ⟨.hbm, 428, rfl⟩
abbrev main_v319 : Ref sig .tc := ⟨.hbm, 429, rfl⟩
abbrev main_v320 : Ref sig .tc := ⟨.hbm, 430, rfl⟩
abbrev main_v321 : Ref sig .tc := ⟨.hbm, 431, rfl⟩
abbrev main_v322 : Ref sig .tc := ⟨.hbm, 432, rfl⟩
abbrev main_v323 : Ref sig .tc := ⟨.hbm, 433, rfl⟩
abbrev main_v324 : Ref sig .tc := ⟨.hbm, 434, rfl⟩
abbrev main_v325 : Ref sig .tc := ⟨.hbm, 435, rfl⟩
abbrev main_v326 : Ref sig .tc := ⟨.hbm, 436, rfl⟩
abbrev main_v327 : Ref sig .tc := ⟨.hbm, 437, rfl⟩
abbrev main_v328 : Ref sig .tc := ⟨.hbm, 438, rfl⟩
abbrev main_v329 : Ref sig .tc := ⟨.hbm, 439, rfl⟩
abbrev main_v330 : Ref sig .tc := ⟨.hbm, 440, rfl⟩
abbrev main_v331 : Ref sig .tc := ⟨.hbm, 441, rfl⟩

abbrev nD : Nat := 1
abbrev τ : Topo := Topo.v7x

variable {F : FTy → Type} [FloatOps F]
-- ==== Kernel2.lean ====
abbrev S8192x2048 : Shape := ⟨2, ![8192, 2048]⟩
abbrev S8192x1024 : Shape := ⟨2, ![8192, 1024]⟩
abbrev S1x2048x1024 : Shape := ⟨3, ![1, 2048, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .bf16⟩
  | .hbm, ⟨3, _⟩ => ⟨S1x2048x1024, .f32⟩
  | .local _ .vmem, ⟨0, _⟩ => ⟨S1024x2048, .f32⟩
  | .local _ .vmem, ⟨1, _⟩ => ⟨S1024x2048, .f32⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩
abbrev S1x2048x1024 : Shape := ⟨3, ![1, 2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | .hbm, ⟨7, _⟩ => ⟨S1x2048x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x1024 : Shape := ⟨2, ![8192, 1024]⟩
abbrev S8192x2048 : Shape := ⟨2, ![8192, 2048]⟩
abbrev S8192x256 : Shape := ⟨2, ![8192, 256]⟩
abbrev S1x2048x1024 : Shape := ⟨3, ![1, 2048, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S2048x1024 : Shape := ⟨2, ![2048, 1024]⟩
abbrev S1024x1024 : Shape := ⟨2, ![1024, 1024]⟩
abbrev S256x1024 : Shape := ⟨2, ![256, 1024]⟩
abbrev S1x128 : Shape := ⟨2, ![1, 128]⟩
abbrev S512x1024 : Shape := ⟨2, ![512, 1024]⟩
abbrev S512x2048 : Shape := ⟨2, ![512, 2048]⟩
abbrev S512x256 : Shape := ⟨2, ![512, 256]⟩
abbrev S256x2048 : Shape := ⟨2, ![256, 2048]⟩
abbrev S256 : Shape := ⟨1, ![256]⟩
abbrev S256x1 : Shape := ⟨2, ![256, 1]⟩
abbrev S1x1 : Shape := ⟨2, ![1, 1]⟩
abbrev S256x256 : Shape := ⟨2, ![256, 256]⟩
abbrev S1 : Shape := ⟨1, ![1]⟩
abbrev S1x1x1 : Shape := ⟨3, ![1, 1, 1]⟩
abbrev S1024 : Shape := ⟨1, ![1024]⟩

abbrev nBuf : Space → Nat
  | .hbm => 26
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x256, .f32⟩
  | .hbm, ⟨3, _⟩ => ⟨S8192x1024, .f32⟩
  | .hbm, ⟨4, _⟩ => ⟨S1x2048x1024, .f32⟩
  | .hbm, ⟨5, _⟩ => ⟨S1x1024x1024, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S2048x1024, .bf16⟩
  | .hbm, ⟨12, _⟩ => ⟨S1024x1024, .f32⟩
  | .hbm, ⟨13, _⟩ => ⟨S1024x1024, .bf16⟩
  | .hbm, ⟨14, _⟩ => ⟨S256x1024, .f32⟩
  | .hbm, ⟨15, _⟩ => ⟨S256x1024, .bf16⟩
  | .hbm, ⟨16, _⟩ => ⟨S8192x2048, .f32⟩
  | .hbm, ⟨17, _⟩ => ⟨S8192x1024, .f32⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S1x128, .f32⟩
  | .hbm, ⟨23, _⟩ => ⟨S1x1024, .f32⟩
  | .hbm, ⟨24, _⟩ => ⟨S1x1024, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x2048, .f32⟩
  | .local _ .vmem, ⟨15, _⟩ => ⟨S512x2048, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S1x128, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v6_6 : Ref sig .tc := ⟨.hbm, 22, rfl⟩
abbrev main_v6_7 : Ref sig .tc := ⟨.hbm, 23, rfl⟩
abbrev main_v6_8 : Ref sig .tc := ⟨.hbm, 24, rfl⟩
abbrev main_v6_9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27
abbrev cc0_sem18_0 : DmaSem sig := 28
abbrev cc0_sem19_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference3Ideal.lean ====
abbrev S8192x1024 : Shape := ⟨2, ![8192, 1024]⟩
abbrev S8192x2048 : Shape := ⟨2, ![8192, 2048]⟩
abbrev S8192x256 : Shape := ⟨2, ![8192, 256]⟩
abbrev S1x2048x1024 : Shape := ⟨3, ![1, 2048, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S_ : Shape := ⟨0, ![]⟩
abbrev S1024 : Shape := ⟨1, ![1024]⟩
abbrev S2048x1024 : Shape := ⟨2, ![2048, 1024]⟩
abbrev S8192 : Shape := ⟨1, ![8192]⟩
abbrev S8192x1 : Shape := ⟨2, ![8192, 1]⟩
abbrev S1024x1024 : Shape := ⟨2, ![1024, 1024]⟩
abbrev S256x1024 : Shape := ⟨2, ![256, 1024]⟩
abbrev S1x128 : Shape := ⟨2, ![1, 128]⟩

abbrev nBuf : Space → Nat
  | .hbm => 170
  | .vmem => 0
  | .smem => 0
  | _ => 0

abbrev hbmTy0_0 (i : Nat) : BufTy := match i % 128 with
  | 0 => ⟨S8192x1024, .f32⟩
  | 1 => ⟨S8192x2048, .f32⟩
  | 2 => ⟨S8192x256, .f32⟩
  | 3 => ⟨S8192x1024, .f32⟩
  | 4 => ⟨S1x2048x1024, .f32⟩
  | 5 => ⟨S1x1024x1024, .f32⟩
  | 6 => ⟨S1x256x1024, .f32⟩
  | 7 => ⟨S1x1024, .f32⟩
  | 8 => ⟨S1x1024, .f32⟩
  | 9 => ⟨S1x1024, .f32⟩
  | 10 => ⟨S_, .f32⟩
  | 11 => ⟨S8192x1024, .f32⟩
  | 12 => ⟨S1024, .f32⟩
  | 13 => ⟨S1024, .f32⟩
  | 14 => ⟨S1024, .f32⟩
  | 15 => ⟨S_, .f32⟩
  | 16 => ⟨S8192x1024, .f32⟩
  | 17 => ⟨S8192x1024, .f32⟩
  | 18 => ⟨S2048x1024, .f32⟩
  | 19 => ⟨S8192x1024, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S8192x1024, .f32⟩
  | 41 => ⟨S8192x1024, .f32⟩
  | 42 => ⟨S_, .f32⟩
  | 43 => ⟨S8192x1, .f32⟩
  | 44 => ⟨S8192x1, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x1024, .f32⟩
  | 51 => ⟨S8192x1024, .f32⟩
  | 52 => ⟨S1x1024, .f32⟩
  | 53 => ⟨S8192x1024, .f32⟩
  | 54 => ⟨S8192x1024, .f32⟩
  | 55 => ⟨S1x1024, .f32⟩
  | 56 => ⟨S8192x1024, .f32⟩
  | 57 => ⟨S8192x1024, .f32⟩
  | 58 => ⟨S1024x1024, .f32⟩
  | 59 => ⟨S8192x1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S_, .f32⟩
  | 73 => ⟨S8192x1024, .f32⟩
  | 74 => ⟨S8192x1024, .f32⟩
  | 75 => ⟨S8192x1024, .f32⟩
  | 76 => ⟨S256x1024, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192, .f32⟩
  | 88 => ⟨S_, .f32⟩
  | 89 => ⟨S8192, .f32⟩
  | 90 => ⟨S8192, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S8192, .f32⟩
  | 99 => ⟨S_, .f32⟩
  | 100 => ⟨S8192, .f32⟩
  | 101 => ⟨S8192, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S_, .f32⟩
  | 108 => ⟨S1024, .f32⟩
  | 109 => ⟨S1x1024, .f32⟩
  | 110 => ⟨S_, .f32⟩
  | 111 => ⟨S1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S_, .f32⟩
  | 118 => ⟨S1024, .f32⟩
  | 119 => ⟨S8192x1024, .f32⟩
  | 120 => ⟨S_, .f32⟩
  | 121 => ⟨S1024, .f32⟩
  | 122 => ⟨S1x1024, .f32⟩
  | 123 => ⟨S8192x1024, .f32⟩
  | 124 => ⟨S8192x1024, .f32⟩
  | 125 => ⟨S_, .f32⟩
  | 126 => ⟨S1024, .f32⟩
  | 127 => ⟨S8192x1024, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S8192x1024, .f32⟩
  | 4 => ⟨S8192x1024, .f32⟩
  | 5 => ⟨S8192x1, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192, .f32⟩
  | 28 => ⟨S8192x1024, .f32⟩
  | 29 => ⟨S8192x1024, .f32⟩
  | 30 => ⟨S8192x2048, .f32⟩
  | 31 => ⟨S_, .f32⟩
  | 32 => ⟨S8192x1024, .f32⟩
  | 33 => ⟨S8192x1024, .f32⟩
  | 34 => ⟨S8192x1024, .bf16⟩
  | 35 => ⟨S8192x1024, .bf16⟩
  | 36 => ⟨S8192x1024, .bf16⟩
  | 37 => ⟨S8192x1024, .bf16⟩
  | 38 => ⟨S1x128, .f32⟩
  | 39 => ⟨S1x1024, .f32⟩
  | 40 => ⟨S1x1024, .f32⟩
  | 41 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_cst_16 : Ref sig .tc := ⟨.hbm, 95, rfl⟩
abbrev main_cst_17 : Ref sig .tc := ⟨.hbm, 96, rfl⟩
abbrev main_v68 : Ref sig .tc := ⟨.hbm, 97, rfl⟩
abbrev main_v69 : Ref sig .tc := ⟨.hbm, 98, rfl⟩
abbrev main_cst_18 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_19 : Ref sig .tc := ⟨.hbm, 107, rfl⟩
abbrev main_v77 : Ref sig .tc := ⟨.hbm, 108, rfl⟩
abbrev main_v78 : Ref sig .tc := ⟨.hbm, 109, rfl⟩
abbrev main_cst_20 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_21 : Ref sig .tc := ⟨.hbm, 114, rfl⟩
abbrev main_v82 : Ref sig .tc := ⟨.hbm, 115, rfl⟩
abbrev main_v83 : Ref sig .tc := ⟨.hbm, 116, rfl⟩
abbrev main_cst_22 : Ref sig .tc := ⟨.hbm, 117, rfl⟩
abbrev main_v84 : Ref sig .tc := ⟨.hbm, 118, rfl⟩
abbrev main_v85 : Ref sig .tc := ⟨.hbm, 119, rfl⟩
abbrev main_cst_23 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_24 : Ref sig .tc := ⟨.hbm, 125, rfl⟩
abbrev main_v90 : Ref sig .tc := ⟨.hbm, 126, rfl⟩
abbrev main_v91 : Ref sig .tc := ⟨.hbm, 127, rfl⟩
abbrev main_cst_25 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_26 : Ref sig .tc := ⟨.hbm, 135, rfl⟩
abbrev main_v98 : Ref sig .tc := ⟨.hbm, 136, rfl⟩
abbrev main_v99 : Ref sig .tc := ⟨.hbm, 137, rfl⟩
abbrev main_cst_27 : Ref sig .tc := ⟨.hbm, 138, rfl⟩
abbrev main_v100 : Ref sig .tc := ⟨.hbm, 139, rfl⟩
abbrev main_v101 : Ref sig .tc := ⟨.hbm, 140, rfl⟩
abbrev main_cst_28 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_29 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_30 : Ref sig .tc := ⟨.hbm, 151, rfl⟩
abbrev main_v110 : Ref sig .tc := ⟨.hbm, 152, rfl⟩
abbrev main_v111 : Ref sig .tc := ⟨.hbm, 153, rfl⟩
abbrev main_cst_31 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_32 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩

abbrev nD : Nat := 1
abbrev τ : Topo := Topo.v7x

variable {F : FTy → Type} [FloatOps F]
-- ==== Proof.Spec.lean ====
/-
  The mathematics of the mixers' gradient over the real numbers: what every result of the kernel is, written as plain
  functions of natural-number coordinates. Both programs are read to these functions.

  A token is numbered `s` (0 to 8191). The hidden row of a token has 5120 channels: 1024 of the pooling mixer, 1024 of
  the gating unit's first half, 1024 of its second half, and 2048 of the gate.
-/
module

public import Idealize.ShloMosaic.PureOps.Ideal.Laws
public import Mathlib.Tactic.Ring
public import Mathlib.Tactic.Positivity
public import Mathlib.Tactic.Linarith
public import Mathlib.Tactic.FieldSimp

@[expose] public section

noncomputable section

namespace Mixers

open scoped BigOperators

/-- The first constant of gelu's tanh form, as a 32-bit float has it. -/
def C0 : ℝ := 6693141 / 8388608
/-- The second constant of gelu's tanh form, as a 32-bit float has it. -/
def C1 : ℝ := 12003091 / 268435456
/-- The layer norm's epsilon, as a 32-bit float has it. -/
def EPS : ℝ := 10995116 / 1099511627776

/-- The logistic function. -/
def sig (z : ℝ) : ℝ := 1 / (1 + Real.exp (-z))
/-- The gate `z · sig z`. -/
def silu (z : ℝ) : ℝ := z * sig z
/-- The gate's derivative. -/
def dsilu (z : ℝ) : ℝ := sig z * (1 + z * (1 - sig z))
/-- Gelu's smooth step, by the exponential. -/
def cdf (x : ℝ) : ℝ := 1 / (1 + Real.exp (x * (-(2 * C0) + -(2 * C0 * C1) * (x * x))))
/-- Gelu. -/
def gelu (x : ℝ) : ℝ := x * cdf x
/-- Gelu's derivative. -/
def dgelu (x : ℝ) : ℝ := cdf x + gelu x * (1 - cdf x) * (2 * C0 + 6 * C0 * C1 * (x * x))

theorem one_add_exp_ne (x : ℝ) : 1 + Real.exp x ≠ 0 := by positivity

/-- The tanh form of the smooth step is the exponential form. -/
theorem cdf_eq_tanh (x : ℝ) : 1 / 2 * (1 + Real.tanh (C0 * (x + C1 * (x * x * x)))) = cdf x := by
  unfold cdf
  have e : x * (-(2 * C0) + -(2 * C0 * C1) * (x * x)) = -(C0 * (x + C1 * (x * x * x))) + -(C0 * (x + C1 * (x * x * x))) := by ring
  rw [e, Real.exp_add, Real.tanh_eq_sinh_div_cosh, Real.sinh_eq, Real.cosh_eq]
  have hp := Real.exp_pos (C0 * (x + C1 * (x * x * x)))
  rw [Real.exp_neg]
  generalize Real.exp (C0 * (x + C1 * (x * x * x))) = y at hp
  field_simp
  ring

/-- The arrays the mixers' gradient reads, as real functions of their coordinates: the hidden rows, the incoming
    gradient, the pooled rows, the pooling weights, the pooling scale, the layer norm's gain and offset, the gating
    weights and offsets. -/
structure Data where
  H : ℕ → ℕ → ℝ
  DY : ℕ → ℕ → ℝ
  P : ℕ → ℕ → ℝ
  PW : ℕ → ℕ → ℕ → ℝ
  PS : ℕ → ℝ
  LG : ℕ → ℝ
  LB : ℕ → ℝ
  SW : ℕ → ℕ → ℕ → ℝ
  SB : ℕ → ℕ → ℝ

variable (D : Data)

/-! ## The pooling mixer: group `g` of four, channel `d` of 256, window `2 ^ (g + 1)` -/

/-- The window's length in group `g`. -/
def win (g : ℕ) : ℕ := 2 ^ (g + 1)
/-- The gate's input. -/
def zp (s g d : ℕ) : ℝ := D.H s (3072 + (g * 256 + d))
/-- The incoming gradient. -/
def dyp (s g d : ℕ) : ℝ := D.DY s (g * 256 + d)
/-- The pooled row times the group's weights. -/
def mixed (s g d : ℕ) : ℝ := ∑ c : Fin 256, D.P s (g * 256 + c) * D.PW g c d
/-- The gradient of the scaled mix. -/
def dms (s g d : ℕ) : ℝ := dyp D s g d * silu (zp D s g d)
/-- The gradient of the mix. -/
def dmixed (s g d : ℕ) : ℝ := dms D s g d * D.PS (g * 256 + d)
/-- The gradient of the gate's input. -/
def dzp (s g d : ℕ) : ℝ := dyp D s g d * (mixed D s g d * D.PS (g * 256 + d)) * dsilu (zp D s g d)
/-- The gradient of the pooled row. -/
def dpooled (s g c : ℕ) : ℝ := ∑ d : Fin 256, dmixed D s g d * D.PW g c d
/-- The gradient of the window's sum: the gradient of the pooled row over the number of tokens in the window. -/
def qv (s g c : ℕ) : ℝ := dpooled D s g c * (1 / ((min (s + 1) (win g) : ℕ) : ℝ))
/-- The same past the last token: zero. -/
def qx (s g c : ℕ) : ℝ := if s < 8192 then qv D s g c else 0
/-- The gradient of the pooling mixer's input. -/
def da (s g c : ℕ) : ℝ := (∑ k ∈ Finset.range (win g), qx D (s + k) g c) - dpooled D s g c
/-- One token's share of the scale's gradient. -/
def dpsT (s g d : ℕ) : ℝ := dms D s g d * mixed D s g d
/-- One token's share of the weights' gradient. -/
def dpwT (s g c d : ℕ) : ℝ := D.P s (g * 256 + c) * dmixed D s g d

/-! ## The gating unit: head `h` of four, channel `k` of 256, chunks of 128 tokens -/

/-- The first half. -/
def uu (s h k : ℕ) : ℝ := D.H s (1024 + (h * 256 + k))
/-- The second half. -/
def vv (s h k : ℕ) : ℝ := D.H s (2048 + (h * 256 + k))
/-- The gate's input. -/
def zs (s h k : ℕ) : ℝ := D.H s (4096 + (h * 256 + k))
/-- The incoming gradient. -/
def dys (s h k : ℕ) : ℝ := D.DY s (1024 + (h * 256 + k))
/-- The second half's row mean. -/
def mu (s h : ℕ) : ℝ := (∑ k : Fin 256, gelu (vv D s h k)) / 256
/-- The second half, centred. -/
def xc (s h k : ℕ) : ℝ := gelu (vv D s h k) - mu D s h
/-- Its row variance. -/
def var (s h : ℕ) : ℝ := (∑ k : Fin 256, xc D s h k * xc D s h k) / 256
/-- The reciprocal standard deviation. -/
def rstd (s h : ℕ) : ℝ := (Real.sqrt (var D s h + EPS))⁻¹
/-- The normalised row. -/
def xhat (s h k : ℕ) : ℝ := xc D s h k * rstd D s h
/-- The layer norm's result. -/
def vln (s h k : ℕ) : ℝ := xhat D s h k * D.LG (h * 256 + k) + D.LB (h * 256 + k)
/-- The gating weights below and on the diagonal. -/
def wm (h i j : ℕ) : ℝ := if j ≤ i then D.SW h i j else 0
/-- The spatial mix at row `i` of the chunk that starts at token `b`. -/
def sv (b i h k : ℕ) : ℝ := (∑ j : Fin 128, wm D h i j * vln D (b + j) h k) + D.SB h i
/-- The gradient of the ungated product. -/
def dyg (s h k : ℕ) : ℝ := dys D s h k * silu (zs D s h k)
/-- The gradient of the gate's input. -/
def dzs (b i h k : ℕ) : ℝ := dys D (b + i) h k * (gelu (uu D (b + i) h k) * sv D b i h k) * dsilu (zs D (b + i) h k)
/-- The gradient of the first half. -/
def du (b i h k : ℕ) : ℝ := dyg D (b + i) h k * sv D b i h k * dgelu (uu D (b + i) h k)
/-- The gradient of the spatial mix. -/
def dsv (s h k : ℕ) : ℝ := dyg D s h k * gelu (uu D s h k)
/-- The gradient of the layer norm's result, row `j` of the chunk at `b`. -/
def dvln (b j h k : ℕ) : ℝ := ∑ i : Fin 128, wm D h i j * dsv D (b + i) h k
/-- The gradient of the normalised row. -/
def dxh (b j h k : ℕ) : ℝ := dvln D b j h k * D.LG (h * 256 + k)
/-- Its row mean. -/
def m1 (b j h : ℕ) : ℝ := (∑ k : Fin 256, dxh D b j h k) / 256
/-- The row mean of its product with the normalised row. -/
def m2 (b j h : ℕ) : ℝ := (∑ k : Fin 256, dxh D b j h k * xhat D (b + j) h k) / 256
/-- The gradient of the second half after gelu. -/
def dgv (b j h k : ℕ) : ℝ := rstd D (b + j) h * (dxh D b j h k - m1 D b j h - xhat D (b + j) h k * m2 D b j h)
/-- The gradient of the second half. -/
def dv (b j h k : ℕ) : ℝ := dgv D b j h k * dgelu (vv D (b + j) h k)
/-- One chunk's share of the gating weights' gradient. -/
def dswT (b h i j : ℕ) : ℝ := ∑ k : Fin 256, dsv D (b + i) h k * vln D (b + j) h k
/-- One chunk's share of the gain's gradient. -/
def dlgT (b h k : ℕ) : ℝ := ∑ j : Fin 128, dvln D b j h k * xhat D (b + j) h k
/-- One chunk's share of the offset's gradient. -/
def dlbT (b h k : ℕ) : ℝ := ∑ j : Fin 128, dvln D b j h k

/-! ## The results -/

/-- The first token of a token's chunk. -/
def cb (s : ℕ) : ℕ := s / 128 * 128
/-- The gradient of the hidden row of token `s` at channel `e`. -/
def DH (s e : ℕ) : ℝ :=
  if e < 1024 then da D s (e / 256) (e % 256)
  else if e < 2048 then du D (cb s) (s % 128) ((e - 1024) / 256) (e % 256)
  else if e < 3072 then dv D (cb s) (s % 128) ((e - 2048) / 256) (e % 256)
  else if e < 4096 then dzp D s ((e - 3072) / 256) (e % 256)
  else dzs D (cb s) (s % 128) ((e - 4096) / 256) (e % 256)
/-- The pooling scale's gradient. -/
def DPS (e : ℕ) : ℝ := ∑ s : Fin 8192, dpsT D s (e / 256) (e % 256)
/-- The pooling weights' gradient. -/
def DPW (g c d : ℕ) : ℝ := ∑ s : Fin 8192, dpwT D s g c d
/-- The gain's gradient. -/
def DLG (e : ℕ) : ℝ := ∑ n : Fin 64, dlgT D (n * 128) (e / 256) (e % 256)
/-- The offset's gradient. -/
def DLB (e : ℕ) : ℝ := ∑ n : Fin 64, dlbT D (n * 128) (e / 256) (e % 256)
/-- The gating weights' gradient. -/
def DSW (h i j : ℕ) : ℝ := if j ≤ i then ∑ n : Fin 64, dswT D (n * 128) h i j else 0
/-- The gating offsets' gradient. -/
def DSB (h i : ℕ) : ℝ := ∑ n : Fin 64, ∑ k : Fin 256, dsv D (n * 128 + i) h k

theorem EPS_pos : 0 < EPS := by unfold EPS; norm_num
theorem var_nonneg (s h : ℕ) : 0 ≤ var D s h := by
  unfold var; exact div_nonneg (Finset.sum_nonneg fun k _ => mul_self_nonneg _) (by norm_num)
theorem var_eps_pos (s h : ℕ) : 0 < var D s h + EPS := by
  have := var_nonneg D s h; have := EPS_pos; linarith

end Mixers
-- ==== Proof.Lift.lean ====
/-
  Real numbers inside the extended reals: how the operations both programs use act on values that are real, and the
  real values of the constants they write. A vector whose every element is real is carried through each operation.
-/
module

public import proofs.«01_k».proof.Proof.Spec
public import Idealize.ShloMosaic.Lib.Pointwise
public import Idealize.ShloMosaic.Lib.Pipeline.ValueKit
public import Idealize.ShloMosaic.Lib.WordCmp

@[expose] public section

noncomputable section

namespace Mixers

open Idealize.ShloMosaic
open scoped BigOperators

/-- A finite sum of reals, read in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals with a denominator that is not zero. -/
theorem div_real (a b : ℝ) (h : b ≠ 0) : Ideal.div (a : EReal) (b : EReal) = ((a / b : ℝ) : EReal) := by
  rw [Ideal.div_coe h, ← EReal.coe_mul, mul_one_div]

/-- The reciprocal square root of a positive real. -/
theorem rsqrt_real (a : ℝ) (h : 0 < a) : Ideal.rsqrt (a : EReal) = (((Real.sqrt a)⁻¹ : ℝ) : EReal) := by
  rw [Ideal.rsqrt_coe, if_neg (not_lt.mpr h.le), if_neg h.ne']

theorem coe_sub' (a b : ℝ) : (a : EReal) - (b : EReal) = ((a - b : ℝ) : EReal) := (EReal.coe_sub a b).symm
theorem coe_add' (a b : ℝ) : (a : EReal) + (b : EReal) = ((a + b : ℝ) : EReal) := (EReal.coe_add a b).symm
theorem coe_mul' (a b : ℝ) : (a : EReal) * (b : EReal) = ((a * b : ℝ) : EReal) := (EReal.coe_mul a b).symm
theorem coe_neg' (a : ℝ) : -(a : EReal) = ((-a : ℝ) : EReal) := (EReal.coe_neg a).symm
theorem zero_sub_coe (a : ℝ) : (0 : EReal) - (a : EReal) = ((-a : ℝ) : EReal) := by
  rw [← EReal.coe_zero, coe_sub', zero_sub]

/-! ## The constants -/

theorem bits_one : Ideal.ofBits .f32 0x3F800000#32 = ((1 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num
theorem bits_eps : Ideal.ofBits .f32 0x3727C5AC#32 = ((EPS : ℝ) : EReal) := by
  simp [Ideal.ofBits, Ideal.ieee, -EReal.coe_mul, EPS]; norm_num
theorem bits_neg_two_c0 : Ideal.ofBits .f32 0xBFCC422A#32 = ((-(2 * C0) : ℝ) : EReal) := by
  simp [Ideal.ofBits, Ideal.ieee, -EReal.coe_mul, C0]; norm_num
theorem bits_two_c0 : Ideal.ofBits .f32 0x3FCC422A#32 = ((2 * C0 : ℝ) : EReal) := by
  simp [Ideal.ofBits, Ideal.ieee, -EReal.coe_mul, C0]; norm_num
theorem bits_c0 : Ideal.ofBits .f32 0x3F4C422A#32 = ((C0 : ℝ) : EReal) := by
  simp [Ideal.ofBits, Ideal.ieee, -EReal.coe_mul, C0]; norm_num
theorem bits_c1 : Ideal.ofBits .f32 0x3D372713#32 = ((C1 : ℝ) : EReal) := by
  simp [Ideal.ofBits, Ideal.ieee, -EReal.coe_mul, C1]; norm_num
theorem bits_half : Ideal.ofBits .f32 0x3F000000#32 = ((1 / 2 : ℝ) : EReal) := by
  simp [Ideal.ofBits, Ideal.ieee, -EReal.coe_mul]; norm_num

/-! ## The vector operations at an index -/

section
variable {s : Shape} {φ : FTy}
theorem vmul (a b : FVec Ideal s φ) (i : s.Idx) : mulf a b i = a i * b i := rfl
theorem vadd (a b : FVec Ideal s φ) (i : s.Idx) : addf a b i = a i + b i := rfl
theorem vsub (a b : FVec Ideal s φ) (i : s.Idx) : subf a b i = a i - b i := rfl
theorem vdiv (a b : FVec Ideal s φ) (i : s.Idx) : divf a b i = Ideal.div (a i) (b i) := rfl
theorem vexp (a : FVec Ideal s φ) (i : s.Idx) : exp a i = Ideal.exp (a i) := rfl
theorem vrsqrt (a : FVec Ideal s φ) (i : s.Idx) : rsqrt a i = Ideal.rsqrt (a i) := rfl
theorem vtrunc {ψ : FTy} (a : FVec Ideal s φ) (h : ψ.bits < φ.bits) (i : s.Idx) : (truncf ψ a h : FVec Ideal s ψ) i = a i := rfl
theorem vext {ψ : FTy} (a : FVec Ideal s φ) (h : φ.bits < ψ.bits) (i : s.Idx) : (extf ψ a h : FVec Ideal s ψ) i = a i := rfl
theorem vselect {α : Type} (c : IVec s 1) (a b : s.Idx → α) (i : s.Idx) : select c a b i = Scalar.select (c i) (a i) (b i) := rfl
end

/-- Every index of two coordinates is given by them. -/
theorem ex2 {m n : ℕ} (i : (⟨2, ![m, n]⟩ : Shape).Idx) : ∃ (r : Fin m) (k : Fin n), i = ix2 r k :=
  ⟨i 0, i 1, by funext a; match a with | ⟨0, _⟩ => rfl | ⟨1, _⟩ => rfl⟩
/-- Every index of three coordinates is given by them. -/
theorem ex3 {l m n : ℕ} (i : (⟨3, ![l, m, n]⟩ : Shape).Idx) : ∃ (q : Fin l) (r : Fin m) (k : Fin n), i = ix3 q r k :=
  ⟨i 0, i 1, i 2, by funext a; match a with | ⟨0, _⟩ => rfl | ⟨1, _⟩ => rfl | ⟨2, _⟩ => rfl⟩
/-- Every index of four coordinates is given by them. -/
theorem ex4 {l m n o : ℕ} (i : (⟨4, ![l, m, n, o]⟩ : Shape).Idx) : ∃ (p : Fin l) (q : Fin m) (r : Fin n) (k : Fin o), i = ix4 p q r k :=
  ⟨i 0, i 1, i 2, i 3, by funext a; match a with | ⟨0, _⟩ => rfl | ⟨1, _⟩ => rfl | ⟨2, _⟩ => rfl | ⟨3, _⟩ => rfl⟩

end Mixers
-- ==== Proof.Chunk.lean ====
/-
  What the kernel computes of one chunk of 128 tokens and one head of the gating unit, as vector functions, and their
  values: over vectors whose elements are real, each function is the real function of Spec.lean element by element.
-/
module

public import proofs.«01_k».proof.Proof.Lift
public import proofs.«01_k».proof.Proof.Gen.KernelIdeal

@[expose] public section

set_option maxRecDepth 16384

noncomputable section

namespace Mixers.K

open Idealize.ShloMosaic  Cert.KernelIdeal Cert.KernelIdeal.Facts₀
open scoped BigOperators

/-- The kernel's vectors of 32-bit floats over the extended reals. -/
abbrev V (s : Shape) := FVec Ideal s .f32
/-- The kernel's vectors of 16-bit floats over the extended reals. -/
abbrev B (s : Shape) := FVec Ideal s .bf16

variable {s : Shape}

/-- A number at every element. -/
def splat (s : Shape) (b : BitVec 32) : V s := broadcast s (Scalar.ofBits (F := Ideal) .f32 b)
/-- A named constant at every element. -/
def splatN (s : Shape) (n : String) (b : BitVec 32) : V s := broadcast s (Named.named (F := Ideal) Cert.KernelIdeal.κ n (φ := .f32) b)

theorem splat_one (i : s.Idx) : splat s 0x3F800000#32 i = ((1 : ℝ) : EReal) := bits_one
theorem splat_zero (i : s.Idx) : splat s 0x00000000#32 i = 0 := Ideal.ofBits_zero_f32
theorem splat_256 (i : s.Idx) : splat s 0x43800000#32 i = ((256 : ℝ) : EReal) := bits_256
theorem splat_eps (i : s.Idx) : splat s 0x3727C5AC#32 i = ((EPS : ℝ) : EReal) := bits_eps
theorem splat_neg_two_c0 (i : s.Idx) : splat s 0xBFCC422A#32 i = ((-(2 * C0) : ℝ) : EReal) := bits_neg_two_c0
theorem splat_two_c0 (i : s.Idx) : splat s 0x3FCC422A#32 i = ((2 * C0 : ℝ) : EReal) := bits_two_c0
theorem splat_neg_two_c0_c1 (i : s.Idx) : splatN s "neg_two_c0_c1" 0xBD922279#32 i = ((-(2 * C0 * C1) : ℝ) : EReal) := by
  show Named.named (F := Ideal) Cert.KernelIdeal.κ "neg_two_c0_c1" (φ := .f32) 0xBD922279#32 = _
  have e : ((-(2 * C0 * C1) : ℝ)) = (-80338380498831 / 1125899906842624 : ℝ) := by unfold C0 C1; norm_num
  rw [e]; rfl
theorem splat_six_c0_c1 (i : s.Idx) : splatN s "six_c0_c1" 0x3E5B33B6#32 i = ((6 * C0 * C1 : ℝ) : EReal) := by
  show Named.named (F := Ideal) Cert.KernelIdeal.κ "six_c0_c1" (φ := .f32) 0x3E5B33B6#32 = _
  have e : ((6 * C0 * C1 : ℝ)) = (241015141496493 / 1125899906842624 : ℝ) := by unfold C0 C1; norm_num
  rw [e]; rfl

/-! ## Element by element: the gate and gelu -/

/-- The logistic function. -/
def kSig (z : V s) : V s := divf (splat s 0x3F800000#32) (addf (splat s 0x3F800000#32) (exp (subf (splat s 0x00000000#32) z)))
/-- The gate. -/
def kSilu (z : V s) : V s := mulf z (kSig z)
/-- The gate's derivative. -/
def kDsilu (z : V s) : V s := mulf (kSig z) (addf (splat s 0x3F800000#32) (mulf z (subf (splat s 0x3F800000#32) (kSig z))))
/-- Gelu's step. -/
def kCdf (x : V s) : V s :=
  divf (splat s 0x3F800000#32) (addf (splat s 0x3F800000#32) (exp (mulf x (addf (splat s 0xBFCC422A#32)
    (mulf (splatN s "neg_two_c0_c1" 0xBD922279#32) (mulf x x))))))
/-- Gelu. -/
def kGelu (x : V s) : V s := mulf x (kCdf x)
/-- Gelu's derivative. -/
def kDgelu (x : V s) : V s :=
  addf (kCdf x) (mulf (mulf (kGelu x) (subf (splat s 0x3F800000#32) (kCdf x)))
    (addf (splat s 0x3FCC422A#32) (mulf (splatN s "six_c0_c1" 0x3E5B33B6#32) (mulf x x))))

variable {x : V s} {f : s.Idx → ℝ}

theorem kSig_coe (hx : ∀ i, x i = ((f i : ℝ) : EReal)) (i : s.Idx) : kSig x i = ((sig (f i) : ℝ) : EReal) := by
  unfold kSig sig
  rw [vdiv, vadd, vexp, vsub, splat_one, splat_zero, hx, zero_sub_coe, Ideal.exp_coe, coe_add', div_real _ _ (one_add_exp_ne _)]
theorem kSilu_coe (hx : ∀ i, x i = ((f i : ℝ) : EReal)) (i : s.Idx) : kSilu x i = ((silu (f i) : ℝ) : EReal) := by
  unfold kSilu silu
  rw [vmul, kSig_coe hx, hx, coe_mul']
theorem kDsilu_coe (hx : ∀ i, x i = ((f i : ℝ) : EReal)) (i : s.Idx) : kDsilu x i = ((dsilu (f i) : ℝ) : EReal) := by
  unfold kDsilu dsilu
  rw [vmul, vadd, vmul, vsub, kSig_coe hx, hx, splat_one, coe_sub', coe_mul', coe_add', coe_mul']
theorem kCdf_coe (hx : ∀ i, x i = ((f i : ℝ) : EReal)) (i : s.Idx) : kCdf x i = ((cdf (f i) : ℝ) : EReal) := by
  unfold kCdf cdf
  rw [vdiv, vadd, vexp, vmul, vadd, vmul, vmul, splat_one, splat_neg_two_c0,
    splat_neg_two_c0_c1, hx, coe_mul', coe_mul', coe_add', coe_mul', Ideal.exp_coe, coe_add', div_real _ _ (one_add_exp_ne _)]
theorem kGelu_coe (hx : ∀ i, x i = ((f i : ℝ) : EReal)) (i : s.Idx) : kGelu x i = ((gelu (f i) : ℝ) : EReal) := by
  unfold kGelu gelu
  rw [vmul, kCdf_coe hx, hx, coe_mul']
theorem kDgelu_coe (hx : ∀ i, x i = ((f i : ℝ) : EReal)) (i : s.Idx) : kDgelu x i = ((dgelu (f i) : ℝ) : EReal) := by
  unfold kDgelu dgelu
  rw [vadd, vmul, vmul, vsub, vadd, vmul, vmul, kGelu_coe hx, kCdf_coe hx, hx, splat_one,
    splat_two_c0, splat_six_c0_c1]
  simp only [coe_sub', coe_mul', coe_add']

/-! ## Rows: the layer norm of one head -/

/-- A row's mean, as one column. -/
def kMean (x : V S128x256) : V S128x1 :=
  divf (shapeCast S128x1 (multiReduction .add [1] S128 x 0x00000000#32 reduces_S128x256_S128 (.inl rfl) rfl) shapeCasts_S128_S128x1)
    (splat S128x1 0x43800000#32)
/-- A column repeated along the rows. -/
def kCol (x : V S128x1) : V S128x256 := broadcastTo S128x256 x broadcasts_S128x1_S128x256
/-- A row repeated down the columns. -/
def kRow (x : V S1x256) : V S128x256 := broadcastTo S128x256 x broadcasts_S1x256_S128x256
/-- The rows centred. -/
def kXc (x : V S128x256) : V S128x256 := subf x (kCol (kMean x))
/-- The reciprocal standard deviations. -/
def kRstd (x : V S128x256) : V S128x1 := rsqrt (addf (kMean (mulf (kXc x) (kXc x))) (splat S128x1 0x3727C5AC#32))
/-- The rows normalised. -/
def kXhat (x : V S128x256) : V S128x256 := mulf (kXc x) (kCol (kRstd x))
/-- The layer norm, rounded. -/
def kVb (x : V S128x256) (lg lb : V S1x256) : B S128x256 :=
  truncf .bf16 (addf (mulf (kXhat x) (kRow lg)) (kRow lb)) bitsLt_bf16_f32

/-- The real mean of a row. -/
def rMean (f : S128x256.Idx → ℝ) (r : Fin 128) : ℝ := (∑ k : Fin 256, f (ix2 r k)) / 256

variable {x y : V S128x256} {f g : S128x256.Idx → ℝ}

theorem kMean_coe (hx : ∀ i, x i = ((f i : ℝ) : EReal)) (r : Fin 128) (z : Fin 1) :
    kMean x (ix2 r z) = ((rMean f r : ℝ) : EReal) := by
  unfold kMean
  rw [vdiv, splat_256]
  have e : (shapeCast S128x1 (multiReduction (F := Ideal) .add [1] S128 x 0x00000000#32 reduces_S128x256_S128 (.inl rfl) rfl) shapeCasts_S128_S128x1 :
      V S128x1) (ix2 r z) = ∑ k : Fin 256, x (ix2 r k) := by
    pointwise []
  rw [e, Finset.sum_congr rfl (fun k _ => hx (ix2 r k)), coe_sum, div_real _ _ (by norm_num)]
  rfl

theorem kCol_apply (x : V S128x1) (r : Fin 128) (k : Fin 256) : kCol x (ix2 r k) = x (ix2 r 0) := by
  unfold kCol; pointwise []
theorem kRow_apply (x : V S1x256) (r : Fin 128) (k : Fin 256) : kRow x (ix2 r k) = x (ix2 0 k) := by
  unfold kRow; pointwise []

/-- The real value of a centred row. -/
def rXc (f : S128x256.Idx → ℝ) (i : S128x256.Idx) : ℝ := f i - rMean f (i 0)
/-- The real value of a reciprocal standard deviation. -/
def rRstd (f : S128x256.Idx → ℝ) (r : Fin 128) : ℝ := (Real.sqrt (rMean (fun i => rXc f i * rXc f i) r + EPS))⁻¹

theorem kXc_coe (hx : ∀ i, x i = ((f i : ℝ) : EReal)) (i : S128x256.Idx) : kXc x i = ((rXc f i : ℝ) : EReal) := by
  obtain ⟨r, k, rfl⟩ := ex2 i
  unfold kXc
  rw [vsub, kCol_apply, kMean_coe hx, hx, coe_sub']; rfl
theorem kRstd_coe (hx : ∀ i, x i = ((f i : ℝ) : EReal)) (r : Fin 128) (z : Fin 1) : kRstd x (ix2 r z) = ((rRstd f r : ℝ) : EReal) := by
  unfold kRstd
  have h2 : ∀ i, mulf (kXc x) (kXc x) i = (((rXc f i * rXc f i : ℝ)) : EReal) := fun i => by rw [vmul, kXc_coe hx, coe_mul']
  have hp : 0 < rMean (fun i => rXc f i * rXc f i) r + EPS :=
    add_pos_of_nonneg_of_pos (div_nonneg (Finset.sum_nonneg fun k _ => mul_self_nonneg _) (by norm_num)) EPS_pos
  rw [vrsqrt, vadd, kMean_coe h2, splat_eps, coe_add', rsqrt_real _ hp]; rfl
theorem kXhat_coe (hx : ∀ i, x i = ((f i : ℝ) : EReal)) (i : S128x256.Idx) :
    kXhat x i = ((rXc f i * rRstd f (i 0) : ℝ) : EReal) := by
  obtain ⟨r, k, rfl⟩ := ex2 i
  unfold kXhat
  rw [vmul, kXc_coe hx, kCol_apply, kRstd_coe hx, coe_mul']; rfl
theorem kVb_coe (hx : ∀ i, x i = ((f i : ℝ) : EReal)) {lg lb : V S1x256} {fg fb : S1x256.Idx → ℝ}
    (hg : ∀ i, lg i = ((fg i : ℝ) : EReal)) (hb : ∀ i, lb i = ((fb i : ℝ) : EReal)) (r : Fin 128) (k : Fin 256) :
    kVb x lg lb (ix2 r k) = ((rXc f (ix2 r k) * rRstd f r * fg (ix2 0 k) + fb (ix2 0 k) : ℝ) : EReal) := by
  unfold kVb
  rw [vtrunc, vadd, vmul, kXhat_coe hx, kRow_apply, kRow_apply, hg, hb, coe_mul', coe_add']; rfl

/-! ## The spatial mix and its gradients -/

/-- The gating weights below and on the diagonal. -/
def kWm (w : V S128x128) : V S128x128 :=
  select (cmpi .sge (iota .tc S128x128 32 [0] iota_S128x128_d0_w32) (iota .tc S128x128 32 [1] iota_S128x128_d1_w32)) w (splat S128x128 0x00000000#32)
/-- The spatial mix. -/
def kSv (w : B S128x128) (vb : B S128x256) (sb : V S128x256) : V S128x256 :=
  addf (matmul dot_S128x128_S128x256_S128x256_1_0_0_1_n_n none w vb (constant S128x256 .f32 0x00000000#32)) sb
/-- Its transpose's product. -/
def kDvln (wt : B S128x128) (dsv : B S128x256) : V S128x256 :=
  matmul dot_S128x128_S128x256_S128x256_1_0_0_1_n_n none wt dsv (constant S128x256 .f32 0x00000000#32)
/-- The transposed weights. -/
def kWt (w : V S128x128) : V S128x128 := transpose S128x128 [1, 0] w transposes_S128x128_p1_0_S128x128
/-- The gradient of the weights, one chunk's share. -/
def kDsw (dsv vb : B S128x256) : V S128x128 :=
  matmul dot_S128x256_S128x256_S128x128_1_1_0_0_n_n none dsv vb (constant S128x128 .f32 0x00000000#32)
/-- Sums down the columns, one row. -/
def kSum0 (x : V S128x256) : V S1x256 :=
  shapeCast S1x256 (multiReduction .add [0] S256 x 0x00000000#32 reduces_S128x256_S256 (.inl rfl) rfl) shapeCasts_S256_S1x256
/-- The gradient of the layer norm's input, from the gradient `d` of the normalised rows. -/
def kDgv (rstd : V S128x1) (xhat d : V S128x256) : V S128x256 :=
  mulf (kCol rstd) (subf (subf d (kCol (kMean d))) (mulf xhat (kCol (kMean (mulf d xhat)))))

theorem kWm_apply (w : V S128x128) (i j : Fin 128) : kWm w (ix2 i j) = if j.val ≤ i.val then w (ix2 i j) else 0 := by
  unfold kWm
  rw [vselect, splat_zero]
  have hi := i.isLt
  have hj := j.isLt
  have hc : (cmpi .sge (iota .tc S128x128 32 [0] iota_S128x128_d0_w32) (iota .tc S128x128 32 [1] iota_S128x128_d1_w32) : IVec S128x128 1) (ix2 i j)
      = if j.val ≤ i.val then 1#1 else 0#1 := by
    pointwise []
    rw [WordCmp.cmpi_sge_eq, WordCmp.toInt_ofNat_of_lt (by norm_num; omega), WordCmp.toInt_ofNat_of_lt (by norm_num; omega)]
    by_cases h : j.val ≤ i.val <;> simp [h]
  rw [hc]
  split_ifs <;> rfl
theorem kWt_apply (w : V S128x128) (i j : Fin 128) : kWt w (ix2 i j) = w (ix2 j i) := by
  unfold kWt; pointwise []
theorem kSv_apply (w : B S128x128) (vb : B S128x256) (sb : V S128x256) (r : Fin 128) (k : Fin 256) :
    kSv w vb sb (ix2 r k) = (∑ j : Fin 128, w (ix2 r j) * vb (ix2 j k)) + sb (ix2 r k) := by
  unfold kSv; pointwise []
theorem kDvln_apply (w : B S128x128) (d : B S128x256) (r : Fin 128) (k : Fin 256) :
    kDvln w d (ix2 r k) = ∑ j : Fin 128, w (ix2 r j) * d (ix2 j k) := by
  unfold kDvln; pointwise []
theorem kDsw_apply (d vb : B S128x256) (i j : Fin 128) :
    kDsw d vb (ix2 i j) = ∑ k : Fin 256, d (ix2 i k) * vb (ix2 j k) := by
  unfold kDsw; pointwise []
theorem kSum0_apply (x : V S128x256) (z : Fin 1) (k : Fin 256) : kSum0 x (ix2 z k) = ∑ r : Fin 128, x (ix2 r k) := by
  unfold kSum0; pointwise []

end Mixers.K
-- ==== Proof.Pool.lean ====
/-
  What the kernel computes of one tile of 256 tokens and one group of the pooling mixer, as vector functions, and their
  values element by element.
-/
module

public import proofs.«01_k».proof.Proof.Chunk

@[expose] public section

set_option maxRecDepth 16384

noncomputable section

namespace Mixers.K

open Idealize.ShloMosaic Cert.KernelIdeal Cert.KernelIdeal.Facts₀
open scoped BigOperators

/-- The product of the pooled rows with the group's weights. -/
def pMixed (pb w : B S256x256) : V S256x256 :=
  matmul dot_S256x256_S256x256_S256x256_1_0_0_1_n_n none pb w (constant S256x256 .f32 0x00000000#32)
/-- The product that gives the weights' gradient. -/
def pDw (pb d : B S256x256) : V S256x256 :=
  matmul dot_S256x256_S256x256_S256x256_0_0_1_1_n_n none pb d (constant S256x256 .f32 0x00000000#32)
/-- The product with the transposed weights. -/
def pDp (d w : B S256x256) : V S256x256 :=
  matmul dot_S256x256_S256x256_S256x256_1_1_0_0_n_n none d w (constant S256x256 .f32 0x00000000#32)
/-- A band's product with 384 rows. -/
def pBand (b : B S256x384) (q : B S384x256) : V S256x256 :=
  matmul dot_S256x384_S384x256_S256x256_1_0_0_1_n_n none b q (constant S256x256 .f32 0x00000000#32)
/-- A row repeated down the columns. -/
def pRow (x : V S1x256) : V S256x256 := broadcastTo S256x256 x broadcasts_S1x256_S256x256
/-- Sums down the columns, one row. -/
def pSum0 (x : V S256x256) : V S1x256 :=
  shapeCast S1x256 (multiReduction .add [0] S256 x 0x00000000#32 reduces_S256x256_S256 (.inl rfl) rfl) shapeCasts_S256_S1x256
/-- One over the number of tokens in each row's window, `w` long, in the tile `v`. -/
def pInv (v w : BitVec 32) : V S256x256 :=
  broadcastTo S256x256 (divf (splat S256x1 0x3F800000#32) (sitofp .f32 (minsi (addi (addi (broadcast S256x1 (Scalar.muli v 256#32))
    (iota .tc S256x1 32 [0] iota_S256x1_d0_w32)) (broadcast S256x1 1#32)) (broadcast S256x1 w)))) broadcasts_S256x1_S256x256

theorem pMixed_apply (x y : B S256x256) (r k : Fin 256) : pMixed x y (ix2 r k) = ∑ c : Fin 256, x (ix2 r c) * y (ix2 c k) := by
  unfold pMixed; pointwise []
theorem pDw_apply (x y : B S256x256) (r k : Fin 256) : pDw x y (ix2 r k) = ∑ c : Fin 256, x (ix2 c r) * y (ix2 c k) := by
  unfold pDw; pointwise []
theorem pDp_apply (x y : B S256x256) (r k : Fin 256) : pDp x y (ix2 r k) = ∑ c : Fin 256, x (ix2 r c) * y (ix2 k c) := by
  unfold pDp; pointwise []
theorem pBand_apply (x : B S256x384) (y : B S384x256) (r k : Fin 256) : pBand x y (ix2 r k) = ∑ c : Fin 384, x (ix2 r c) * y (ix2 c k) := by
  unfold pBand; pointwise []
theorem pRow_apply (x : V S1x256) (r k : Fin 256) : pRow x (ix2 r k) = x (ix2 0 k) := by
  unfold pRow; pointwise []
theorem pSum0_apply (x : V S256x256) (z : Fin 1) (k : Fin 256) : pSum0 x (ix2 z k) = ∑ r : Fin 256, x (ix2 r k) := by
  unfold pSum0; pointwise []

theorem pInv_apply (T w : ℕ) (hT : T < 32) (h1 : 1 ≤ w) (hw : w ≤ 16) (r k : Fin 256) :
    pInv (BitVec.ofNat 32 T) (BitVec.ofNat 32 w) (ix2 r k) = ((1 / ((min (T * 256 + r.val + 1) w : ℕ) : ℝ) : ℝ) : EReal) := by
  have hr := r.isLt
  have e : pInv (BitVec.ofNat 32 T) (BitVec.ofNat 32 w) (ix2 r k)
      = Ideal.div (splat S256x1 0x3F800000#32 (ix2 r 0)) (((IntOp.minsi (BitVec.ofNat 32 T * 256#32 + BitVec.ofNat 32 r.val + 1#32) (BitVec.ofNat 32 w)).toInt : ℝ) : EReal) := by
    unfold pInv; pointwise [Scalar.muli]
    rfl
  have e1 : BitVec.ofNat 32 T * 256#32 + BitVec.ofNat 32 r.val + 1#32 = BitVec.ofNat 32 (T * 256 + r.val + 1) := by
    apply BitVec.eq_of_toNat_eq
    simp only [BitVec.toNat_add, BitVec.toNat_mul, BitVec.toNat_ofNat]
    omega
  have e2 : (IntOp.minsi (BitVec.ofNat 32 (T * 256 + r.val + 1)) (BitVec.ofNat 32 w)).toInt = ((min (T * 256 + r.val + 1) w : ℕ) : ℤ) := by
    have em : ∀ a b : BitVec 32, (IntOp.minsi a b).toInt = min a.toInt b.toInt := by
      intro a b
      unfold IntOp.minsi
      have h := BitVec.slt_iff_toInt_lt (x := a) (y := b)
      split_ifs with h'
      · have := h.mp h'; omega
      · have := mt h.mpr h'; omega
    rw [em, WordCmp.toInt_ofNat_of_lt (by norm_num; omega), WordCmp.toInt_ofNat_of_lt (by norm_num; omega)]
    omega
  rw [e, e1, e2, splat_one, Int.cast_natCast, div_real]
  have : 0 < min (T * 256 + r.val + 1) w := by omega
  positivity

end Mixers.K
-- ==== Proof.Tile.lean ====
/-
  One chunk's work on one head, and one tile's work on one pooling group, composed of the vector functions, with their
  values: at every element the real functions of Spec.lean at that token and channel.
-/
module

public import proofs.«01_k».proof.Proof.Pool

@[expose] public section

set_option maxRecDepth 16384

noncomputable section

namespace Mixers.K

open Idealize.ShloMosaic Cert.KernelIdeal Cert.KernelIdeal.Facts₀
open scoped BigOperators

/-! ## A chunk and a head: `u`, `v`, `z` the hidden values, `y` the incoming gradient, `w` the weights, `lg`, `lb` the
layer norm's rows, `sb` the offsets. -/

/-- The masked weights, rounded. -/
def cW (w : V S128x128) : B S128x128 := truncf .bf16 (kWm w) bitsLt_bf16_f32
/-- Their transpose, rounded. -/
def cWt (w : V S128x128) : B S128x128 := truncf .bf16 (kWt (kWm w)) bitsLt_bf16_f32
/-- The spatial mix. -/
def cSv (w : V S128x128) (v : V S128x256) (lg lb : V S1x256) (sb : V S128x256) : V S128x256 := kSv (cW w) (kVb (kGelu v) lg lb) sb
/-- The gradient of the gate's input. -/
def cDzs (w : V S128x128) (u v z y : V S128x256) (lg lb : V S1x256) (sb : V S128x256) : B S128x256 :=
  truncf .bf16 (mulf (mulf y (mulf (kGelu u) (cSv w v lg lb sb))) (kDsilu z)) bitsLt_bf16_f32
/-- The gradient of the ungated product. -/
def cDyg (z y : V S128x256) : V S128x256 := mulf y (kSilu z)
/-- The gradient of the first half. -/
def cDu (w : V S128x128) (u v z y : V S128x256) (lg lb : V S1x256) (sb : V S128x256) : B S128x256 :=
  truncf .bf16 (mulf (mulf (cDyg z y) (cSv w v lg lb sb)) (kDgelu u)) bitsLt_bf16_f32
/-- The gradient of the spatial mix. -/
def cDsv (u z y : V S128x256) : V S128x256 := mulf (cDyg z y) (kGelu u)
/-- The same, rounded. -/
def cDsvb (u z y : V S128x256) : B S128x256 := truncf .bf16 (cDsv u z y) bitsLt_bf16_f32
/-- The gradient of the layer norm's result. -/
def cDvln (w : V S128x128) (u z y : V S128x256) : V S128x256 := kDvln (cWt w) (cDsvb u z y)
/-- The chunk's share of the weights' gradient. -/
def cDsw (u v z y : V S128x256) (lg lb : V S1x256) : V S128x128 := kDsw (cDsvb u z y) (kVb (kGelu v) lg lb)
/-- The chunk's share of the gain's gradient. -/
def cDlg (w : V S128x128) (u v z y : V S128x256) : V S1x256 := kSum0 (mulf (cDvln w u z y) (kXhat (kGelu v)))
/-- The chunk's share of the offset's gradient. -/
def cDlb (w : V S128x128) (u z y : V S128x256) : V S1x256 := kSum0 (cDvln w u z y)
/-- The gradient of the second half. -/
def cDv (w : V S128x128) (u v z y : V S128x256) (lg : V S1x256) : B S128x256 :=
  truncf .bf16 (mulf (kDgv (kRstd (kGelu v)) (kXhat (kGelu v)) (mulf (cDvln w u z y) (kRow lg))) (kDgelu v)) bitsLt_bf16_f32

/-- The vectors a chunk reads are the real data at chunk base `b` and head `h`. -/
structure ChunkData (D : Data) (b h : ℕ) (w : V S128x128) (u v z y : V S128x256) (lg lb : V S1x256) (sb : V S128x256) : Prop where
  hu : ∀ i, u i = ((uu D (b + (i 0).val) h (i 1).val : ℝ) : EReal)
  hv : ∀ i, v i = ((vv D (b + (i 0).val) h (i 1).val : ℝ) : EReal)
  hz : ∀ i, z i = ((zs D (b + (i 0).val) h (i 1).val : ℝ) : EReal)
  hy : ∀ i, y i = ((dys D (b + (i 0).val) h (i 1).val : ℝ) : EReal)
  hw : ∀ i, w i = ((D.SW h (i 0).val (i 1).val : ℝ) : EReal)
  hlg : ∀ i, lg i = ((D.LG (h * 256 + (i 1).val) : ℝ) : EReal)
  hlb : ∀ i, lb i = ((D.LB (h * 256 + (i 1).val) : ℝ) : EReal)
  hsb : ∀ i, sb i = ((D.SB h (i 0).val : ℝ) : EReal)

namespace ChunkData

variable {D : Data} {b h : ℕ} {w : V S128x128} {u v z y : V S128x256} {lg lb : V S1x256} {sb : V S128x256}

theorem wm_coe (c : ChunkData D b h w u v z y lg lb sb) (i j : Fin 128) : kWm w (ix2 i j) = ((wm D h i j : ℝ) : EReal) := by
  rw [kWm_apply, c.hw]
  unfold wm
  split_ifs <;> rfl
theorem w_coe (c : ChunkData D b h w u v z y lg lb sb) (i j : Fin 128) : cW w (ix2 i j) = ((wm D h i j : ℝ) : EReal) := by
  unfold cW; rw [vtrunc, c.wm_coe]
theorem wt_coe (c : ChunkData D b h w u v z y lg lb sb) (i j : Fin 128) : cWt w (ix2 i j) = ((wm D h j i : ℝ) : EReal) := by
  unfold cWt; rw [vtrunc, kWt_apply, c.wm_coe]
theorem xhat_coe (c : ChunkData D b h w u v z y lg lb sb) (i : S128x256.Idx) :
    kXhat (kGelu v) i = ((xhat D (b + (i 0).val) h (i 1).val : ℝ) : EReal) := by
  rw [kXhat_coe (kGelu_coe c.hv)]; rfl
theorem rstd_coe (c : ChunkData D b h w u v z y lg lb sb) (r : Fin 128) (q : Fin 1) :
    kRstd (kGelu v) (ix2 r q) = ((rstd D (b + r.val) h : ℝ) : EReal) := by
  rw [kRstd_coe (kGelu_coe c.hv)]; rfl
theorem vb_coe (c : ChunkData D b h w u v z y lg lb sb) (r : Fin 128) (k : Fin 256) :
    kVb (kGelu v) lg lb (ix2 r k) = ((vln D (b + r.val) h k.val : ℝ) : EReal) := by
  rw [kVb_coe (kGelu_coe c.hv) c.hlg c.hlb]; rfl
theorem sv_coe (c : ChunkData D b h w u v z y lg lb sb) (r : Fin 128) (k : Fin 256) :
    cSv w v lg lb sb (ix2 r k) = ((sv D b r.val h k.val : ℝ) : EReal) := by
  unfold cSv
  rw [kSv_apply, c.hsb]
  simp only [c.w_coe, c.vb_coe, coe_mul', coe_sum, coe_add']
  rfl
theorem dyg_coe (c : ChunkData D b h w u v z y lg lb sb) (i : S128x256.Idx) :
    cDyg z y i = ((dyg D (b + (i 0).val) h (i 1).val : ℝ) : EReal) := by
  unfold cDyg dyg
  rw [vmul, c.hy, kSilu_coe c.hz, coe_mul']
theorem dzs_coe (c : ChunkData D b h w u v z y lg lb sb) (r : Fin 128) (k : Fin 256) :
    cDzs w u v z y lg lb sb (ix2 r k) = ((dzs D b r.val h k.val : ℝ) : EReal) := by
  unfold cDzs dzs
  rw [vtrunc, vmul, vmul, vmul, c.hy, kGelu_coe c.hu, kDsilu_coe c.hz, c.sv_coe, coe_mul', coe_mul', coe_mul']; rfl
theorem du_coe (c : ChunkData D b h w u v z y lg lb sb) (r : Fin 128) (k : Fin 256) :
    cDu w u v z y lg lb sb (ix2 r k) = ((du D b r.val h k.val : ℝ) : EReal) := by
  unfold cDu du
  rw [vtrunc, vmul, vmul, c.dyg_coe, kDgelu_coe c.hu, c.sv_coe, coe_mul', coe_mul']; rfl
theorem dsv_coe (c : ChunkData D b h w u v z y lg lb sb) (i : S128x256.Idx) :
    cDsv u z y i = ((dsv D (b + (i 0).val) h (i 1).val : ℝ) : EReal) := by
  unfold cDsv dsv
  rw [vmul, c.dyg_coe, kGelu_coe c.hu, coe_mul']
theorem dsvb_coe (c : ChunkData D b h w u v z y lg lb sb) (i : S128x256.Idx) :
    cDsvb u z y i = ((dsv D (b + (i 0).val) h (i 1).val : ℝ) : EReal) := c.dsv_coe i
theorem dvln_coe (c : ChunkData D b h w u v z y lg lb sb) (i : S128x256.Idx) :
    cDvln w u z y i = ((dvln D b (i 0).val h (i 1).val : ℝ) : EReal) := by
  obtain ⟨r, k, rfl⟩ := ex2 i
  unfold cDvln
  rw [kDvln_apply]
  simp only [c.wt_coe, c.dsvb_coe, coe_mul', coe_sum]
  rfl
theorem dsw_coe (c : ChunkData D b h w u v z y lg lb sb) (i j : Fin 128) :
    cDsw u v z y lg lb (ix2 i j) = ((dswT D b h i.val j.val : ℝ) : EReal) := by
  unfold cDsw
  rw [kDsw_apply]
  simp only [c.vb_coe, c.dsvb_coe, coe_mul', coe_sum]
  rfl
theorem dlg_coe (c : ChunkData D b h w u v z y lg lb sb) (q : Fin 1) (k : Fin 256) :
    cDlg w u v z y (ix2 q k) = ((dlgT D b h k.val : ℝ) : EReal) := by
  unfold cDlg
  rw [kSum0_apply]
  simp only [vmul, c.dvln_coe, c.xhat_coe, coe_mul', coe_sum]
  rfl
theorem dlb_coe (c : ChunkData D b h w u v z y lg lb sb) (q : Fin 1) (k : Fin 256) :
    cDlb w u z y (ix2 q k) = ((dlbT D b h k.val : ℝ) : EReal) := by
  unfold cDlb
  rw [kSum0_apply]
  simp only [c.dvln_coe, coe_sum]
  rfl
theorem dxh_coe (c : ChunkData D b h w u v z y lg lb sb) (i : S128x256.Idx) :
    mulf (cDvln w u z y) (kRow lg) i = ((dxh D b (i 0).val h (i 1).val : ℝ) : EReal) := by
  obtain ⟨r, k, rfl⟩ := ex2 i
  rw [vmul, c.dvln_coe, kRow_apply, c.hlg, coe_mul']; rfl
theorem dv_coe (c : ChunkData D b h w u v z y lg lb sb) (r : Fin 128) (k : Fin 256) :
    cDv w u v z y lg (ix2 r k) = ((dv D b r.val h k.val : ℝ) : EReal) := by
  unfold cDv kDgv
  have h2 : ∀ i, mulf (mulf (cDvln w u z y) (kRow lg)) (kXhat (kGelu v)) i
      = ((dxh D b (i 0).val h (i 1).val * xhat D (b + (i 0).val) h (i 1).val : ℝ) : EReal) := fun i => by
    rw [vmul, c.dxh_coe, c.xhat_coe, coe_mul']
  have h1 := c.dxh_coe
  generalize mulf (cDvln w u z y) (kRow lg) = d at h1 h2 ⊢
  rw [vtrunc, vmul, vmul, vsub, vsub, vmul, kCol_apply, kCol_apply, kCol_apply, kMean_coe h1, kMean_coe h2, c.rstd_coe, h1,
    c.xhat_coe, kDgelu_coe c.hv]
  simp only [coe_mul', coe_sub']
  rfl

end ChunkData

/-! ## A tile and a pooling group: `z` the gate's input, `y` the incoming gradient, `pb` the pooled rows, `w` the
group's weights, `ps` the scale's row. -/

/-- The gradient of the gate's input. -/
def gDz (pb w : B S256x256) (z y : V S256x256) (ps : V S1x256) : B S256x256 :=
  truncf .bf16 (mulf (mulf y (mulf (pMixed pb w) (pRow ps))) (kDsilu z)) bitsLt_bf16_f32
/-- The gradient of the scaled mix. -/
def gDms (z y : V S256x256) : V S256x256 := mulf y (kSilu z)
/-- The tile's share of the scale's gradient. -/
def gDps (pb w : B S256x256) (z y : V S256x256) : V S1x256 := pSum0 (mulf (gDms z y) (pMixed pb w))
/-- The gradient of the mix, rounded. -/
def gDm (z y : V S256x256) (ps : V S1x256) : B S256x256 := truncf .bf16 (mulf (gDms z y) (pRow ps)) bitsLt_bf16_f32
/-- The tile's share of the weights' gradient. -/
def gDw (pb : B S256x256) (z y : V S256x256) (ps : V S1x256) : V S256x256 := pDw pb (gDm z y ps)
/-- The gradient of the pooled rows. -/
def gDp (w : B S256x256) (z y : V S256x256) (ps : V S1x256) : V S256x256 := pDp (gDm z y ps) w
/-- That over the windows' counts. -/
def gQ (v l : BitVec 32) (w : B S256x256) (z y : V S256x256) (ps : V S1x256) : V S256x256 := mulf (gDp w z y ps) (pInv v l)
/-- Its first part. -/
def gQhi (v l : BitVec 32) (w : B S256x256) (z y : V S256x256) (ps : V S1x256) : B S256x256 := truncf .bf16 (gQ v l w z y ps) bitsLt_bf16_f32
/-- Its second part. -/
def gQlo (v l : BitVec 32) (w : B S256x256) (z y : V S256x256) (ps : V S1x256) : B S256x256 :=
  truncf .bf16 (subf (gQ v l w z y ps) (extf .f32 (gQhi v l w z y ps) bitsLt_bf16_f32)) bitsLt_bf16_f32
/-- The gradient of the pooling mixer's input. -/
def gDa (bd : B S256x384) (qh ql : B S384x256) (w : B S256x256) (z y : V S256x256) (ps : V S1x256) : B S256x256 :=
  truncf .bf16 (subf (addf (pBand bd qh) (pBand bd ql)) (gDp w z y ps)) bitsLt_bf16_f32

/-- The vectors a tile reads for a group are the real data at the tile's first token `b` and group `g`. -/
structure GroupData (D : Data) (b g : ℕ) (pb w : B S256x256) (z y : V S256x256) (ps : V S1x256) : Prop where
  hp : ∀ i, pb i = ((D.P (b + (i 0).val) (g * 256 + (i 1).val) : ℝ) : EReal)
  hw : ∀ i, w i = ((D.PW g (i 0).val (i 1).val : ℝ) : EReal)
  hz : ∀ i, z i = ((zp D (b + (i 0).val) g (i 1).val : ℝ) : EReal)
  hy : ∀ i, y i = ((dyp D (b + (i 0).val) g (i 1).val : ℝ) : EReal)
  hps : ∀ i, ps i = ((D.PS (g * 256 + (i 1).val) : ℝ) : EReal)

namespace GroupData

variable {D : Data} {b g : ℕ} {pb w : B S256x256} {z y : V S256x256} {ps : V S1x256}

theorem mixed_coe (c : GroupData D b g pb w z y ps) (r k : Fin 256) :
    pMixed pb w (ix2 r k) = ((mixed D (b + r.val) g k.val : ℝ) : EReal) := by
  rw [pMixed_apply]
  simp only [c.hp, c.hw, coe_mul', coe_sum]
  rfl
theorem dms_coe (c : GroupData D b g pb w z y ps) (i : S256x256.Idx) :
    gDms z y i = ((dms D (b + (i 0).val) g (i 1).val : ℝ) : EReal) := by
  unfold gDms dms
  rw [vmul, c.hy, kSilu_coe c.hz, coe_mul']
theorem dz_coe (c : GroupData D b g pb w z y ps) (r k : Fin 256) :
    gDz pb w z y ps (ix2 r k) = ((dzp D (b + r.val) g k.val : ℝ) : EReal) := by
  unfold gDz
  rw [vtrunc, vmul, vmul, vmul, c.hy, c.mixed_coe, pRow_apply, c.hps, kDsilu_coe c.hz, coe_mul', coe_mul', coe_mul']; rfl
theorem dps_coe (c : GroupData D b g pb w z y ps) (q : Fin 1) (k : Fin 256) :
    gDps pb w z y (ix2 q k) = ((∑ r : Fin 256, dpsT D (b + r.val) g k.val : ℝ) : EReal) := by
  unfold gDps
  rw [pSum0_apply]
  simp only [vmul, c.dms_coe, c.mixed_coe, coe_mul', coe_sum]
  rfl
theorem dm_coe (c : GroupData D b g pb w z y ps) (i : S256x256.Idx) :
    gDm z y ps i = ((dmixed D (b + (i 0).val) g (i 1).val : ℝ) : EReal) := by
  obtain ⟨r, k, rfl⟩ := ex2 i
  unfold gDm
  rw [vtrunc, vmul, c.dms_coe, pRow_apply, c.hps, coe_mul']; rfl
theorem dw_coe (c : GroupData D b g pb w z y ps) (i k : Fin 256) :
    gDw pb z y ps (ix2 i k) = ((∑ r : Fin 256, dpwT D (b + r.val) g i.val k.val : ℝ) : EReal) := by
  unfold gDw
  rw [pDw_apply]
  simp only [c.hp, c.dm_coe, coe_mul', coe_sum]
  rfl
theorem dp_coe (c : GroupData D b g pb w z y ps) (r k : Fin 256) :
    gDp w z y ps (ix2 r k) = ((dpooled D (b + r.val) g k.val : ℝ) : EReal) := by
  unfold gDp
  rw [pDp_apply]
  simp only [c.dm_coe, c.hw, coe_mul', coe_sum]
  rfl
theorem q_coe (c : GroupData D b g pb w z y ps) {T : ℕ} (hT : T < 32) (hb : b = T * 256) (hg : g < 4) {v l : BitVec 32}
    (hv : v = BitVec.ofNat 32 T) (hl : l = BitVec.ofNat 32 (win g)) (r k : Fin 256) :
    gQ v l w z y ps (ix2 r k) = ((qx D (b + r.val) g k.val : ℝ) : EReal) := by
  have hw1 : 1 ≤ win g := Nat.one_le_two_pow
  have hw2 : win g ≤ 16 := by unfold win; interval_cases g <;> decide
  have hr := r.isLt
  subst hv hl
  unfold gQ
  rw [vmul, c.dp_coe, pInv_apply T _ hT hw1 hw2, coe_mul', qx, if_pos (by omega), qv, hb]
theorem qhi_coe (c : GroupData D b g pb w z y ps) {T : ℕ} (hT : T < 32) (hb : b = T * 256) (hg : g < 4) {v l : BitVec 32}
    (hv : v = BitVec.ofNat 32 T) (hl : l = BitVec.ofNat 32 (win g)) (r k : Fin 256) :
    gQhi v l w z y ps (ix2 r k) = ((qx D (b + r.val) g k.val : ℝ) : EReal) :=
  c.q_coe hT hb hg hv hl r k
theorem qlo_coe (c : GroupData D b g pb w z y ps) {T : ℕ} (hT : T < 32) (hb : b = T * 256) (hg : g < 4) {v l : BitVec 32}
    (hv : v = BitVec.ofNat 32 T) (hl : l = BitVec.ofNat 32 (win g)) (r k : Fin 256) :
    gQlo v l w z y ps (ix2 r k) = 0 := by
  unfold gQlo
  rw [vtrunc, vsub, vext, c.qhi_coe hT hb hg hv hl, c.q_coe hT hb hg hv hl, coe_sub', sub_self, EReal.coe_zero]

/-- The band's product with the rows from the tile's first token on, the second part zero where the band is not, gives
    the window's sums. -/
theorem da_coe (c : GroupData D b g pb w z y ps) (hg : g < 4) {bd : B S256x384} {qh ql : B S384x256}
    (hbd : ∀ i, bd i = if (i 0).val ≤ (i 1).val ∧ (i 1).val < (i 0).val + win g then 1 else 0)
    (hqh : ∀ i, (i 0).val < 272 → qh i = ((qx D (b + (i 0).val) g (i 1).val : ℝ) : EReal))
    (hql : ∀ i, (i 0).val < 272 → ql i = 0) (r k : Fin 256) :
    gDa bd qh ql w z y ps (ix2 r k) = ((da D (b + r.val) g k.val : ℝ) : EReal) := by
  have hw2 : win g ≤ 16 := by unfold win; interval_cases g <;> decide
  have hr := r.isLt
  unfold gDa
  rw [vtrunc, vsub, vadd, pBand_apply, pBand_apply, c.dp_coe]
  have e2 : ∑ j : Fin 384, bd (ix2 r j) * ql (ix2 j k) = 0 := by
    refine Finset.sum_eq_zero fun j _ => ?_
    rw [hbd]
    split_ifs with hj
    · have hj' : r.val ≤ j.val ∧ j.val < r.val + win g := hj
      rw [hql _ (show j.val < 272 by omega), mul_zero]
    · rw [zero_mul]
  have e1 : ∑ j : Fin 384, bd (ix2 r j) * qh (ix2 j k) = ((∑ n ∈ Finset.range (win g), qx D (b + r.val + n) g k.val : ℝ) : EReal) := by
    have s1 : ∀ j : Fin 384, bd (ix2 r j) * qh (ix2 j k)
        = (((if r.val ≤ j.val ∧ j.val < r.val + win g then qx D (b + j.val) g k.val else 0 : ℝ)) : EReal) := fun j => by
      rw [hbd]
      show (if r.val ≤ j.val ∧ j.val < r.val + win g then (1 : EReal) else 0) * _ = _
      split_ifs with hj
      · rw [hqh _ (show j.val < 272 by omega), one_mul]; rfl
      · rw [zero_mul, EReal.coe_zero]
    rw [Finset.sum_congr rfl fun j _ => s1 j, coe_sum]
    congr 1
    rw [Fin.sum_univ_eq_sum_range (fun j => if r.val ≤ j ∧ j < r.val + win g then qx D (b + j) g k.val else 0) 384, ← Finset.sum_filter]
    have ef : Finset.filter (fun j => r.val ≤ j ∧ j < r.val + win g) (Finset.range 384) = Finset.Ico r.val (r.val + win g) := by
      ext j; simp only [Finset.mem_filter, Finset.mem_range, Finset.mem_Ico]; omega
    rw [ef, Finset.sum_Ico_eq_sum_range, Nat.add_sub_cancel_left]
    exact Finset.sum_congr rfl fun n _ => by rw [Nat.add_assoc]
  rw [e1, e2, add_zero, coe_sub']
  rfl

end GroupData

end Mixers.K
-- ==== Proof.Loads.lean ====
/-
  The loads of one tile: when the tile's blocks hold the real data, every rectangle a chunk or a pooling group reads of
  them holds it too.
-/
module

public import proofs.«01_k».proof.Proof.Tile

@[expose] public section

set_option maxRecDepth 16384

noncomputable section

namespace Mixers.K

open Idealize.ShloMosaic Cert.KernelIdeal Cert.KernelIdeal.Facts₀
open scoped BigOperators

/-- The blocks of tile `T` (tokens `T * 256` on) are the real data. -/
structure TileIn (D : Data) (T : ℕ) (x0 : B S256x4096) (x1 : V S256x2048) (x3 : B S256x1024) (x5 : B S4x256x256)
    (x6 x7 x8 : V S1x1024) (x9 : V S4x128x128) (x10 : V S128x1024) (x11 : B S4x256x384) : Prop where
  hT : T < 32
  h0 : ∀ i, x0 i = ((D.H (T * 256 + (i 0).val) (1024 + (i 1).val) : ℝ) : EReal)
  h1 : ∀ i, x1 i = ((D.DY (T * 256 + (i 0).val) (i 1).val : ℝ) : EReal)
  h3 : ∀ i, x3 i = ((D.P (T * 256 + (i 0).val) (i 1).val : ℝ) : EReal)
  h5 : ∀ i, x5 i = ((D.PW (i 0).val (i 1).val (i 2).val : ℝ) : EReal)
  h6 : ∀ i, x6 i = ((D.PS (i 1).val : ℝ) : EReal)
  h7 : ∀ i, x7 i = ((D.LG (i 1).val : ℝ) : EReal)
  h8 : ∀ i, x8 i = ((D.LB (i 1).val : ℝ) : EReal)
  h9 : ∀ i, x9 i = ((D.SW (i 0).val (i 1).val (i 2).val : ℝ) : EReal)
  h10 : ∀ i, x10 i = ((D.SB ((i 1).val / 256) (i 0).val : ℝ) : EReal)
  h11 : ∀ i, x11 i = if (i 1).val ≤ (i 2).val ∧ (i 2).val < (i 1).val + win (i 0).val then 1 else 0

/-- An element of one slab loaded from an array of three axes, the slab's axis dropped. -/
theorem ld3 {α : Type} {M N : ℕ} (y : (⟨3, ![1, M, N]⟩ : Shape).Idx → α) (hc)
    (i : (⟨2, ![M, N]⟩ : Shape).Idx) (f : ℕ → ℕ → ℕ → α) (o : ℕ)
    (hy : ∀ i, y i = f (o + (i 0).val) (0 + (i 1).val) (0 + (i 2).val)) :
    shapeCast ⟨2, ![M, N]⟩ y hc i = f o (i 0).val (i 1).val := by
  obtain ⟨r, k, rfl⟩ := ex2 i
  rw [shapeCast_apply _ hc (ix2 r k) (ix3 (0 : Fin 1) r k) (by rw [Shape.rowMajor_val_two, Shape.rowMajor_val_three]; show (0 * M + r.val) * N + k.val = r.val * N + k.val; rw [Nat.zero_mul, Nat.zero_add]), hy,
    Nat.zero_add, Nat.zero_add]
  rfl

namespace TileIn

variable {D : Data} {T : ℕ} {x0 : B S256x4096} {x1 : V S256x2048} {x3 : B S256x1024} {x5 : B S4x256x256}
  {x6 x7 x8 : V S1x1024} {x9 : V S4x128x128} {x10 : V S128x1024} {x11 : B S4x256x384}

/-- What chunk `n` of the tile reads for head `h`. -/
theorem chunk (X : TileIn D T x0 x1 x3 x5 x6 x7 x8 x9 x10 x11) (n h : ℕ) {i9 c9 iu cu eu iv cv ev iz cz ez iy i7 i8 i10 c10}
    (hh : h < 4) :
    ChunkData D (T * 256 + n * 128) h
      (shapeCast S128x128 (View.ld (Val := Elt Ideal) (S := S4x128x128) (e' := .f32) x9 (Rect.unit ![h, 0, 0] ![1, 128, 128] i9)) c9)
      (extf (φ := .bf16) .f32 (shapeCast S128x256 (View.ld (Val := Elt Ideal) (S := S256x4096) (e' := .bf16) x0 (Rect.unit ![n * 128, h * 256] ![128, 256] iu)) cu) eu)
      (extf (φ := .bf16) .f32 (shapeCast S128x256 (View.ld (Val := Elt Ideal) (S := S256x4096) (e' := .bf16) x0 (Rect.unit ![n * 128, 1024 + h * 256] ![128, 256] iv)) cv) ev)
      (extf (φ := .bf16) .f32 (shapeCast S128x256 (View.ld (Val := Elt Ideal) (S := S256x4096) (e' := .bf16) x0 (Rect.unit ![n * 128, 3072 + h * 256] ![128, 256] iz)) cz) ez)
      (View.ld (Val := Elt Ideal) (S := S256x2048) (e' := .f32) x1 (Rect.unit ![n * 128, 1024 + h * 256] ![128, 256] iy))
      (View.ld (Val := Elt Ideal) (S := S1x1024) (e' := .f32) x7 (Rect.unit ![0, h * 256] ![1, 256] i7))
      (View.ld (Val := Elt Ideal) (S := S1x1024) (e' := .f32) x8 (Rect.unit ![0, h * 256] ![1, 256] i8))
      (shapeCast S128x256 (View.ld (Val := Elt Ideal) (S := S128x1024) (e' := .f32) x10 (Rect.unit ![0, h * 256] ![128, 256] i10)) c10) where
  hu i := by
    rw [vext]
    refine (congrFun (shapeCast_self _ _) i).trans ?_
    refine (X.h0 ((Rect.unit (s := S256x4096) ![n * 128, h * 256] ![128, 256] iu).idx i)).trans ?_
    simp only [Rect.idx_unit_val]
    show ((D.H (T * 256 + (n * 128 + (i 0).val)) (1024 + (h * 256 + (i 1).val)) : ℝ) : EReal) = _
    rw [uu, Nat.add_assoc]
  hv i := by
    rw [vext]
    refine (congrFun (shapeCast_self _ _) i).trans ?_
    refine (X.h0 ((Rect.unit (s := S256x4096) ![n * 128, 1024 + h * 256] ![128, 256] iv).idx i)).trans ?_
    simp only [Rect.idx_unit_val]
    show ((D.H (T * 256 + (n * 128 + (i 0).val)) (1024 + (1024 + h * 256 + (i 1).val)) : ℝ) : EReal) = _
    rw [vv, Nat.add_assoc (T * 256), show 1024 + (1024 + h * 256 + (i 1).val) = 2048 + (h * 256 + (i 1).val) by ring]
  hz i := by
    rw [vext]
    refine (congrFun (shapeCast_self _ _) i).trans ?_
    refine (X.h0 ((Rect.unit (s := S256x4096) ![n * 128, 3072 + h * 256] ![128, 256] iz).idx i)).trans ?_
    simp only [Rect.idx_unit_val]
    show ((D.H (T * 256 + (n * 128 + (i 0).val)) (1024 + (3072 + h * 256 + (i 1).val)) : ℝ) : EReal) = _
    rw [zs, Nat.add_assoc (T * 256), show 1024 + (3072 + h * 256 + (i 1).val) = 4096 + (h * 256 + (i 1).val) by ring]
  hy i := by
    refine (X.h1 ((Rect.unit (s := S256x2048) ![n * 128, 1024 + h * 256] ![128, 256] iy).idx i)).trans ?_
    simp only [Rect.idx_unit_val]
    show ((D.DY (T * 256 + (n * 128 + (i 0).val)) (1024 + h * 256 + (i 1).val) : ℝ) : EReal) = _
    rw [dys, Nat.add_assoc (T * 256), Nat.add_assoc 1024]
  hw i := by
    refine ld3 _ _ i (fun a b c => ((D.SW a b c : ℝ) : EReal)) _ fun j => (X.h9 ((Rect.unit (s := S4x128x128) ![h, 0, 0] ![1, 128, 128] i9).idx j)).trans ?_
    simp only [Rect.idx_unit_val]
    rfl
  hlg i := by
    refine (X.h7 ((Rect.unit (s := S1x1024) ![0, h * 256] ![1, 256] i7).idx i)).trans ?_
    simp only [Rect.idx_unit_val]
    show ((D.LG (h * 256 + (i 1).val) : ℝ) : EReal) = _
    rfl
  hlb i := by
    refine (X.h8 ((Rect.unit (s := S1x1024) ![0, h * 256] ![1, 256] i8).idx i)).trans ?_
    simp only [Rect.idx_unit_val]
    show ((D.LB (h * 256 + (i 1).val) : ℝ) : EReal) = _
    rfl
  hsb i := by
    refine (congrFun (shapeCast_self _ _) i).trans ?_
    refine (X.h10 ((Rect.unit (s := S128x1024) ![0, h * 256] ![128, 256] i10).idx i)).trans ?_
    simp only [Rect.idx_unit_val]
    show ((D.SB ((h * 256 + (i 1).val) / 256) (0 + (i 0).val) : ℝ) : EReal) = _
    have : (i 1).val < 256 := (i 1).isLt
    rw [Nat.zero_add, show (h * 256 + (i 1).val) / 256 = h by omega]

/-- What the tile reads for pooling group `g`. -/
theorem group (X : TileIn D T x0 x1 x3 x5 x6 x7 x8 x9 x10 x11) (g : ℕ) {i3 c3 i5 c5 iz cz ez iy i6} :
    GroupData D (T * 256) g
      (shapeCast S256x256 (View.ld (Val := Elt Ideal) (S := S256x1024) (e' := .bf16) x3 (Rect.unit ![0, g * 256] ![256, 256] i3)) c3)
      (shapeCast S256x256 (View.ld (Val := Elt Ideal) (S := S4x256x256) (e' := .bf16) x5 (Rect.unit ![g, 0, 0] ![1, 256, 256] i5)) c5)
      (extf (φ := .bf16) .f32 (shapeCast S256x256 (View.ld (Val := Elt Ideal) (S := S256x4096) (e' := .bf16) x0 (Rect.unit ![0, 2048 + g * 256] ![256, 256] iz)) cz) ez)
      (View.ld (Val := Elt Ideal) (S := S256x2048) (e' := .f32) x1 (Rect.unit ![0, g * 256] ![256, 256] iy))
      (View.ld (Val := Elt Ideal) (S := S1x1024) (e' := .f32) x6 (Rect.unit ![0, g * 256] ![1, 256] i6)) where
  hp i := by
    refine (congrFun (shapeCast_self _ _) i).trans ?_
    refine (X.h3 ((Rect.unit (s := S256x1024) ![0, g * 256] ![256, 256] i3).idx i)).trans ?_
    simp only [Rect.idx_unit_val]
    show ((D.P (T * 256 + (0 + (i 0).val)) (g * 256 + (i 1).val) : ℝ) : EReal) = _
    rw [Nat.zero_add]
  hw i := by
    refine ld3 _ _ i (fun a b c => ((D.PW a b c : ℝ) : EReal)) _ fun j => (X.h5 ((Rect.unit (s := S4x256x256) ![g, 0, 0] ![1, 256, 256] i5).idx j)).trans ?_
    simp only [Rect.idx_unit_val]
    rfl
  hz i := by
    rw [vext]
    refine (congrFun (shapeCast_self _ _) i).trans ?_
    refine (X.h0 ((Rect.unit (s := S256x4096) ![0, 2048 + g * 256] ![256, 256] iz).idx i)).trans ?_
    simp only [Rect.idx_unit_val]
    show ((D.H (T * 256 + (0 + (i 0).val)) (1024 + (2048 + g * 256 + (i 1).val)) : ℝ) : EReal) = _
    rw [zp, Nat.zero_add, show 1024 + (2048 + g * 256 + (i 1).val) = 3072 + (g * 256 + (i 1).val) by ring]
  hy i := by
    refine (X.h1 ((Rect.unit (s := S256x2048) ![0, g * 256] ![256, 256] iy).idx i)).trans ?_
    simp only [Rect.idx_unit_val]
    show ((D.DY (T * 256 + (0 + (i 0).val)) (g * 256 + (i 1).val) : ℝ) : EReal) = _
    rw [dyp, Nat.zero_add]
  hps i := by
    refine (X.h6 ((Rect.unit (s := S1x1024) ![0, g * 256] ![1, 256] i6).idx i)).trans ?_
    simp only [Rect.idx_unit_val]
    show ((D.PS (g * 256 + (i 1).val) : ℝ) : EReal) = _
    rfl

/-- The band the tile reads for pooling group `g`. -/
theorem band (X : TileIn D T x0 x1 x3 x5 x6 x7 x8 x9 x10 x11) (g : ℕ) {ib cb} (i : S256x384.Idx) :
    shapeCast S256x384 (View.ld (Val := Elt Ideal) (S := S4x256x384) (e' := .bf16) x11 (Rect.unit ![g, 0, 0] ![1, 256, 384] ib)) cb i
      = if (i 0).val ≤ (i 1).val ∧ (i 1).val < (i 0).val + win g then 1 else 0 := by
  refine ld3 _ _ i (fun a b c => if b ≤ c ∧ c < b + win a then 1 else 0) _ fun j =>
    (X.h11 ((Rect.unit (s := S4x256x384) ![g, 0, 0] ![1, 256, 384] ib).idx j)).trans ?_
  simp only [Rect.idx_unit_val]
  rfl

end TileIn

end Mixers.K
-- ==== Proof.Pieces.lean ====
/-
  The stores of one tile: each piece of the hidden gradient's block, of the carried rows and of the per-channel sums is
  a block of one function of the whole array's index, the mathematics at the tile's tokens.
-/
module

public import proofs.«01_k».proof.Proof.Loads
public import Idealize.ShloMosaic.Lib.Pipeline.ReadBack

@[expose] public section

set_option maxRecDepth 16384

noncomputable section

namespace Mixers.K

open Idealize.ShloMosaic Cert.KernelIdeal Cert.KernelIdeal.Facts₀
open scoped BigOperators

/-- The hidden gradient's block of tile `T`. -/
def GDH (D : Data) (T : ℕ) : S256x5120.Idx → EReal := fun i => ((DH D (T * 256 + (i 0).val) (i 1).val : ℝ) : EReal)
/-- The carried rows after tile `T`: the window sums' gradients from the tile's first token on. -/
def GQ (D : Data) (T : ℕ) : S384x1024.Idx → EReal :=
  fun i => ((qx D (T * 256 + (i 0).val) ((i 1).val / 256) ((i 1).val % 256) : ℝ) : EReal)
/-- The carried rows' second part: zero. -/
def GZ : S384x1024.Idx → EReal := fun _ => 0

/-- A coordinate of a place in a rectangle. -/
theorem emb_val {s : Shape} (off size : Fin s.rank → ℕ) (inb) (x : (Rect.unit off size inb).shape.Idx) (a : Fin s.rank) :
    ((Rect.unit off size inb).emb x a).val = off a + (x a).val := Rect.idx_unit_val off size inb x a

section
variable (D : Data) {T r k : ℕ}
theorem DH_da {g e : ℕ} (hg : g < 4) (hk : k < 256) (he : e = g * 256 + k) : DH D (T * 256 + r) e = da D (T * 256 + r) g k := by
  subst he
  rw [DH, if_pos (by omega), show (g * 256 + k) / 256 = g by omega, show (g * 256 + k) % 256 = k by omega]
theorem DH_dzp {g e : ℕ} (hg : g < 4) (hk : k < 256) (he : e = 3072 + g * 256 + k) : DH D (T * 256 + r) e = dzp D (T * 256 + r) g k := by
  subst he
  rw [DH, if_neg (by omega), if_neg (by omega), if_neg (by omega), if_pos (by omega),
    show (3072 + g * 256 + k - 3072) / 256 = g by omega, show (3072 + g * 256 + k) % 256 = k by omega]
theorem cb_eq {n : ℕ} (hr : r < 128) : cb (T * 256 + (n * 128 + r)) = T * 256 + n * 128 := by unfold cb; omega
theorem mod_eq {n : ℕ} (hr : r < 128) : (T * 256 + (n * 128 + r)) % 128 = r := by omega
theorem DH_du {n h e : ℕ} (hh : h < 4) (hr : r < 128) (hk : k < 256) (he : e = 1024 + h * 256 + k) :
    DH D (T * 256 + (n * 128 + r)) e = du D (T * 256 + n * 128) r h k := by
  subst he
  rw [DH, if_neg (by omega), if_pos (by omega), cb_eq hr, mod_eq hr,
    show (1024 + h * 256 + k - 1024) / 256 = h by omega, show (1024 + h * 256 + k) % 256 = k by omega]
theorem DH_dv {n h e : ℕ} (hh : h < 4) (hr : r < 128) (hk : k < 256) (he : e = 2048 + h * 256 + k) :
    DH D (T * 256 + (n * 128 + r)) e = dv D (T * 256 + n * 128) r h k := by
  subst he
  rw [DH, if_neg (by omega), if_neg (by omega), if_pos (by omega), cb_eq hr, mod_eq hr,
    show (2048 + h * 256 + k - 2048) / 256 = h by omega, show (2048 + h * 256 + k) % 256 = k by omega]
theorem DH_dzs {n h e : ℕ} (hh : h < 4) (hr : r < 128) (hk : k < 256) (he : e = 4096 + h * 256 + k) :
    DH D (T * 256 + (n * 128 + r)) e = dzs D (T * 256 + n * 128) r h k := by
  subst he
  rw [DH, if_neg (by omega), if_neg (by omega), if_neg (by omega), if_neg (by omega), cb_eq hr, mod_eq hr,
    show (4096 + h * 256 + k - 4096) / 256 = h by omega, show (4096 + h * 256 + k) % 256 = k by omega]
end

namespace ChunkData

variable {D : Data} {T n h : ℕ} {w : V S128x128} {u v z y : V S128x256} {lg lb : V S1x256} {sb : V S128x256}

theorem pc_du (c : ChunkData D (T * 256 + n * 128) h w u v z y lg lb sb) (hh : h < 4) {o p : ℕ} {inb} (ho : o = n * 128)
    (hp : p = 1024 + h * 256) (x : S128x256.Idx) :
    cDu w u v z y lg lb sb x = GDH D T ((Rect.unit (s := S256x5120) ![o, p] ![128, 256] inb).emb x) := by
  obtain ⟨r, k, rfl⟩ := ex2 x
  refine (c.du_coe r k).trans ?_
  unfold GDH
  rw [emb_val, emb_val]
  subst ho hp
  exact congrArg _ (DH_du D hh r.isLt k.isLt rfl).symm
theorem pc_dv (c : ChunkData D (T * 256 + n * 128) h w u v z y lg lb sb) (hh : h < 4) {o p : ℕ} {inb} (ho : o = n * 128)
    (hp : p = 2048 + h * 256) (x : S128x256.Idx) :
    cDv w u v z y lg x = GDH D T ((Rect.unit (s := S256x5120) ![o, p] ![128, 256] inb).emb x) := by
  obtain ⟨r, k, rfl⟩ := ex2 x
  refine (c.dv_coe r k).trans ?_
  unfold GDH
  rw [emb_val, emb_val]
  subst ho hp
  exact congrArg _ (DH_dv D hh r.isLt k.isLt rfl).symm
theorem pc_dzs (c : ChunkData D (T * 256 + n * 128) h w u v z y lg lb sb) (hh : h < 4) {o p : ℕ} {inb} (ho : o = n * 128)
    (hp : p = 4096 + h * 256) (x : S128x256.Idx) :
    cDzs w u v z y lg lb sb x = GDH D T ((Rect.unit (s := S256x5120) ![o, p] ![128, 256] inb).emb x) := by
  obtain ⟨r, k, rfl⟩ := ex2 x
  refine (c.dzs_coe r k).trans ?_
  unfold GDH
  rw [emb_val, emb_val]
  subst ho hp
  exact congrArg _ (DH_dzs D hh r.isLt k.isLt rfl).symm

end ChunkData

namespace GroupData

variable {D : Data} {T g : ℕ} {pb w : B S256x256} {z y : V S256x256} {ps : V S1x256}

theorem pc_dz (c : GroupData D (T * 256) g pb w z y ps) (hg : g < 4) {o p : ℕ} {inb} (ho : o = 0)
    (hp : p = 3072 + g * 256) (x : S256x256.Idx) :
    gDz pb w z y ps x = GDH D T ((Rect.unit (s := S256x5120) ![o, p] ![256, 256] inb).emb x) := by
  obtain ⟨r, k, rfl⟩ := ex2 x
  refine (c.dz_coe r k).trans ?_
  unfold GDH
  rw [emb_val, emb_val]
  subst ho hp
  refine congrArg _ ((DH_dzp D hg k.isLt rfl).symm.trans ?_)
  rw [← Nat.zero_add r.val]
  rfl
theorem pc_da (c : GroupData D (T * 256) g pb w z y ps) (hg : g < 4) {bd : B S256x384} {qh ql : B S384x256}
    (hbd : ∀ i, bd i = if (i 0).val ≤ (i 1).val ∧ (i 1).val < (i 0).val + win g then 1 else 0)
    (hqh : ∀ i, (i 0).val < 272 → qh i = ((qx D (T * 256 + (i 0).val) g (i 1).val : ℝ) : EReal))
    (hql : ∀ i, (i 0).val < 272 → ql i = 0) {o p : ℕ} {inb} (ho : o = 0) (hp : p = g * 256) (x : S256x256.Idx) :
    gDa bd qh ql w z y ps x = GDH D T ((Rect.unit (s := S256x5120) ![o, p] ![256, 256] inb).emb x) := by
  obtain ⟨r, k, rfl⟩ := ex2 x
  refine (c.da_coe hg hbd hqh hql r k).trans ?_
  unfold GDH
  rw [emb_val, emb_val]
  subst ho hp
  refine congrArg _ ((DH_da D hg k.isLt rfl).symm.trans ?_)
  rw [← Nat.zero_add r.val]
  rfl
theorem pq_hi (c : GroupData D (T * 256) g pb w z y ps) (hT : T < 32) (hg : g < 4) {v l : BitVec 32}
    (hv : v = BitVec.ofNat 32 T) (hl : l = BitVec.ofNat 32 (win g)) {hc} {o p : ℕ} {inb} (ho : o = 0) (hp : p = g * 256) (x : S256x256.Idx) :
    shapeCast S256x256 (gQhi v l w z y ps) hc x = GQ D T ((Rect.unit (s := S384x1024) ![o, p] ![256, 256] inb).emb x) := by
  obtain ⟨r, k, rfl⟩ := ex2 x
  rw [shapeCast_self]
  refine (c.qhi_coe hT rfl hg hv hl r k).trans ?_
  unfold GQ
  rw [emb_val, emb_val]
  subst ho hp
  have hk := k.isLt
  show _ = ((qx D (T * 256 + (0 + r.val)) ((g * 256 + k.val) / 256) ((g * 256 + k.val) % 256) : ℝ) : EReal)
  rw [Nat.zero_add, show (g * 256 + k.val) / 256 = g by omega, show (g * 256 + k.val) % 256 = k.val by omega]
theorem pq_lo (c : GroupData D (T * 256) g pb w z y ps) (hT : T < 32) (hg : g < 4) {v l : BitVec 32}
    (hv : v = BitVec.ofNat 32 T) (hl : l = BitVec.ofNat 32 (win g)) {hc} {o p : ℕ} {inb} (x : S256x256.Idx) :
    shapeCast S256x256 (gQlo v l w z y ps) hc x = GZ ((Rect.unit (s := S384x1024) ![o, p] ![256, 256] inb).emb x) := by
  obtain ⟨r, k, rfl⟩ := ex2 x
  rw [shapeCast_self]
  exact c.qlo_coe hT rfl hg hv hl r k

end GroupData

/-- The rows kept for the next tile: the first rows of the tile before. -/
theorem pq_row {D : Data} {T : ℕ} {pv : S384x1024.Idx → EReal} (hpv : ∀ i, (i 0).val < 16 → pv i = GQ D (T + 1) i) {i1 hc i2}
    (x : S16x1024.Idx) :
    shapeCast S16x1024 (View.ld (Val := Elt Ideal) (S := S384x1024) (e' := .bf16) pv (Rect.unit ![0, 0] ![16, 1024] i1)) hc x
      = GQ D T ((Rect.unit (s := S384x1024) ![256, 0] ![16, 1024] i2).emb x) := by
  refine (congrFun (shapeCast_self _ _) x).trans ?_
  have h0 : (x 0).val < 16 := (x 0).isLt
  refine (hpv ((Rect.unit (s := S384x1024) ![0, 0] ![16, 1024] i1).emb x) ?_).trans ?_
  · rw [emb_val]; show 0 + (x 0).val < 16; omega
  unfold GQ
  rw [emb_val, emb_val, emb_val, emb_val]
  show ((qx D ((T + 1) * 256 + (0 + (x 0).val)) _ _ : ℝ) : EReal) = ((qx D (T * 256 + (256 + (x 0).val)) _ _ : ℝ) : EReal)
  rw [show (T + 1) * 256 + (0 + (x 0).val) = T * 256 + (256 + (x 0).val) by ring]
  rfl
theorem pz_row {pv : S384x1024.Idx → EReal} (hpv : ∀ i, (i 0).val < 16 → pv i = 0) {i1 hc i2} (x : S16x1024.Idx) :
    shapeCast S16x1024 (View.ld (Val := Elt Ideal) (S := S384x1024) (e' := .bf16) pv (Rect.unit ![0, 0] ![16, 1024] i1)) hc x
      = GZ ((Rect.unit (s := S384x1024) ![256, 0] ![16, 1024] i2).emb x) := by
  refine (congrFun (shapeCast_self _ _) x).trans ?_
  have h0 : (x 0).val < 16 := (x 0).isLt
  refine hpv ((Rect.unit (s := S384x1024) ![0, 0] ![16, 1024] i1).emb x) ?_
  rw [emb_val]; show 0 + (x 0).val < 16; omega

/-- A group's block of the carried rows covers its columns' first 256 rows, -/
theorem cov_top {p : ℕ} {inb} (y : S384x1024.Idx) (h0 : (y 0).val < 256) (h1 : p ≤ (y 1).val) (h2 : (y 1).val < p + 256) :
    y ∈ (Rect.unit (s := S384x1024) ![0, p] ![256, 256] inb).set :=
  Rect.mem_set_unit.mpr fun a => match a with
    | ⟨0, _⟩ => ⟨Nat.zero_le _, show (y 0).val < 0 + 256 by omega⟩
    | ⟨1, _⟩ => ⟨h1, h2⟩
/-- and the kept rows cover the next 16. -/
theorem cov_row {inb} (y : S384x1024.Idx) (h0 : 256 ≤ (y 0).val) (h1 : (y 0).val < 272) :
    y ∈ (Rect.unit (s := S384x1024) ![256, 0] ![16, 1024] inb).set :=
  Rect.mem_set_unit.mpr fun a => match a with
    | ⟨0, _⟩ => ⟨h0, show (y 0).val < 256 + 16 by omega⟩
    | ⟨1, _⟩ => ⟨Nat.zero_le _, show (y 1).val < 0 + 1024 by have : (y 1).val < 1024 := (y 1).isLt; omega⟩

/-- One group's columns of the carried rows, loaded: the first 272 rows of the whole. -/
theorem ld_cols {R G : S384x1024.Idx → EReal} {g : ℕ} {inb}
    (hR : ∀ y : S384x1024.Idx, (y 0).val < 272 → g * 256 ≤ (y 1).val → (y 1).val < g * 256 + 256 → R y = G y) (i : S384x256.Idx)
    (hi : (i 0).val < 272) :
    View.ld (Val := Elt Ideal) (S := S384x1024) (e' := .bf16) R (Rect.unit ![0, g * 256] ![384, 256] inb) i
      = G ((Rect.unit (s := S384x1024) ![0, g * 256] ![384, 256] inb).emb i) := by
  have h1 : (i 1).val < 256 := (i 1).isLt
  refine hR ((Rect.unit (s := S384x1024) ![0, g * 256] ![384, 256] inb).emb i) ?_ ?_ ?_ <;> rw [emb_val]
  · show 0 + (i 0).val < 272; omega
  · show g * 256 ≤ g * 256 + (i 1).val; omega
  · show g * 256 + (i 1).val < g * 256 + 256; omega

theorem GQ_cols {D : Data} {T g : ℕ} {inb} (i : S384x256.Idx) :
    GQ D T ((Rect.unit (s := S384x1024) ![0, g * 256] ![384, 256] inb).emb i) = ((qx D (T * 256 + (i 0).val) g (i 1).val : ℝ) : EReal) := by
  have h1 : (i 1).val < 256 := (i 1).isLt
  unfold GQ
  rw [emb_val, emb_val]
  show ((qx D (T * 256 + (0 + (i 0).val)) ((g * 256 + (i 1).val) / 256) ((g * 256 + (i 1).val) % 256) : ℝ) : EReal) = _
  rw [Nat.zero_add, show (g * 256 + (i 1).val) / 256 = g by omega, show (g * 256 + (i 1).val) % 256 = (i 1).val by omega]

/-- The carried rows read after their stores: `p` the group's own block, `r` the kept rows. -/
theorem read_scr {sig : RefSig} {κ : Kind} {sp : Space} {v : View sig κ sp S384x1024 .bf16} {f : v.ty.Contents (Elt Ideal)}
    {G : S384x1024.Idx → EReal} {L : List (View.Piece (Elt Ideal) S384x1024 .bf16)} (hL : View.PiecesOf G L)
    {g : ℕ} {p r : View.Piece (Elt Ideal) S384x1024 .bf16} (hp : p ∈ L) (hr : r ∈ L)
    (hpc : ∀ y : S384x1024.Idx, (y 0).val < 256 → g * 256 ≤ (y 1).val → (y 1).val < g * 256 + 256 → y ∈ p.1.set)
    (hrc : ∀ y : S384x1024.Idx, 256 ≤ (y 0).val → (y 0).val < 272 → y ∈ r.1.set)
    (y : S384x1024.Idx) (h0 : (y 0).val < 272) (h1 : g * 256 ≤ (y 1).val) (h2 : (y 1).val < g * 256 + 256) :
    v.read (Elt Ideal) (v.writes (Elt Ideal) f L) y = G y := by
  refine View.read_writes_apply_of_pieces v f G L hL.mem y ?_
  by_cases h : (y 0).val < 256
  · exact ⟨p, hp, hpc y h h1 h2⟩
  · exact ⟨r, hr, hrc y (by omega) h0⟩
/-- The same over a fill of the whole, the first `n` stores being blocks of `G`. -/
theorem canon_scr (n : ℕ) {G : S384x1024.Idx → EReal} {L : List (View.Piece (Elt Ideal) S384x1024 .bf16)} (hL : View.PiecesOf G (L.take n))
    {g : ℕ} {p r : View.Piece (Elt Ideal) S384x1024 .bf16} (hp : p ∈ L.take n) (hr : r ∈ L.take n)
    (hpc : ∀ y : S384x1024.Idx, (y 0).val < 256 → g * 256 ≤ (y 1).val → (y 1).val < g * 256 + 256 → y ∈ p.1.set)
    (hrc : ∀ y : S384x1024.Idx, 256 ≤ (y 0).val → (y 0).val < 272 → y ∈ r.1.set)
    (y : S384x1024.Idx) (h0 : (y 0).val < 272) (h1 : g * 256 ≤ (y 1).val) (h2 : (y 1).val < g * 256 + 256) :
    View.canon L y = G y := by
  rw [← List.take_append_drop n L]
  refine View.canon_append_of_piecesOf G (L.drop n) (L.take n) hL y ?_
  by_cases h : (y 0).val < 256
  · exact ⟨p, hp, hpc y h h1 h2⟩
  · exact ⟨r, hr, hrc y (by omega) h0⟩

/-- A group's columns of the carried rows, loaded after the stores. -/
theorem ld_scr_hi {sig : RefSig} {κ : Kind} {sp : Space} {v : View sig κ sp S384x1024 .bf16} {f : v.ty.Contents (Elt Ideal)}
    {D : Data} {T g : ℕ} {L : List (View.Piece (Elt Ideal) S384x1024 .bf16)} {inb} {p r : View.Piece (Elt Ideal) S384x1024 .bf16}
    (i : S384x256.Idx) (hi : (i 0).val < 272) (hL : View.PiecesOf (GQ D T) L) (hp : p ∈ L) (hr : r ∈ L)
    (hpc : ∀ y : S384x1024.Idx, (y 0).val < 256 → g * 256 ≤ (y 1).val → (y 1).val < g * 256 + 256 → y ∈ p.1.set)
    (hrc : ∀ y : S384x1024.Idx, 256 ≤ (y 0).val → (y 0).val < 272 → y ∈ r.1.set) :
    View.ld (Val := Elt Ideal) (S := S384x1024) (e' := .bf16) (v.read (Elt Ideal) (v.writes (Elt Ideal) f L)) (Rect.unit ![0, g * 256] ![384, 256] inb) i
      = ((qx D (T * 256 + (i 0).val) g (i 1).val : ℝ) : EReal) :=
  (ld_cols (read_scr hL hp hr hpc hrc) i hi).trans (GQ_cols i)
theorem ld_scr_lo {sig : RefSig} {κ : Kind} {sp : Space} {v : View sig κ sp S384x1024 .bf16} {f : v.ty.Contents (Elt Ideal)}
    {g : ℕ} {L : List (View.Piece (Elt Ideal) S384x1024 .bf16)} {inb} {p r : View.Piece (Elt Ideal) S384x1024 .bf16}
    (i : S384x256.Idx) (hi : (i 0).val < 272) (hL : View.PiecesOf GZ L) (hp : p ∈ L) (hr : r ∈ L)
    (hpc : ∀ y : S384x1024.Idx, (y 0).val < 256 → g * 256 ≤ (y 1).val → (y 1).val < g * 256 + 256 → y ∈ p.1.set)
    (hrc : ∀ y : S384x1024.Idx, 256 ≤ (y 0).val → (y 0).val < 272 → y ∈ r.1.set) :
    View.ld (Val := Elt Ideal) (S := S384x1024) (e' := .bf16) (v.read (Elt Ideal) (v.writes (Elt Ideal) f L)) (Rect.unit ![0, g * 256] ![384, 256] inb) i
      = (0 : EReal) :=
  ld_cols (G := GZ) (read_scr hL hp hr hpc hrc) i hi
/-- The same at the first point, over a fill of the whole. -/
theorem cov_scr_hi (n : ℕ) {sig : RefSig} {κ : Kind} {sp : Space} {v : View sig κ sp S384x1024 .bf16}
    {D : Data} {T g : ℕ} {L : List (View.Piece (Elt Ideal) S384x1024 .bf16)} {inb} {p r : View.Piece (Elt Ideal) S384x1024 .bf16}
    (i : S384x256.Idx) (hi : (i 0).val < 272) (hL : View.PiecesOf (GQ D T) (L.take n)) (hp : p ∈ L.take n) (hr : r ∈ L.take n)
    (hpc : ∀ y : S384x1024.Idx, (y 0).val < 256 → g * 256 ≤ (y 1).val → (y 1).val < g * 256 + 256 → y ∈ p.1.set)
    (hrc : ∀ y : S384x1024.Idx, 256 ≤ (y 0).val → (y 0).val < 272 → y ∈ r.1.set) :
    v.readCov (Val := Elt Ideal) L (Rect.unit (s := S384x1024) ![0, g * 256] ![384, 256] inb).toLoadRect i
      = ((qx D (T * 256 + (i 0).val) g (i 1).val : ℝ) : EReal) := by
  rw [View.readCov_eq_canon']
  exact (ld_cols (canon_scr n hL hp hr hpc hrc) i hi).trans (GQ_cols i)
theorem cov_scr_lo (n : ℕ) {sig : RefSig} {κ : Kind} {sp : Space} {v : View sig κ sp S384x1024 .bf16}
    {g : ℕ} {L : List (View.Piece (Elt Ideal) S384x1024 .bf16)} {inb} {p r : View.Piece (Elt Ideal) S384x1024 .bf16}
    (i : S384x256.Idx) (hi : (i 0).val < 272) (hL : View.PiecesOf GZ (L.take n)) (hp : p ∈ L.take n) (hr : r ∈ L.take n)
    (hpc : ∀ y : S384x1024.Idx, (y 0).val < 256 → g * 256 ≤ (y 1).val → (y 1).val < g * 256 + 256 → y ∈ p.1.set)
    (hrc : ∀ y : S384x1024.Idx, 256 ≤ (y 0).val → (y 0).val < 272 → y ∈ r.1.set) :
    v.readCov (Val := Elt Ideal) L (Rect.unit (s := S384x1024) ![0, g * 256] ![384, 256] inb).toLoadRect i = (0 : EReal) := by
  rw [View.readCov_eq_canon']
  exact ld_cols (G := GZ) (canon_scr n hL hp hr hpc hrc) i hi

/-- All the columns: `p3 … p0` the groups' blocks, `r` the kept rows. -/
theorem cover_all {L : List (View.Piece (Elt Ideal) S384x1024 .bf16)} {p3 p2 p1 p0 r : View.Piece (Elt Ideal) S384x1024 .bf16} (m3 : p3 ∈ L) (m2 : p2 ∈ L)
    (m1 : p1 ∈ L) (m0 : p0 ∈ L) (mr : r ∈ L)
    (c3 : ∀ y : S384x1024.Idx, (y 0).val < 256 → 768 ≤ (y 1).val → (y 1).val < 768 + 256 → y ∈ p3.1.set)
    (c2 : ∀ y : S384x1024.Idx, (y 0).val < 256 → 512 ≤ (y 1).val → (y 1).val < 512 + 256 → y ∈ p2.1.set)
    (c1 : ∀ y : S384x1024.Idx, (y 0).val < 256 → 256 ≤ (y 1).val → (y 1).val < 256 + 256 → y ∈ p1.1.set)
    (c0 : ∀ y : S384x1024.Idx, (y 0).val < 256 → 0 ≤ (y 1).val → (y 1).val < 0 + 256 → y ∈ p0.1.set)
    (hrc : ∀ y : S384x1024.Idx, 256 ≤ (y 0).val → (y 0).val < 272 → y ∈ r.1.set) (y : S384x1024.Idx) (h0 : (y 0).val < 272) :
    ∃ p ∈ L, y ∈ p.1.set := by
  have hy : (y 1).val < 1024 := (y 1).isLt
  by_cases h : (y 0).val < 256
  · by_cases h3 : 768 ≤ (y 1).val
    · exact ⟨p3, m3, c3 y h h3 (by omega)⟩
    by_cases h2 : 512 ≤ (y 1).val
    · exact ⟨p2, m2, c2 y h h2 (by omega)⟩
    by_cases h1 : 256 ≤ (y 1).val
    · exact ⟨p1, m1, c1 y h h1 (by omega)⟩
    exact ⟨p0, m0, c0 y h (by omega) (by omega)⟩
  · exact ⟨r, mr, hrc y (by omega) h0⟩
theorem read_all {sig : RefSig} {κ : Kind} {sp : Space} {v : View sig κ sp S384x1024 .bf16} {f : v.ty.Contents (Elt Ideal)}
    {G : S384x1024.Idx → EReal} {L : List (View.Piece (Elt Ideal) S384x1024 .bf16)} (hL : View.PiecesOf G L)
    {p3 p2 p1 p0 r : View.Piece (Elt Ideal) S384x1024 .bf16} (m3 : p3 ∈ L) (m2 : p2 ∈ L)
    (m1 : p1 ∈ L) (m0 : p0 ∈ L) (mr : r ∈ L)
    (c3 : ∀ y : S384x1024.Idx, (y 0).val < 256 → 768 ≤ (y 1).val → (y 1).val < 768 + 256 → y ∈ p3.1.set)
    (c2 : ∀ y : S384x1024.Idx, (y 0).val < 256 → 512 ≤ (y 1).val → (y 1).val < 512 + 256 → y ∈ p2.1.set)
    (c1 : ∀ y : S384x1024.Idx, (y 0).val < 256 → 256 ≤ (y 1).val → (y 1).val < 256 + 256 → y ∈ p1.1.set)
    (c0 : ∀ y : S384x1024.Idx, (y 0).val < 256 → 0 ≤ (y 1).val → (y 1).val < 0 + 256 → y ∈ p0.1.set)
    (hrc : ∀ y : S384x1024.Idx, 256 ≤ (y 0).val → (y 0).val < 272 → y ∈ r.1.set) (y : S384x1024.Idx) (h0 : (y 0).val < 272) :
    v.read (Elt Ideal) (v.writes (Elt Ideal) f L) y = G y :=
  View.read_writes_apply_of_pieces v f G L hL.mem y (cover_all m3 m2 m1 m0 mr c3 c2 c1 c0 hrc y h0)
theorem canon_all (n : ℕ) {G : S384x1024.Idx → EReal} {L : List (View.Piece (Elt Ideal) S384x1024 .bf16)} (hL : View.PiecesOf G (L.take n))
    {p3 p2 p1 p0 r : View.Piece (Elt Ideal) S384x1024 .bf16} (m3 : p3 ∈ L.take n) (m2 : p2 ∈ L.take n)
    (m1 : p1 ∈ L.take n) (m0 : p0 ∈ L.take n) (mr : r ∈ L.take n)
    (c3 : ∀ y : S384x1024.Idx, (y 0).val < 256 → 768 ≤ (y 1).val → (y 1).val < 768 + 256 → y ∈ p3.1.set)
    (c2 : ∀ y : S384x1024.Idx, (y 0).val < 256 → 512 ≤ (y 1).val → (y 1).val < 512 + 256 → y ∈ p2.1.set)
    (c1 : ∀ y : S384x1024.Idx, (y 0).val < 256 → 256 ≤ (y 1).val → (y 1).val < 256 + 256 → y ∈ p1.1.set)
    (c0 : ∀ y : S384x1024.Idx, (y 0).val < 256 → 0 ≤ (y 1).val → (y 1).val < 0 + 256 → y ∈ p0.1.set)
    (hrc : ∀ y : S384x1024.Idx, 256 ≤ (y 0).val → (y 0).val < 272 → y ∈ r.1.set) (y : S384x1024.Idx) (h0 : (y 0).val < 272) :
    View.canon L y = G y := by
  rw [← List.take_append_drop n L]
  exact View.canon_append_of_piecesOf G (L.drop n) (L.take n) hL y (cover_all m3 m2 m1 m0 mr c3 c2 c1 c0 hrc y h0)
/-- Stores the first `n` of which are blocks of `G` and cover the element leave `G` there. -/
theorem canon_take (n : ℕ) {s : Shape} {e : EltTy} {G : s.Idx → Elt Ideal e} {L : List (View.Piece (Elt Ideal) s e)} (hL : View.PiecesOf G (L.take n))
    (y : s.Idx) (hc : ∃ p ∈ L.take n, y ∈ p.1.set) : View.canon L y = G y := by
  rw [← List.take_append_drop n L]
  exact View.canon_append_of_piecesOf G (L.drop n) (L.take n) hL y hc

/-- Stores that are blocks of `G` and cover the array leave `G`. -/
theorem canon_pieces {s : Shape} {e : EltTy} {G : s.Idx → Elt Ideal e} {L : List (View.Piece (Elt Ideal) s e)} (hL : View.PiecesOf G L)
    (y : s.Idx) (hc : ∃ p ∈ L, y ∈ p.1.set) : View.canon L y = G y := by
  have := View.canon_append_of_piecesOf G [] L hL y hc
  rwa [List.append_nil] at this

end Mixers.K
-- ==== Proof.Sums.lean ====
/-
  The sums carried from tile to tile: one tile's share of each, and the stores that add it to what is there.
-/
module

public import proofs.«01_k».proof.Proof.Pieces

@[expose] public section

set_option maxRecDepth 16384

noncomputable section

namespace Mixers.K

open Idealize.ShloMosaic Cert.KernelIdeal Cert.KernelIdeal.Facts₀
open scoped BigOperators

/-! ## One tile's shares -/

section
variable (D : Data) (T : ℕ)
def tDps (q : S1x1024.Idx) : ℝ := ∑ r : Fin 256, dpsT D (T * 256 + r.val) ((q 1).val / 256) ((q 1).val % 256)
def tDlg (q : S1x1024.Idx) : ℝ :=
  dlgT D (T * 256 + 0 * 128) ((q 1).val / 256) ((q 1).val % 256) + dlgT D (T * 256 + 1 * 128) ((q 1).val / 256) ((q 1).val % 256)
def tDlb (q : S1x1024.Idx) : ℝ :=
  dlbT D (T * 256 + 0 * 128) ((q 1).val / 256) ((q 1).val % 256) + dlbT D (T * 256 + 1 * 128) ((q 1).val / 256) ((q 1).val % 256)
def tDsw (q : S4x128x128.Idx) : ℝ :=
  dswT D (T * 256 + 0 * 128) (q 0).val (q 1).val (q 2).val + dswT D (T * 256 + 1 * 128) (q 0).val (q 1).val (q 2).val
def tDpw (q : S4x256x256.Idx) : ℝ := ∑ r : Fin 256, dpwT D (T * 256 + r.val) (q 0).val (q 1).val (q 2).val
def tDsb (q : S128x1024.Idx) : ℝ :=
  dsv D (T * 256 + 0 * 128 + (q 0).val) ((q 1).val / 256) ((q 1).val % 256) + dsv D (T * 256 + 1 * 128 + (q 0).val) ((q 1).val / 256) ((q 1).val % 256)
end

/-- What is there and the tile's share. -/
def plus {s : Shape} (P : s.Idx → EReal) (t : s.Idx → ℝ) : s.Idx → EReal := fun q => P q + ((t q : ℝ) : EReal)

/-! ## Stores one over another -/

theorem canon_pair {s : Shape} {e : EltTy} {G : s.Idx → Elt Ideal e} {r : Rect s} {f g : r.shape.Idx → Elt Ideal e}
    {L : List (View.Piece (Elt Ideal) s e)} (hf : ∀ x, f x = G (r.emb x)) (y : s.Idx) (h : y ∉ r.set → View.canon L y = G y) :
    View.canon (⟨r, f⟩ :: ⟨r, g⟩ :: L) y = G y := by
  by_cases hm : y ∈ r.set
  · obtain ⟨x, rfl⟩ := r.exists_idx_of_mem hm
    exact (View.canon_cons_emb r f _ x).trans (hf x)
  · rw [View.canon_cons_of_not_mem _ _ hm, View.canon_cons_of_not_mem _ _ hm, h hm]
theorem canon_pairs {s : Shape} {e : EltTy} {G : s.Idx → Elt Ideal e} {r3 r2 r1 r0 : Rect s} {f3 g3 : r3.shape.Idx → Elt Ideal e}
    {f2 g2 : r2.shape.Idx → Elt Ideal e} {f1 g1 : r1.shape.Idx → Elt Ideal e} {f0 g0 : r0.shape.Idx → Elt Ideal e}
    {L : List (View.Piece (Elt Ideal) s e)}
    (h3 : ∀ x, f3 x = G (r3.emb x)) (h2 : ∀ x, f2 x = G (r2.emb x)) (h1 : ∀ x, f1 x = G (r1.emb x)) (h0 : ∀ x, f0 x = G (r0.emb x))
    (y : s.Idx) (hc : y ∈ r3.set ∨ y ∈ r2.set ∨ y ∈ r1.set ∨ y ∈ r0.set) :
    View.canon (⟨r3, f3⟩ :: ⟨r3, g3⟩ :: ⟨r2, f2⟩ :: ⟨r2, g2⟩ :: ⟨r1, f1⟩ :: ⟨r1, g1⟩ :: ⟨r0, f0⟩ :: ⟨r0, g0⟩ :: L) y = G y :=
  canon_pair h3 y fun n3 => canon_pair h2 y fun n2 => canon_pair h1 y fun n1 => canon_pair h0 y fun n0 =>
    absurd hc (by rintro (h | h | h | h); exacts [n3 h, n2 h, n1 h, n0 h])

/-! ## An axis of one dropped or put before -/

theorem cast32 {α : Type} {M N : ℕ} (y : (⟨3, ![1, M, N]⟩ : Shape).Idx → α) (hc) (r : Fin M) (k : Fin N) :
    shapeCast ⟨2, ![M, N]⟩ y hc (ix2 r k) = y (ix3 (0 : Fin 1) r k) :=
  shapeCast_apply _ hc (ix2 r k) (ix3 (0 : Fin 1) r k) (by rw [Shape.rowMajor_val_two, Shape.rowMajor_val_three]; show (0 * M + r.val) * N + k.val = r.val * N + k.val; rw [Nat.zero_mul, Nat.zero_add])
theorem cast23 {α : Type} {M N : ℕ} (y : (⟨2, ![M, N]⟩ : Shape).Idx → α) (hc) (r : Fin M) (k : Fin N) :
    shapeCast ⟨3, ![1, M, N]⟩ y hc (ix3 (0 : Fin 1) r k) = y (ix2 r k) :=
  shapeCast_apply _ hc (ix3 (0 : Fin 1) r k) (ix2 r k) (by rw [Shape.rowMajor_val_two, Shape.rowMajor_val_three]; show r.val * N + k.val = (0 * M + r.val) * N + k.val; rw [Nat.zero_mul, Nat.zero_add])

/-! ## The stores -/

namespace GroupData

variable {D : Data} {T g : ℕ} {pb w : B S256x256} {z y : V S256x256} {ps : V S1x256}

theorem pc_dps (c : GroupData D (T * 256) g pb w z y ps) {pv P : S1x1024.Idx → EReal} (hpv : ∀ i, pv i = P i) {i1 hc} {o p : ℕ} {inb} (ho : o = 0)
    (hp : p = g * 256) (x : S1x256.Idx) :
    addf (φ := .f32) (shapeCast S1x256 (View.ld (Val := Elt Ideal) (S := S1x1024) (e' := .f32) pv (Rect.unit ![0, g * 256] ![1, 256] i1)) hc) (gDps pb w z y) x
      = plus P (tDps D T) ((Rect.unit (s := S1x1024) ![o, p] ![1, 256] inb).emb x) := by
  obtain ⟨r, k, rfl⟩ := ex2 x
  subst ho hp
  have hk := k.isLt
  rw [vadd, c.dps_coe]
  refine congrArg₂ (· + ·) ((congrFun (shapeCast_self _ _) _).trans (hpv _)) ?_
  unfold tDps
  rw [emb_val]
  show _ = ((∑ r : Fin 256, dpsT D (T * 256 + r.val) ((g * 256 + k.val) / 256) ((g * 256 + k.val) % 256) : ℝ) : EReal)
  rw [show (g * 256 + k.val) / 256 = g by omega, show (g * 256 + k.val) % 256 = k.val by omega]
theorem pc_dpw (c : GroupData D (T * 256) g pb w z y ps) {pv P : S4x256x256.Idx → EReal} (hpv : ∀ i, pv i = P i) {i1 hc hc'} {o : ℕ} {inb}
    (ho : o = g) (x : S1x256x256.Idx) :
    shapeCast S1x256x256 (addf (φ := .f32) (shapeCast S256x256 (View.ld (Val := Elt Ideal) (S := S4x256x256) (e' := .f32) pv (Rect.unit ![g, 0, 0] ![1, 256, 256] i1)) hc) (gDw pb z y ps)) hc' x
      = plus P (tDpw D T) ((Rect.unit (s := S4x256x256) ![o, 0, 0] ![1, 256, 256] inb).emb x) := by
  obtain ⟨a, r, k, rfl⟩ := ex3 x
  subst ho
  obtain rfl : a = 0 := Subsingleton.elim _ _
  rw [cast23,
    vadd, c.dw_coe,
    cast32]
  refine congrArg₂ (· + ·) (hpv _) ?_
  unfold tDpw
  rw [emb_val, emb_val, emb_val]
  show _ = ((∑ s : Fin 256, dpwT D (T * 256 + s.val) (o + 0) (0 + r.val) (0 + k.val) : ℝ) : EReal)
  rw [Nat.zero_add, Nat.zero_add, Nat.add_zero]

end GroupData

namespace ChunkData

variable {D : Data} {T h : ℕ} {w w' : V S128x128} {u v z y u' v' z' y' : V S128x256} {lg lb lg' lb' : V S1x256} {sb sb' : V S128x256}

theorem pc_dlg (c0 : ChunkData D (T * 256 + 0 * 128) h w u v z y lg lb sb) (c1 : ChunkData D (T * 256 + 1 * 128) h w' u' v' z' y' lg' lb' sb')
    {pv P : S1x1024.Idx → EReal} (hpv : ∀ i, pv i = P i) {i1 hc hc'} {o p : ℕ} {inb} (ho : o = 0) (hp : p = h * 256) (x : S1x256.Idx) :
    addf (φ := .f32) (shapeCast S1x256 (addf (φ := .f32) (shapeCast S1x256 (View.ld (Val := Elt Ideal) (S := S1x1024) (e' := .f32) pv (Rect.unit ![0, h * 256] ![1, 256] i1)) hc) (cDlg w u v z y)) hc') (cDlg w' u' v' z' y') x
      = plus P (tDlg D T) ((Rect.unit (s := S1x1024) ![o, p] ![1, 256] inb).emb x) := by
  obtain ⟨r, k, rfl⟩ := ex2 x
  subst ho hp
  have hk := k.isLt
  rw [vadd, c1.dlg_coe, shapeCast_self, vadd, c0.dlg_coe]
  unfold plus tDlg
  rw [emb_val, EReal.coe_add, ← add_assoc]
  show _ = P _ + ((dlgT D (T * 256 + 0 * 128) ((h * 256 + k.val) / 256) ((h * 256 + k.val) % 256) : ℝ) : EReal) + ((dlgT D (T * 256 + 1 * 128) ((h * 256 + k.val) / 256) ((h * 256 + k.val) % 256) : ℝ) : EReal)
  rw [show (h * 256 + k.val) / 256 = h by omega, show (h * 256 + k.val) % 256 = k.val by omega]
  exact congrArg (fun a => a + _ + _) ((congrFun (shapeCast_self _ _) _).trans (hpv _))
theorem pc_dlb (c0 : ChunkData D (T * 256 + 0 * 128) h w u v z y lg lb sb) (c1 : ChunkData D (T * 256 + 1 * 128) h w' u' v' z' y' lg' lb' sb')
    {pv P : S1x1024.Idx → EReal} (hpv : ∀ i, pv i = P i) {i1 hc hc'} {o p : ℕ} {inb} (ho : o = 0) (hp : p = h * 256) (x : S1x256.Idx) :
    addf (φ := .f32) (shapeCast S1x256 (addf (φ := .f32) (shapeCast S1x256 (View.ld (Val := Elt Ideal) (S := S1x1024) (e' := .f32) pv (Rect.unit ![0, h * 256] ![1, 256] i1)) hc) (cDlb w u z y)) hc') (cDlb w' u' z' y') x
      = plus P (tDlb D T) ((Rect.unit (s := S1x1024) ![o, p] ![1, 256] inb).emb x) := by
  obtain ⟨r, k, rfl⟩ := ex2 x
  subst ho hp
  have hk := k.isLt
  rw [vadd, c1.dlb_coe, shapeCast_self, vadd, c0.dlb_coe]
  unfold plus tDlb
  rw [emb_val, EReal.coe_add, ← add_assoc]
  show _ = P _ + ((dlbT D (T * 256 + 0 * 128) ((h * 256 + k.val) / 256) ((h * 256 + k.val) % 256) : ℝ) : EReal) + ((dlbT D (T * 256 + 1 * 128) ((h * 256 + k.val) / 256) ((h * 256 + k.val) % 256) : ℝ) : EReal)
  rw [show (h * 256 + k.val) / 256 = h by omega, show (h * 256 + k.val) % 256 = k.val by omega]
  exact congrArg (fun a => a + _ + _) ((congrFun (shapeCast_self _ _) _).trans (hpv _))

/-- The two chunks' shares of the weights' gradient over what is there. -/
def kDsw2 (pv : S4x128x128.Idx → EReal) (h : ℕ) (i1 : ∀ a : Fin S4x128x128.rank, ![h, 0, 0] a + ![1, 128, 128] a ≤ S4x128x128.size a) (a b : V S128x128) : V S1x128x128 :=
  shapeCast S1x128x128 (addf (φ := .f32) (shapeCast S128x128 (shapeCast S1x128x128 (addf (φ := .f32) (shapeCast S128x128
    (View.ld (Val := Elt Ideal) (S := S4x128x128) (e' := .f32) pv (Rect.unit ![h, 0, 0] ![1, 128, 128] i1)) shapeCasts_S1x128x128_S128x128) a)
    shapeCasts_S128x128_S1x128x128) shapeCasts_S1x128x128_S128x128) b) shapeCasts_S128x128_S1x128x128
theorem kDsw2_apply (pv : S4x128x128.Idx → EReal) (h : ℕ) (i1 : ∀ a : Fin S4x128x128.rank, ![h, 0, 0] a + ![1, 128, 128] a ≤ S4x128x128.size a) (a b : V S128x128) (r k : Fin 128) :
    kDsw2 pv h i1 a b (ix3 (0 : Fin 1) r k)
      = pv ((Rect.unit (s := S4x128x128) ![h, 0, 0] ![1, 128, 128] i1).emb (ix3 (0 : Fin 1) r k)) + a (ix2 r k) + b (ix2 r k) := by
  unfold kDsw2
  rw [cast23, vadd, cast32, cast23, vadd, cast32]
  rfl
theorem pc_dsw (c0 : ChunkData D (T * 256 + 0 * 128) h w u v z y lg lb sb) (c1 : ChunkData D (T * 256 + 1 * 128) h w' u' v' z' y' lg' lb' sb')
    {pv P : S4x128x128.Idx → EReal} (hpv : ∀ i, pv i = P i) {i1} {o : ℕ} {inb} (ho : o = h) (x : S1x128x128.Idx) :
    kDsw2 pv h i1 (cDsw u v z y lg lb) (cDsw u' v' z' y' lg' lb') x
      = plus P (tDsw D T) ((Rect.unit (s := S4x128x128) ![o, 0, 0] ![1, 128, 128] inb).emb x) := by
  obtain ⟨a, r, k, rfl⟩ := ex3 x
  subst ho
  obtain rfl : a = 0 := Subsingleton.elim _ _
  rw [kDsw2_apply, c0.dsw_coe, c1.dsw_coe, hpv]
  unfold plus tDsw
  rw [emb_val, emb_val, emb_val, EReal.coe_add, ← add_assoc]
  show _ = P _ + ((dswT D (T * 256 + 0 * 128) (o + 0) (0 + r.val) (0 + k.val) : ℝ) : EReal) + ((dswT D (T * 256 + 1 * 128) (o + 0) (0 + r.val) (0 + k.val) : ℝ) : EReal)
  rw [show o + 0 = o from rfl, Nat.zero_add r.val, Nat.zero_add k.val]
/-- At the last tile the rows' later columns are cleared. -/
theorem pc_dsw_last (c0 : ChunkData D (T * 256 + 0 * 128) h w u v z y lg lb sb) (c1 : ChunkData D (T * 256 + 1 * 128) h w' u' v' z' y' lg' lb' sb')
    {pv P : S4x128x128.Idx → EReal} (hpv : ∀ i, pv i = P i) {i1} {o : ℕ} {inb} (ho : o = h) (x : S1x128x128.Idx) :
    shapeCast S1x128x128 (kWm (shapeCast S128x128 (kDsw2 pv h i1 (cDsw u v z y lg lb) (cDsw u' v' z' y' lg' lb')) shapeCasts_S1x128x128_S128x128)) shapeCasts_S128x128_S1x128x128 x
      = (fun q : S4x128x128.Idx => if (q 2).val ≤ (q 1).val then plus P (tDsw D T) q else 0) ((Rect.unit (s := S4x128x128) ![o, 0, 0] ![1, 128, 128] inb).emb x) := by
  have e := pc_dsw c0 c1 hpv (i1 := i1) (inb := inb) ho x
  obtain ⟨a, r, k, rfl⟩ := ex3 x
  obtain rfl : a = 0 := Subsingleton.elim _ _
  rw [cast23, kWm_apply, cast32, e]
  show _ = if _ then _ else _
  simp only [emb_val]
  show _ = if 0 + k.val ≤ 0 + r.val then _ else _
  rw [Nat.zero_add, Nat.zero_add]

/-- The two chunks' shares of the offsets' gradient over what is there. -/
def kDsb2 (pv : S128x1024.Idx → EReal) (h : ℕ) (i1 : ∀ a : Fin S128x1024.rank, ![0, h * 256] a + ![128, 256] a ≤ S128x1024.size a) (a b : V S128x256) : V S128x256 :=
  shapeCast S128x256 (addf (φ := .f32) (shapeCast S128x256 (addf (φ := .f32)
    (View.ld (Val := Elt Ideal) (S := S128x1024) (e' := .f32) pv (Rect.unit ![0, h * 256] ![128, 256] i1)) a) shapeCasts_S128x256_S128x256) b) shapeCasts_S128x256_S128x256
theorem pc_dsb (c0 : ChunkData D (T * 256 + 0 * 128) h w u v z y lg lb sb) (c1 : ChunkData D (T * 256 + 1 * 128) h w' u' v' z' y' lg' lb' sb')
    {pv P : S128x1024.Idx → EReal} (hpv : ∀ i, pv i = P i) {i1} {o p : ℕ} {inb} (ho : o = 0) (hp : p = h * 256) (x : S128x256.Idx) :
    kDsb2 pv h i1 (cDsv u z y) (cDsv u' z' y') x
      = plus P (tDsb D T) ((Rect.unit (s := S128x1024) ![o, p] ![128, 256] inb).emb x) := by
  obtain ⟨r, k, rfl⟩ := ex2 x
  subst ho hp
  have hk := k.isLt
  refine (congrFun (shapeCast_self _ _) _).trans ((congrArg (· + _) (congrFun (shapeCast_self _ _) _)).trans ?_)
  rw [c1.dsv_coe, vadd, c0.dsv_coe]
  unfold plus tDsb
  rw [emb_val, emb_val, EReal.coe_add, ← add_assoc]
  show _ = P _ + ((dsv D (T * 256 + 0 * 128 + (0 + r.val)) ((h * 256 + k.val) / 256) ((h * 256 + k.val) % 256) : ℝ) : EReal) + ((dsv D (T * 256 + 1 * 128 + (0 + r.val)) ((h * 256 + k.val) / 256) ((h * 256 + k.val) % 256) : ℝ) : EReal)
  rw [show (h * 256 + k.val) / 256 = h by omega, show (h * 256 + k.val) % 256 = k.val by omega, Nat.zero_add]
  exact congrArg (fun a => a + _ + _) (hpv _)
/-- One head's offsets, summed over its channels, as a row. -/
def kDsbRow (a : V S128x256) : V S1x128 :=
  extractStridedSlice S1x128 ![0, 0] (transpose S128x128 [1, 0] (broadcastTo S128x128 (shapeCast S128x1 (shapeCast S128x1
    (multiReduction .add [1] S128 a 0x00000000#32 reduces_S128x256_S128 (.inl rfl) rfl) shapeCasts_S128_S128x1) shapeCasts_S128x1_S128x1) broadcasts_S128x1_S128x128)
    transposes_S128x128_p1_0_S128x128) slices_S128x128_o0_0_S1x128
theorem kDsbRow_apply (a : V S128x256) (q : Fin 1) (r : Fin 128) : kDsbRow a (ix2 q r) = ∑ k : Fin 256, a (ix2 r k) := by
  unfold kDsbRow; pointwise []
theorem pc_dsb_last (c0 : ChunkData D (T * 256 + 0 * 128) h w u v z y lg lb sb) (c1 : ChunkData D (T * 256 + 1 * 128) h w' u' v' z' y' lg' lb' sb')
    (hh : h < 4) {pv P : S128x1024.Idx → EReal} (hpv : ∀ i, pv i = P i) {i1} {o : ℕ} {inb} (ho : o = h) (x : S1x128.Idx) :
    kDsbRow (kDsb2 pv h i1 (cDsv u z y) (cDsv u' z' y')) x
      = (fun q : S4x128.Idx => ∑ k : Fin 256, plus P (tDsb D T) (ix2 (q 1) (⟨(q 0).val * 256 + k.val, by have h1 := k.isLt; have h2 : (q 0).val < 4 := (q 0).isLt; omega⟩ : Fin 1024)))
          ((Rect.unit (s := S4x128) ![o, 0] ![1, 128] inb).emb x) := by
  obtain ⟨a, r, rfl⟩ := ex2 x
  subst ho
  obtain rfl : a = 0 := Subsingleton.elim _ _
  rw [kDsbRow_apply]
  refine Finset.sum_congr rfl fun k _ => (pc_dsb c0 c1 hpv (o := 0) (p := o * 256) (inb := i1) rfl rfl (ix2 r k)).trans (congrArg _ ?_)
  funext b
  refine Fin.ext ?_
  have e0 := emb_val (s := S4x128) ![o, 0] ![1, 128] inb (ix2 (0 : Fin 1) r) 0
  have e1 := emb_val (s := S4x128) ![o, 0] ![1, 128] inb (ix2 (0 : Fin 1) r) 1
  match b with
  | ⟨0, _⟩ => exact (emb_val _ _ _ _ _).trans e1.symm
  | ⟨1, _⟩ =>
    refine (emb_val _ _ _ _ _).trans ?_
    show o * 256 + k.val = ((Rect.unit (s := S4x128) ![o, 0] ![1, 128] inb).emb (ix2 (0 : Fin 1) r) 0).val * 256 + k.val
    rw [e0]; rfl

end ChunkData

/-- Rows `o` on of a slab. -/
def slabRows (f : S1x256x256.Idx → EReal) (o : ℕ) (h : o + 32 ≤ 256) (y : S1x32x256.Idx) : EReal :=
  f (ix3 (0 : Fin 1) (⟨o + (y 1).val, by have h1 : (y 1).val < 32 := (y 1).isLt; omega⟩ : Fin 256) (y 2))

/-- What the last store over a group's slab holds is what a block of the slab reads. -/
theorem canon_slab {g o : ℕ} {i0 i1} {f : S1x256x256.Idx → EReal} {L : List (View.Piece (Elt Ideal) S4x256x256 .f32)} (y : S1x32x256.Idx) :
    View.canon (Val := Elt Ideal) ((⟨Rect.unit (s := S4x256x256) ![g, 0, 0] ![1, 256, 256] i0, f⟩ : View.Piece (Elt Ideal) S4x256x256 .f32) :: L)
        ((Rect.unit (s := S4x256x256) ![g, o, 0] ![1, 32, 256] i1).toLoadRect.idx y)
      = slabRows f o (i1 1) y := by
  obtain ⟨a, r, k, rfl⟩ := ex3 y
  obtain rfl : a = 0 := Subsingleton.elim _ _
  have e1 : (Rect.unit (s := S4x256x256) ![g, o, 0] ![1, 32, 256] i1).toLoadRect.idx (ix3 (0 : Fin 1) r k)
      = (Rect.unit (s := S4x256x256) ![g, 0, 0] ![1, 256, 256] i0).emb (ix3 (0 : Fin 1) (⟨o + r.val, by have h : o + 32 ≤ 256 := i1 1; have h1 := r.isLt; omega⟩ : Fin 256) k) := by
    funext d
    refine Fin.ext ((emb_val _ _ _ _ _).trans (Eq.trans ?_ (emb_val _ _ _ _ _).symm))
    match d with
    | ⟨0, _⟩ => rfl
    | ⟨1, _⟩ => exact (Nat.zero_add _).symm
    | ⟨2, _⟩ => rfl
  exact (congrArg _ e1).trans (View.canon_cons_emb _ _ _ _)

/-- A block of the weights' gradient taken out to the array the ranks share. -/
theorem pc_flush {G : S4x256x256.Idx → EReal} {g j o : ℕ} {hc hc' inb} {h : o + 32 ≤ 256} {f : S1x256x256.Idx → EReal}
    (ho : o = j * 32) (hj : j < 8) {i0} (hf : ∀ x, f x = G ((Rect.unit (s := S4x256x256) ![g, 0, 0] ![1, 256, 256] i0).emb x)) (x : S1x1x32x256.Idx) :
    shapeCast S1x1x32x256 (shapeCast S32x256 (slabRows f o h) hc) hc' x
      = (fun q : S8x4x32x256.Idx => G (ix3 (q 1) (⟨(q 0).val * 32 + (q 2).val, by have h1 : (q 0).val < 8 := (q 0).isLt; have h2 : (q 2).val < 32 := (q 2).isLt; omega⟩ : Fin 256) (q 3)))
          ((Rect.unit (s := S8x4x32x256) ![j, g, 0, 0] ![1, 1, 32, 256] inb).emb x) := by
  obtain ⟨a, b, r, k, rfl⟩ := ex4 x
  obtain rfl : a = 0 := Subsingleton.elim _ _
  obtain rfl : b = 0 := Subsingleton.elim _ _
  subst ho
  rw [shapeCast_apply _ hc' (ix4 (0 : Fin 1) (0 : Fin 1) r k) (ix2 r k) (by rw [Shape.rowMajor_val_two, Shape.rowMajor_val_four]; show r.val * 256 + k.val = ((0 * 1 + 0) * 32 + r.val) * 256 + k.val; omega),
    cast32]
  refine (hf _).trans (congrArg G ?_)
  funext d
  refine Fin.ext ?_
  have e (a) := emb_val (s := S8x4x32x256) ![j, g, 0, 0] ![1, 1, 32, 256] inb (ix4 (0 : Fin 1) (0 : Fin 1) r k) a
  match d with
  | ⟨0, _⟩ => exact (emb_val _ _ _ _ _).trans (e 1).symm
  | ⟨1, _⟩ =>
    refine (emb_val _ _ _ _ _).trans ?_
    show 0 + (j * 32 + r.val) = ((Rect.unit (s := S8x4x32x256) ![j, g, 0, 0] ![1, 1, 32, 256] inb).emb (ix4 (0 : Fin 1) (0 : Fin 1) r k) 0).val * 32
      + ((Rect.unit (s := S8x4x32x256) ![j, g, 0, 0] ![1, 1, 32, 256] inb).emb (ix4 (0 : Fin 1) (0 : Fin 1) r k) 2).val
    rw [e 0, e 2]
    show 0 + (j * 32 + r.val) = (j + 0) * 32 + (0 + r.val)
    omega
  | ⟨2, _⟩ => exact (emb_val _ _ _ _ _).trans (e 3).symm

/-! ## Quarters of an array -/

theorem quarter_row {i3 i2 i1 i0} (y : S1x1024.Idx) :
    y ∈ (Rect.unit (s := S1x1024) ![0, 3 * 256] ![1, 256] i3).set ∨ y ∈ (Rect.unit (s := S1x1024) ![0, 2 * 256] ![1, 256] i2).set
      ∨ y ∈ (Rect.unit (s := S1x1024) ![0, 1 * 256] ![1, 256] i1).set ∨ y ∈ (Rect.unit (s := S1x1024) ![0, 0] ![1, 256] i0).set := by
  have h0 : (y 0).val < 1 := (y 0).isLt
  have h1 : (y 1).val < 1024 := (y 1).isLt
  have k : ∀ (o : ℕ) (i), o ≤ (y 1).val → (y 1).val < o + 256 → y ∈ (Rect.unit (s := S1x1024) ![0, o] ![1, 256] i).set := fun o i a b =>
    Rect.mem_set_unit.mpr fun d => match d with
      | ⟨0, _⟩ => ⟨Nat.zero_le _, h0⟩
      | ⟨1, _⟩ => ⟨a, b⟩
  by_cases c3 : 768 ≤ (y 1).val
  · exact .inl (k _ _ c3 (by omega))
  by_cases c2 : 512 ≤ (y 1).val
  · exact .inr (.inl (k _ _ c2 (by omega)))
  by_cases c1 : 256 ≤ (y 1).val
  · exact .inr (.inr (.inl (k _ _ c1 (by omega))))
  · exact .inr (.inr (.inr (k _ _ (Nat.zero_le _) (by omega))))
theorem quarter_sb {i3 i2 i1 i0} (y : S128x1024.Idx) :
    y ∈ (Rect.unit (s := S128x1024) ![0, 3 * 256] ![128, 256] i3).set ∨ y ∈ (Rect.unit (s := S128x1024) ![0, 2 * 256] ![128, 256] i2).set
      ∨ y ∈ (Rect.unit (s := S128x1024) ![0, 1 * 256] ![128, 256] i1).set ∨ y ∈ (Rect.unit (s := S128x1024) ![0, 0] ![128, 256] i0).set := by
  have h0 : (y 0).val < 128 := (y 0).isLt
  have h1 : (y 1).val < 1024 := (y 1).isLt
  have k : ∀ (o : ℕ) (i), o ≤ (y 1).val → (y 1).val < o + 256 → y ∈ (Rect.unit (s := S128x1024) ![0, o] ![128, 256] i).set := fun o i a b =>
    Rect.mem_set_unit.mpr fun d => match d with
      | ⟨0, _⟩ => ⟨Nat.zero_le _, (Nat.zero_add 128).symm ▸ h0⟩
      | ⟨1, _⟩ => ⟨a, b⟩
  by_cases c3 : 768 ≤ (y 1).val
  · exact .inl (k _ _ c3 (by omega))
  by_cases c2 : 512 ≤ (y 1).val
  · exact .inr (.inl (k _ _ c2 (by omega)))
  by_cases c1 : 256 ≤ (y 1).val
  · exact .inr (.inr (.inl (k _ _ c1 (by omega))))
  · exact .inr (.inr (.inr (k _ _ (Nat.zero_le _) (by omega))))
theorem quarter_sw {i3 i2 i1 i0} (y : S4x128x128.Idx) :
    y ∈ (Rect.unit (s := S4x128x128) ![3, 0, 0] ![1, 128, 128] i3).set ∨ y ∈ (Rect.unit (s := S4x128x128) ![2, 0, 0] ![1, 128, 128] i2).set
      ∨ y ∈ (Rect.unit (s := S4x128x128) ![1, 0, 0] ![1, 128, 128] i1).set ∨ y ∈ (Rect.unit (s := S4x128x128) ![0, 0, 0] ![1, 128, 128] i0).set := by
  have h0 : (y 0).val < 4 := (y 0).isLt
  have h1 : (y 1).val < 128 := (y 1).isLt
  have h2 : (y 2).val < 128 := (y 2).isLt
  have k : ∀ (o : ℕ) (i), (y 0).val = o → y ∈ (Rect.unit (s := S4x128x128) ![o, 0, 0] ![1, 128, 128] i).set := fun o i a =>
    Rect.mem_set_unit.mpr fun d => match d with
      | ⟨0, _⟩ => ⟨a.ge, Nat.lt_succ_of_le a.le⟩
      | ⟨1, _⟩ => ⟨Nat.zero_le _, (Nat.zero_add 128).symm ▸ h1⟩
      | ⟨2, _⟩ => ⟨Nat.zero_le _, (Nat.zero_add 128).symm ▸ h2⟩
  by_cases c3 : (y 0).val = 3
  · exact .inl (k _ _ c3)
  by_cases c2 : (y 0).val = 2
  · exact .inr (.inl (k _ _ c2))
  by_cases c1 : (y 0).val = 1
  · exact .inr (.inr (.inl (k _ _ c1)))
  · exact .inr (.inr (.inr (k _ _ (by omega))))

end Mixers.K
-- ==== Proof.Point.lean ====
/-
  One grid point: its blocks are the real data of its tile, and what the first point stores before it works is zero.
-/
module

public import proofs.«01_k».proof.Proof.Pieces
public import proofs.«01_k».proof.Proof.Gen.KernelIdeal.Value

@[expose] public section

set_option maxRecDepth 16384

noncomputable section

namespace Mixers.K

open Cert.KernelIdeal Cert.KernelIdeal.Gen Idealize.ShloMosaic Idealize.ShloMosaic.Pipeline

variable (m : (ℓ : Loc nD τ Cert.KernelIdeal.sig) → Buf (Elt Ideal) ℓ) (c : Dev nD)

/-- The blocks of grid point `t` are the real data of tile `T`. -/
def PointIn (D : Data) (T : ℕ) (t : Fin cfg0.N) : Prop :=
  TileIn D T (iblk m c 0 t) (iblk m c 1 t) (iblk m c 3 t) (iblk m c 5 t) (iblk m c 6 t) (iblk m c 7 t) (iblk m c 8 t) (iblk m c 9 t)
    (iblk m c 10 t) (iblk m c 11 t)
/-- The tile's number, as the kernel's word computes it. -/
def PointTile (T : ℕ) (t : Fin cfg0.N) : Prop := Scalar.subi (31#32) (BitVec.ofNat 32 (grid0.coords t 0).val) = BitVec.ofNat 32 T
/-- The point before. -/
abbrev prev (t : Fin cfg0.N) := outsAt0 m c (t.val - 1) (Nat.lt_of_le_of_lt (Nat.sub_le _ _) t.isLt)
/-- The rows carried from the point before. -/
def CarryHi (D : Data) (T : ℕ) (t : Fin cfg0.N) : Prop :=
  ∀ i : S384x1024.Idx, (i 0).val < 16 → (prev m c t).2.2.2.2.2.2.2.2.1 i = GQ D (T + 1) i
def CarryLo (t : Fin cfg0.N) : Prop :=
  ∀ i : S384x1024.Idx, (i 0).val < 16 → (prev m c t).2.2.2.2.2.2.2.2.2.1 i = (0 : EReal)

theorem fill0 {hc} (i : S384x1024.Idx) : shapeCast S384x1024 (broadcast S384x1024 (FloatOps.ofBits (F := Ideal) .bf16 0#16)) hc i = (0 : EReal) := by
  rw [shapeCast_self]
  show Ideal.ofBits .bf16 0#16 = 0
  norm_num [Ideal.ofBits, Ideal.ieee]

/-- Past the last token there is nothing. -/
theorem GQ_end (D : Data) (i : S384x1024.Idx) : GQ D (31 + 1) i = 0 := by
  unfold GQ qx
  rw [if_neg (by omega)]
  rfl

end Mixers.K
-- ==== Proof.DhA.lean ====
/-
  The hidden gradient's block at a first point: the real function at the tile's tokens.
-/
module

public import proofs.«01_k».proof.Proof.Point

@[expose] public section

set_option maxRecDepth 16384

noncomputable section

namespace Mixers.K

open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dh_A (D : Data) (t : Fin cfg0.N) (h0 : t.val % 32 = 0) (h1 : ¬t.val % 32 = 31) (X : PointIn m c D 31 t) (hv : PointTile 31 t)
    (y : S256x5120.Idx) : (outsAt0 m c t.val t.isLt).1 y = GDH D 31 y := by
  unfold PointIn at X
  unfold PointTile at hv
  rw [outsAt0_A m c t h0 h1]
  dsimp only
  frame_open
  simp (disch := decide) only [↓ View.readCov_skip, ↓ View.readCov_cons_toLoadRect, ↓ View.readCov_fill]
  frame_out
  refine canon_pieces (e := .bf16) (G := GDH D 31) ?_ y (View.cover_of_tiledBy _ ![128, 256] (by sl_kernel_rfl) y)
  exact ⟨fun x => (X.chunk 1 3 (by decide) (i8 := by decide) (i10 := by decide) (c10 := shapeCasts_S128x256_S128x256)).pc_dv (inb := by decide) (by decide) rfl rfl x,
    fun x => (X.chunk 1 3 (by decide)).pc_du (inb := by decide) (by decide) rfl rfl x,
    fun x => (X.chunk 1 3 (by decide)).pc_dzs (inb := by decide) (by decide) rfl rfl x,
    fun x => (X.chunk 0 3 (by decide) (i8 := by decide) (i10 := by decide) (c10 := shapeCasts_S128x256_S128x256)).pc_dv (inb := by decide) (by decide) rfl rfl x,
    fun x => (X.chunk 0 3 (by decide)).pc_du (inb := by decide) (by decide) rfl rfl x,
    fun x => (X.chunk 0 3 (by decide)).pc_dzs (inb := by decide) (by decide) rfl rfl x,
    fun x => (X.chunk 1 2 (by decide) (i8 := by decide) (i10 := by decide) (c10 := shapeCasts_S128x256_S128x256)).pc_dv (inb := by decide) (by decide) rfl rfl x,
    fun x => (X.chunk 1 2 (by decide)).pc_du (inb := by decide) (by decide) rfl rfl x,
    fun x => (X.chunk 1 2 (by decide)).pc_dzs (inb := by decide) (by decide) rfl rfl x,
    fun x => (X.chunk 0 2 (by decide) (i8 := by decide) (i10 := by decide) (c10 := shapeCasts_S128x256_S128x256)).pc_dv (inb := by decide) (by decide) rfl rfl x,
    fun x => (X.chunk 0 2 (by decide)).pc_du (inb := by decide) (by decide) rfl rfl x,
    fun x => (X.chunk 0 2 (by decide)).pc_dzs (inb := by decide) (by decide) rfl rfl x,
    fun x => (X.chunk 1 1 (by decide) (i8 := by decide) (i10 := by decide) (c10 := shapeCasts_S128x256_S128x256)).pc_dv (inb := by decide) (by decide) rfl rfl x,
    fun x => (X.chunk 1 1 (by decide)).pc_du (inb := by decide) (by decide) rfl rfl x,
    fun x => (X.chunk 1 1 (by decide)).pc_dzs (inb := by decide) (by decide) rfl rfl x,
    fun x => (X.chunk 0 1 (by decide) (i8 := by decide) (i10 := by decide) (c10 := shapeCasts_S128x256_S128x256)).pc_dv (inb := by decide) (by decide) rfl rfl x,
    fun x => (X.chunk 0 1 (by decide)).pc_du (inb := by decide) (by decide) rfl rfl x,
    fun x => (X.chunk 0 1 (by decide)).pc_dzs (inb := by decide) (by decide) rfl rfl x,
    fun x => (X.chunk 1 0 (by decide) (i8 := by decide) (i10 := by decide) (c10 := shapeCasts_S128x256_S128x256)).pc_dv (inb := by decide) (by decide) rfl rfl x,
    fun x => (X.chunk 1 0 (by decide)).pc_du (inb := by decide) (by decide) rfl rfl x,
    fun x => (X.chunk 1 0 (by decide)).pc_dzs (inb := by decide) (by decide) rfl rfl x,
    fun x => (X.chunk 0 0 (by decide) (i8 := by decide) (i10 := by decide) (c10 := shapeCasts_S128x256_S128x256)).pc_dv (inb := by decide) (by decide) rfl rfl x,
    fun x => (X.chunk 0 0 (by decide)).pc_du (inb := by decide) (by decide) rfl rfl x,
    fun x => (X.chunk 0 0 (by decide)).pc_dzs (inb := by decide) (by decide) rfl rfl x,
    fun x => (X.group 3 (i3 := by decide) (c3 := shapeCasts_S256x256_S256x256)).pc_da (inb := by decide) (by decide) (X.band 3)
    (by exact fun i hi => cov_scr_hi 5 (g := 3) i hi (by exact ⟨fun x => (X.group 3 (i3 := by decide) (c3 := shapeCasts_S256x256_S256x256)).pq_hi (inb := by decide) X.hT (by decide) hv rfl rfl rfl x, fun x => (X.group 2 (i3 := by decide) (c3 := shapeCasts_S256x256_S256x256)).pq_hi (inb := by decide) X.hT (by decide) hv rfl rfl rfl x, fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (fill0 (hc := shapeCasts_S384x1024_S384x1024) i).trans (GQ_end D i).symm) x, trivial⟩) (by exact .head _) (by exact (.tail _ (.tail _ (.tail _ (.tail _ (.head _)))))) (by exact fun y h0 h1 h2 => cov_top (inb := by decide) y h0 h1 h2) (by exact fun y h0 h1 => cov_row (inb := by decide) y h0 h1))
    (by exact fun i hi => cov_scr_lo 5 (g := 3) i hi (by exact ⟨fun x => (X.group 3 (i3 := by decide) (c3 := shapeCasts_S256x256_S256x256)).pq_lo (inb := by decide) X.hT (by decide) hv rfl x, fun x => (X.group 2 (i3 := by decide) (c3 := shapeCasts_S256x256_S256x256)).pq_lo (inb := by decide) X.hT (by decide) hv rfl x, fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i _ => fill0 (hc := shapeCasts_S384x1024_S384x1024) i) x, trivial⟩) (by exact .head _) (by exact (.tail _ (.tail _ (.tail _ (.tail _ (.head _)))))) (by exact fun y h0 h1 h2 => cov_top (inb := by decide) y h0 h1 h2) (by exact fun y h0 h1 => cov_row (inb := by decide) y h0 h1)) rfl rfl x,
    fun x => (X.group 3).pc_dz (inb := by decide) (by decide) rfl rfl x,
    fun x => (X.group 2 (i3 := by decide) (c3 := shapeCasts_S256x256_S256x256)).pc_da (inb := by decide) (by decide) (X.band 2)
    (by exact fun i hi => cov_scr_hi 4 (g := 2) i hi (by exact ⟨fun x => (X.group 2 (i3 := by decide) (c3 := shapeCasts_S256x256_S256x256)).pq_hi (inb := by decide) X.hT (by decide) hv rfl rfl rfl x, fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (fill0 (hc := shapeCasts_S384x1024_S384x1024) i).trans (GQ_end D i).symm) x, trivial⟩) (by exact .head _) (by exact (.tail _ (.tail _ (.tail _ (.head _))))) (by exact fun y h0 h1 h2 => cov_top (inb := by decide) y h0 h1 h2) (by exact fun y h0 h1 => cov_row (inb := by decide) y h0 h1))
    (by exact fun i hi => cov_scr_lo 4 (g := 2) i hi (by exact ⟨fun x => (X.group 2 (i3 := by decide) (c3 := shapeCasts_S256x256_S256x256)).pq_lo (inb := by decide) X.hT (by decide) hv rfl x, fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i _ => fill0 (hc := shapeCasts_S384x1024_S384x1024) i) x, trivial⟩) (by exact .head _) (by exact (.tail _ (.tail _ (.tail _ (.head _))))) (by exact fun y h0 h1 h2 => cov_top (inb := by decide) y h0 h1 h2) (by exact fun y h0 h1 => cov_row (inb := by decide) y h0 h1)) rfl rfl x,
    fun x => (X.group 2).pc_dz (inb := by decide) (by decide) rfl rfl x,
    fun x => (X.group 1 (i3 := by decide) (c3 := shapeCasts_S256x256_S256x256)).pc_da (inb := by decide) (by decide) (X.band 1)
    (by exact fun i hi => cov_scr_hi 3 (g := 1) i hi (by exact ⟨fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (fill0 (hc := shapeCasts_S384x1024_S384x1024) i).trans (GQ_end D i).symm) x, trivial⟩) (by exact .head _) (by exact (.tail _ (.tail _ (.head _)))) (by exact fun y h0 h1 h2 => cov_top (inb := by decide) y h0 h1 h2) (by exact fun y h0 h1 => cov_row (inb := by decide) y h0 h1))
    (by exact fun i hi => cov_scr_lo 3 (g := 1) i hi (by exact ⟨fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i _ => fill0 (hc := shapeCasts_S384x1024_S384x1024) i) x, trivial⟩) (by exact .head _) (by exact (.tail _ (.tail _ (.head _)))) (by exact fun y h0 h1 h2 => cov_top (inb := by decide) y h0 h1 h2) (by exact fun y h0 h1 => cov_row (inb := by decide) y h0 h1)) rfl rfl x,
    fun x => (X.group 1).pc_dz (inb := by decide) (by decide) rfl rfl x,
    fun x => (X.group 0 (i3 := by decide) (c3 := shapeCasts_S256x256_S256x256)).pc_da (inb := by decide) (by decide) (X.band 0)
    (by exact fun i hi => cov_scr_hi 2 (g := 0) i hi (by exact ⟨fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (fill0 (hc := shapeCasts_S384x1024_S384x1024) i).trans (GQ_end D i).symm) x, trivial⟩) (by exact .head _) (by exact (.tail _ (.head _))) (by exact fun y h0 h1 h2 => cov_top (inb := by decide) y h0 h1 h2) (by exact fun y h0 h1 => cov_row (inb := by decide) y h0 h1))
    (by exact fun i hi => cov_scr_lo 2 (g := 0) i hi (by exact ⟨fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i _ => fill0 (hc := shapeCasts_S384x1024_S384x1024) i) x, trivial⟩) (by exact .head _) (by exact (.tail _ (.head _))) (by exact fun y h0 h1 h2 => cov_top (inb := by decide) y h0 h1 h2) (by exact fun y h0 h1 => cov_row (inb := by decide) y h0 h1)) rfl rfl x,
    fun x => (X.group 0).pc_dz (inb := by decide) (by decide) rfl rfl x,
    trivial⟩

end Mixers.K
-- ==== Proof.DhB.lean ====
/-
  The hidden gradient's block at a middle point: the real function at the tile's tokens.
-/
module

public import proofs.«01_k».proof.Proof.Point

@[expose] public section

set_option maxRecDepth 16384

noncomputable section

namespace Mixers.K

open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dh_B (D : Data) (T : ℕ) (t : Fin cfg0.N) (h0 : ¬t.val % 32 = 0) (h1 : ¬t.val % 32 = 31) (X : PointIn m c D T t) (hv : PointTile T t)
    (ph : CarryHi m c D T t) (pl : CarryLo m c t)
    (y : S256x5120.Idx) : (outsAt0 m c t.val t.isLt).1 y = GDH D T y := by
  unfold PointIn at X
  unfold PointTile at hv
  rw [outsAt0_B m c t h0 h1]
  dsimp only
  frame_open
  simp (disch := decide) only [↓ View.readCov_skip, ↓ View.readCov_cons_toLoadRect, ↓ View.readCov_fill]
  frame_out
  refine canon_pieces (e := .bf16) (G := GDH D T) ?_ y (View.cover_of_tiledBy _ ![128, 256] (by sl_kernel_rfl) y)
  exact ⟨fun x => (X.chunk 1 3 (by decide) (i8 := by decide) (i10 := by decide) (c10 := shapeCasts_S128x256_S128x256)).pc_dv (inb := by decide) (by decide) rfl rfl x,
    fun x => (X.chunk 1 3 (by decide)).pc_du (inb := by decide) (by decide) rfl rfl x,
    fun x => (X.chunk 1 3 (by decide)).pc_dzs (inb := by decide) (by decide) rfl rfl x,
    fun x => (X.chunk 0 3 (by decide) (i8 := by decide) (i10 := by decide) (c10 := shapeCasts_S128x256_S128x256)).pc_dv (inb := by decide) (by decide) rfl rfl x,
    fun x => (X.chunk 0 3 (by decide)).pc_du (inb := by decide) (by decide) rfl rfl x,
    fun x => (X.chunk 0 3 (by decide)).pc_dzs (inb := by decide) (by decide) rfl rfl x,
    fun x => (X.chunk 1 2 (by decide) (i8 := by decide) (i10 := by decide) (c10 := shapeCasts_S128x256_S128x256)).pc_dv (inb := by decide) (by decide) rfl rfl x,
    fun x => (X.chunk 1 2 (by decide)).pc_du (inb := by decide) (by decide) rfl rfl x,
    fun x => (X.chunk 1 2 (by decide)).pc_dzs (inb := by decide) (by decide) rfl rfl x,
    fun x => (X.chunk 0 2 (by decide) (i8 := by decide) (i10 := by decide) (c10 := shapeCasts_S128x256_S128x256)).pc_dv (inb := by decide) (by decide) rfl rfl x,
    fun x => (X.chunk 0 2 (by decide)).pc_du (inb := by decide) (by decide) rfl rfl x,
    fun x => (X.chunk 0 2 (by decide)).pc_dzs (inb := by decide) (by decide) rfl rfl x,
    fun x => (X.chunk 1 1 (by decide) (i8 := by decide) (i10 := by decide) (c10 := shapeCasts_S128x256_S128x256)).pc_dv (inb := by decide) (by decide) rfl rfl x,
    fun x => (X.chunk 1 1 (by decide)).pc_du (inb := by decide) (by decide) rfl rfl x,
    fun x => (X.chunk 1 1 (by decide)).pc_dzs (inb := by decide) (by decide) rfl rfl x,
    fun x => (X.chunk 0 1 (by decide) (i8 := by decide) (i10 := by decide) (c10 := shapeCasts_S128x256_S128x256)).pc_dv (inb := by decide) (by decide) rfl rfl x,
    fun x => (X.chunk 0 1 (by decide)).pc_du (inb := by decide) (by decide) rfl rfl x,
    fun x => (X.chunk 0 1 (by decide)).pc_dzs (inb := by decide) (by decide) rfl rfl x,
    fun x => (X.chunk 1 0 (by decide) (i8 := by decide) (i10 := by decide) (c10 := shapeCasts_S128x256_S128x256)).pc_dv (inb := by decide) (by decide) rfl rfl x,
    fun x => (X.chunk 1 0 (by decide)).pc_du (inb := by decide) (by decide) rfl rfl x,
    fun x => (X.chunk 1 0 (by decide)).pc_dzs (inb := by decide) (by decide) rfl rfl x,
    fun x => (X.chunk 0 0 (by decide) (i8 := by decide) (i10 := by decide) (c10 := shapeCasts_S128x256_S128x256)).pc_dv (inb := by decide) (by decide) rfl rfl x,
    fun x => (X.chunk 0 0 (by decide)).pc_du (inb := by decide) (by decide) rfl rfl x,
    fun x => (X.chunk 0 0 (by decide)).pc_dzs (inb := by decide) (by decide) rfl rfl x,
    fun x => (X.group 3 (i3 := by decide) (c3 := shapeCasts_S256x256_S256x256)).pc_da (inb := by decide) (by decide) (X.band 3)
    (by exact fun i hi => ld_scr_hi (g := 3) i hi (by exact ⟨fun x => (X.group 3 (i3 := by decide) (c3 := shapeCasts_S256x256_S256x256)).pq_hi (inb := by decide) X.hT (by decide) hv rfl rfl rfl x, fun x => (X.group 2 (i3 := by decide) (c3 := shapeCasts_S256x256_S256x256)).pq_hi (inb := by decide) X.hT (by decide) hv rfl rfl rfl x, fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.tail _ (.tail _ (.tail _ (.head _)))))) (by exact fun y h0 h1 h2 => cov_top (inb := by decide) y h0 h1 h2) (by exact fun y h0 h1 => cov_row (inb := by decide) y h0 h1))
    (by exact fun i hi => ld_scr_lo (g := 3) i hi (by exact ⟨fun x => (X.group 3 (i3 := by decide) (c3 := shapeCasts_S256x256_S256x256)).pq_lo (inb := by decide) X.hT (by decide) hv rfl x, fun x => (X.group 2 (i3 := by decide) (c3 := shapeCasts_S256x256_S256x256)).pq_lo (inb := by decide) X.hT (by decide) hv rfl x, fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.tail _ (.tail _ (.tail _ (.head _)))))) (by exact fun y h0 h1 h2 => cov_top (inb := by decide) y h0 h1 h2) (by exact fun y h0 h1 => cov_row (inb := by decide) y h0 h1)) rfl rfl x,
    fun x => (X.group 3).pc_dz (inb := by decide) (by decide) rfl rfl x,
    fun x => (X.group 2 (i3 := by decide) (c3 := shapeCasts_S256x256_S256x256)).pc_da (inb := by decide) (by decide) (X.band 2)
    (by exact fun i hi => ld_scr_hi (g := 2) i hi (by exact ⟨fun x => (X.group 2 (i3 := by decide) (c3 := shapeCasts_S256x256_S256x256)).pq_hi (inb := by decide) X.hT (by decide) hv rfl rfl rfl x, fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.tail _ (.tail _ (.head _))))) (by exact fun y h0 h1 h2 => cov_top (inb := by decide) y h0 h1 h2) (by exact fun y h0 h1 => cov_row (inb := by decide) y h0 h1))
    (by exact fun i hi => ld_scr_lo (g := 2) i hi (by exact ⟨fun x => (X.group 2 (i3 := by decide) (c3 := shapeCasts_S256x256_S256x256)).pq_lo (inb := by decide) X.hT (by decide) hv rfl x, fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.tail _ (.tail _ (.head _))))) (by exact fun y h0 h1 h2 => cov_top (inb := by decide) y h0 h1 h2) (by exact fun y h0 h1 => cov_row (inb := by decide) y h0 h1)) rfl rfl x,
    fun x => (X.group 2).pc_dz (inb := by decide) (by decide) rfl rfl x,
    fun x => (X.group 1 (i3 := by decide) (c3 := shapeCasts_S256x256_S256x256)).pc_da (inb := by decide) (by decide) (X.band 1)
    (by exact fun i hi => ld_scr_hi (g := 1) i hi (by exact ⟨fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.tail _ (.head _)))) (by exact fun y h0 h1 h2 => cov_top (inb := by decide) y h0 h1 h2) (by exact fun y h0 h1 => cov_row (inb := by decide) y h0 h1))
    (by exact fun i hi => ld_scr_lo (g := 1) i hi (by exact ⟨fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.tail _ (.head _)))) (by exact fun y h0 h1 h2 => cov_top (inb := by decide) y h0 h1 h2) (by exact fun y h0 h1 => cov_row (inb := by decide) y h0 h1)) rfl rfl x,
    fun x => (X.group 1).pc_dz (inb := by decide) (by decide) rfl rfl x,
    fun x => (X.group 0 (i3 := by decide) (c3 := shapeCasts_S256x256_S256x256)).pc_da (inb := by decide) (by decide) (X.band 0)
    (by exact fun i hi => ld_scr_hi (g := 0) i hi (by exact ⟨fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.head _))) (by exact fun y h0 h1 h2 => cov_top (inb := by decide) y h0 h1 h2) (by exact fun y h0 h1 => cov_row (inb := by decide) y h0 h1))
    (by exact fun i hi => ld_scr_lo (g := 0) i hi (by exact ⟨fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.head _))) (by exact fun y h0 h1 h2 => cov_top (inb := by decide) y h0 h1 h2) (by exact fun y h0 h1 => cov_row (inb := by decide) y h0 h1)) rfl rfl x,
    fun x => (X.group 0).pc_dz (inb := by decide) (by decide) rfl rfl x,
    trivial⟩

end Mixers.K
-- ==== Proof.DhC.lean ====
/-
  The hidden gradient's block at a last point: the real function at the tile's tokens.
-/
module

public import proofs.«01_k».proof.Proof.Point

@[expose] public section

set_option maxRecDepth 16384

noncomputable section

namespace Mixers.K

open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dh_C (D : Data) (T : ℕ) (t : Fin cfg0.N) (h0 : ¬t.val % 32 = 0) (h1 : t.val % 32 = 31) (X : PointIn m c D T t) (hv : PointTile T t)
    (ph : CarryHi m c D T t) (pl : CarryLo m c t)
    (y : S256x5120.Idx) : (outsAt0 m c t.val t.isLt).1 y = GDH D T y := by
  unfold PointIn at X
  unfold PointTile at hv
  rw [outsAt0_C m c t h0 h1]
  dsimp only
  frame_open
  simp (disch := decide) only [↓ View.readCov_skip, ↓ View.readCov_cons_toLoadRect, ↓ View.readCov_fill]
  frame_out
  refine canon_pieces (e := .bf16) (G := GDH D T) ?_ y (View.cover_of_tiledBy _ ![128, 256] (by sl_kernel_rfl) y)
  exact ⟨fun x => (X.chunk 1 3 (by decide) (i8 := by decide) (i10 := by decide) (c10 := shapeCasts_S128x256_S128x256)).pc_dv (inb := by decide) (by decide) rfl rfl x,
    fun x => (X.chunk 1 3 (by decide)).pc_du (inb := by decide) (by decide) rfl rfl x,
    fun x => (X.chunk 1 3 (by decide)).pc_dzs (inb := by decide) (by decide) rfl rfl x,
    fun x => (X.chunk 0 3 (by decide) (i8 := by decide) (i10 := by decide) (c10 := shapeCasts_S128x256_S128x256)).pc_dv (inb := by decide) (by decide) rfl rfl x,
    fun x => (X.chunk 0 3 (by decide)).pc_du (inb := by decide) (by decide) rfl rfl x,
    fun x => (X.chunk 0 3 (by decide)).pc_dzs (inb := by decide) (by decide) rfl rfl x,
    fun x => (X.chunk 1 2 (by decide) (i8 := by decide) (i10 := by decide) (c10 := shapeCasts_S128x256_S128x256)).pc_dv (inb := by decide) (by decide) rfl rfl x,
    fun x => (X.chunk 1 2 (by decide)).pc_du (inb := by decide) (by decide) rfl rfl x,
    fun x => (X.chunk 1 2 (by decide)).pc_dzs (inb := by decide) (by decide) rfl rfl x,
    fun x => (X.chunk 0 2 (by decide) (i8 := by decide) (i10 := by decide) (c10 := shapeCasts_S128x256_S128x256)).pc_dv (inb := by decide) (by decide) rfl rfl x,
    fun x => (X.chunk 0 2 (by decide)).pc_du (inb := by decide) (by decide) rfl rfl x,
    fun x => (X.chunk 0 2 (by decide)).pc_dzs (inb := by decide) (by decide) rfl rfl x,
    fun x => (X.chunk 1 1 (by decide) (i8 := by decide) (i10 := by decide) (c10 := shapeCasts_S128x256_S128x256)).pc_dv (inb := by decide) (by decide) rfl rfl x,
    fun x => (X.chunk 1 1 (by decide)).pc_du (inb := by decide) (by decide) rfl rfl x,
    fun x => (X.chunk 1 1 (by decide)).pc_dzs (inb := by decide) (by decide) rfl rfl x,
    fun x => (X.chunk 0 1 (by decide) (i8 := by decide) (i10 := by decide) (c10 := shapeCasts_S128x256_S128x256)).pc_dv (inb := by decide) (by decide) rfl rfl x,
    fun x => (X.chunk 0 1 (by decide)).pc_du (inb := by decide) (by decide) rfl rfl x,
    fun x => (X.chunk 0 1 (by decide)).pc_dzs (inb := by decide) (by decide) rfl rfl x,
    fun x => (X.chunk 1 0 (by decide) (i8 := by decide) (i10 := by decide) (c10 := shapeCasts_S128x256_S128x256)).pc_dv (inb := by decide) (by decide) rfl rfl x,
    fun x => (X.chunk 1 0 (by decide)).pc_du (inb := by decide) (by decide) rfl rfl x,
    fun x => (X.chunk 1 0 (by decide)).pc_dzs (inb := by decide) (by decide) rfl rfl x,
    fun x => (X.chunk 0 0 (by decide) (i8 := by decide) (i10 := by decide) (c10 := shapeCasts_S128x256_S128x256)).pc_dv (inb := by decide) (by decide) rfl rfl x,
    fun x => (X.chunk 0 0 (by decide)).pc_du (inb := by decide) (by decide) rfl rfl x,
    fun x => (X.chunk 0 0 (by decide)).pc_dzs (inb := by decide) (by decide) rfl rfl x,
    fun x => (X.group 3 (i3 := by decide) (c3 := shapeCasts_S256x256_S256x256)).pc_da (inb := by decide) (by decide) (X.band 3)
    (by exact fun i hi => ld_scr_hi (g := 3) i hi (by exact ⟨fun x => (X.group 3 (i3 := by decide) (c3 := shapeCasts_S256x256_S256x256)).pq_hi (inb := by decide) X.hT (by decide) hv rfl rfl rfl x, fun x => (X.group 2 (i3 := by decide) (c3 := shapeCasts_S256x256_S256x256)).pq_hi (inb := by decide) X.hT (by decide) hv rfl rfl rfl x, fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.tail _ (.tail _ (.tail _ (.head _)))))) (by exact fun y h0 h1 h2 => cov_top (inb := by decide) y h0 h1 h2) (by exact fun y h0 h1 => cov_row (inb := by decide) y h0 h1))
    (by exact fun i hi => ld_scr_lo (g := 3) i hi (by exact ⟨fun x => (X.group 3 (i3 := by decide) (c3 := shapeCasts_S256x256_S256x256)).pq_lo (inb := by decide) X.hT (by decide) hv rfl x, fun x => (X.group 2 (i3 := by decide) (c3 := shapeCasts_S256x256_S256x256)).pq_lo (inb := by decide) X.hT (by decide) hv rfl x, fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.tail _ (.tail _ (.tail _ (.head _)))))) (by exact fun y h0 h1 h2 => cov_top (inb := by decide) y h0 h1 h2) (by exact fun y h0 h1 => cov_row (inb := by decide) y h0 h1)) rfl rfl x,
    fun x => (X.group 3).pc_dz (inb := by decide) (by decide) rfl rfl x,
    fun x => (X.group 2 (i3 := by decide) (c3 := shapeCasts_S256x256_S256x256)).pc_da (inb := by decide) (by decide) (X.band 2)
    (by exact fun i hi => ld_scr_hi (g := 2) i hi (by exact ⟨fun x => (X.group 2 (i3 := by decide) (c3 := shapeCasts_S256x256_S256x256)).pq_hi (inb := by decide) X.hT (by decide) hv rfl rfl rfl x, fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.tail _ (.tail _ (.head _))))) (by exact fun y h0 h1 h2 => cov_top (inb := by decide) y h0 h1 h2) (by exact fun y h0 h1 => cov_row (inb := by decide) y h0 h1))
    (by exact fun i hi => ld_scr_lo (g := 2) i hi (by exact ⟨fun x => (X.group 2 (i3 := by decide) (c3 := shapeCasts_S256x256_S256x256)).pq_lo (inb := by decide) X.hT (by decide) hv rfl x, fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.tail _ (.tail _ (.head _))))) (by exact fun y h0 h1 h2 => cov_top (inb := by decide) y h0 h1 h2) (by exact fun y h0 h1 => cov_row (inb := by decide) y h0 h1)) rfl rfl x,
    fun x => (X.group 2).pc_dz (inb := by decide) (by decide) rfl rfl x,
    fun x => (X.group 1 (i3 := by decide) (c3 := shapeCasts_S256x256_S256x256)).pc_da (inb := by decide) (by decide) (X.band 1)
    (by exact fun i hi => ld_scr_hi (g := 1) i hi (by exact ⟨fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.tail _ (.head _)))) (by exact fun y h0 h1 h2 => cov_top (inb := by decide) y h0 h1 h2) (by exact fun y h0 h1 => cov_row (inb := by decide) y h0 h1))
    (by exact fun i hi => ld_scr_lo (g := 1) i hi (by exact ⟨fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.tail _ (.head _)))) (by exact fun y h0 h1 h2 => cov_top (inb := by decide) y h0 h1 h2) (by exact fun y h0 h1 => cov_row (inb := by decide) y h0 h1)) rfl rfl x,
    fun x => (X.group 1).pc_dz (inb := by decide) (by decide) rfl rfl x,
    fun x => (X.group 0 (i3 := by decide) (c3 := shapeCasts_S256x256_S256x256)).pc_da (inb := by decide) (by decide) (X.band 0)
    (by exact fun i hi => ld_scr_hi (g := 0) i hi (by exact ⟨fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.head _))) (by exact fun y h0 h1 h2 => cov_top (inb := by decide) y h0 h1 h2) (by exact fun y h0 h1 => cov_row (inb := by decide) y h0 h1))
    (by exact fun i hi => ld_scr_lo (g := 0) i hi (by exact ⟨fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.head _))) (by exact fun y h0 h1 h2 => cov_top (inb := by decide) y h0 h1 h2) (by exact fun y h0 h1 => cov_row (inb := by decide) y h0 h1)) rfl rfl x,
    fun x => (X.group 0).pc_dz (inb := by decide) (by decide) rfl rfl x,
    trivial⟩

end Mixers.K
-- ==== Proof.CarryA.lean ====
/-
  The carried rows after a first point: the window sums' gradients at the tile's tokens.
-/
module

public import proofs.«01_k».proof.Proof.Point

@[expose] public section

set_option maxRecDepth 16384

noncomputable section

namespace Mixers.K

open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem qh_A (D : Data) (t : Fin cfg0.N) (h0 : t.val % 32 = 0) (h1 : ¬t.val % 32 = 31) (X : PointIn m c D 31 t) (hv : PointTile 31 t)
    (y : S384x1024.Idx) (hy : (y 0).val < 272) : (outsAt0 m c t.val t.isLt).2.2.2.2.2.2.2.2.1 y = GQ D 31 y := by
  unfold PointIn at X
  unfold PointTile at hv
  rw [outsAt0_A m c t h0 h1]
  dsimp only
  frame_open
  simp (disch := decide) only [↓ View.readCov_skip, ↓ View.readCov_cons_toLoadRect, ↓ View.readCov_fill]
  frame_out
  refine canon_all 5 (G := GQ D 31) ?_ (by exact .head _) (by exact .tail _ (.head _)) (by exact .tail _ (.tail _ (.head _))) (by exact .tail _ (.tail _ (.tail _ (.head _)))) (by exact .tail _ (.tail _ (.tail _ (.tail _ (.head _))))) (by exact cov_top (inb := by decide)) (by exact cov_top (inb := by decide)) (by exact cov_top (inb := by decide)) (by exact cov_top (inb := by decide)) (by exact cov_row (inb := by decide)) y hy
  exact ⟨fun x => (X.group 3 (i3 := by decide) (c3 := shapeCasts_S256x256_S256x256)).pq_hi (inb := by decide) X.hT (by decide) hv rfl rfl rfl x, fun x => (X.group 2 (i3 := by decide) (c3 := shapeCasts_S256x256_S256x256)).pq_hi (inb := by decide) X.hT (by decide) hv rfl rfl rfl x, fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (fill0 (hc := shapeCasts_S384x1024_S384x1024) i).trans (GQ_end D i).symm) x, trivial⟩

set_option maxHeartbeats 0 in
set_option pp.maxSteps 60 in
theorem ql_A (D : Data) (t : Fin cfg0.N) (h0 : t.val % 32 = 0) (h1 : ¬t.val % 32 = 31) (X : PointIn m c D 31 t) (hv : PointTile 31 t)
    (y : S384x1024.Idx) (hy : (y 0).val < 272) : (outsAt0 m c t.val t.isLt).2.2.2.2.2.2.2.2.2.1 y = (0 : EReal) := by
  unfold PointIn at X
  unfold PointTile at hv
  rw [outsAt0_A m c t h0 h1]
  dsimp only
  frame_open
  simp (disch := decide) only [↓ View.readCov_skip, ↓ View.readCov_cons_toLoadRect, ↓ View.readCov_fill]
  frame_out
  show _ = GZ y
  refine canon_all 5 (G := GZ) ?_ (by exact .head _) (by exact .tail _ (.head _)) (by exact .tail _ (.tail _ (.head _))) (by exact .tail _ (.tail _ (.tail _ (.head _)))) (by exact .tail _ (.tail _ (.tail _ (.tail _ (.head _))))) (by exact cov_top (inb := by decide)) (by exact cov_top (inb := by decide)) (by exact cov_top (inb := by decide)) (by exact cov_top (inb := by decide)) (by exact cov_row (inb := by decide)) y hy
  exact ⟨fun x => (X.group 3 (i3 := by decide) (c3 := shapeCasts_S256x256_S256x256)).pq_lo (inb := by decide) X.hT (by decide) hv rfl x, fun x => (X.group 2 (i3 := by decide) (c3 := shapeCasts_S256x256_S256x256)).pq_lo (inb := by decide) X.hT (by decide) hv rfl x, fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i _ => fill0 (hc := shapeCasts_S384x1024_S384x1024) i) x, trivial⟩

end Mixers.K
-- ==== Proof.CarryB.lean ====
/-
  The carried rows after a middle point: the window sums' gradients at the tile's tokens.
-/
module

public import proofs.«01_k».proof.Proof.Point

@[expose] public section

set_option maxRecDepth 16384

noncomputable section

namespace Mixers.K

open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem qh_B (D : Data) (T : ℕ) (t : Fin cfg0.N) (h0 : ¬t.val % 32 = 0) (h1 : ¬t.val % 32 = 31) (X : PointIn m c D T t) (hv : PointTile T t)
    (ph : CarryHi m c D T t) (pl : CarryLo m c t)
    (y : S384x1024.Idx) (hy : (y 0).val < 272) : (outsAt0 m c t.val t.isLt).2.2.2.2.2.2.2.2.1 y = GQ D T y := by
  unfold PointIn at X
  unfold PointTile at hv
  rw [outsAt0_B m c t h0 h1]
  dsimp only
  frame_open
  simp (disch := decide) only [↓ View.readCov_skip, ↓ View.readCov_cons_toLoadRect, ↓ View.readCov_fill]
  frame_out
  refine read_all (G := GQ D T) ?_ (by exact .head _) (by exact .tail _ (.head _)) (by exact .tail _ (.tail _ (.head _))) (by exact .tail _ (.tail _ (.tail _ (.head _)))) (by exact .tail _ (.tail _ (.tail _ (.tail _ (.head _))))) (by exact cov_top (inb := by decide)) (by exact cov_top (inb := by decide)) (by exact cov_top (inb := by decide)) (by exact cov_top (inb := by decide)) (by exact cov_row (inb := by decide)) y hy
  exact ⟨fun x => (X.group 3 (i3 := by decide) (c3 := shapeCasts_S256x256_S256x256)).pq_hi (inb := by decide) X.hT (by decide) hv rfl rfl rfl x, fun x => (X.group 2 (i3 := by decide) (c3 := shapeCasts_S256x256_S256x256)).pq_hi (inb := by decide) X.hT (by decide) hv rfl rfl rfl x, fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩

set_option maxHeartbeats 0 in
set_option pp.maxSteps 60 in
theorem ql_B (D : Data) (T : ℕ) (t : Fin cfg0.N) (h0 : ¬t.val % 32 = 0) (h1 : ¬t.val % 32 = 31) (X : PointIn m c D T t) (hv : PointTile T t)
    (ph : CarryHi m c D T t) (pl : CarryLo m c t)
    (y : S384x1024.Idx) (hy : (y 0).val < 272) : (outsAt0 m c t.val t.isLt).2.2.2.2.2.2.2.2.2.1 y = (0 : EReal) := by
  unfold PointIn at X
  unfold PointTile at hv
  rw [outsAt0_B m c t h0 h1]
  dsimp only
  frame_open
  simp (disch := decide) only [↓ View.readCov_skip, ↓ View.readCov_cons_toLoadRect, ↓ View.readCov_fill]
  frame_out
  show _ = GZ y
  refine read_all (G := GZ) ?_ (by exact .head _) (by exact .tail _ (.head _)) (by exact .tail _ (.tail _ (.head _))) (by exact .tail _ (.tail _ (.tail _ (.head _)))) (by exact .tail _ (.tail _ (.tail _ (.tail _ (.head _))))) (by exact cov_top (inb := by decide)) (by exact cov_top (inb := by decide)) (by exact cov_top (inb := by decide)) (by exact cov_top (inb := by decide)) (by exact cov_row (inb := by decide)) y hy
  exact ⟨fun x => (X.group 3 (i3 := by decide) (c3 := shapeCasts_S256x256_S256x256)).pq_lo (inb := by decide) X.hT (by decide) hv rfl x, fun x => (X.group 2 (i3 := by decide) (c3 := shapeCasts_S256x256_S256x256)).pq_lo (inb := by decide) X.hT (by decide) hv rfl x, fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩

end Mixers.K
-- ==== Proof.DxSum.lean ====
/-
  The gradient carried on to the tile's input: twenty products of 256 columns each, summed onto what comes in, are the
  product over all 5120 hidden columns.
-/
module

public import proofs.«01_k».proof.Proof.Pieces

@[expose] public section

set_option maxRecDepth 16384

noncomputable section

namespace Mixers.K

open Idealize.ShloMosaic Cert.KernelIdeal Cert.KernelIdeal.Facts₀
open scoped BigOperators

/-- 256 columns of the hidden gradient against those of the weights. -/
def dNT (a : B S256x256) (W : B S1024x5120) (p : ℕ) (i : ∀ a : Fin S1024x5120.rank, ![0, p] a + ![1024, 256] a ≤ S1024x5120.size a) : V S256x1024 :=
  matmul (φ₁ := .bf16) (φ₂ := .bf16) dot_S256x256_S1024x256_S256x1024_1_1_0_0_n_n none (shapeCast S256x256 a shapeCasts_S256x256_S256x256)
    (shapeCast (α := EReal) S1024x256 (View.ld (Val := Elt Ideal) (S := S1024x5120) (e' := .bf16) W (Rect.unit ![0, p] ![1024, 256] i)) shapeCasts_S1024x256_S1024x256)
    (constant S256x1024 .f32 0x00000000#32)

/-- The columns' share at an output element. -/
def share (G : S256x5120.Idx → EReal) (W : B S1024x5120) (r : Fin 256) (q : Fin 1024) (j : ℕ) : EReal :=
  ∑ k : Fin 256, if h : j * 256 + k.val < 5120 then G (ix2 r ⟨j * 256 + k.val, h⟩) * W (ix2 q ⟨j * 256 + k.val, h⟩) else 0

theorem nt_apply (a : B S256x256) (b : B S1024x256) (r : Fin 256) (q : Fin 1024) :
    matmul dot_S256x256_S1024x256_S256x1024_1_1_0_0_n_n none a b (constant S256x1024 .f32 0x00000000#32) (ix2 r q)
      = ∑ k : Fin 256, a (ix2 r k) * b (ix2 q k) := by
  pointwise []

theorem dNT_share {G : S256x5120.Idx → EReal} {a : B S256x256} {W : B S1024x5120} {p : ℕ} {i} (j : ℕ) (hp : p = j * 256) {inb}
    (ha : ∀ x, a x = G ((Rect.unit (s := S256x5120) ![0, p] ![256, 256] inb).emb x)) (r : Fin 256) (q : Fin 1024) :
    dNT a W p i (ix2 r q) = share G W r q j := by
  subst hp
  unfold dNT share
  rw [nt_apply]
  have hj : j * 256 + 256 ≤ 5120 := inb 1
  refine Finset.sum_congr rfl fun k _ => ?_
  have hk := k.isLt
  rw [dif_pos (by omega), shapeCast_self, ha]
  have i1 : (Rect.unit (s := S256x5120) ![0, j * 256] ![256, 256] inb).emb (ix2 r k) = ix2 r (⟨j * 256 + k.val, by omega⟩ : Fin 5120) := by
    funext b
    refine Fin.ext ((emb_val _ _ _ _ _).trans ?_)
    match b with
    | ⟨0, _⟩ => exact Nat.zero_add _
    | ⟨1, _⟩ => rfl
  have i2 : (Rect.unit (s := S1024x5120) ![0, j * 256] ![1024, 256] i).emb (ix2 q k) = ix2 q (⟨j * 256 + k.val, by omega⟩ : Fin 5120) := by
    funext b
    refine Fin.ext ((emb_val _ _ _ _ _).trans ?_)
    match b with
    | ⟨0, _⟩ => exact Nat.zero_add _
    | ⟨1, _⟩ => rfl
  rw [i1]
  refine congrArg (G _ * ·) ((congrFun (shapeCast_self _ _) _).trans (congrArg W i2))

/-- All the columns. -/
theorem share_sum (G : S256x5120.Idx → EReal) (W : B S1024x5120) (r : Fin 256) (q : Fin 1024) :
    ∑ j ∈ Finset.range 20, share G W r q j = ∑ e : Fin 5120, G (ix2 r e) * W (ix2 q e) := by
  rw [Finset.sum_range]
  unfold share
  rw [← Fintype.sum_prod_type' (fun (j : Fin 20) (k : Fin 256) => if h : j.val * 256 + k.val < 5120 then G (ix2 r ⟨j.val * 256 + k.val, h⟩) * W (ix2 q ⟨j.val * 256 + k.val, h⟩) else 0),
    ← (finProdFinEquiv (m := 20) (n := 256)).sum_comp]
  refine Finset.sum_congr rfl fun x _ => ?_
  obtain ⟨j, k⟩ := x
  have e : (finProdFinEquiv (j, k)) = (⟨j.val * 256 + k.val, by have := j.isLt; have := k.isLt; omega⟩ : Fin 5120) := by
    refine Fin.ext ?_
    show k.val + 256 * j.val = j.val * 256 + k.val
    omega
  rw [dif_pos (by have := j.isLt; have := k.isLt; show j.val * 256 + k.val < 5120; omega)]
  exact congrArg (fun z => G (ix2 r z) * W (ix2 q z)) e.symm

/-- One tile's value. -/
def kDx (X : V S256x1024) (W : B S1024x5120) (u0 v0 z0 a0 a1 a2 u1 v1 z1 a3 b0 b1 u2 v2 z2 b2 b3 u3 v3 z3 : B S256x256) : V S256x1024 :=
  addf (shapeCast S256x1024 (addf (shapeCast S256x1024 (addf (shapeCast S256x1024 (addf X
    (addf (addf (addf (addf (addf (dNT u0 W 1024 (by decide)) (dNT v0 W 2048 (by decide))) (dNT z0 W 4096 (by decide))) (dNT a0 W 0 (by decide))) (dNT a1 W 256 (by decide))) (dNT a2 W 512 (by decide)))) shapeCasts_S256x1024_S256x1024)
    (addf (addf (addf (addf (addf (dNT u1 W 1280 (by decide)) (dNT v1 W 2304 (by decide))) (dNT z1 W 4352 (by decide))) (dNT a3 W 768 (by decide))) (dNT b0 W 3072 (by decide))) (dNT b1 W 3328 (by decide)))) shapeCasts_S256x1024_S256x1024)
    (addf (addf (addf (addf (dNT u2 W 1536 (by decide)) (dNT v2 W 2560 (by decide))) (dNT z2 W 4608 (by decide))) (dNT b2 W 3584 (by decide))) (dNT b3 W 3840 (by decide)))) shapeCasts_S256x1024_S256x1024)
    (addf (addf (dNT u3 W 1792 (by decide)) (dNT v3 W 2816 (by decide))) (dNT z3 W 4864 (by decide)))

/-- `a` is the columns of `G` from `p` on. -/
def Cols (G : S256x5120.Idx → EReal) (a : B S256x256) (p : ℕ) : Prop :=
  ∃ inb, ∀ x, a x = G ((Rect.unit (s := S256x5120) ![0, p] ![256, 256] inb).emb x)

theorem Cols.share {G : S256x5120.Idx → EReal} {a : B S256x256} {p : ℕ} (c : Cols G a p) {W : B S1024x5120} {i} (j : ℕ) (hp : p = j * 256)
    (r : Fin 256) (q : Fin 1024) : dNT a W p i (ix2 r q) = share G W r q j :=
  let ⟨_, h⟩ := c
  dNT_share j hp h r q

theorem perm20 (x : EReal) (s : ℕ → EReal) :
    x + (s 4 + s 8 + s 16 + s 0 + s 1 + s 2) + (s 5 + s 9 + s 17 + s 3 + s 12 + s 13) + (s 6 + s 10 + s 18 + s 14 + s 15) + (s 7 + s 11 + s 19)
      = x + ∑ j ∈ Finset.range 20, s j := by
  simp only [Finset.sum_range_succ, Finset.sum_range_zero]
  abel

theorem kDx_apply {G : S256x5120.Idx → EReal} {X : V S256x1024} {W : B S1024x5120}
    {u0 v0 z0 a0 a1 a2 u1 v1 z1 a3 b0 b1 u2 v2 z2 b2 b3 u3 v3 z3 : B S256x256}
    (hu0 : Cols G u0 1024) (hv0 : Cols G v0 2048) (hz0 : Cols G z0 4096) (ha0 : Cols G a0 0) (ha1 : Cols G a1 256) (ha2 : Cols G a2 512)
    (hu1 : Cols G u1 1280) (hv1 : Cols G v1 2304) (hz1 : Cols G z1 4352) (ha3 : Cols G a3 768) (hb0 : Cols G b0 3072) (hb1 : Cols G b1 3328)
    (hu2 : Cols G u2 1536) (hv2 : Cols G v2 2560) (hz2 : Cols G z2 4608) (hb2 : Cols G b2 3584) (hb3 : Cols G b3 3840)
    (hu3 : Cols G u3 1792) (hv3 : Cols G v3 2816) (hz3 : Cols G z3 4864) (y : S256x1024.Idx) :
    kDx X W u0 v0 z0 a0 a1 a2 u1 v1 z1 a3 b0 b1 u2 v2 z2 b2 b3 u3 v3 z3 y
      = X y + ∑ e : Fin 5120, G (ix2 (y 0) e) * W (ix2 (y 1) e) := by
  obtain ⟨r, q, rfl⟩ := ex2 y
  show _ = X (ix2 r q) + ∑ e : Fin 5120, G (ix2 r e) * W (ix2 q e)
  rw [← share_sum, ← perm20]
  unfold kDx
  rw [shapeCast_self, shapeCast_self, shapeCast_self]
  simp only [vadd, hu0.share 4 rfl r q, hv0.share 8 rfl r q, hz0.share 16 rfl r q, ha0.share 0 rfl r q, ha1.share 1 rfl r q, ha2.share 2 rfl r q,
    hu1.share 5 rfl r q, hv1.share 9 rfl r q, hz1.share 17 rfl r q, ha3.share 3 rfl r q, hb0.share 12 rfl r q, hb1.share 13 rfl r q,
    hu2.share 6 rfl r q, hv2.share 10 rfl r q, hz2.share 18 rfl r q, hb2.share 14 rfl r q, hb3.share 15 rfl r q,
    hu3.share 7 rfl r q, hv3.share 11 rfl r q, hz3.share 19 rfl r q]

/-- The hidden gradient's columns of one head, read back from its two chunks' stores. -/
theorem cols_chunks {sig : RefSig} {κ : Kind} {sp : Space} {v : View sig κ sp S256x5120 .bf16} {G : S256x5120.Idx → EReal}
    {L : List (View.Piece (Elt Ideal) S256x5120 .bf16)} {p : ℕ} {inb} {q r : View.Piece (Elt Ideal) S256x5120 .bf16}
    (hL : View.PiecesOf G (L.take 4)) (hq : q ∈ L.take 4) (hr : r ∈ L.take 4)
    (hqc : ∀ y : S256x5120.Idx, 128 ≤ (y 0).val → (y 0).val < 256 → p ≤ (y 1).val → (y 1).val < p + 256 → y ∈ q.1.set)
    (hrc : ∀ y : S256x5120.Idx, 0 ≤ (y 0).val → (y 0).val < 128 → p ≤ (y 1).val → (y 1).val < p + 256 → y ∈ r.1.set) :
    Cols G (v.readCov (Val := Elt Ideal) L (Rect.unit (s := S256x5120) ![0, p] ![256, 256] inb).toLoadRect) p := by
  refine ⟨inb, fun x => ?_⟩
  rw [View.readCov_eq_canon']
  refine canon_take 4 hL _ ?_
  have hx0 : (x 0).val < 256 := (x 0).isLt
  have hx1 : (x 1).val < 256 := (x 1).isLt
  have e0 : ((Rect.unit (s := S256x5120) ![0, p] ![256, 256] inb).idx x 0).val = (x 0).val := (emb_val _ _ _ _ _).trans (Nat.zero_add _)
  have e1 : ((Rect.unit (s := S256x5120) ![0, p] ![256, 256] inb).idx x 1).val = p + (x 1).val := emb_val _ _ _ _ _
  by_cases h : (x 0).val < 128
  · exact ⟨r, hr, hrc _ (Nat.zero_le _) (by rw [e0]; exact h) (by rw [e1]; omega) (by rw [e1]; omega)⟩
  · exact ⟨q, hq, hqc _ (by rw [e0]; omega) (by rw [e0]; exact hx0) (by rw [e1]; omega) (by rw [e1]; omega)⟩
theorem cov_chunk {o p : ℕ} {inb} (y : S256x5120.Idx) (h0 : o ≤ (y 0).val) (h1 : (y 0).val < o + 128) (h2 : p ≤ (y 1).val) (h3 : (y 1).val < p + 256) :
    y ∈ (Rect.unit (s := S256x5120) ![o, p] ![128, 256] inb).set :=
  Rect.mem_set_unit.mpr fun a => match a with
    | ⟨0, _⟩ => ⟨h0, h1⟩
    | ⟨1, _⟩ => ⟨h2, h3⟩

end Mixers.K
-- ==== Proof.DxA.lean ====
/-
  The gradient of the tile's input at a first point: what comes in and the hidden gradient times the weights.
-/
module

public import proofs.«01_k».proof.Proof.Point
public import proofs.«01_k».proof.Proof.DxSum

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dx_A (D : Data) (t : Fin cfg0.N) (h0 : t.val % 32 = 0) (h1 : ¬t.val % 32 = 31) (X : PointIn m c D 31 t) (hv : PointTile 31 t)
    (y : S256x1024.Idx) : (outsAt0 m c t.val t.isLt).2.1 y = (show S256x1024.Idx → EReal from iblk m c 2 t) y + ∑ e : Fin 5120, GDH D 31 (ix2 (y 0) e) * (show S1024x5120.Idx → EReal from iblk m c 4 t) (ix2 (y 1) e) := by
  unfold PointIn at X
  unfold PointTile at hv
  rw [outsAt0_A m c t h0 h1]
  dsimp only
  frame_open
  simp (disch := decide) only [↓ View.readCov_skip, ↓ View.readCov_cons_toLoadRect, ↓ View.readCov_fill]
  frame_out
  refine kDx_apply (X := iblk m c 2 t) (W := iblk m c 4 t) (G := GDH D 31) ?_ ?_ ?_ ?_ ?_ ?_ ?_ ?_ ?_ ?_ ?_ ?_ ?_ ?_ ?_ ?_ ?_ ?_ ?_ ?_ y
  · exact cols_chunks (inb := by decide) (by exact ⟨fun x => (X.chunk 1 0 (by decide)).pc_du (inb := by decide) (by decide) rfl rfl x, fun x => (X.chunk 1 0 (by decide)).pc_dzs (inb := by decide) (by decide) rfl rfl x, fun x => (X.chunk 0 0 (by decide) (i8 := by decide) (i10 := by decide) (c10 := shapeCasts_S128x256_S128x256)).pc_dv (inb := by decide) (by decide) rfl rfl x, fun x => (X.chunk 0 0 (by decide)).pc_du (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 0 (by decide) (i8 := by decide) (i10 := by decide) (c10 := shapeCasts_S128x256_S128x256)).pc_dv (inb := by decide) (by decide) rfl rfl x, fun x => (X.chunk 1 0 (by decide)).pc_du (inb := by decide) (by decide) rfl rfl x, fun x => (X.chunk 1 0 (by decide)).pc_dzs (inb := by decide) (by decide) rfl rfl x, fun x => (X.chunk 0 0 (by decide) (i8 := by decide) (i10 := by decide) (c10 := shapeCasts_S128x256_S128x256)).pc_dv (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 0 (by decide)).pc_dzs (inb := by decide) (by decide) rfl rfl x, fun x => (X.chunk 0 0 (by decide) (i8 := by decide) (i10 := by decide) (c10 := shapeCasts_S128x256_S128x256)).pc_dv (inb := by decide) (by decide) rfl rfl x, fun x => (X.chunk 0 0 (by decide)).pc_du (inb := by decide) (by decide) rfl rfl x, fun x => (X.chunk 0 0 (by decide)).pc_dzs (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact ⟨by decide, fun x => (X.group 0 (i3 := by decide) (c3 := shapeCasts_S256x256_S256x256)).pc_da (inb := by decide) (by decide) (X.band 0)
    (by exact fun i hi => cov_scr_hi 2 (g := 0) i hi (by exact ⟨fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (fill0 (hc := shapeCasts_S384x1024_S384x1024) i).trans (GQ_end D i).symm) x, trivial⟩) (by exact .head _) (by exact (.tail _ (.head _))) (by exact fun y h0 h1 h2 => cov_top (inb := by decide) y h0 h1 h2) (by exact fun y h0 h1 => cov_row (inb := by decide) y h0 h1))
    (by exact fun i hi => cov_scr_lo 2 (g := 0) i hi (by exact ⟨fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i _ => fill0 (hc := shapeCasts_S384x1024_S384x1024) i) x, trivial⟩) (by exact .head _) (by exact (.tail _ (.head _))) (by exact fun y h0 h1 h2 => cov_top (inb := by decide) y h0 h1 h2) (by exact fun y h0 h1 => cov_row (inb := by decide) y h0 h1)) rfl rfl x⟩
  · exact ⟨by decide, fun x => (X.group 1 (i3 := by decide) (c3 := shapeCasts_S256x256_S256x256)).pc_da (inb := by decide) (by decide) (X.band 1)
    (by exact fun i hi => cov_scr_hi 3 (g := 1) i hi (by exact ⟨fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (fill0 (hc := shapeCasts_S384x1024_S384x1024) i).trans (GQ_end D i).symm) x, trivial⟩) (by exact .head _) (by exact (.tail _ (.tail _ (.head _)))) (by exact fun y h0 h1 h2 => cov_top (inb := by decide) y h0 h1 h2) (by exact fun y h0 h1 => cov_row (inb := by decide) y h0 h1))
    (by exact fun i hi => cov_scr_lo 3 (g := 1) i hi (by exact ⟨fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i _ => fill0 (hc := shapeCasts_S384x1024_S384x1024) i) x, trivial⟩) (by exact .head _) (by exact (.tail _ (.tail _ (.head _)))) (by exact fun y h0 h1 h2 => cov_top (inb := by decide) y h0 h1 h2) (by exact fun y h0 h1 => cov_row (inb := by decide) y h0 h1)) rfl rfl x⟩
  · exact ⟨by decide, fun x => (X.group 2 (i3 := by decide) (c3 := shapeCasts_S256x256_S256x256)).pc_da (inb := by decide) (by decide) (X.band 2)
    (by exact fun i hi => cov_scr_hi 4 (g := 2) i hi (by exact ⟨fun x => (X.group 2 (i3 := by decide) (c3 := shapeCasts_S256x256_S256x256)).pq_hi (inb := by decide) X.hT (by decide) hv rfl rfl rfl x, fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (fill0 (hc := shapeCasts_S384x1024_S384x1024) i).trans (GQ_end D i).symm) x, trivial⟩) (by exact .head _) (by exact (.tail _ (.tail _ (.tail _ (.head _))))) (by exact fun y h0 h1 h2 => cov_top (inb := by decide) y h0 h1 h2) (by exact fun y h0 h1 => cov_row (inb := by decide) y h0 h1))
    (by exact fun i hi => cov_scr_lo 4 (g := 2) i hi (by exact ⟨fun x => (X.group 2 (i3 := by decide) (c3 := shapeCasts_S256x256_S256x256)).pq_lo (inb := by decide) X.hT (by decide) hv rfl x, fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i _ => fill0 (hc := shapeCasts_S384x1024_S384x1024) i) x, trivial⟩) (by exact .head _) (by exact (.tail _ (.tail _ (.tail _ (.head _))))) (by exact fun y h0 h1 h2 => cov_top (inb := by decide) y h0 h1 h2) (by exact fun y h0 h1 => cov_row (inb := by decide) y h0 h1)) rfl rfl x⟩
  · exact cols_chunks (inb := by decide) (by exact ⟨fun x => (X.chunk 1 1 (by decide)).pc_du (inb := by decide) (by decide) rfl rfl x, fun x => (X.chunk 1 1 (by decide)).pc_dzs (inb := by decide) (by decide) rfl rfl x, fun x => (X.chunk 0 1 (by decide) (i8 := by decide) (i10 := by decide) (c10 := shapeCasts_S128x256_S128x256)).pc_dv (inb := by decide) (by decide) rfl rfl x, fun x => (X.chunk 0 1 (by decide)).pc_du (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 1 (by decide) (i8 := by decide) (i10 := by decide) (c10 := shapeCasts_S128x256_S128x256)).pc_dv (inb := by decide) (by decide) rfl rfl x, fun x => (X.chunk 1 1 (by decide)).pc_du (inb := by decide) (by decide) rfl rfl x, fun x => (X.chunk 1 1 (by decide)).pc_dzs (inb := by decide) (by decide) rfl rfl x, fun x => (X.chunk 0 1 (by decide) (i8 := by decide) (i10 := by decide) (c10 := shapeCasts_S128x256_S128x256)).pc_dv (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 1 (by decide)).pc_dzs (inb := by decide) (by decide) rfl rfl x, fun x => (X.chunk 0 1 (by decide) (i8 := by decide) (i10 := by decide) (c10 := shapeCasts_S128x256_S128x256)).pc_dv (inb := by decide) (by decide) rfl rfl x, fun x => (X.chunk 0 1 (by decide)).pc_du (inb := by decide) (by decide) rfl rfl x, fun x => (X.chunk 0 1 (by decide)).pc_dzs (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact ⟨by decide, fun x => (X.group 3 (i3 := by decide) (c3 := shapeCasts_S256x256_S256x256)).pc_da (inb := by decide) (by decide) (X.band 3)
    (by exact fun i hi => cov_scr_hi 5 (g := 3) i hi (by exact ⟨fun x => (X.group 3 (i3 := by decide) (c3 := shapeCasts_S256x256_S256x256)).pq_hi (inb := by decide) X.hT (by decide) hv rfl rfl rfl x, fun x => (X.group 2 (i3 := by decide) (c3 := shapeCasts_S256x256_S256x256)).pq_hi (inb := by decide) X.hT (by decide) hv rfl rfl rfl x, fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (fill0 (hc := shapeCasts_S384x1024_S384x1024) i).trans (GQ_end D i).symm) x, trivial⟩) (by exact .head _) (by exact (.tail _ (.tail _ (.tail _ (.tail _ (.head _)))))) (by exact fun y h0 h1 h2 => cov_top (inb := by decide) y h0 h1 h2) (by exact fun y h0 h1 => cov_row (inb := by decide) y h0 h1))
    (by exact fun i hi => cov_scr_lo 5 (g := 3) i hi (by exact ⟨fun x => (X.group 3 (i3 := by decide) (c3 := shapeCasts_S256x256_S256x256)).pq_lo (inb := by decide) X.hT (by decide) hv rfl x, fun x => (X.group 2 (i3 := by decide) (c3 := shapeCasts_S256x256_S256x256)).pq_lo (inb := by decide) X.hT (by decide) hv rfl x, fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i _ => fill0 (hc := shapeCasts_S384x1024_S384x1024) i) x, trivial⟩) (by exact .head _) (by exact (.tail _ (.tail _ (.tail _ (.tail _ (.head _)))))) (by exact fun y h0 h1 h2 => cov_top (inb := by decide) y h0 h1 h2) (by exact fun y h0 h1 => cov_row (inb := by decide) y h0 h1)) rfl rfl x⟩
  · exact ⟨by decide, fun x => (X.group 0).pc_dz (inb := by decide) (by decide) rfl rfl x⟩
  · exact ⟨by decide, fun x => (X.group 1).pc_dz (inb := by decide) (by decide) rfl rfl x⟩
  · exact cols_chunks (inb := by decide) (by exact ⟨fun x => (X.chunk 1 2 (by decide)).pc_du (inb := by decide) (by decide) rfl rfl x, fun x => (X.chunk 1 2 (by decide)).pc_dzs (inb := by decide) (by decide) rfl rfl x, fun x => (X.chunk 0 2 (by decide) (i8 := by decide) (i10 := by decide) (c10 := shapeCasts_S128x256_S128x256)).pc_dv (inb := by decide) (by decide) rfl rfl x, fun x => (X.chunk 0 2 (by decide)).pc_du (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 2 (by decide) (i8 := by decide) (i10 := by decide) (c10 := shapeCasts_S128x256_S128x256)).pc_dv (inb := by decide) (by decide) rfl rfl x, fun x => (X.chunk 1 2 (by decide)).pc_du (inb := by decide) (by decide) rfl rfl x, fun x => (X.chunk 1 2 (by decide)).pc_dzs (inb := by decide) (by decide) rfl rfl x, fun x => (X.chunk 0 2 (by decide) (i8 := by decide) (i10 := by decide) (c10 := shapeCasts_S128x256_S128x256)).pc_dv (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 2 (by decide)).pc_dzs (inb := by decide) (by decide) rfl rfl x, fun x => (X.chunk 0 2 (by decide) (i8 := by decide) (i10 := by decide) (c10 := shapeCasts_S128x256_S128x256)).pc_dv (inb := by decide) (by decide) rfl rfl x, fun x => (X.chunk 0 2 (by decide)).pc_du (inb := by decide) (by decide) rfl rfl x, fun x => (X.chunk 0 2 (by decide)).pc_dzs (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact ⟨by decide, fun x => (X.group 2).pc_dz (inb := by decide) (by decide) rfl rfl x⟩
  · exact ⟨by decide, fun x => (X.group 3).pc_dz (inb := by decide) (by decide) rfl rfl x⟩
  · exact cols_chunks (inb := by decide) (by exact ⟨fun x => (X.chunk 1 3 (by decide)).pc_du (inb := by decide) (by decide) rfl rfl x, fun x => (X.chunk 1 3 (by decide)).pc_dzs (inb := by decide) (by decide) rfl rfl x, fun x => (X.chunk 0 3 (by decide) (i8 := by decide) (i10 := by decide) (c10 := shapeCasts_S128x256_S128x256)).pc_dv (inb := by decide) (by decide) rfl rfl x, fun x => (X.chunk 0 3 (by decide)).pc_du (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 3 (by decide) (i8 := by decide) (i10 := by decide) (c10 := shapeCasts_S128x256_S128x256)).pc_dv (inb := by decide) (by decide) rfl rfl x, fun x => (X.chunk 1 3 (by decide)).pc_du (inb := by decide) (by decide) rfl rfl x, fun x => (X.chunk 1 3 (by decide)).pc_dzs (inb := by decide) (by decide) rfl rfl x, fun x => (X.chunk 0 3 (by decide) (i8 := by decide) (i10 := by decide) (c10 := shapeCasts_S128x256_S128x256)).pc_dv (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 3 (by decide)).pc_dzs (inb := by decide) (by decide) rfl rfl x, fun x => (X.chunk 0 3 (by decide) (i8 := by decide) (i10 := by decide) (c10 := shapeCasts_S128x256_S128x256)).pc_dv (inb := by decide) (by decide) rfl rfl x, fun x => (X.chunk 0 3 (by decide)).pc_du (inb := by decide) (by decide) rfl rfl x, fun x => (X.chunk 0 3 (by decide)).pc_dzs (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)

end Mixers.K
-- ==== Proof.DxB.lean ====
/-
  The gradient of the tile's input at a middle point: what comes in and the hidden gradient times the weights.
-/
module

public import proofs.«01_k».proof.Proof.Point
public import proofs.«01_k».proof.Proof.DxSum

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dx_B (D : Data) (T : ℕ) (t : Fin cfg0.N) (h0 : ¬t.val % 32 = 0) (h1 : ¬t.val % 32 = 31) (X : PointIn m c D T t) (hv : PointTile T t)
    (ph : CarryHi m c D T t) (pl : CarryLo m c t)
    (y : S256x1024.Idx) : (outsAt0 m c t.val t.isLt).2.1 y = (show S256x1024.Idx → EReal from iblk m c 2 t) y + ∑ e : Fin 5120, GDH D T (ix2 (y 0) e) * (show S1024x5120.Idx → EReal from iblk m c 4 t) (ix2 (y 1) e) := by
  unfold PointIn at X
  unfold PointTile at hv
  rw [outsAt0_B m c t h0 h1]
  dsimp only
  frame_open
  simp (disch := decide) only [↓ View.readCov_skip, ↓ View.readCov_cons_toLoadRect, ↓ View.readCov_fill]
  frame_out
  refine kDx_apply (X := iblk m c 2 t) (W := iblk m c 4 t) (G := GDH D T) ?_ ?_ ?_ ?_ ?_ ?_ ?_ ?_ ?_ ?_ ?_ ?_ ?_ ?_ ?_ ?_ ?_ ?_ ?_ ?_ y
  · exact cols_chunks (inb := by decide) (by exact ⟨fun x => (X.chunk 1 0 (by decide)).pc_du (inb := by decide) (by decide) rfl rfl x, fun x => (X.chunk 1 0 (by decide)).pc_dzs (inb := by decide) (by decide) rfl rfl x, fun x => (X.chunk 0 0 (by decide) (i8 := by decide) (i10 := by decide) (c10 := shapeCasts_S128x256_S128x256)).pc_dv (inb := by decide) (by decide) rfl rfl x, fun x => (X.chunk 0 0 (by decide)).pc_du (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 0 (by decide) (i8 := by decide) (i10 := by decide) (c10 := shapeCasts_S128x256_S128x256)).pc_dv (inb := by decide) (by decide) rfl rfl x, fun x => (X.chunk 1 0 (by decide)).pc_du (inb := by decide) (by decide) rfl rfl x, fun x => (X.chunk 1 0 (by decide)).pc_dzs (inb := by decide) (by decide) rfl rfl x, fun x => (X.chunk 0 0 (by decide) (i8 := by decide) (i10 := by decide) (c10 := shapeCasts_S128x256_S128x256)).pc_dv (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 0 (by decide)).pc_dzs (inb := by decide) (by decide) rfl rfl x, fun x => (X.chunk 0 0 (by decide) (i8 := by decide) (i10 := by decide) (c10 := shapeCasts_S128x256_S128x256)).pc_dv (inb := by decide) (by decide) rfl rfl x, fun x => (X.chunk 0 0 (by decide)).pc_du (inb := by decide) (by decide) rfl rfl x, fun x => (X.chunk 0 0 (by decide)).pc_dzs (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact ⟨by decide, fun x => (X.group 0 (i3 := by decide) (c3 := shapeCasts_S256x256_S256x256)).pc_da (inb := by decide) (by decide) (X.band 0)
    (by exact fun i hi => ld_scr_hi (g := 0) i hi (by exact ⟨fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.head _))) (by exact fun y h0 h1 h2 => cov_top (inb := by decide) y h0 h1 h2) (by exact fun y h0 h1 => cov_row (inb := by decide) y h0 h1))
    (by exact fun i hi => ld_scr_lo (g := 0) i hi (by exact ⟨fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.head _))) (by exact fun y h0 h1 h2 => cov_top (inb := by decide) y h0 h1 h2) (by exact fun y h0 h1 => cov_row (inb := by decide) y h0 h1)) rfl rfl x⟩
  · exact ⟨by decide, fun x => (X.group 1 (i3 := by decide) (c3 := shapeCasts_S256x256_S256x256)).pc_da (inb := by decide) (by decide) (X.band 1)
    (by exact fun i hi => ld_scr_hi (g := 1) i hi (by exact ⟨fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.tail _ (.head _)))) (by exact fun y h0 h1 h2 => cov_top (inb := by decide) y h0 h1 h2) (by exact fun y h0 h1 => cov_row (inb := by decide) y h0 h1))
    (by exact fun i hi => ld_scr_lo (g := 1) i hi (by exact ⟨fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.tail _ (.head _)))) (by exact fun y h0 h1 h2 => cov_top (inb := by decide) y h0 h1 h2) (by exact fun y h0 h1 => cov_row (inb := by decide) y h0 h1)) rfl rfl x⟩
  · exact ⟨by decide, fun x => (X.group 2 (i3 := by decide) (c3 := shapeCasts_S256x256_S256x256)).pc_da (inb := by decide) (by decide) (X.band 2)
    (by exact fun i hi => ld_scr_hi (g := 2) i hi (by exact ⟨fun x => (X.group 2 (i3 := by decide) (c3 := shapeCasts_S256x256_S256x256)).pq_hi (inb := by decide) X.hT (by decide) hv rfl rfl rfl x, fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.tail _ (.tail _ (.head _))))) (by exact fun y h0 h1 h2 => cov_top (inb := by decide) y h0 h1 h2) (by exact fun y h0 h1 => cov_row (inb := by decide) y h0 h1))
    (by exact fun i hi => ld_scr_lo (g := 2) i hi (by exact ⟨fun x => (X.group 2 (i3 := by decide) (c3 := shapeCasts_S256x256_S256x256)).pq_lo (inb := by decide) X.hT (by decide) hv rfl x, fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.tail _ (.tail _ (.head _))))) (by exact fun y h0 h1 h2 => cov_top (inb := by decide) y h0 h1 h2) (by exact fun y h0 h1 => cov_row (inb := by decide) y h0 h1)) rfl rfl x⟩
  · exact cols_chunks (inb := by decide) (by exact ⟨fun x => (X.chunk 1 1 (by decide)).pc_du (inb := by decide) (by decide) rfl rfl x, fun x => (X.chunk 1 1 (by decide)).pc_dzs (inb := by decide) (by decide) rfl rfl x, fun x => (X.chunk 0 1 (by decide) (i8 := by decide) (i10 := by decide) (c10 := shapeCasts_S128x256_S128x256)).pc_dv (inb := by decide) (by decide) rfl rfl x, fun x => (X.chunk 0 1 (by decide)).pc_du (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 1 (by decide) (i8 := by decide) (i10 := by decide) (c10 := shapeCasts_S128x256_S128x256)).pc_dv (inb := by decide) (by decide) rfl rfl x, fun x => (X.chunk 1 1 (by decide)).pc_du (inb := by decide) (by decide) rfl rfl x, fun x => (X.chunk 1 1 (by decide)).pc_dzs (inb := by decide) (by decide) rfl rfl x, fun x => (X.chunk 0 1 (by decide) (i8 := by decide) (i10 := by decide) (c10 := shapeCasts_S128x256_S128x256)).pc_dv (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 1 (by decide)).pc_dzs (inb := by decide) (by decide) rfl rfl x, fun x => (X.chunk 0 1 (by decide) (i8 := by decide) (i10 := by decide) (c10 := shapeCasts_S128x256_S128x256)).pc_dv (inb := by decide) (by decide) rfl rfl x, fun x => (X.chunk 0 1 (by decide)).pc_du (inb := by decide) (by decide) rfl rfl x, fun x => (X.chunk 0 1 (by decide)).pc_dzs (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact ⟨by decide, fun x => (X.group 3 (i3 := by decide) (c3 := shapeCasts_S256x256_S256x256)).pc_da (inb := by decide) (by decide) (X.band 3)
    (by exact fun i hi => ld_scr_hi (g := 3) i hi (by exact ⟨fun x => (X.group 3 (i3 := by decide) (c3 := shapeCasts_S256x256_S256x256)).pq_hi (inb := by decide) X.hT (by decide) hv rfl rfl rfl x, fun x => (X.group 2 (i3 := by decide) (c3 := shapeCasts_S256x256_S256x256)).pq_hi (inb := by decide) X.hT (by decide) hv rfl rfl rfl x, fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.tail _ (.tail _ (.tail _ (.head _)))))) (by exact fun y h0 h1 h2 => cov_top (inb := by decide) y h0 h1 h2) (by exact fun y h0 h1 => cov_row (inb := by decide) y h0 h1))
    (by exact fun i hi => ld_scr_lo (g := 3) i hi (by exact ⟨fun x => (X.group 3 (i3 := by decide) (c3 := shapeCasts_S256x256_S256x256)).pq_lo (inb := by decide) X.hT (by decide) hv rfl x, fun x => (X.group 2 (i3 := by decide) (c3 := shapeCasts_S256x256_S256x256)).pq_lo (inb := by decide) X.hT (by decide) hv rfl x, fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.tail _ (.tail _ (.tail _ (.head _)))))) (by exact fun y h0 h1 h2 => cov_top (inb := by decide) y h0 h1 h2) (by exact fun y h0 h1 => cov_row (inb := by decide) y h0 h1)) rfl rfl x⟩
  · exact ⟨by decide, fun x => (X.group 0).pc_dz (inb := by decide) (by decide) rfl rfl x⟩
  · exact ⟨by decide, fun x => (X.group 1).pc_dz (inb := by decide) (by decide) rfl rfl x⟩
  · exact cols_chunks (inb := by decide) (by exact ⟨fun x => (X.chunk 1 2 (by decide)).pc_du (inb := by decide) (by decide) rfl rfl x, fun x => (X.chunk 1 2 (by decide)).pc_dzs (inb := by decide) (by decide) rfl rfl x, fun x => (X.chunk 0 2 (by decide) (i8 := by decide) (i10 := by decide) (c10 := shapeCasts_S128x256_S128x256)).pc_dv (inb := by decide) (by decide) rfl rfl x, fun x => (X.chunk 0 2 (by decide)).pc_du (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 2 (by decide) (i8 := by decide) (i10 := by decide) (c10 := shapeCasts_S128x256_S128x256)).pc_dv (inb := by decide) (by decide) rfl rfl x, fun x => (X.chunk 1 2 (by decide)).pc_du (inb := by decide) (by decide) rfl rfl x, fun x => (X.chunk 1 2 (by decide)).pc_dzs (inb := by decide) (by decide) rfl rfl x, fun x => (X.chunk 0 2 (by decide) (i8 := by decide) (i10 := by decide) (c10 := shapeCasts_S128x256_S128x256)).pc_dv (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 2 (by decide)).pc_dzs (inb := by decide) (by decide) rfl rfl x, fun x => (X.chunk 0 2 (by decide) (i8 := by decide) (i10 := by decide) (c10 := shapeCasts_S128x256_S128x256)).pc_dv (inb := by decide) (by decide) rfl rfl x, fun x => (X.chunk 0 2 (by decide)).pc_du (inb := by decide) (by decide) rfl rfl x, fun x => (X.chunk 0 2 (by decide)).pc_dzs (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact ⟨by decide, fun x => (X.group 2).pc_dz (inb := by decide) (by decide) rfl rfl x⟩
  · exact ⟨by decide, fun x => (X.group 3).pc_dz (inb := by decide) (by decide) rfl rfl x⟩
  · exact cols_chunks (inb := by decide) (by exact ⟨fun x => (X.chunk 1 3 (by decide)).pc_du (inb := by decide) (by decide) rfl rfl x, fun x => (X.chunk 1 3 (by decide)).pc_dzs (inb := by decide) (by decide) rfl rfl x, fun x => (X.chunk 0 3 (by decide) (i8 := by decide) (i10 := by decide) (c10 := shapeCasts_S128x256_S128x256)).pc_dv (inb := by decide) (by decide) rfl rfl x, fun x => (X.chunk 0 3 (by decide)).pc_du (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 3 (by decide) (i8 := by decide) (i10 := by decide) (c10 := shapeCasts_S128x256_S128x256)).pc_dv (inb := by decide) (by decide) rfl rfl x, fun x => (X.chunk 1 3 (by decide)).pc_du (inb := by decide) (by decide) rfl rfl x, fun x => (X.chunk 1 3 (by decide)).pc_dzs (inb := by decide) (by decide) rfl rfl x, fun x => (X.chunk 0 3 (by decide) (i8 := by decide) (i10 := by decide) (c10 := shapeCasts_S128x256_S128x256)).pc_dv (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 3 (by decide)).pc_dzs (inb := by decide) (by decide) rfl rfl x, fun x => (X.chunk 0 3 (by decide) (i8 := by decide) (i10 := by decide) (c10 := shapeCasts_S128x256_S128x256)).pc_dv (inb := by decide) (by decide) rfl rfl x, fun x => (X.chunk 0 3 (by decide)).pc_du (inb := by decide) (by decide) rfl rfl x, fun x => (X.chunk 0 3 (by decide)).pc_dzs (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)

end Mixers.K
-- ==== Proof.DxC.lean ====
/-
  The gradient of the tile's input at a last point: what comes in and the hidden gradient times the weights.
-/
module

public import proofs.«01_k».proof.Proof.Point
public import proofs.«01_k».proof.Proof.DxSum

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dx_C (D : Data) (T : ℕ) (t : Fin cfg0.N) (h0 : ¬t.val % 32 = 0) (h1 : t.val % 32 = 31) (X : PointIn m c D T t) (hv : PointTile T t)
    (ph : CarryHi m c D T t) (pl : CarryLo m c t)
    (y : S256x1024.Idx) : (outsAt0 m c t.val t.isLt).2.1 y = (show S256x1024.Idx → EReal from iblk m c 2 t) y + ∑ e : Fin 5120, GDH D T (ix2 (y 0) e) * (show S1024x5120.Idx → EReal from iblk m c 4 t) (ix2 (y 1) e) := by
  unfold PointIn at X
  unfold PointTile at hv
  rw [outsAt0_C m c t h0 h1]
  dsimp only
  frame_open
  simp (disch := decide) only [↓ View.readCov_skip, ↓ View.readCov_cons_toLoadRect, ↓ View.readCov_fill]
  frame_out
  refine kDx_apply (X := iblk m c 2 t) (W := iblk m c 4 t) (G := GDH D T) ?_ ?_ ?_ ?_ ?_ ?_ ?_ ?_ ?_ ?_ ?_ ?_ ?_ ?_ ?_ ?_ ?_ ?_ ?_ ?_ y
  · exact cols_chunks (inb := by decide) (by exact ⟨fun x => (X.chunk 1 0 (by decide)).pc_du (inb := by decide) (by decide) rfl rfl x, fun x => (X.chunk 1 0 (by decide)).pc_dzs (inb := by decide) (by decide) rfl rfl x, fun x => (X.chunk 0 0 (by decide) (i8 := by decide) (i10 := by decide) (c10 := shapeCasts_S128x256_S128x256)).pc_dv (inb := by decide) (by decide) rfl rfl x, fun x => (X.chunk 0 0 (by decide)).pc_du (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 0 (by decide) (i8 := by decide) (i10 := by decide) (c10 := shapeCasts_S128x256_S128x256)).pc_dv (inb := by decide) (by decide) rfl rfl x, fun x => (X.chunk 1 0 (by decide)).pc_du (inb := by decide) (by decide) rfl rfl x, fun x => (X.chunk 1 0 (by decide)).pc_dzs (inb := by decide) (by decide) rfl rfl x, fun x => (X.chunk 0 0 (by decide) (i8 := by decide) (i10 := by decide) (c10 := shapeCasts_S128x256_S128x256)).pc_dv (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 0 (by decide)).pc_dzs (inb := by decide) (by decide) rfl rfl x, fun x => (X.chunk 0 0 (by decide) (i8 := by decide) (i10 := by decide) (c10 := shapeCasts_S128x256_S128x256)).pc_dv (inb := by decide) (by decide) rfl rfl x, fun x => (X.chunk 0 0 (by decide)).pc_du (inb := by decide) (by decide) rfl rfl x, fun x => (X.chunk 0 0 (by decide)).pc_dzs (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact ⟨by decide, fun x => (X.group 0 (i3 := by decide) (c3 := shapeCasts_S256x256_S256x256)).pc_da (inb := by decide) (by decide) (X.band 0)
    (by exact fun i hi => ld_scr_hi (g := 0) i hi (by exact ⟨fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.head _))) (by exact fun y h0 h1 h2 => cov_top (inb := by decide) y h0 h1 h2) (by exact fun y h0 h1 => cov_row (inb := by decide) y h0 h1))
    (by exact fun i hi => ld_scr_lo (g := 0) i hi (by exact ⟨fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.head _))) (by exact fun y h0 h1 h2 => cov_top (inb := by decide) y h0 h1 h2) (by exact fun y h0 h1 => cov_row (inb := by decide) y h0 h1)) rfl rfl x⟩
  · exact ⟨by decide, fun x => (X.group 1 (i3 := by decide) (c3 := shapeCasts_S256x256_S256x256)).pc_da (inb := by decide) (by decide) (X.band 1)
    (by exact fun i hi => ld_scr_hi (g := 1) i hi (by exact ⟨fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.tail _ (.head _)))) (by exact fun y h0 h1 h2 => cov_top (inb := by decide) y h0 h1 h2) (by exact fun y h0 h1 => cov_row (inb := by decide) y h0 h1))
    (by exact fun i hi => ld_scr_lo (g := 1) i hi (by exact ⟨fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.tail _ (.head _)))) (by exact fun y h0 h1 h2 => cov_top (inb := by decide) y h0 h1 h2) (by exact fun y h0 h1 => cov_row (inb := by decide) y h0 h1)) rfl rfl x⟩
  · exact ⟨by decide, fun x => (X.group 2 (i3 := by decide) (c3 := shapeCasts_S256x256_S256x256)).pc_da (inb := by decide) (by decide) (X.band 2)
    (by exact fun i hi => ld_scr_hi (g := 2) i hi (by exact ⟨fun x => (X.group 2 (i3 := by decide) (c3 := shapeCasts_S256x256_S256x256)).pq_hi (inb := by decide) X.hT (by decide) hv rfl rfl rfl x, fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.tail _ (.tail _ (.head _))))) (by exact fun y h0 h1 h2 => cov_top (inb := by decide) y h0 h1 h2) (by exact fun y h0 h1 => cov_row (inb := by decide) y h0 h1))
    (by exact fun i hi => ld_scr_lo (g := 2) i hi (by exact ⟨fun x => (X.group 2 (i3 := by decide) (c3 := shapeCasts_S256x256_S256x256)).pq_lo (inb := by decide) X.hT (by decide) hv rfl x, fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.tail _ (.tail _ (.head _))))) (by exact fun y h0 h1 h2 => cov_top (inb := by decide) y h0 h1 h2) (by exact fun y h0 h1 => cov_row (inb := by decide) y h0 h1)) rfl rfl x⟩
  · exact cols_chunks (inb := by decide) (by exact ⟨fun x => (X.chunk 1 1 (by decide)).pc_du (inb := by decide) (by decide) rfl rfl x, fun x => (X.chunk 1 1 (by decide)).pc_dzs (inb := by decide) (by decide) rfl rfl x, fun x => (X.chunk 0 1 (by decide) (i8 := by decide) (i10 := by decide) (c10 := shapeCasts_S128x256_S128x256)).pc_dv (inb := by decide) (by decide) rfl rfl x, fun x => (X.chunk 0 1 (by decide)).pc_du (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 1 (by decide) (i8 := by decide) (i10 := by decide) (c10 := shapeCasts_S128x256_S128x256)).pc_dv (inb := by decide) (by decide) rfl rfl x, fun x => (X.chunk 1 1 (by decide)).pc_du (inb := by decide) (by decide) rfl rfl x, fun x => (X.chunk 1 1 (by decide)).pc_dzs (inb := by decide) (by decide) rfl rfl x, fun x => (X.chunk 0 1 (by decide) (i8 := by decide) (i10 := by decide) (c10 := shapeCasts_S128x256_S128x256)).pc_dv (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 1 (by decide)).pc_dzs (inb := by decide) (by decide) rfl rfl x, fun x => (X.chunk 0 1 (by decide) (i8 := by decide) (i10 := by decide) (c10 := shapeCasts_S128x256_S128x256)).pc_dv (inb := by decide) (by decide) rfl rfl x, fun x => (X.chunk 0 1 (by decide)).pc_du (inb := by decide) (by decide) rfl rfl x, fun x => (X.chunk 0 1 (by decide)).pc_dzs (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact ⟨by decide, fun x => (X.group 3 (i3 := by decide) (c3 := shapeCasts_S256x256_S256x256)).pc_da (inb := by decide) (by decide) (X.band 3)
    (by exact fun i hi => ld_scr_hi (g := 3) i hi (by exact ⟨fun x => (X.group 3 (i3 := by decide) (c3 := shapeCasts_S256x256_S256x256)).pq_hi (inb := by decide) X.hT (by decide) hv rfl rfl rfl x, fun x => (X.group 2 (i3 := by decide) (c3 := shapeCasts_S256x256_S256x256)).pq_hi (inb := by decide) X.hT (by decide) hv rfl rfl rfl x, fun x => (X.group 1 (i3 := by decide) (c3 := shapeCasts_S256x256_S256x256)).pq_hi (inb := by decide) X.hT (by decide) hv rfl rfl rfl x, fun x => (X.group 0 (i3 := by decide) (c3 := shapeCasts_S256x256_S256x256)).pq_hi (inb := by decide) X.hT (by decide) hv rfl rfl rfl x, fun x => pq_row (i1 := by decide) (hc := shapeCasts_S16x1024_S16x1024) (i2 := by decide) (fun i hi => (congrFun (read_unread_whole cc0_scratch0 (Memref.isWhole_whole _) _) i).trans (ph i hi)) x, trivial⟩) (by exact .head _) (by exact (.tail _ (.tail _ (.tail _ (.tail _ (.head _)))))) (by exact fun y h0 h1 h2 => cov_top (inb := by decide) y h0 h1 h2) (by exact fun y h0 h1 => cov_row (inb := by decide) y h0 h1))
    (by exact fun i hi => ld_scr_lo (g := 3) i hi (by exact ⟨fun x => (X.group 3 (i3 := by decide) (c3 := shapeCasts_S256x256_S256x256)).pq_lo (inb := by decide) X.hT (by decide) hv rfl x, fun x => (X.group 2 (i3 := by decide) (c3 := shapeCasts_S256x256_S256x256)).pq_lo (inb := by decide) X.hT (by decide) hv rfl x, fun x => (X.group 1 (i3 := by decide) (c3 := shapeCasts_S256x256_S256x256)).pq_lo (inb := by decide) X.hT (by decide) hv rfl x, fun x => (X.group 0 (i3 := by decide) (c3 := shapeCasts_S256x256_S256x256)).pq_lo (inb := by decide) X.hT (by decide) hv rfl x, fun x => pz_row (i1 := by decide) (hc := shapeCasts_S16x1024_S16x1024) (i2 := by decide) (fun i hi => (congrFun (read_unread_whole cc0_scratch1 (Memref.isWhole_whole _) _) i).trans (pl i hi)) x, trivial⟩) (by exact .head _) (by exact (.tail _ (.tail _ (.tail _ (.tail _ (.head _)))))) (by exact fun y h0 h1 h2 => cov_top (inb := by decide) y h0 h1 h2) (by exact fun y h0 h1 => cov_row (inb := by decide) y h0 h1)) rfl rfl x⟩
  · exact ⟨by decide, fun x => (X.group 0).pc_dz (inb := by decide) (by decide) rfl rfl x⟩
  · exact ⟨by decide, fun x => (X.group 1).pc_dz (inb := by decide) (by decide) rfl rfl x⟩
  · exact cols_chunks (inb := by decide) (by exact ⟨fun x => (X.chunk 1 2 (by decide)).pc_du (inb := by decide) (by decide) rfl rfl x, fun x => (X.chunk 1 2 (by decide)).pc_dzs (inb := by decide) (by decide) rfl rfl x, fun x => (X.chunk 0 2 (by decide) (i8 := by decide) (i10 := by decide) (c10 := shapeCasts_S128x256_S128x256)).pc_dv (inb := by decide) (by decide) rfl rfl x, fun x => (X.chunk 0 2 (by decide)).pc_du (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 2 (by decide) (i8 := by decide) (i10 := by decide) (c10 := shapeCasts_S128x256_S128x256)).pc_dv (inb := by decide) (by decide) rfl rfl x, fun x => (X.chunk 1 2 (by decide)).pc_du (inb := by decide) (by decide) rfl rfl x, fun x => (X.chunk 1 2 (by decide)).pc_dzs (inb := by decide) (by decide) rfl rfl x, fun x => (X.chunk 0 2 (by decide) (i8 := by decide) (i10 := by decide) (c10 := shapeCasts_S128x256_S128x256)).pc_dv (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 2 (by decide)).pc_dzs (inb := by decide) (by decide) rfl rfl x, fun x => (X.chunk 0 2 (by decide) (i8 := by decide) (i10 := by decide) (c10 := shapeCasts_S128x256_S128x256)).pc_dv (inb := by decide) (by decide) rfl rfl x, fun x => (X.chunk 0 2 (by decide)).pc_du (inb := by decide) (by decide) rfl rfl x, fun x => (X.chunk 0 2 (by decide)).pc_dzs (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact ⟨by decide, fun x => (X.group 2).pc_dz (inb := by decide) (by decide) rfl rfl x⟩
  · exact ⟨by decide, fun x => (X.group 3).pc_dz (inb := by decide) (by decide) rfl rfl x⟩
  · exact cols_chunks (inb := by decide) (by exact ⟨fun x => (X.chunk 1 3 (by decide)).pc_du (inb := by decide) (by decide) rfl rfl x, fun x => (X.chunk 1 3 (by decide)).pc_dzs (inb := by decide) (by decide) rfl rfl x, fun x => (X.chunk 0 3 (by decide) (i8 := by decide) (i10 := by decide) (c10 := shapeCasts_S128x256_S128x256)).pc_dv (inb := by decide) (by decide) rfl rfl x, fun x => (X.chunk 0 3 (by decide)).pc_du (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 3 (by decide) (i8 := by decide) (i10 := by decide) (c10 := shapeCasts_S128x256_S128x256)).pc_dv (inb := by decide) (by decide) rfl rfl x, fun x => (X.chunk 1 3 (by decide)).pc_du (inb := by decide) (by decide) rfl rfl x, fun x => (X.chunk 1 3 (by decide)).pc_dzs (inb := by decide) (by decide) rfl rfl x, fun x => (X.chunk 0 3 (by decide) (i8 := by decide) (i10 := by decide) (c10 := shapeCasts_S128x256_S128x256)).pc_dv (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)
  · exact cols_chunks (inb := by decide) (by exact ⟨fun x => (X.chunk 1 3 (by decide)).pc_dzs (inb := by decide) (by decide) rfl rfl x, fun x => (X.chunk 0 3 (by decide) (i8 := by decide) (i10 := by decide) (c10 := shapeCasts_S128x256_S128x256)).pc_dv (inb := by decide) (by decide) rfl rfl x, fun x => (X.chunk 0 3 (by decide)).pc_du (inb := by decide) (by decide) rfl rfl x, fun x => (X.chunk 0 3 (by decide)).pc_dzs (inb := by decide) (by decide) rfl rfl x, trivial⟩) (by exact .head _) (by exact .tail _ (.tail _ (.tail _ (.head _)))) (by exact fun y h0 h1 h2 h3 => cov_chunk (inb := by decide) y h0 h1 h2 h3) (by exact fun y h0 h1 h2 h3 => cov_chunk (inb := by decide) y h0 h1 h2 h3)

end Mixers.K
-- ==== Proof.RowsA.lean ====
/-
  What a first point leaves in the carried sums (rows): what was there and the tile's share.
-/
module

public import proofs.«01_k».proof.Proof.Point
public import proofs.«01_k».proof.Proof.Sums

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dps_A (D : Data) (T : ℕ) (t : Fin cfg0.N) (h0 : t.val % 32 = 0) (h1 : ¬t.val % 32 = 31) (X : PointIn m c D T t)
    (y : S1x1024.Idx) : (outsAt0 m c t.val t.isLt).2.2.2.1 y = plus (fun _ => 0) (tDps D T) y := by
  unfold PointIn at X
  rw [outsAt0_A m c t h0 h1]
  dsimp only
  frame_open
  simp (disch := decide) only [↓ View.readCov_skip, ↓ View.readCov_cons_toLoadRect, ↓ View.readCov_fill]
  frame_out
  refine canon_take 4 (e := .f32) (G := plus (fun _ => 0) (tDps D T)) ?_ y (View.cover_of_tiledBy _ ![1, 256] (by sl_kernel_rfl) y)
  exact ⟨fun x => (X.group 3 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dps (P := fun _ => 0) (by exact fun _ => Ideal.ofBits_zero_f32) (i1 := by decide) (hc := shapeCasts_S1x256_S1x256) (inb := by decide) rfl rfl x, fun x => (X.group 2 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dps (P := fun _ => 0) (by exact fun _ => Ideal.ofBits_zero_f32) (i1 := by decide) (hc := shapeCasts_S1x256_S1x256) (inb := by decide) rfl rfl x, fun x => (X.group 1 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dps (P := fun _ => 0) (by exact fun _ => Ideal.ofBits_zero_f32) (i1 := by decide) (hc := shapeCasts_S1x256_S1x256) (inb := by decide) rfl rfl x, fun x => (X.group 0 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dps (P := fun _ => 0) (by exact fun _ => Ideal.ofBits_zero_f32) (i1 := by decide) (hc := shapeCasts_S1x256_S1x256) (inb := by decide) rfl rfl x, trivial⟩

set_option maxHeartbeats 0 in
set_option pp.maxSteps 60 in
theorem dlg_A (D : Data) (T : ℕ) (t : Fin cfg0.N) (h0 : t.val % 32 = 0) (h1 : ¬t.val % 32 = 31) (X : PointIn m c D T t)
    (y : S1x1024.Idx) : (outsAt0 m c t.val t.isLt).2.2.2.2.1 y = plus (fun _ => 0) (tDlg D T) y := by
  unfold PointIn at X
  rw [outsAt0_A m c t h0 h1]
  dsimp only
  frame_open
  simp (disch := decide) only [↓ View.readCov_skip, ↓ View.readCov_cons_toLoadRect, ↓ View.readCov_fill]
  frame_out
  refine canon_pairs (e := .f32) (G := plus (fun _ => 0) (tDlg D T)) ?_ ?_ ?_ ?_ y ?_
  · exact (fun x => (X.chunk 0 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlg (X.chunk 1 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun _ => Ideal.ofBits_zero_f32) (i1 := by decide) (hc := shapeCasts_S1x256_S1x256) (hc' := shapeCasts_S1x256_S1x256) (inb := by decide) rfl rfl x)
  · exact (fun x => (X.chunk 0 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlg (X.chunk 1 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun _ => Ideal.ofBits_zero_f32) (i1 := by decide) (hc := shapeCasts_S1x256_S1x256) (hc' := shapeCasts_S1x256_S1x256) (inb := by decide) rfl rfl x)
  · exact (fun x => (X.chunk 0 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlg (X.chunk 1 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun _ => Ideal.ofBits_zero_f32) (i1 := by decide) (hc := shapeCasts_S1x256_S1x256) (hc' := shapeCasts_S1x256_S1x256) (inb := by decide) rfl rfl x)
  · exact (fun x => (X.chunk 0 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlg (X.chunk 1 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun _ => Ideal.ofBits_zero_f32) (i1 := by decide) (hc := shapeCasts_S1x256_S1x256) (hc' := shapeCasts_S1x256_S1x256) (inb := by decide) rfl rfl x)
  · exact quarter_row y

set_option maxHeartbeats 0 in
set_option pp.maxSteps 60 in
theorem dlb_A (D : Data) (T : ℕ) (t : Fin cfg0.N) (h0 : t.val % 32 = 0) (h1 : ¬t.val % 32 = 31) (X : PointIn m c D T t)
    (y : S1x1024.Idx) : (outsAt0 m c t.val t.isLt).2.2.2.2.2.1 y = plus (fun _ => 0) (tDlb D T) y := by
  unfold PointIn at X
  rw [outsAt0_A m c t h0 h1]
  dsimp only
  frame_open
  simp (disch := decide) only [↓ View.readCov_skip, ↓ View.readCov_cons_toLoadRect, ↓ View.readCov_fill]
  frame_out
  refine canon_pairs (e := .f32) (G := plus (fun _ => 0) (tDlb D T)) ?_ ?_ ?_ ?_ y ?_
  · exact (fun x => (X.chunk 0 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlb (X.chunk 1 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun _ => Ideal.ofBits_zero_f32) (i1 := by decide) (hc := shapeCasts_S1x256_S1x256) (hc' := shapeCasts_S1x256_S1x256) (inb := by decide) rfl rfl x)
  · exact (fun x => (X.chunk 0 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlb (X.chunk 1 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun _ => Ideal.ofBits_zero_f32) (i1 := by decide) (hc := shapeCasts_S1x256_S1x256) (hc' := shapeCasts_S1x256_S1x256) (inb := by decide) rfl rfl x)
  · exact (fun x => (X.chunk 0 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlb (X.chunk 1 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun _ => Ideal.ofBits_zero_f32) (i1 := by decide) (hc := shapeCasts_S1x256_S1x256) (hc' := shapeCasts_S1x256_S1x256) (inb := by decide) rfl rfl x)
  · exact (fun x => (X.chunk 0 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlb (X.chunk 1 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun _ => Ideal.ofBits_zero_f32) (i1 := by decide) (hc := shapeCasts_S1x256_S1x256) (hc' := shapeCasts_S1x256_S1x256) (inb := by decide) rfl rfl x)
  · exact quarter_row y

end Mixers.K
-- ==== Proof.RowsB.lean ====
/-
  What a middle point leaves in the carried sums (rows): what was there and the tile's share.
-/
module

public import proofs.«01_k».proof.Proof.Point
public import proofs.«01_k».proof.Proof.Sums

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dps_B (D : Data) (T : ℕ) (t : Fin cfg0.N) (h0 : ¬t.val % 32 = 0) (h1 : ¬t.val % 32 = 31) (X : PointIn m c D T t)
    (y : S1x1024.Idx) : (outsAt0 m c t.val t.isLt).2.2.2.1 y = plus ((prev m c t).2.2.2.1) (tDps D T) y := by
  unfold PointIn at X
  rw [outsAt0_B m c t h0 h1]
  dsimp only
  frame_open
  simp (disch := decide) only [↓ View.readCov_skip, ↓ View.readCov_cons_toLoadRect, ↓ View.readCov_fill]
  frame_out
  refine canon_take 4 (e := .f32) (G := plus ((prev m c t).2.2.2.1) (tDps D T)) ?_ y (View.cover_of_tiledBy _ ![1, 256] (by sl_kernel_rfl) y)
  exact ⟨fun x => (X.group 3 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dps (P := (prev m c t).2.2.2.1) (fun _ => rfl) (i1 := by decide) (hc := shapeCasts_S1x256_S1x256) (inb := by decide) rfl rfl x, fun x => (X.group 2 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dps (P := (prev m c t).2.2.2.1) (fun _ => rfl) (i1 := by decide) (hc := shapeCasts_S1x256_S1x256) (inb := by decide) rfl rfl x, fun x => (X.group 1 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dps (P := (prev m c t).2.2.2.1) (fun _ => rfl) (i1 := by decide) (hc := shapeCasts_S1x256_S1x256) (inb := by decide) rfl rfl x, fun x => (X.group 0 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dps (P := (prev m c t).2.2.2.1) (fun _ => rfl) (i1 := by decide) (hc := shapeCasts_S1x256_S1x256) (inb := by decide) rfl rfl x, trivial⟩

set_option maxHeartbeats 0 in
set_option pp.maxSteps 60 in
theorem dlg_B (D : Data) (T : ℕ) (t : Fin cfg0.N) (h0 : ¬t.val % 32 = 0) (h1 : ¬t.val % 32 = 31) (X : PointIn m c D T t)
    (y : S1x1024.Idx) : (outsAt0 m c t.val t.isLt).2.2.2.2.1 y = plus ((prev m c t).2.2.2.2.1) (tDlg D T) y := by
  unfold PointIn at X
  rw [outsAt0_B m c t h0 h1]
  dsimp only
  frame_open
  simp (disch := decide) only [↓ View.readCov_skip, ↓ View.readCov_cons_toLoadRect, ↓ View.readCov_fill]
  frame_out
  refine canon_pairs (e := .f32) (G := plus ((prev m c t).2.2.2.2.1) (tDlg D T)) ?_ ?_ ?_ ?_ y ?_
  · exact (fun x => (X.chunk 0 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlg (X.chunk 1 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.1) (fun _ => rfl) (i1 := by decide) (hc := shapeCasts_S1x256_S1x256) (hc' := shapeCasts_S1x256_S1x256) (inb := by decide) rfl rfl x)
  · exact (fun x => (X.chunk 0 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlg (X.chunk 1 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.1) (fun _ => rfl) (i1 := by decide) (hc := shapeCasts_S1x256_S1x256) (hc' := shapeCasts_S1x256_S1x256) (inb := by decide) rfl rfl x)
  · exact (fun x => (X.chunk 0 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlg (X.chunk 1 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.1) (fun _ => rfl) (i1 := by decide) (hc := shapeCasts_S1x256_S1x256) (hc' := shapeCasts_S1x256_S1x256) (inb := by decide) rfl rfl x)
  · exact (fun x => (X.chunk 0 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlg (X.chunk 1 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.1) (fun _ => rfl) (i1 := by decide) (hc := shapeCasts_S1x256_S1x256) (hc' := shapeCasts_S1x256_S1x256) (inb := by decide) rfl rfl x)
  · exact quarter_row y

set_option maxHeartbeats 0 in
set_option pp.maxSteps 60 in
theorem dlb_B (D : Data) (T : ℕ) (t : Fin cfg0.N) (h0 : ¬t.val % 32 = 0) (h1 : ¬t.val % 32 = 31) (X : PointIn m c D T t)
    (y : S1x1024.Idx) : (outsAt0 m c t.val t.isLt).2.2.2.2.2.1 y = plus ((prev m c t).2.2.2.2.2.1) (tDlb D T) y := by
  unfold PointIn at X
  rw [outsAt0_B m c t h0 h1]
  dsimp only
  frame_open
  simp (disch := decide) only [↓ View.readCov_skip, ↓ View.readCov_cons_toLoadRect, ↓ View.readCov_fill]
  frame_out
  refine canon_pairs (e := .f32) (G := plus ((prev m c t).2.2.2.2.2.1) (tDlb D T)) ?_ ?_ ?_ ?_ y ?_
  · exact (fun x => (X.chunk 0 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlb (X.chunk 1 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.1) (fun _ => rfl) (i1 := by decide) (hc := shapeCasts_S1x256_S1x256) (hc' := shapeCasts_S1x256_S1x256) (inb := by decide) rfl rfl x)
  · exact (fun x => (X.chunk 0 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlb (X.chunk 1 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.1) (fun _ => rfl) (i1 := by decide) (hc := shapeCasts_S1x256_S1x256) (hc' := shapeCasts_S1x256_S1x256) (inb := by decide) rfl rfl x)
  · exact (fun x => (X.chunk 0 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlb (X.chunk 1 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.1) (fun _ => rfl) (i1 := by decide) (hc := shapeCasts_S1x256_S1x256) (hc' := shapeCasts_S1x256_S1x256) (inb := by decide) rfl rfl x)
  · exact (fun x => (X.chunk 0 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlb (X.chunk 1 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.1) (fun _ => rfl) (i1 := by decide) (hc := shapeCasts_S1x256_S1x256) (hc' := shapeCasts_S1x256_S1x256) (inb := by decide) rfl rfl x)
  · exact quarter_row y

end Mixers.K
-- ==== Proof.RowsC.lean ====
/-
  What a last point leaves in the carried sums (rows): what was there and the tile's share.
-/
module

public import proofs.«01_k».proof.Proof.Point
public import proofs.«01_k».proof.Proof.Sums

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dps_C (D : Data) (T : ℕ) (t : Fin cfg0.N) (h0 : ¬t.val % 32 = 0) (h1 : t.val % 32 = 31) (X : PointIn m c D T t)
    (y : S1x1024.Idx) : (outsAt0 m c t.val t.isLt).2.2.2.1 y = plus ((prev m c t).2.2.2.1) (tDps D T) y := by
  unfold PointIn at X
  rw [outsAt0_C m c t h0 h1]
  dsimp only
  frame_open
  simp (disch := decide) only [↓ View.readCov_skip, ↓ View.readCov_cons_toLoadRect, ↓ View.readCov_fill]
  frame_out
  refine canon_take 4 (e := .f32) (G := plus ((prev m c t).2.2.2.1) (tDps D T)) ?_ y (View.cover_of_tiledBy _ ![1, 256] (by sl_kernel_rfl) y)
  exact ⟨fun x => (X.group 3 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dps (P := (prev m c t).2.2.2.1) (fun _ => rfl) (i1 := by decide) (hc := shapeCasts_S1x256_S1x256) (inb := by decide) rfl rfl x, fun x => (X.group 2 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dps (P := (prev m c t).2.2.2.1) (fun _ => rfl) (i1 := by decide) (hc := shapeCasts_S1x256_S1x256) (inb := by decide) rfl rfl x, fun x => (X.group 1 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dps (P := (prev m c t).2.2.2.1) (fun _ => rfl) (i1 := by decide) (hc := shapeCasts_S1x256_S1x256) (inb := by decide) rfl rfl x, fun x => (X.group 0 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dps (P := (prev m c t).2.2.2.1) (fun _ => rfl) (i1 := by decide) (hc := shapeCasts_S1x256_S1x256) (inb := by decide) rfl rfl x, trivial⟩

set_option maxHeartbeats 0 in
set_option pp.maxSteps 60 in
theorem dlg_C (D : Data) (T : ℕ) (t : Fin cfg0.N) (h0 : ¬t.val % 32 = 0) (h1 : t.val % 32 = 31) (X : PointIn m c D T t)
    (y : S1x1024.Idx) : (outsAt0 m c t.val t.isLt).2.2.2.2.1 y = plus ((prev m c t).2.2.2.2.1) (tDlg D T) y := by
  unfold PointIn at X
  rw [outsAt0_C m c t h0 h1]
  dsimp only
  frame_open
  simp (disch := decide) only [↓ View.readCov_skip, ↓ View.readCov_cons_toLoadRect, ↓ View.readCov_fill]
  frame_out
  refine canon_pairs (e := .f32) (G := plus ((prev m c t).2.2.2.2.1) (tDlg D T)) ?_ ?_ ?_ ?_ y ?_
  · exact (fun x => (X.chunk 0 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlg (X.chunk 1 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.1) (fun _ => rfl) (i1 := by decide) (hc := shapeCasts_S1x256_S1x256) (hc' := shapeCasts_S1x256_S1x256) (inb := by decide) rfl rfl x)
  · exact (fun x => (X.chunk 0 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlg (X.chunk 1 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.1) (fun _ => rfl) (i1 := by decide) (hc := shapeCasts_S1x256_S1x256) (hc' := shapeCasts_S1x256_S1x256) (inb := by decide) rfl rfl x)
  · exact (fun x => (X.chunk 0 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlg (X.chunk 1 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.1) (fun _ => rfl) (i1 := by decide) (hc := shapeCasts_S1x256_S1x256) (hc' := shapeCasts_S1x256_S1x256) (inb := by decide) rfl rfl x)
  · exact (fun x => (X.chunk 0 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlg (X.chunk 1 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.1) (fun _ => rfl) (i1 := by decide) (hc := shapeCasts_S1x256_S1x256) (hc' := shapeCasts_S1x256_S1x256) (inb := by decide) rfl rfl x)
  · exact quarter_row y

set_option maxHeartbeats 0 in
set_option pp.maxSteps 60 in
theorem dlb_C (D : Data) (T : ℕ) (t : Fin cfg0.N) (h0 : ¬t.val % 32 = 0) (h1 : t.val % 32 = 31) (X : PointIn m c D T t)
    (y : S1x1024.Idx) : (outsAt0 m c t.val t.isLt).2.2.2.2.2.1 y = plus ((prev m c t).2.2.2.2.2.1) (tDlb D T) y := by
  unfold PointIn at X
  rw [outsAt0_C m c t h0 h1]
  dsimp only
  frame_open
  simp (disch := decide) only [↓ View.readCov_skip, ↓ View.readCov_cons_toLoadRect, ↓ View.readCov_fill]
  frame_out
  refine canon_pairs (e := .f32) (G := plus ((prev m c t).2.2.2.2.2.1) (tDlb D T)) ?_ ?_ ?_ ?_ y ?_
  · exact (fun x => (X.chunk 0 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlb (X.chunk 1 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.1) (fun _ => rfl) (i1 := by decide) (hc := shapeCasts_S1x256_S1x256) (hc' := shapeCasts_S1x256_S1x256) (inb := by decide) rfl rfl x)
  · exact (fun x => (X.chunk 0 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlb (X.chunk 1 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.1) (fun _ => rfl) (i1 := by decide) (hc := shapeCasts_S1x256_S1x256) (hc' := shapeCasts_S1x256_S1x256) (inb := by decide) rfl rfl x)
  · exact (fun x => (X.chunk 0 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlb (X.chunk 1 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.1) (fun _ => rfl) (i1 := by decide) (hc := shapeCasts_S1x256_S1x256) (hc' := shapeCasts_S1x256_S1x256) (inb := by decide) rfl rfl x)
  · exact (fun x => (X.chunk 0 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dlb (X.chunk 1 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.1) (fun _ => rfl) (i1 := by decide) (hc := shapeCasts_S1x256_S1x256) (hc' := shapeCasts_S1x256_S1x256) (inb := by decide) rfl rfl x)
  · exact quarter_row y

end Mixers.K
-- ==== Proof.MatXA.lean ====
/-
  What a first point leaves in the carried sums (matrices): what was there and the tile's share.
-/
module

public import proofs.«01_k».proof.Proof.Point
public import proofs.«01_k».proof.Proof.Sums

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dsw_A (D : Data) (T : ℕ) (t : Fin cfg0.N) (h0 : t.val % 32 = 0) (h1 : ¬t.val % 32 = 31) (X : PointIn m c D T t)
    (y : S4x128x128.Idx) : (outsAt0 m c t.val t.isLt).2.2.2.2.2.2.1 y = plus (fun _ => 0) (tDsw D T) y := by
  unfold PointIn at X
  rw [outsAt0_A m c t h0 h1]
  dsimp only
  frame_open
  simp (disch := decide) only [↓ View.readCov_skip, ↓ View.readCov_cons_toLoadRect, ↓ View.readCov_fill]
  frame_out
  refine canon_pairs (e := .f32) (G := plus (fun _ => 0) (tDsw D T)) ?_ ?_ ?_ ?_ y ?_
  · exact (fun x => (X.chunk 0 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsw (X.chunk 1 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun _ => Ideal.ofBits_zero_f32) (i1 := by decide)  (inb := by decide) rfl x)
  · exact (fun x => (X.chunk 0 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsw (X.chunk 1 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun _ => Ideal.ofBits_zero_f32) (i1 := by decide)  (inb := by decide) rfl x)
  · exact (fun x => (X.chunk 0 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsw (X.chunk 1 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun _ => Ideal.ofBits_zero_f32) (i1 := by decide)  (inb := by decide) rfl x)
  · exact (fun x => (X.chunk 0 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsw (X.chunk 1 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun _ => Ideal.ofBits_zero_f32) (i1 := by decide)  (inb := by decide) rfl x)
  · exact quarter_sw y

end Mixers.K
-- ==== Proof.MatXB.lean ====
/-
  What a middle point leaves in the carried sums (matrices): what was there and the tile's share.
-/
module

public import proofs.«01_k».proof.Proof.Point
public import proofs.«01_k».proof.Proof.Sums

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dsw_B (D : Data) (T : ℕ) (t : Fin cfg0.N) (h0 : ¬t.val % 32 = 0) (h1 : ¬t.val % 32 = 31) (X : PointIn m c D T t)
    (y : S4x128x128.Idx) : (outsAt0 m c t.val t.isLt).2.2.2.2.2.2.1 y = plus ((prev m c t).2.2.2.2.2.2.1) (tDsw D T) y := by
  unfold PointIn at X
  rw [outsAt0_B m c t h0 h1]
  dsimp only
  frame_open
  simp (disch := decide) only [↓ View.readCov_skip, ↓ View.readCov_cons_toLoadRect, ↓ View.readCov_fill]
  frame_out
  refine canon_pairs (e := .f32) (G := plus ((prev m c t).2.2.2.2.2.2.1) (tDsw D T)) ?_ ?_ ?_ ?_ y ?_
  · exact (fun x => (X.chunk 0 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsw (X.chunk 1 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.2.1) (fun _ => rfl) (i1 := by decide)  (inb := by decide) rfl x)
  · exact (fun x => (X.chunk 0 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsw (X.chunk 1 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.2.1) (fun _ => rfl) (i1 := by decide)  (inb := by decide) rfl x)
  · exact (fun x => (X.chunk 0 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsw (X.chunk 1 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.2.1) (fun _ => rfl) (i1 := by decide)  (inb := by decide) rfl x)
  · exact (fun x => (X.chunk 0 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsw (X.chunk 1 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.2.1) (fun _ => rfl) (i1 := by decide)  (inb := by decide) rfl x)
  · exact quarter_sw y

end Mixers.K
-- ==== Proof.MatXC.lean ====
/-
  What a last point leaves in the carried sums (matrices): what was there and the tile's share.
-/
module

public import proofs.«01_k».proof.Proof.Point
public import proofs.«01_k».proof.Proof.Sums

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dsw_C (D : Data) (T : ℕ) (t : Fin cfg0.N) (h0 : ¬t.val % 32 = 0) (h1 : t.val % 32 = 31) (X : PointIn m c D T t)
    (y : S4x128x128.Idx) : (outsAt0 m c t.val t.isLt).2.2.2.2.2.2.1 y = (fun q : S4x128x128.Idx => if (q 2).val ≤ (q 1).val then plus ((prev m c t).2.2.2.2.2.2.1) (tDsw D T) q else 0) y := by
  unfold PointIn at X
  rw [outsAt0_C m c t h0 h1]
  dsimp only
  frame_open
  simp (disch := decide) only [↓ View.readCov_skip, ↓ View.readCov_cons_toLoadRect, ↓ View.readCov_fill]
  frame_out
  refine canon_take 4 (e := .f32) (G := fun q : S4x128x128.Idx => if (q 2).val ≤ (q 1).val then plus ((prev m c t).2.2.2.2.2.2.1) (tDsw D T) q else 0) ?_ y (View.cover_of_tiledBy _ ![1, 128, 128] (by sl_kernel_rfl) y)
  exact ⟨fun x => (X.chunk 0 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsw_last (X.chunk 1 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.2.1) (fun _ => rfl) (i1 := by decide) (inb := by decide) rfl x, fun x => (X.chunk 0 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsw_last (X.chunk 1 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.2.1) (fun _ => rfl) (i1 := by decide) (inb := by decide) rfl x, fun x => (X.chunk 0 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsw_last (X.chunk 1 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.2.1) (fun _ => rfl) (i1 := by decide) (inb := by decide) rfl x, fun x => (X.chunk 0 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsw_last (X.chunk 1 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.2.1) (fun _ => rfl) (i1 := by decide) (inb := by decide) rfl x, trivial⟩

end Mixers.K
-- ==== Proof.MatYA.lean ====
/-
  What a first point leaves in the carried sums (matrices): what was there and the tile's share.
-/
module

public import proofs.«01_k».proof.Proof.Point
public import proofs.«01_k».proof.Proof.Sums

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dpw_A (D : Data) (T : ℕ) (t : Fin cfg0.N) (h0 : t.val % 32 = 0) (h1 : ¬t.val % 32 = 31) (X : PointIn m c D T t)
    (y : S4x256x256.Idx) : (outsAt0 m c t.val t.isLt).2.2.2.2.2.2.2.2.2.2.1 y = plus (fun _ => 0) (tDpw D T) y := by
  unfold PointIn at X
  rw [outsAt0_A m c t h0 h1]
  dsimp only
  frame_open
  simp (disch := decide) only [↓ View.readCov_skip, ↓ View.readCov_cons_toLoadRect, ↓ View.readCov_fill]
  frame_out
  refine canon_take 4 (e := .f32) (G := plus (fun _ => 0) (tDpw D T)) ?_ y (View.cover_of_tiledBy _ ![1, 256, 256] (by sl_kernel_rfl) y)
  exact ⟨fun x => (X.group 3 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := fun _ => 0) (by exact fun i => (congrFun (shapeCast_self _ _) i).trans Ideal.ofBits_zero_f32) (i1 := by decide) (hc := shapeCasts_S1x256x256_S256x256) (hc' := shapeCasts_S256x256_S1x256x256) (inb := by decide) rfl x, fun x => (X.group 2 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := fun _ => 0) (by exact fun i => (congrFun (shapeCast_self _ _) i).trans Ideal.ofBits_zero_f32) (i1 := by decide) (hc := shapeCasts_S1x256x256_S256x256) (hc' := shapeCasts_S256x256_S1x256x256) (inb := by decide) rfl x, fun x => (X.group 1 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := fun _ => 0) (by exact fun i => (congrFun (shapeCast_self _ _) i).trans Ideal.ofBits_zero_f32) (i1 := by decide) (hc := shapeCasts_S1x256x256_S256x256) (hc' := shapeCasts_S256x256_S1x256x256) (inb := by decide) rfl x, fun x => (X.group 0 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := fun _ => 0) (by exact fun i => (congrFun (shapeCast_self _ _) i).trans Ideal.ofBits_zero_f32) (i1 := by decide) (hc := shapeCasts_S1x256x256_S256x256) (hc' := shapeCasts_S256x256_S1x256x256) (inb := by decide) rfl x, trivial⟩

end Mixers.K
-- ==== Proof.MatYB.lean ====
/-
  What a middle point leaves in the carried sums (matrices): what was there and the tile's share.
-/
module

public import proofs.«01_k».proof.Proof.Point
public import proofs.«01_k».proof.Proof.Sums

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dpw_B (D : Data) (T : ℕ) (t : Fin cfg0.N) (h0 : ¬t.val % 32 = 0) (h1 : ¬t.val % 32 = 31) (X : PointIn m c D T t)
    (y : S4x256x256.Idx) : (outsAt0 m c t.val t.isLt).2.2.2.2.2.2.2.2.2.2.1 y = plus ((prev m c t).2.2.2.2.2.2.2.2.2.2.1) (tDpw D T) y := by
  unfold PointIn at X
  rw [outsAt0_B m c t h0 h1]
  dsimp only
  frame_open
  simp (disch := decide) only [↓ View.readCov_skip, ↓ View.readCov_cons_toLoadRect, ↓ View.readCov_fill]
  frame_out
  refine canon_take 4 (e := .f32) (G := plus ((prev m c t).2.2.2.2.2.2.2.2.2.2.1) (tDpw D T)) ?_ y (View.cover_of_tiledBy _ ![1, 256, 256] (by sl_kernel_rfl) y)
  exact ⟨fun x => (X.group 3 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x, fun x => (X.group 2 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x, fun x => (X.group 1 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x, fun x => (X.group 0 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x, trivial⟩

end Mixers.K
-- ==== Proof.MatYC.lean ====
/-
  What a last point leaves in the carried sums (matrices): what was there and the tile's share.
-/
module

public import proofs.«01_k».proof.Proof.Point
public import proofs.«01_k».proof.Proof.Sums

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dsb_C (D : Data) (T : ℕ) (t : Fin cfg0.N) (h0 : ¬t.val % 32 = 0) (h1 : t.val % 32 = 31) (X : PointIn m c D T t)
    (y : S4x128.Idx) : (outsAt0 m c t.val t.isLt).2.2.2.2.2.2.2.1 y = (fun q : S4x128.Idx => ∑ k : Fin 256, plus ((prev m c t).2.2.2.2.2.2.2.2.2.2.2) (tDsb D T) (ix2 (q 1) (⟨(q 0).val * 256 + k.val, by have h1 := k.isLt; have h2 : (q 0).val < 4 := (q 0).isLt; omega⟩ : Fin 1024))) y := by
  unfold PointIn at X
  rw [outsAt0_C m c t h0 h1]
  dsimp only
  frame_open
  simp (disch := decide) only [↓ View.readCov_skip, ↓ View.readCov_cons_toLoadRect, ↓ View.readCov_fill]
  frame_out
  refine canon_pieces (e := .f32) (G := fun q : S4x128.Idx => ∑ k : Fin 256, plus ((prev m c t).2.2.2.2.2.2.2.2.2.2.2) (tDsb D T) (ix2 (q 1) (⟨(q 0).val * 256 + k.val, by have h1 := k.isLt; have h2 : (q 0).val < 4 := (q 0).isLt; omega⟩ : Fin 1024))) ?_ y (View.cover_of_tiledBy _ ![1, 128] (by sl_kernel_rfl) y)
  exact ⟨fun x => (X.chunk 0 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsb_last (X.chunk 1 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (by decide) (P := (prev m c t).2.2.2.2.2.2.2.2.2.2.2) (by exact fun i => congrFun (read_unread_whole cc0_scratch3 (Memref.isWhole_whole _) _) i) (i1 := by decide) (inb := by decide) rfl x, fun x => (X.chunk 0 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsb_last (X.chunk 1 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (by decide) (P := (prev m c t).2.2.2.2.2.2.2.2.2.2.2) (by exact fun i => congrFun (read_unread_whole cc0_scratch3 (Memref.isWhole_whole _) _) i) (i1 := by decide) (inb := by decide) rfl x, fun x => (X.chunk 0 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsb_last (X.chunk 1 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (by decide) (P := (prev m c t).2.2.2.2.2.2.2.2.2.2.2) (by exact fun i => congrFun (read_unread_whole cc0_scratch3 (Memref.isWhole_whole _) _) i) (i1 := by decide) (inb := by decide) rfl x, fun x => (X.chunk 0 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsb_last (X.chunk 1 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (by decide) (P := (prev m c t).2.2.2.2.2.2.2.2.2.2.2) (by exact fun i => congrFun (read_unread_whole cc0_scratch3 (Memref.isWhole_whole _) _) i) (i1 := by decide) (inb := by decide) rfl x, trivial⟩

end Mixers.K
-- ==== Proof.MatZA.lean ====
/-
  What a first point leaves in the carried sums (matrices): what was there and the tile's share.
-/
module

public import proofs.«01_k».proof.Proof.Point
public import proofs.«01_k».proof.Proof.Sums

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dsb_A (D : Data) (T : ℕ) (t : Fin cfg0.N) (h0 : t.val % 32 = 0) (h1 : ¬t.val % 32 = 31) (X : PointIn m c D T t)
    (y : S128x1024.Idx) : (outsAt0 m c t.val t.isLt).2.2.2.2.2.2.2.2.2.2.2 y = plus (fun _ => 0) (tDsb D T) y := by
  unfold PointIn at X
  rw [outsAt0_A m c t h0 h1]
  dsimp only
  frame_open
  simp (disch := decide) only [↓ View.readCov_skip, ↓ View.readCov_cons_toLoadRect, ↓ View.readCov_fill]
  frame_out
  refine canon_pairs (e := .f32) (G := plus (fun _ => 0) (tDsb D T)) ?_ ?_ ?_ ?_ y ?_
  · exact (fun x => (X.chunk 0 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsb (X.chunk 1 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun i => (congrFun (shapeCast_self _ _) i).trans Ideal.ofBits_zero_f32) (i1 := by decide)  (inb := by decide) rfl rfl x)
  · exact (fun x => (X.chunk 0 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsb (X.chunk 1 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun i => (congrFun (shapeCast_self _ _) i).trans Ideal.ofBits_zero_f32) (i1 := by decide)  (inb := by decide) rfl rfl x)
  · exact (fun x => (X.chunk 0 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsb (X.chunk 1 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun i => (congrFun (shapeCast_self _ _) i).trans Ideal.ofBits_zero_f32) (i1 := by decide)  (inb := by decide) rfl rfl x)
  · exact (fun x => (X.chunk 0 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsb (X.chunk 1 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := fun _ => 0) (by exact fun i => (congrFun (shapeCast_self _ _) i).trans Ideal.ofBits_zero_f32) (i1 := by decide)  (inb := by decide) rfl rfl x)
  · exact quarter_sb y

end Mixers.K
-- ==== Proof.MatZB.lean ====
/-
  What a middle point leaves in the carried sums (matrices): what was there and the tile's share.
-/
module

public import proofs.«01_k».proof.Proof.Point
public import proofs.«01_k».proof.Proof.Sums

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dsb_B (D : Data) (T : ℕ) (t : Fin cfg0.N) (h0 : ¬t.val % 32 = 0) (h1 : ¬t.val % 32 = 31) (X : PointIn m c D T t)
    (y : S128x1024.Idx) : (outsAt0 m c t.val t.isLt).2.2.2.2.2.2.2.2.2.2.2 y = plus ((prev m c t).2.2.2.2.2.2.2.2.2.2.2) (tDsb D T) y := by
  unfold PointIn at X
  rw [outsAt0_B m c t h0 h1]
  dsimp only
  frame_open
  simp (disch := decide) only [↓ View.readCov_skip, ↓ View.readCov_cons_toLoadRect, ↓ View.readCov_fill]
  frame_out
  refine canon_pairs (e := .f32) (G := plus ((prev m c t).2.2.2.2.2.2.2.2.2.2.2) (tDsb D T)) ?_ ?_ ?_ ?_ y ?_
  · exact (fun x => (X.chunk 0 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsb (X.chunk 1 3 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.2.2.2.2.2.2) (by exact fun i => congrFun (read_unread_whole cc0_scratch3 (Memref.isWhole_whole _) _) i) (i1 := by decide)  (inb := by decide) rfl rfl x)
  · exact (fun x => (X.chunk 0 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsb (X.chunk 1 2 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.2.2.2.2.2.2) (by exact fun i => congrFun (read_unread_whole cc0_scratch3 (Memref.isWhole_whole _) _) i) (i1 := by decide)  (inb := by decide) rfl rfl x)
  · exact (fun x => (X.chunk 0 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsb (X.chunk 1 1 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.2.2.2.2.2.2) (by exact fun i => congrFun (read_unread_whole cc0_scratch3 (Memref.isWhole_whole _) _) i) (i1 := by decide)  (inb := by decide) rfl rfl x)
  · exact (fun x => (X.chunk 0 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)).pc_dsb (X.chunk 1 0 (i9 := by decide) (c9 := shapeCasts_S1x128x128_S128x128) (iu := by decide) (cu := shapeCasts_S128x256_S128x256) (eu := bitsLt_bf16_f32) (iv := by decide) (cv := shapeCasts_S128x256_S128x256) (ev := bitsLt_bf16_f32) (iz := by decide) (cz := shapeCasts_S128x256_S128x256) (ez := bitsLt_bf16_f32) (iy := by decide) (i7 := by decide) (i8 := by decide) (i10 := by decide) (c10 := shapeCasts_S128x256_S128x256) (by decide)) (P := (prev m c t).2.2.2.2.2.2.2.2.2.2.2) (by exact fun i => congrFun (read_unread_whole cc0_scratch3 (Memref.isWhole_whole _) _) i) (i1 := by decide)  (inb := by decide) rfl rfl x)
  · exact quarter_sb y

end Mixers.K
-- ==== Proof.MatZC.lean ====
/-
  What a last point leaves in the carried sums (matrices): what was there and the tile's share.
-/
module

public import proofs.«01_k».proof.Proof.Point
public import proofs.«01_k».proof.Proof.Sums

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

set_option maxHeartbeats 0 in
set_option pp.maxSteps 60 in
theorem dpw_C (D : Data) (T : ℕ) (t : Fin cfg0.N) (h0 : ¬t.val % 32 = 0) (h1 : t.val % 32 = 31) (X : PointIn m c D T t)
    (y : S8x4x32x256.Idx) : (outsAt0 m c t.val t.isLt).2.2.1 y = (fun q : S8x4x32x256.Idx => plus ((prev m c t).2.2.2.2.2.2.2.2.2.2.1) (tDpw D T) (ix3 (q 1) (⟨(q 0).val * 32 + (q 2).val, by have h1 : (q 0).val < 8 := (q 0).isLt; have h2 : (q 2).val < 32 := (q 2).isLt; omega⟩ : Fin 256) (q 3))) y := by
  unfold PointIn at X
  rw [outsAt0_C m c t h0 h1]
  dsimp only
  frame_open
  simp (disch := decide) only [↓ View.readCov_skip, ↓ View.readCov_cons_toLoadRect, ↓ View.readCov_fill]
  frame_out
  simp only [View.readCov_eq_canon', canon_slab]
  obtain ⟨G, hG⟩ : ∃ G, G = plus ((prev m c t).2.2.2.2.2.2.2.2.2.2.1) (tDpw D T) := ⟨_, rfl⟩
  rw [← hG]
  refine canon_pieces (e := .f32) (G := fun q : S8x4x32x256.Idx => G (ix3 (q 1) (⟨(q 0).val * 32 + (q 2).val, by have h1 : (q 0).val < 8 := (q 0).isLt; have h2 : (q 2).val < 32 := (q 2).isLt; omega⟩ : Fin 256) (q 3))) ?_ y (View.cover_of_tiledBy _ ![1, 1, 32, 256] (by sl_kernel_rfl) y)
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · dsimp only
    refine pc_flush (G := G) (g := 3) (j := 7) (o := 224) (i0 := by decide) (inb := by decide) rfl (by decide) ?_ x
    subst hG
    exact fun x => (X.group 3 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 3) (j := 6) (o := 192) (i0 := by decide) (inb := by decide) rfl (by decide) ?_ x
    subst hG
    exact fun x => (X.group 3 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 3) (j := 5) (o := 160) (i0 := by decide) (inb := by decide) rfl (by decide) ?_ x
    subst hG
    exact fun x => (X.group 3 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 3) (j := 4) (o := 128) (i0 := by decide) (inb := by decide) rfl (by decide) ?_ x
    subst hG
    exact fun x => (X.group 3 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 3) (j := 3) (o := 96) (i0 := by decide) (inb := by decide) rfl (by decide) ?_ x
    subst hG
    exact fun x => (X.group 3 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 3) (j := 2) (o := 64) (i0 := by decide) (inb := by decide) rfl (by decide) ?_ x
    subst hG
    exact fun x => (X.group 3 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 3) (j := 1) (o := 32) (i0 := by decide) (inb := by decide) rfl (by decide) ?_ x
    subst hG
    exact fun x => (X.group 3 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 3) (j := 0) (o := 0) (i0 := by decide) (inb := by decide) rfl (by decide) ?_ x
    subst hG
    exact fun x => (X.group 3 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 2) (j := 7) (o := 224) (i0 := by decide) (inb := by decide) rfl (by decide) ?_ x
    subst hG
    exact fun x => (X.group 2 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 2) (j := 6) (o := 192) (i0 := by decide) (inb := by decide) rfl (by decide) ?_ x
    subst hG
    exact fun x => (X.group 2 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 2) (j := 5) (o := 160) (i0 := by decide) (inb := by decide) rfl (by decide) ?_ x
    subst hG
    exact fun x => (X.group 2 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 2) (j := 4) (o := 128) (i0 := by decide) (inb := by decide) rfl (by decide) ?_ x
    subst hG
    exact fun x => (X.group 2 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 2) (j := 3) (o := 96) (i0 := by decide) (inb := by decide) rfl (by decide) ?_ x
    subst hG
    exact fun x => (X.group 2 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 2) (j := 2) (o := 64) (i0 := by decide) (inb := by decide) rfl (by decide) ?_ x
    subst hG
    exact fun x => (X.group 2 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 2) (j := 1) (o := 32) (i0 := by decide) (inb := by decide) rfl (by decide) ?_ x
    subst hG
    exact fun x => (X.group 2 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 2) (j := 0) (o := 0) (i0 := by decide) (inb := by decide) rfl (by decide) ?_ x
    subst hG
    exact fun x => (X.group 2 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 1) (j := 7) (o := 224) (i0 := by decide) (inb := by decide) rfl (by decide) ?_ x
    subst hG
    exact fun x => (X.group 1 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 1) (j := 6) (o := 192) (i0 := by decide) (inb := by decide) rfl (by decide) ?_ x
    subst hG
    exact fun x => (X.group 1 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 1) (j := 5) (o := 160) (i0 := by decide) (inb := by decide) rfl (by decide) ?_ x
    subst hG
    exact fun x => (X.group 1 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 1) (j := 4) (o := 128) (i0 := by decide) (inb := by decide) rfl (by decide) ?_ x
    subst hG
    exact fun x => (X.group 1 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 1) (j := 3) (o := 96) (i0 := by decide) (inb := by decide) rfl (by decide) ?_ x
    subst hG
    exact fun x => (X.group 1 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 1) (j := 2) (o := 64) (i0 := by decide) (inb := by decide) rfl (by decide) ?_ x
    subst hG
    exact fun x => (X.group 1 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 1) (j := 1) (o := 32) (i0 := by decide) (inb := by decide) rfl (by decide) ?_ x
    subst hG
    exact fun x => (X.group 1 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 1) (j := 0) (o := 0) (i0 := by decide) (inb := by decide) rfl (by decide) ?_ x
    subst hG
    exact fun x => (X.group 1 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 0) (j := 7) (o := 224) (i0 := by decide) (inb := by decide) rfl (by decide) ?_ x
    subst hG
    exact fun x => (X.group 0 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 0) (j := 6) (o := 192) (i0 := by decide) (inb := by decide) rfl (by decide) ?_ x
    subst hG
    exact fun x => (X.group 0 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 0) (j := 5) (o := 160) (i0 := by decide) (inb := by decide) rfl (by decide) ?_ x
    subst hG
    exact fun x => (X.group 0 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 0) (j := 4) (o := 128) (i0 := by decide) (inb := by decide) rfl (by decide) ?_ x
    subst hG
    exact fun x => (X.group 0 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 0) (j := 3) (o := 96) (i0 := by decide) (inb := by decide) rfl (by decide) ?_ x
    subst hG
    exact fun x => (X.group 0 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 0) (j := 2) (o := 64) (i0 := by decide) (inb := by decide) rfl (by decide) ?_ x
    subst hG
    exact fun x => (X.group 0 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 0) (j := 1) (o := 32) (i0 := by decide) (inb := by decide) rfl (by decide) ?_ x
    subst hG
    exact fun x => (X.group 0 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x
  · dsimp only
    refine pc_flush (G := G) (g := 0) (j := 0) (o := 0) (i0 := by decide) (inb := by decide) rfl (by decide) ?_ x
    subst hG
    exact fun x => (X.group 0 (i3 := by decide) (c3 := shapeCasts_S256x256_S256x256) (i5 := by decide) (c5 := shapeCasts_S1x256x256_S256x256) (iz := by decide) (cz := shapeCasts_S256x256_S256x256) (ez := bitsLt_bf16_f32) (iy := by decide) (i6 := by decide)).pc_dpw (P := (prev m c t).2.2.2.2.2.2.2.2.2.2.1) (by exact fun i => congrFun (read_unread_whole cc0_scratch2 (Memref.isWhole_whole _) _) i) (i1 := by decide) (hc := shapeCasts_S1x256x256_S256x256) (hc' := shapeCasts_S256x256_S1x256x256) (inb := by decide) rfl x

end Mixers.K
-- ==== Proof.Steps.lean ====
/-
  The whole run, point by point: what is carried from tile to tile, the blocks of the two large results, and the sums after the last tile.
-/
module

public import proofs.«01_k».proof.Proof.Sums
public import proofs.«01_k».proof.Proof.DhA
public import proofs.«01_k».proof.Proof.DhB
public import proofs.«01_k».proof.Proof.DhC
public import proofs.«01_k».proof.Proof.CarryA
public import proofs.«01_k».proof.Proof.CarryB
public import proofs.«01_k».proof.Proof.DxA
public import proofs.«01_k».proof.Proof.DxB
public import proofs.«01_k».proof.Proof.DxC
public import proofs.«01_k».proof.Proof.RowsA
public import proofs.«01_k».proof.Proof.RowsB
public import proofs.«01_k».proof.Proof.RowsC
public import proofs.«01_k».proof.Proof.MatXA
public import proofs.«01_k».proof.Proof.MatXB
public import proofs.«01_k».proof.Proof.MatXC
public import proofs.«01_k».proof.Proof.MatYA
public import proofs.«01_k».proof.Proof.MatYB
public import proofs.«01_k».proof.Proof.MatYC
public import proofs.«01_k».proof.Proof.MatZA
public import proofs.«01_k».proof.Proof.MatZB
public import proofs.«01_k».proof.Proof.MatZC

@[expose] public section

set_option maxRecDepth 16384

noncomputable section

namespace Mixers.K

open scoped BigOperators
open Cert.KernelIdeal Cert.KernelIdeal.Gen Idealize.ShloMosaic Idealize.ShloMosaic.Pipeline

variable (m : (ℓ : Loc nD τ Cert.KernelIdeal.sig) → Buf (Elt Ideal) ℓ) (c : Dev nD)

/-- Every grid point's blocks are the real data of its tile; tiles run from the last to the first. -/
def Points (D : Data) : Prop := ∀ t : Fin cfg0.N, PointIn m c D (31 - t.val) t ∧ PointTile (31 - t.val) t

variable {m c}

theorem N_eq : cfg0.N = 32 := rfl

/-- What every point but the last carries to the next: the gradients of the window's sums, and zero below them. -/
theorem carry {D : Data} (X : Points m c D) : ∀ (n : ℕ) (h : n < cfg0.N), n < 31 → ∀ i : S384x1024.Idx, (i 0).val < 272 →
    (outsAt0 m c n h).2.2.2.2.2.2.2.2.1 i = GQ D (31 - n) i ∧ (outsAt0 m c n h).2.2.2.2.2.2.2.2.2.1 i = (0 : EReal)
  | 0, h, _, i, hi => ⟨qh_A m c D ⟨0, h⟩ rfl (by show ¬0 % 32 = 31; decide) (X ⟨0, h⟩).1 (X ⟨0, h⟩).2 i hi,
      ql_A m c D ⟨0, h⟩ rfl (by show ¬0 % 32 = 31; decide) (X ⟨0, h⟩).1 (X ⟨0, h⟩).2 i hi⟩
  | n + 1, h, hn, i, hi => by
      have ih := carry X n (Nat.lt_of_succ_lt h) (by omega)
      have h0 : ¬(n + 1) % 32 = 0 := by omega
      have h1 : ¬(n + 1) % 32 = 31 := by omega
      have ph : CarryHi m c D (31 - (n + 1)) ⟨n + 1, h⟩ := by
        intro i hi
        have := (ih i (by omega)).1
        rw [show 31 - n = 31 - (n + 1) + 1 by omega] at this
        exact this
      have pl : CarryLo m c ⟨n + 1, h⟩ := fun i hi => (ih i (by omega)).2
      exact ⟨qh_B m c D (31 - (n + 1)) ⟨n + 1, h⟩ h0 h1 (X ⟨n + 1, h⟩).1 (X ⟨n + 1, h⟩).2 ph pl i hi,
        ql_B m c D (31 - (n + 1)) ⟨n + 1, h⟩ h0 h1 (X ⟨n + 1, h⟩).1 (X ⟨n + 1, h⟩).2 ph pl i hi⟩

theorem carryHi {D : Data} (X : Points m c D) (t : Fin cfg0.N) (ht : t.val ≠ 0) : CarryHi m c D (31 - t.val) t := by
  intro i hi
  have hN : t.val < 32 := t.isLt
  have := (carry X (t.val - 1) (Nat.lt_of_le_of_lt (Nat.sub_le _ _) t.isLt) (by omega) i (by omega)).1
  rw [show 31 - (t.val - 1) = 31 - t.val + 1 by omega] at this
  exact this
theorem carryLo {D : Data} (X : Points m c D) (t : Fin cfg0.N) (ht : t.val ≠ 0) : CarryLo m c t := by
  intro i hi
  have hN : t.val < 32 := t.isLt
  exact (carry X (t.val - 1) (Nat.lt_of_le_of_lt (Nat.sub_le _ _) t.isLt) (by omega) i (by omega)).2

theorem dh_at {D : Data} (X : Points m c D) (t : Fin cfg0.N) (y : S256x5120.Idx) : (outsAt0 m c t.val t.isLt).1 y = GDH D (31 - t.val) y := by
  have hN : t.val < 32 := t.isLt
  by_cases e0 : t.val = 0
  · have X' := X t
    rw [show 31 - t.val = 31 by omega] at X' ⊢
    exact dh_A m c D t (by omega) (by omega) X'.1 X'.2 y
  · by_cases e1 : t.val = 31
    · exact dh_C m c D _ t (by omega) (by omega) (X t).1 (X t).2 (carryHi X t e0) (carryLo X t e0) y
    · exact dh_B m c D _ t (by omega) (by omega) (X t).1 (X t).2 (carryHi X t e0) (carryLo X t e0) y

theorem dx_at {D : Data} (X : Points m c D) (t : Fin cfg0.N) (y : S256x1024.Idx) : (outsAt0 m c t.val t.isLt).2.1 y = (show S256x1024.Idx → EReal from iblk m c 2 t) y + ∑ e : Fin 5120, GDH D (31 - t.val) (ix2 (y 0) e) * (show S1024x5120.Idx → EReal from iblk m c 4 t) (ix2 (y 1) e) := by
  have hN : t.val < 32 := t.isLt
  by_cases e0 : t.val = 0
  · have X' := X t
    rw [show 31 - t.val = 31 by omega] at X' ⊢
    exact dx_A m c D t (by omega) (by omega) X'.1 X'.2 y
  · by_cases e1 : t.val = 31
    · exact dx_C m c D _ t (by omega) (by omega) (X t).1 (X t).2 (carryHi X t e0) (carryLo X t e0) y
    · exact dx_B m c D _ t (by omega) (by omega) (X t).1 (X t).2 (carryHi X t e0) (carryLo X t e0) y

/-- A sum that the first point starts and each later point adds its share to. -/
theorem acc {s : Shape} (F : (n : ℕ) → n < cfg0.N → s.Idx → EReal) (tt : ℕ → s.Idx → ℝ) (M : ℕ)
    (hA : ∀ h y, F 0 h y = plus (fun _ => 0) (tt 31) y)
    (hB : ∀ n h, n + 1 < M → ∀ y, F (n + 1) h y = plus (F n (Nat.lt_of_succ_lt h)) (tt (31 - (n + 1))) y) :
    ∀ (n : ℕ) (h : n < cfg0.N), n < M → ∀ y, F n h y = ((∑ j ∈ Finset.range (n + 1), tt (31 - j) y : ℝ) : EReal)
  | 0, h, _, y => by
      rw [hA h y]
      simp [plus]
  | n + 1, h, hn, y => by
      rw [hB n h hn y, Finset.sum_range_succ, EReal.coe_add]
      show F n _ y + _ = _
      rw [acc F tt M hA hB n (Nat.lt_of_succ_lt h) (by omega) y]

theorem dps_at {D : Data} (X : Points m c D) (n : ℕ) (h : n < cfg0.N) (hn : n < 32) (y : S1x1024.Idx) :
    (outsAt0 m c n h).2.2.2.1 y = ((∑ j ∈ Finset.range (n + 1), tDps D (31 - j) y : ℝ) : EReal) :=
  acc (fun n h => (outsAt0 m c n h).2.2.2.1) (fun T => tDps D T) 32
    (fun h y => dps_A m c D 31 ⟨0, h⟩ rfl (by show ¬0 % 32 = 31; decide) (X ⟨0, h⟩).1 y)
    (fun n h hn y => by
      by_cases e : n + 1 = 31
      · exact dps_C m c D (31 - (n + 1)) ⟨n + 1, h⟩ (by show ¬(n + 1) % 32 = 0; omega) (by show (n + 1) % 32 = 31; omega) (X ⟨n + 1, h⟩).1 y
      · exact dps_B m c D (31 - (n + 1)) ⟨n + 1, h⟩ (by show ¬(n + 1) % 32 = 0; omega) (by show ¬(n + 1) % 32 = 31; omega) (X ⟨n + 1, h⟩).1 y)
    n h hn y

theorem dlg_at {D : Data} (X : Points m c D) (n : ℕ) (h : n < cfg0.N) (hn : n < 32) (y : S1x1024.Idx) :
    (outsAt0 m c n h).2.2.2.2.1 y = ((∑ j ∈ Finset.range (n + 1), tDlg D (31 - j) y : ℝ) : EReal) :=
  acc (fun n h => (outsAt0 m c n h).2.2.2.2.1) (fun T => tDlg D T) 32
    (fun h y => dlg_A m c D 31 ⟨0, h⟩ rfl (by show ¬0 % 32 = 31; decide) (X ⟨0, h⟩).1 y)
    (fun n h hn y => by
      by_cases e : n + 1 = 31
      · exact dlg_C m c D (31 - (n + 1)) ⟨n + 1, h⟩ (by show ¬(n + 1) % 32 = 0; omega) (by show (n + 1) % 32 = 31; omega) (X ⟨n + 1, h⟩).1 y
      · exact dlg_B m c D (31 - (n + 1)) ⟨n + 1, h⟩ (by show ¬(n + 1) % 32 = 0; omega) (by show ¬(n + 1) % 32 = 31; omega) (X ⟨n + 1, h⟩).1 y)
    n h hn y

theorem dlb_at {D : Data} (X : Points m c D) (n : ℕ) (h : n < cfg0.N) (hn : n < 32) (y : S1x1024.Idx) :
    (outsAt0 m c n h).2.2.2.2.2.1 y = ((∑ j ∈ Finset.range (n + 1), tDlb D (31 - j) y : ℝ) : EReal) :=
  acc (fun n h => (outsAt0 m c n h).2.2.2.2.2.1) (fun T => tDlb D T) 32
    (fun h y => dlb_A m c D 31 ⟨0, h⟩ rfl (by show ¬0 % 32 = 31; decide) (X ⟨0, h⟩).1 y)
    (fun n h hn y => by
      by_cases e : n + 1 = 31
      · exact dlb_C m c D (31 - (n + 1)) ⟨n + 1, h⟩ (by show ¬(n + 1) % 32 = 0; omega) (by show (n + 1) % 32 = 31; omega) (X ⟨n + 1, h⟩).1 y
      · exact dlb_B m c D (31 - (n + 1)) ⟨n + 1, h⟩ (by show ¬(n + 1) % 32 = 0; omega) (by show ¬(n + 1) % 32 = 31; omega) (X ⟨n + 1, h⟩).1 y)
    n h hn y

theorem dsw_at {D : Data} (X : Points m c D) (n : ℕ) (h : n < cfg0.N) (hn : n < 31) (y : S4x128x128.Idx) :
    (outsAt0 m c n h).2.2.2.2.2.2.1 y = ((∑ j ∈ Finset.range (n + 1), tDsw D (31 - j) y : ℝ) : EReal) :=
  acc (fun n h => (outsAt0 m c n h).2.2.2.2.2.2.1) (fun T => tDsw D T) 31
    (fun h y => dsw_A m c D 31 ⟨0, h⟩ rfl (by show ¬0 % 32 = 31; decide) (X ⟨0, h⟩).1 y)
    (fun n h hn y => by
      exact dsw_B m c D (31 - (n + 1)) ⟨n + 1, h⟩ (by show ¬(n + 1) % 32 = 0; omega) (by show ¬(n + 1) % 32 = 31; omega) (X ⟨n + 1, h⟩).1 y)
    n h hn y

theorem dpw_at {D : Data} (X : Points m c D) (n : ℕ) (h : n < cfg0.N) (hn : n < 31) (y : S4x256x256.Idx) :
    (outsAt0 m c n h).2.2.2.2.2.2.2.2.2.2.1 y = ((∑ j ∈ Finset.range (n + 1), tDpw D (31 - j) y : ℝ) : EReal) :=
  acc (fun n h => (outsAt0 m c n h).2.2.2.2.2.2.2.2.2.2.1) (fun T => tDpw D T) 31
    (fun h y => dpw_A m c D 31 ⟨0, h⟩ rfl (by show ¬0 % 32 = 31; decide) (X ⟨0, h⟩).1 y)
    (fun n h hn y => by
      exact dpw_B m c D (31 - (n + 1)) ⟨n + 1, h⟩ (by show ¬(n + 1) % 32 = 0; omega) (by show ¬(n + 1) % 32 = 31; omega) (X ⟨n + 1, h⟩).1 y)
    n h hn y

theorem dsb_at {D : Data} (X : Points m c D) (n : ℕ) (h : n < cfg0.N) (hn : n < 31) (y : S128x1024.Idx) :
    (outsAt0 m c n h).2.2.2.2.2.2.2.2.2.2.2 y = ((∑ j ∈ Finset.range (n + 1), tDsb D (31 - j) y : ℝ) : EReal) :=
  acc (fun n h => (outsAt0 m c n h).2.2.2.2.2.2.2.2.2.2.2) (fun T => tDsb D T) 31
    (fun h y => dsb_A m c D 31 ⟨0, h⟩ rfl (by show ¬0 % 32 = 31; decide) (X ⟨0, h⟩).1 y)
    (fun n h hn y => by
      exact dsb_B m c D (31 - (n + 1)) ⟨n + 1, h⟩ (by show ¬(n + 1) % 32 = 0; omega) (by show ¬(n + 1) % 32 = 31; omega) (X ⟨n + 1, h⟩).1 y)
    n h hn y

theorem plus_dsw {D : Data} (X : Points m c D) (t : Fin cfg0.N) (ht : t.val = 31) (q : S4x128x128.Idx) :
    plus ((prev m c t).2.2.2.2.2.2.1) (tDsw D (31 - t.val)) q = ((∑ j ∈ Finset.range 32, tDsw D (31 - j) q : ℝ) : EReal) := by
  have e := dsw_at X (t.val - 1) (Nat.lt_of_le_of_lt (Nat.sub_le _ _) t.isLt) (by omega) q
  rw [show t.val - 1 + 1 = 31 by omega] at e
  rw [Finset.sum_range_succ _ 31, EReal.coe_add]
  unfold plus
  refine congrArg₂ (· + ·) e ?_
  rw [ht]
theorem dsw_last {D : Data} (X : Points m c D) (t : Fin cfg0.N) (ht : t.val = 31) (y : S4x128x128.Idx) :
    (outsAt0 m c t.val t.isLt).2.2.2.2.2.2.1 y = if (y 2).val ≤ (y 1).val then ((∑ j ∈ Finset.range 32, tDsw D (31 - j) y : ℝ) : EReal) else 0 := by
  refine (dsw_C m c D (31 - t.val) t (by omega) (by omega) (X t).1 y).trans ?_
  dsimp only
  rw [plus_dsw X t ht]

theorem plus_dsb {D : Data} (X : Points m c D) (t : Fin cfg0.N) (ht : t.val = 31) (q : S128x1024.Idx) :
    plus ((prev m c t).2.2.2.2.2.2.2.2.2.2.2) (tDsb D (31 - t.val)) q = ((∑ j ∈ Finset.range 32, tDsb D (31 - j) q : ℝ) : EReal) := by
  have e := dsb_at X (t.val - 1) (Nat.lt_of_le_of_lt (Nat.sub_le _ _) t.isLt) (by omega) q
  rw [show t.val - 1 + 1 = 31 by omega] at e
  rw [Finset.sum_range_succ _ 31, EReal.coe_add]
  unfold plus
  refine congrArg₂ (· + ·) e ?_
  rw [ht]
theorem dsb_last {D : Data} (X : Points m c D) (t : Fin cfg0.N) (ht : t.val = 31) (y : S4x128.Idx) :
    (outsAt0 m c t.val t.isLt).2.2.2.2.2.2.2.1 y = ∑ k : Fin 256, ((∑ j ∈ Finset.range 32, tDsb D (31 - j) (ix2 (y 1) ⟨(y 0).val * 256 + k.val, by have a : (y 0).val < 4 := (y 0).isLt; have := k.isLt; omega⟩) : ℝ) : EReal) := by
  refine (dsb_C m c D (31 - t.val) t (by omega) (by omega) (X t).1 y).trans ?_
  dsimp only
  exact Finset.sum_congr rfl fun k _ => plus_dsb X t ht _

theorem plus_dpw {D : Data} (X : Points m c D) (t : Fin cfg0.N) (ht : t.val = 31) (q : S4x256x256.Idx) :
    plus ((prev m c t).2.2.2.2.2.2.2.2.2.2.1) (tDpw D (31 - t.val)) q = ((∑ j ∈ Finset.range 32, tDpw D (31 - j) q : ℝ) : EReal) := by
  have e := dpw_at X (t.val - 1) (Nat.lt_of_le_of_lt (Nat.sub_le _ _) t.isLt) (by omega) q
  rw [show t.val - 1 + 1 = 31 by omega] at e
  rw [Finset.sum_range_succ _ 31, EReal.coe_add]
  unfold plus
  refine congrArg₂ (· + ·) e ?_
  rw [ht]
theorem dpw_last {D : Data} (X : Points m c D) (t : Fin cfg0.N) (ht : t.val = 31) (y : S8x4x32x256.Idx) :
    (outsAt0 m c t.val t.isLt).2.2.1 y = ((∑ j ∈ Finset.range 32, tDpw D (31 - j) (ix3 (y 1) ⟨(y 0).val * 32 + (y 2).val, by have a : (y 0).val < 8 := (y 0).isLt; have b : (y 2).val < 32 := (y 2).isLt; omega⟩ (y 3)) : ℝ) : EReal) := by
  refine (dpw_C m c D (31 - t.val) t (by omega) (by omega) (X t).1 y).trans ?_
  dsimp only
  exact plus_dpw X t ht _

end Mixers.K
-- ==== Proof.Args.lean ====
/-
  What it means that the arguments hold the real data of `Spec.lean`.
-/
module

public import proofs.«01_k».proof.Proof.Spec
public import proofs.«01_k».proof.Proof.Lift
public import proofs.«01_k».proof.Proof.Gen.ReferenceIdeal.Read

@[expose] public section

set_option maxRecDepth 16384

noncomputable section

namespace Mixers.R

open Cert.ReferenceIdeal Cert.ReferenceIdeal.Read Idealize.ShloMosaic
open scoped BigOperators

abbrev T (s : Shape) := (⟨s, .f32⟩ : BufTy).Contents (Elt Ideal)

/-- The reference's arguments hold the data; `hp` says that its pooled rows are the data's. -/
structure Args (D : Data) (x0 : T S8192x5120) (x1 : T S8192x2048) (x4 : T S1x4x256x256) (x5 x6 x7 : T S1x1024)
    (x8 : T S1x4x128x128) (x9 : T S1x4x128) : Prop where
  h0 : ∀ i, x0 i = ((D.H (i 0).val (i 1).val : ℝ) : EReal)
  h1 : ∀ i, x1 i = ((D.DY (i 0).val (i 1).val : ℝ) : EReal)
  h4 : ∀ i, x4 i = ((D.PW (i 1).val (i 2).val (i 3).val : ℝ) : EReal)
  h5 : ∀ i, x5 i = ((D.PS (i 1).val : ℝ) : EReal)
  h6 : ∀ i, x6 i = ((D.LG (i 1).val : ℝ) : EReal)
  h7 : ∀ i, x7 i = ((D.LB (i 1).val : ℝ) : EReal)
  h8 : ∀ i, x8 i = ((D.SW (i 1).val (i 2).val (i 3).val : ℝ) : EReal)
  h9 : ∀ i, x9 i = ((D.SB (i 1).val (i 2).val : ℝ) : EReal)
  hp : ∀ i, val_main_v74 (F := Ideal) x0 i = ((D.P (i 0).val ((i 1).val * 256 + (i 2).val) : ℝ) : EReal)

end Mixers.R
-- ==== Proof.InHost.lean ====
/-
  What the host lines before the launch leave in each array that a grid point reads.
-/
module

public import proofs.«01_k».proof.Proof.Point
public import proofs.«01_k».proof.Proof.Args
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

namespace Mixers.K

open Idealize.ShloMosaic.TcCoe Cert.KernelIdeal Cert.KernelIdeal.Gen Idealize.ShloMosaic Idealize.ShloMosaic.Pipeline

variable (m : (ℓ : Loc nD τ Cert.KernelIdeal.sig) → Buf (Elt Ideal) ℓ) (c : Dev nD)

/-! ## The band tables -/

theorem band_word (a b w : ℕ) (ha : a < 256) (hb : b < 384) (hw : w < 256) :
    (FloatOps.uitofp .f32 (IntOp.andi (IntOp.cmpi .sge (IntOp.subi (BitVec.ofNat 32 b) (BitVec.ofNat 32 a)) 0#32)
      (IntOp.cmpi .slt (IntOp.subi (BitVec.ofNat 32 b) (BitVec.ofNat 32 a)) (BitVec.ofNat 32 w))) : Ideal .f32)
      = (show EReal from if a ≤ b ∧ b < a + w then 1 else 0) := by
  have e : (BitVec.ofNat 32 b - BitVec.ofNat 32 a).toInt = (b : ℤ) - a := by
    rw [BitVec.toInt_eq_toNat_bmod, BitVec.toNat_sub, BitVec.toNat_ofNat, BitVec.toNat_ofNat]
    simp only [Int.bmod_def]
    omega
  have ew : (BitVec.ofNat 32 w).toInt = (w : ℤ) := by
    rw [BitVec.toInt_eq_toNat_bmod, BitVec.toNat_ofNat]
    simp only [Int.bmod_def]
    omega
  have e1 : (0#32 : BitVec 32).sle (BitVec.ofNat 32 b - BitVec.ofNat 32 a) = decide (a ≤ b) := by
    rw [BitVec.sle, e]
    exact decide_eq_decide.mpr (by simp)
  have e2 : (BitVec.ofNat 32 b - BitVec.ofNat 32 a).slt (BitVec.ofNat 32 w) = decide (b < a + w) := by
    rw [BitVec.slt, e, ew]
    exact decide_eq_decide.mpr (by omega)
  simp only [IntOp.cmpi, IntOp.subi, IntOp.andi]
  rw [e1, e2]
  by_cases h1 : a ≤ b <;> by_cases h2 : b < a + w <;> simp [h1, h2, FloatOps.uitofp]

set_option maxHeartbeats 2000000 in
theorem V_bands (i : S4x256x384.Idx) : Cert.KernelIdeal.Gen.V m c main_v120 i
    = (show EReal from if (i 1).val ≤ (i 2).val ∧ (i 2).val < (i 1).val + win (i 0).val then 1 else 0) := by
  have h0 : (i 0).val < 4 := (i 0).isLt
  have h1 : (i 1).val < 256 := (i 1).isLt
  have h2 : (i 2).val < 384 := (i 2).isLt
  unfold Cert.KernelIdeal.Gen.V
  after_reads_at
  by_cases e0 : (i 0).val < 1
  · rw [dif_pos e0]
    after_reads_at
    rw [show (i 0).val = 0 by omega]
    exact band_word _ _ 2 h1 h2 (by omega)
  · rw [dif_neg e0]
    by_cases e1 : (i 0).val - 1 < 1
    · rw [dif_pos e1]
      after_reads_at
      rw [show (i 0).val = 1 by omega]
      exact band_word _ _ 4 h1 h2 (by omega)
    · rw [dif_neg e1]
      by_cases e2 : (i 0).val - 1 - 1 < 1
      · rw [dif_pos e2]
        after_reads_at
        rw [show (i 0).val = 2 by omega]
        exact band_word _ _ 8 h1 h2 (by omega)
      · rw [dif_neg e2]
        after_reads_at
        rw [show (i 0).val = 3 by omega]
        exact band_word _ _ 16 h1 h2 (by omega)

/-! ## The other arrays the host makes -/

theorem V_h (i : S8192x4096.Idx) : Cert.KernelIdeal.Gen.V m c main_v73 i
    = m (Thread.loc (c : Thread nD τ) main_arg0) (ix2 (i 0) ⟨1024 + (i 1).val, by have : (i 1).val < 4096 := (i 1).isLt; omega⟩) := by
  unfold Cert.KernelIdeal.Gen.V
  after_reads_at
theorem V_w (i : S1024x5120.Idx) : Cert.KernelIdeal.Gen.V m c main_v75 i = m (Thread.loc (c : Thread nD τ) main_arg3) (ix3 0 (i 0) (i 1)) := by
  unfold Cert.KernelIdeal.Gen.V
  after_reads_at
theorem V_pw (i : S4x256x256.Idx) : Cert.KernelIdeal.Gen.V m c main_v77 i = m (Thread.loc (c : Thread nD τ) main_arg4) (ix4 0 (i 0) (i 1) (i 2)) := by
  unfold Cert.KernelIdeal.Gen.V
  after_reads_at
theorem V_sw (i : S4x128x128.Idx) : Cert.KernelIdeal.Gen.V m c main_v78 i = m (Thread.loc (c : Thread nD τ) main_arg8) (ix4 0 (i 0) (i 1) (i 2)) := by
  unfold Cert.KernelIdeal.Gen.V
  after_reads_at
theorem V_sb (i : S128x1024.Idx) : Cert.KernelIdeal.Gen.V m c main_v71 i
    = m (Thread.loc (c : Thread nD τ) main_arg9) (ix3 0 ⟨(i 1).val / 256, by have : (i 1).val < 1024 := (i 1).isLt; omega⟩ (i 0)) := by
  unfold Cert.KernelIdeal.Gen.V
  after_reads_at
theorem V_p' : Cert.KernelIdeal.Gen.V m c main_v67 = shapeCast (α := EReal) S8192x1024
    (Cert.ReferenceIdeal.Read.val_main_v74 (F := Ideal) (m (Thread.loc (c : Thread nD τ) main_arg0))) shapeCasts_S8192x4x256_S8192x1024 := by
  entry_read
  rfl
theorem V_p (i : S8192x1024.Idx) : Cert.KernelIdeal.Gen.V m c main_v67 i
    = Cert.ReferenceIdeal.Read.val_main_v74 (F := Ideal) (m (Thread.loc (c : Thread nD τ) main_arg0))
      (ix3 (i 0) ⟨(i 1).val / 256, by have : (i 1).val < 1024 := (i 1).isLt; omega⟩ ⟨(i 1).val % 256, by omega⟩) := by
  rw [V_p']
  refine shapeCast_apply _ _ i _ ?_
  rw [Shape.rowMajor_val_two, Shape.rowMajor_val_three]
  show ((i 0).val * 4 + (i 1).val / 256) * 256 + (i 1).val % 256 = (i 0).val * 1024 + (i 1).val
  omega

end Mixers.K
-- ==== Proof.In.lean ====
/-
  The blocks of every grid point are the real data of its tile: what the host lines before the launch leave in each
  array, and the block of it that a point reads.
-/
module

public import proofs.«01_k».proof.Proof.Steps
public import proofs.«01_k».proof.Proof.InHost
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

namespace Mixers.K

open Idealize.ShloMosaic.TcCoe Cert.KernelIdeal Cert.KernelIdeal.Gen Idealize.ShloMosaic Idealize.ShloMosaic.Pipeline

variable (m : (ℓ : Loc nD τ Cert.KernelIdeal.sig) → Buf (Elt Ideal) ℓ) (c : Dev nD)

/-! ## The blocks -/

theorem tiles : ∀ t : Fin cfg0.N, win0_0.index t = ![31 - t.val, 0] ∧ win0_1.index t = ![31 - t.val, 0] ∧ win0_2.index t = ![31 - t.val, 0]
    ∧ win0_3.index t = ![31 - t.val, 0] := by decide +kernel
theorem whole : ∀ t : Fin cfg0.N, win0_4.index t = ![0, 0] ∧ win0_5.index t = ![0, 0, 0] ∧ win0_6.index t = ![0, 0] ∧ win0_7.index t = ![0, 0]
    ∧ win0_8.index t = ![0, 0] ∧ win0_9.index t = ![0, 0, 0] ∧ win0_10.index t = ![0, 0] ∧ win0_11.index t = ![0, 0, 0] := by decide +kernel
theorem pointTile : ∀ t : Fin cfg0.N, PointTile (31 - t.val) t := by
  unfold PointTile
  decide +kernel

variable {m c}
variable {D : Data}
  (A : Mixers.R.Args D (m (Thread.loc (c : Thread nD τ) main_arg0)) (m (Thread.loc (c : Thread nD τ) main_arg1))
    (m (Thread.loc (c : Thread nD τ) main_arg4)) (m (Thread.loc (c : Thread nD τ) main_arg5)) (m (Thread.loc (c : Thread nD τ) main_arg6))
    (m (Thread.loc (c : Thread nD τ) main_arg7)) (m (Thread.loc (c : Thread nD τ) main_arg8)) (m (Thread.loc (c : Thread nD τ) main_arg9)))
include A

theorem in0 (t : Fin cfg0.N) (i : S256x4096.Idx) : (iblk m c 0 t : S256x4096.Idx → EReal) i = ((D.H ((31 - t.val) * 256 + (i 0).val) (1024 + (i 1).val) : ℝ) : EReal) := by
  show Cert.KernelIdeal.Gen.V m c main_v73 (((cfg0.win 0).blk t).view.emb i) = _
  rw [V_h, A.h0]
  blk_simp [(tiles t).1]
theorem in1 (t : Fin cfg0.N) (i : S256x2048.Idx) : (iblk m c 1 t : S256x2048.Idx → EReal) i = ((D.DY ((31 - t.val) * 256 + (i 0).val) (i 1).val : ℝ) : EReal) := by
  show Cert.KernelIdeal.Gen.V m c main_arg1 (((cfg0.win 1).blk t).view.emb i) = _
  rw [V_main_arg1, A.h1]
  blk_simp [(tiles t).2.1]
theorem in3 (t : Fin cfg0.N) (i : S256x1024.Idx) : (iblk m c 3 t : S256x1024.Idx → EReal) i = ((D.P ((31 - t.val) * 256 + (i 0).val) (i 1).val : ℝ) : EReal) := by
  show Cert.KernelIdeal.Gen.V m c main_v67 (((cfg0.win 3).blk t).view.emb i) = _
  rw [V_p, A.hp]
  blk_simp [(tiles t).2.2.2]
  have e : (i 1).val / 256 * 256 + (i 1).val % 256 = (i 1).val := by omega
  show ((D.P ((31 - t.val) * 256 + (i 0).val) ((i 1).val / 256 * 256 + (i 1).val % 256) : ℝ) : EReal) = _
  rw [e]
theorem in5 (t : Fin cfg0.N) (i : S4x256x256.Idx) : (iblk m c 5 t : S4x256x256.Idx → EReal) i = ((D.PW (i 0).val (i 1).val (i 2).val : ℝ) : EReal) := by
  show Cert.KernelIdeal.Gen.V m c main_v77 (((cfg0.win 5).blk t).view.emb i) = _
  rw [V_pw, A.h4]
  blk_simp [(whole t).2.1]
theorem in6 (t : Fin cfg0.N) (i : S1x1024.Idx) : (iblk m c 6 t : S1x1024.Idx → EReal) i = ((D.PS (i 1).val : ℝ) : EReal) := by
  show Cert.KernelIdeal.Gen.V m c main_arg5 (((cfg0.win 6).blk t).view.emb i) = _
  rw [V_main_arg5, A.h5]
  blk_simp [(whole t).2.2.1]
theorem in7 (t : Fin cfg0.N) (i : S1x1024.Idx) : (iblk m c 7 t : S1x1024.Idx → EReal) i = ((D.LG (i 1).val : ℝ) : EReal) := by
  show Cert.KernelIdeal.Gen.V m c main_arg6 (((cfg0.win 7).blk t).view.emb i) = _
  rw [V_main_arg6, A.h6]
  blk_simp [(whole t).2.2.2.1]
theorem in8 (t : Fin cfg0.N) (i : S1x1024.Idx) : (iblk m c 8 t : S1x1024.Idx → EReal) i = ((D.LB (i 1).val : ℝ) : EReal) := by
  show Cert.KernelIdeal.Gen.V m c main_arg7 (((cfg0.win 8).blk t).view.emb i) = _
  rw [V_main_arg7, A.h7]
  blk_simp [(whole t).2.2.2.2.1]
theorem in9 (t : Fin cfg0.N) (i : S4x128x128.Idx) : (iblk m c 9 t : S4x128x128.Idx → EReal) i = ((D.SW (i 0).val (i 1).val (i 2).val : ℝ) : EReal) := by
  show Cert.KernelIdeal.Gen.V m c main_v78 (((cfg0.win 9).blk t).view.emb i) = _
  rw [V_sw, A.h8]
  blk_simp [(whole t).2.2.2.2.2.1]
theorem in10 (t : Fin cfg0.N) (i : S128x1024.Idx) : (iblk m c 10 t : S128x1024.Idx → EReal) i = ((D.SB ((i 1).val / 256) (i 0).val : ℝ) : EReal) := by
  show Cert.KernelIdeal.Gen.V m c main_v71 (((cfg0.win 10).blk t).view.emb i) = _
  rw [V_sb, A.h9]
  blk_simp [(whole t).2.2.2.2.2.2.1]
omit A in
theorem in11 (t : Fin cfg0.N) (i : S4x256x384.Idx) : (iblk m c 11 t : S4x256x384.Idx → EReal) i = (show EReal from if (i 1).val ≤ (i 2).val ∧ (i 2).val < (i 1).val + win (i 0).val then 1 else 0) := by
  show Cert.KernelIdeal.Gen.V m c main_v120 (((cfg0.win 11).blk t).view.emb i) = _
  rw [V_bands]
  blk_simp [(whole t).2.2.2.2.2.2.2]

theorem points : Points m c D := fun t =>
  ⟨{ hT := by have : t.val < 32 := t.isLt; omega
     h0 := in0 A t, h1 := in1 A t, h3 := in3 A t, h5 := in5 A t, h6 := in6 A t, h7 := in7 A t, h8 := in8 A t, h9 := in9 A t, h10 := in10 A t,
     h11 := in11 t }, pointTile t⟩

end Mixers.K
-- ==== Proof.Totals.lean ====
/-
  The tiles' shares, added up, are the sums over all tokens.
-/
module

public import proofs.«01_k».proof.Proof.Sums

@[expose] public section

set_option maxRecDepth 16384

noncomputable section

namespace Mixers.K

open Idealize.ShloMosaic Cert.KernelIdeal
open scoped BigOperators

/-- Tiles taken from the last to the first, added up in any order. -/
theorem sum_tiles (f : ℕ → ℝ) : ∑ j ∈ Finset.range 32, f (31 - j) = ∑ T : Fin 32, f T.val := by
  rw [Fin.sum_univ_eq_sum_range f 32, ← Finset.sum_range_reflect f 32]

/-- A sum over `a * b` places, in `a` runs of `b`. -/
theorem sum_runs (f : ℕ → ℝ) (a b n : ℕ) (h : a * b = n) : ∑ s : Fin n, f s.val = ∑ p : Fin a, ∑ q : Fin b, f (p.val * b + q.val) := by
  subst h
  rw [← finProdFinEquiv.sum_comp, Fintype.sum_prod_type]
  refine Finset.sum_congr rfl fun p _ => Finset.sum_congr rfl fun q _ => congrArg f ?_
  show q.val + b * p.val = p.val * b + q.val
  rw [Nat.mul_comm, Nat.add_comm]

/-- Tokens: the tiles' rows. -/
theorem tokens (f : ℕ → ℝ) : ∑ j ∈ Finset.range 32, ∑ r : Fin 256, f ((31 - j) * 256 + r.val) = ∑ s : Fin 8192, f s.val := by
  rw [sum_tiles (fun T => ∑ r : Fin 256, f (T * 256 + r.val)), sum_runs f 32 256 8192 rfl]

/-- Chunks: two to a tile. -/
theorem chunks (f : ℕ → ℝ) : ∑ j ∈ Finset.range 32, (f ((31 - j) * 256 + 0 * 128) + f ((31 - j) * 256 + 1 * 128)) = ∑ n : Fin 64, f (n.val * 128) := by
  rw [sum_tiles (fun T => f (T * 256 + 0 * 128) + f (T * 256 + 1 * 128)), sum_runs (fun n => f (n * 128)) 32 2 64 rfl]
  refine Finset.sum_congr rfl fun T _ => ?_
  rw [Fin.sum_univ_two]
  show f (T.val * 256 + 0 * 128) + f (T.val * 256 + 1 * 128) = f ((T.val * 2 + 0) * 128) + f ((T.val * 2 + 1) * 128)
  rw [show T.val * 256 + 0 * 128 = (T.val * 2 + 0) * 128 by omega, show T.val * 256 + 1 * 128 = (T.val * 2 + 1) * 128 by omega]

variable (D : Data)

theorem total_dps (q : S1x1024.Idx) : ∑ j ∈ Finset.range 32, tDps D (31 - j) q = DPS D (q 1).val :=
  tokens fun s => dpsT D s ((q 1).val / 256) ((q 1).val % 256)
theorem total_dpw (q : S4x256x256.Idx) : ∑ j ∈ Finset.range 32, tDpw D (31 - j) q = DPW D (q 0).val (q 1).val (q 2).val :=
  tokens fun s => dpwT D s (q 0).val (q 1).val (q 2).val
theorem total_dlg (q : S1x1024.Idx) : ∑ j ∈ Finset.range 32, tDlg D (31 - j) q = DLG D (q 1).val :=
  chunks fun b => dlgT D b ((q 1).val / 256) ((q 1).val % 256)
theorem total_dlb (q : S1x1024.Idx) : ∑ j ∈ Finset.range 32, tDlb D (31 - j) q = DLB D (q 1).val :=
  chunks fun b => dlbT D b ((q 1).val / 256) ((q 1).val % 256)
theorem total_dsw (q : S4x128x128.Idx) : ∑ j ∈ Finset.range 32, tDsw D (31 - j) q = ∑ n : Fin 64, dswT D (n.val * 128) (q 0).val (q 1).val (q 2).val :=
  chunks fun b => dswT D b (q 0).val (q 1).val (q 2).val
theorem total_dsb (q : S128x1024.Idx) :
    ∑ j ∈ Finset.range 32, tDsb D (31 - j) q = ∑ n : Fin 64, dsv D (n.val * 128 + (q 0).val) ((q 1).val / 256) ((q 1).val % 256) :=
  chunks fun b => dsv D (b + (q 0).val) ((q 1).val / 256) ((q 1).val % 256)

end Mixers.K
-- ==== Proof.Arrays.lean ====
/-
  The arrays the launch leaves: each result as a function of the real data.
-/
module

public import proofs.«01_k».proof.Proof.In
public import proofs.«01_k».proof.Proof.Totals
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

namespace Mixers.K

open Idealize.ShloMosaic.TcCoe Cert.KernelIdeal Cert.KernelIdeal.Gen Idealize.ShloMosaic Idealize.ShloMosaic.Pipeline
open scoped BigOperators

variable {m : (ℓ : Loc nD τ Cert.KernelIdeal.sig) → Buf (Elt Ideal) ℓ} {c : Dev nD}

theorem outs : ∀ t : Fin cfg0.N, win0_12.index t = ![31 - t.val, 0] ∧ win0_13.index t = ![31 - t.val, 0] := by decide +kernel

/-- The last grid point. -/
def tLast : Fin cfg0.N := ⟨31, by decide +kernel⟩
theorem tLast_val : tLast.val = 31 := rfl
theorem outsLast : win0_14.index tLast = ![0, 0, 0, 0] ∧ win0_15.index tLast = ![0, 0] ∧ win0_16.index tLast = ![0, 0] ∧ win0_17.index tLast = ![0, 0]
    ∧ win0_18.index tLast = ![0, 0, 0] ∧ win0_19.index tLast = ![0, 0] := by decide +kernel

/-- The residual's gradient: what came in and the step's gradient times the weights. -/
def dxOf (D : Data) (x2 : S8192x1024.Idx → EReal) (x3 : S1x1024x5120.Idx → EReal) : S8192x1024.Idx → EReal := fun i =>
  x2 i + ∑ e : Fin 5120, ((DH D (i 0).val e.val : ℝ) : EReal) * x3 (ix3 (0 : Fin 1) (i 1) e)

theorem emb13_0 (t : Fin cfg0.N) (y : S256x1024.Idx) : ((((cfg0.win 13).blk t).view.emb y : S8192x1024.Idx) 0).val = (31 - t.val) * 256 + (y 0).val := by
  blk_simp [(outs t).2]
theorem emb13_1 (t : Fin cfg0.N) (y : S256x1024.Idx) : ((((cfg0.win 13).blk t).view.emb y : S8192x1024.Idx) 1).val = (y 1).val := by
  blk_simp [(outs t).2]
theorem emb2_0 (t : Fin cfg0.N) (y : S256x1024.Idx) : ((((cfg0.win 2).blk t).view.emb y : S8192x1024.Idx) 0).val = (31 - t.val) * 256 + (y 0).val := by
  blk_simp [(tiles t).2.2.1]
theorem emb2_1 (t : Fin cfg0.N) (y : S256x1024.Idx) : ((((cfg0.win 2).blk t).view.emb y : S8192x1024.Idx) 1).val = (y 1).val := by
  blk_simp [(tiles t).2.2.1]
theorem emb4_0 (t : Fin cfg0.N) (y : S1024x5120.Idx) : ((((cfg0.win 4).blk t).view.emb y : S1024x5120.Idx) 0).val = (y 0).val := by
  blk_simp [(whole t).1]
theorem emb4_1 (t : Fin cfg0.N) (y : S1024x5120.Idx) : ((((cfg0.win 4).blk t).view.emb y : S1024x5120.Idx) 1).val = (y 1).val := by
  blk_simp [(whole t).1]

theorem blk2 (t : Fin cfg0.N) (y : S256x1024.Idx) :
    (iblk m c 2 t : S256x1024.Idx → EReal) y = m (Thread.loc (c : Thread nD τ) main_arg2) (((cfg0.win 13).blk t).view.emb y) := by
  show Cert.KernelIdeal.Gen.V m c main_arg2 (((cfg0.win 2).blk t).view.emb y) = _
  rw [V_main_arg2]
  refine congrArg (m (Thread.loc (c : Thread nD τ) main_arg2)) (funext fun a => Fin.ext ?_)
  match a with
  | ⟨0, _⟩ => exact (emb2_0 t y).trans (emb13_0 t y).symm
  | ⟨1, _⟩ => exact (emb2_1 t y).trans (emb13_1 t y).symm
theorem blk4 (t : Fin cfg0.N) (i : S1024x5120.Idx) :
    (iblk m c 4 t : S1024x5120.Idx → EReal) i = m (Thread.loc (c : Thread nD τ) main_arg3) (ix3 (0 : Fin 1) (i 0) (i 1)) := by
  show Cert.KernelIdeal.Gen.V m c main_v75 (((cfg0.win 4).blk t).view.emb i) = _
  rw [V_w]
  refine congrArg (m (Thread.loc (c : Thread nD τ) main_arg3)) (funext fun a => Fin.ext ?_)
  match a with
  | ⟨0, _⟩ => rfl
  | ⟨1, _⟩ => exact emb4_0 t i
  | ⟨2, _⟩ => exact emb4_1 t i

variable {D : Data} (X : Points m c D)
include X

theorem arr12 : (dats m 0 c).arrAt 12 cfg0.N = fun i : S8192x5120.Idx => ((DH D (i 0).val (i 1).val : ℝ) : EReal) := by
  refine (dats m 0 c).arrAt_eq_of_covers 12 _ (by decide +kernel) fun t hf y => ?_
  rw [after0_12]
  refine (dh_at X t y).trans ?_
  blk_simp [(outs t).1]
  all_goals rfl

theorem dx_blk (t : Fin cfg0.N) (y : S256x1024.Idx) : (outsAt0 m c t.val t.isLt).2.1 y
    = dxOf D (m (Thread.loc (c : Thread nD τ) main_arg2)) (m (Thread.loc (c : Thread nD τ) main_arg3)) (((cfg0.win 13).blk t).view.emb y) := by
  refine (dx_at X t y).trans ?_
  refine congrArg₂ (· + ·) (blk2 t y) (Finset.sum_congr rfl fun e _ => congrArg₂ (· * ·) ?_ ((blk4 t _).trans ?_))
  · show ((DH D ((31 - t.val) * 256 + (y 0).val) e.val : ℝ) : EReal) = _
    rw [← emb13_0 t y]
  · exact congrArg (m (Thread.loc (c : Thread nD τ) main_arg3)) (congrArg (fun q => ix3 (0 : Fin 1) q e) (Fin.ext (emb13_1 t y).symm))

theorem arr13 : (dats m 0 c).arrAt 13 cfg0.N
    = dxOf D (m (Thread.loc (c : Thread nD τ) main_arg2)) (m (Thread.loc (c : Thread nD τ) main_arg3)) := by
  refine (dats m 0 c).arrAt_eq_of_covers 13 _ (by decide +kernel) fun t hf y => ?_
  rw [after0_13]
  exact dx_blk X t y

theorem arr15 : (dats m 0 c).arrAt 15 cfg0.N = fun i : S1x1024.Idx => ((DPS D (i 1).val : ℝ) : EReal) := by
  refine (dats m 0 c).arrAt_eq_of_after_last 15 tLast (by decide +kernel) _ fun j => ?_
  blk_simp [outsLast.2.1]
  rw [after0_15]
  exact (dps_at X tLast.val tLast.isLt (by decide) j).trans (congrArg Real.toEReal (total_dps D j))

theorem arr16 : (dats m 0 c).arrAt 16 cfg0.N = fun i : S1x1024.Idx => ((DLG D (i 1).val : ℝ) : EReal) := by
  refine (dats m 0 c).arrAt_eq_of_after_last 16 tLast (by decide +kernel) _ fun j => ?_
  blk_simp [outsLast.2.2.1]
  rw [after0_16]
  exact (dlg_at X tLast.val tLast.isLt (by decide) j).trans (congrArg Real.toEReal (total_dlg D j))

theorem arr17 : (dats m 0 c).arrAt 17 cfg0.N = fun i : S1x1024.Idx => ((DLB D (i 1).val : ℝ) : EReal) := by
  refine (dats m 0 c).arrAt_eq_of_after_last 17 tLast (by decide +kernel) _ fun j => ?_
  blk_simp [outsLast.2.2.2.1]
  rw [after0_17]
  exact (dlb_at X tLast.val tLast.isLt (by decide) j).trans (congrArg Real.toEReal (total_dlb D j))

theorem arr18 : (dats m 0 c).arrAt 18 cfg0.N = fun i : S4x128x128.Idx => ((DSW D (i 0).val (i 1).val (i 2).val : ℝ) : EReal) := by
  refine (dats m 0 c).arrAt_eq_of_after_last 18 tLast (by decide +kernel) _ fun j => ?_
  blk_simp [outsLast.2.2.2.2.1]
  rw [after0_18]
  refine (dsw_last X tLast rfl j).trans ?_
  rw [total_dsw D j]
  unfold DSW
  split_ifs
  · rfl
  · rfl

theorem arr19 : (dats m 0 c).arrAt 19 cfg0.N = fun i : S4x128.Idx => ((DSB D (i 0).val (i 1).val : ℝ) : EReal) := by
  refine (dats m 0 c).arrAt_eq_of_after_last 19 tLast (by decide +kernel) _ fun j => ?_
  blk_simp [outsLast.2.2.2.2.2]
  rw [after0_19]
  refine (dsb_last X tLast rfl j).trans ?_
  simp only [total_dsb]
  rw [coe_sum]
  unfold DSB
  rw [Finset.sum_comm]
  refine congrArg Real.toEReal (Finset.sum_congr rfl fun n _ => Finset.sum_congr rfl fun k _ => ?_)
  have hk := k.isLt
  show dsv D _ (((j 0).val * 256 + k.val) / 256) (((j 0).val * 256 + k.val) % 256) = _
  rw [show ((j 0).val * 256 + k.val) / 256 = (j 0).val by omega, show ((j 0).val * 256 + k.val) % 256 = k.val by omega]
  all_goals rfl

theorem arr14 : (dats m 0 c).arrAt 14 cfg0.N = fun i : S8x4x32x256.Idx => ((DPW D (i 1).val ((i 0).val * 32 + (i 2).val) (i 3).val : ℝ) : EReal) := by
  refine (dats m 0 c).arrAt_eq_of_after_last 14 tLast (by decide +kernel) _ fun j => ?_
  blk_simp [outsLast.1]
  rw [after0_14]
  refine (dpw_last X tLast rfl j).trans ?_
  rw [total_dpw D]
  all_goals rfl

end Mixers.K
-- ==== Proof.RefOps.lean ====
/-
  The reference's scalar operations and constants at real values.
-/
module

public import proofs.«01_k».proof.Proof.Spec
public import proofs.«01_k».proof.Proof.Lift
public import proofs.«01_k».proof.Proof.Args

@[expose] public section

set_option maxRecDepth 16384

noncomputable section

namespace Mixers.R

open Cert.ReferenceIdeal Cert.ReferenceIdeal.Read Idealize.ShloMosaic
open scoped BigOperators

theorem smul (a b : Ideal .f32) : FloatOps.mulf a b = (a * b : EReal) := rfl
theorem sadd (a b : Ideal .f32) : FloatOps.addf a b = (a + b : EReal) := rfl
theorem ssub (a b : Ideal .f32) : FloatOps.subf a b = (a - b : EReal) := rfl
theorem sneg (a : Ideal .f32) : FloatOps.hostNegf a = (-a : EReal) := rfl
theorem sdiv (a b : Ideal .f32) : FloatOps.hostDivf a b = Ideal.div a b := rfl
theorem sexp (a : Ideal .f32) : FloatOps.hostUnary .exp a = Ideal.exp a := rfl
theorem stanh (a : Ideal .f32) : FloatOps.hostUnary .tanh a = Ideal.tanh a := rfl
theorem srsqrt (a : Ideal .f32) : FloatOps.hostUnary .rsqrt a = Ideal.rsqrt a := rfl
theorem c_zero : (FloatOps.ofBits .f32 0x00000000#32 : Ideal .f32) = ((0 : ℝ) : EReal) := by
  show Ideal.ofBits .f32 _ = _; simp [Ideal.ofBits, Ideal.ieee, -EReal.coe_mul]
theorem c_one : (FloatOps.ofBits .f32 0x3F800000#32 : Ideal .f32) = ((1 : ℝ) : EReal) := bits_one
theorem c_two : (FloatOps.ofBits .f32 0x40000000#32 : Ideal .f32) = ((2 : ℝ) : EReal) := by
  show Ideal.ofBits .f32 _ = _; simp [Ideal.ofBits, Ideal.ieee, -EReal.coe_mul]; norm_num
theorem c_three : (FloatOps.ofBits .f32 0x40400000#32 : Ideal .f32) = ((3 : ℝ) : EReal) := by
  show Ideal.ofBits .f32 _ = _; simp [Ideal.ofBits, Ideal.ieee, -EReal.coe_mul]; norm_num
theorem c_256 : (FloatOps.ofBits .f32 0x43800000#32 : Ideal .f32) = ((256 : ℝ) : EReal) := bits_256
theorem c_eps : (FloatOps.ofBits .f32 0x3727C5AC#32 : Ideal .f32) = ((EPS : ℝ) : EReal) := bits_eps
theorem c_c0 : (FloatOps.ofBits .f32 0x3F4C422A#32 : Ideal .f32) = ((C0 : ℝ) : EReal) := bits_c0
theorem c_c1 : (FloatOps.ofBits .f32 0x3D372713#32 : Ideal .f32) = ((C1 : ℝ) : EReal) := bits_c1
theorem c_half : (FloatOps.ofBits .f32 0x3F000000#32 : Ideal .f32) = ((1 / 2 : ℝ) : EReal) := bits_half
theorem c_neg_half : (FloatOps.ofBits .f32 0xBF000000#32 : Ideal .f32) = ((-(1 / 2) : ℝ) : EReal) := by
  show Ideal.ofBits .f32 _ = _; simp [Ideal.ofBits, Ideal.ieee, -EReal.coe_mul]; norm_num
theorem tanh_real (a : ℝ) : Ideal.tanh (a : EReal) = ((Real.tanh a : ℝ) : EReal) := rfl
theorem exp_real (a : ℝ) : Ideal.exp (a : EReal) = ((Real.exp a : ℝ) : EReal) := rfl

theorem div256 (a : ℝ) : Ideal.div (a : EReal) ((256 : ℝ) : EReal) = ((a / 256 : ℝ) : EReal) := div_real _ _ (by norm_num)
theorem f3 (f : ℕ → ℕ → ℕ → ℝ) {a b c a' b' c' : ℕ} (ha : a = a') (hb : b = b') (hc : c = c') :
    ((f a b c : ℝ) : EReal) = ((f a' b' c' : ℝ) : EReal) := by rw [ha, hb, hc]
theorem f4 (f : ℕ → ℕ → ℕ → ℕ → ℝ) {a b c d a' b' c' d' : ℕ} (ha : a = a') (hb : b = b') (hc : c = c') (hd : d = d') :
    ((f a b c d : ℝ) : EReal) = ((f a' b' c' d' : ℝ) : EReal) := by rw [ha, hb, hc, hd]

end Mixers.R
-- ==== Proof.RefGate.lean ====
/-
  The reference's elementwise part: slices of the hidden row, gelu and its derivative's factors, the gate and its
  derivative, each as the real function of `Spec.lean`.
-/
module

public import proofs.«01_k».proof.Proof.RefOps

@[expose] public section

set_option maxRecDepth 16384

noncomputable section

namespace Mixers.R

open Cert.ReferenceIdeal Cert.ReferenceIdeal.Read Idealize.ShloMosaic
open scoped BigOperators

variable {D : Data} {x0 : T S8192x5120} {x1 : T S8192x2048} {x4 : T S1x4x256x256} {x5 x6 x7 : T S1x1024}
  {x8 : T S1x4x128x128} {x9 : T S1x4x128}

/-! ## Slices of the hidden row -/

theorem v1 (A : Args D x0 x1 x4 x5 x6 x7 x8 x9) (i : S8192x1024.Idx) :
    val_main_v1 (F := Ideal) x0 i = ((uu D (i 0).val ((i 1).val / 256) ((i 1).val % 256) : ℝ) : EReal) := by
  rw [val_main_v1_apply, A.h0]
  have e : 1024 + (i 1).val = 1024 + ((i 1).val / 256 * 256 + (i 1).val % 256) := by omega
  show ((D.H (i 0).val (1024 + (i 1).val) : ℝ) : EReal) = _
  rw [e]; rfl
theorem v2 (A : Args D x0 x1 x4 x5 x6 x7 x8 x9) (i : S8192x1024.Idx) :
    val_main_v2 (F := Ideal) x0 i = ((vv D (i 0).val ((i 1).val / 256) ((i 1).val % 256) : ℝ) : EReal) := by
  rw [val_main_v2_apply, A.h0]
  have e : 2048 + (i 1).val = 2048 + ((i 1).val / 256 * 256 + (i 1).val % 256) := by omega
  show ((D.H (i 0).val (2048 + (i 1).val) : ℝ) : EReal) = _
  rw [e]; rfl
theorem v3 (A : Args D x0 x1 x4 x5 x6 x7 x8 x9) (i : S8192x2048.Idx) :
    val_main_v3 (F := Ideal) x0 i = ((D.H (i 0).val (3072 + (i 1).val) : ℝ) : EReal) := by
  rw [val_main_v3_apply, A.h0]

/-! ## Gelu -/

theorem v104 (A : Args D x0 x1 x4 x5 x6 x7 x8 x9) (i : S8192x1024.Idx) :
    val_main_v104 (F := Ideal) x0 i = ((cdf (uu D (i 0).val ((i 1).val / 256) ((i 1).val % 256)) : ℝ) : EReal) := by
  simp only [val_main_v104_apply, val_main_v103_apply, val_main_v102_apply, val_main_v101_apply, val_main_v95_apply,
    val_main_v94_apply, val_main_v93_apply, val_main_v92_apply, val_main_v91_apply, val_main_v90_apply, val_main_v86_apply,
    val_main_v85_apply, val_main_cst_15_apply, val_main_cst_16_apply, val_main_cst_18_apply, val_main_cst_19_apply, val_main_cst_20_apply, v1 A, smul, sadd, stanh, c_c0, c_c1, c_half, c_one, coe_mul', coe_add', tanh_real]
  rw [← cdf_eq_tanh]

theorem v105 (A : Args D x0 x1 x4 x5 x6 x7 x8 x9) (i : S8192x1024.Idx) : val_main_v105 (F := Ideal) x0 i = ((gelu (uu D (i 0).val ((i 1).val / 256) ((i 1).val % 256)) : ℝ) : EReal) := by
  simp only [val_main_v105_apply, v1 A, v104 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v125 (A : Args D x0 x1 x4 x5 x6 x7 x8 x9) (i : S8192x1024.Idx) : val_main_v125 (F := Ideal) x0 i = ((cdf (vv D (i 0).val ((i 1).val / 256) ((i 1).val % 256)) : ℝ) : EReal) := by
  simp only [val_main_v125_apply, val_main_v124_apply, val_main_v123_apply, val_main_v122_apply, val_main_v116_apply, val_main_v115_apply, val_main_v114_apply, val_main_v113_apply, val_main_v112_apply, val_main_v111_apply, val_main_v107_apply, val_main_v106_apply, val_main_cst_22_apply, val_main_cst_23_apply, val_main_cst_24_apply, val_main_cst_25_apply, val_main_cst_26_apply, val_main_cst_27_apply, v2 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  rw [← cdf_eq_tanh]
theorem v126 (A : Args D x0 x1 x4 x5 x6 x7 x8 x9) (i : S8192x1024.Idx) : val_main_v126 (F := Ideal) x0 i = ((gelu (vv D (i 0).val ((i 1).val / 256) ((i 1).val % 256)) : ℝ) : EReal) := by
  simp only [val_main_v126_apply, v2 A, v125 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v100 (A : Args D x0 x1 x4 x5 x6 x7 x8 x9) (i : S8192x1024.Idx) : val_main_v100 (F := Ideal) x0 i = ((4 * cdf (uu D (i 0).val ((i 1).val / 256) ((i 1).val % 256)) * (1 - cdf (uu D (i 0).val ((i 1).val / 256) ((i 1).val % 256))) : ℝ) : EReal) := by
  simp only [val_main_v100_apply, val_main_v99_apply, val_main_v98_apply, val_main_v97_apply, val_main_v96_apply, val_main_v95_apply, val_main_v94_apply, val_main_v93_apply, val_main_v92_apply, val_main_v91_apply, val_main_v90_apply, val_main_v86_apply, val_main_v85_apply, val_main_cst_14_apply, val_main_cst_15_apply, val_main_cst_16_apply, val_main_cst_17_apply, val_main_cst_18_apply, v1 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  exact congrArg Real.toEReal (by rw [← cdf_eq_tanh]; ring)
theorem v121 (A : Args D x0 x1 x4 x5 x6 x7 x8 x9) (i : S8192x1024.Idx) : val_main_v121 (F := Ideal) x0 i = ((4 * cdf (vv D (i 0).val ((i 1).val / 256) ((i 1).val % 256)) * (1 - cdf (vv D (i 0).val ((i 1).val / 256) ((i 1).val % 256))) : ℝ) : EReal) := by
  simp only [val_main_v121_apply, val_main_v120_apply, val_main_v119_apply, val_main_v118_apply, val_main_v117_apply, val_main_v116_apply, val_main_v115_apply, val_main_v114_apply, val_main_v113_apply, val_main_v112_apply, val_main_v111_apply, val_main_v107_apply, val_main_v106_apply, val_main_cst_21_apply, val_main_cst_22_apply, val_main_cst_23_apply, val_main_cst_24_apply, val_main_cst_25_apply, v2 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  exact congrArg Real.toEReal (by rw [← cdf_eq_tanh]; ring)
theorem v89 (A : Args D x0 x1 x4 x5 x6 x7 x8 x9) (i : S8192x1024.Idx) : val_main_v89 (F := Ideal) x0 i = ((3 * ((uu D (i 0).val ((i 1).val / 256) ((i 1).val % 256)) * (uu D (i 0).val ((i 1).val / 256) ((i 1).val % 256))) : ℝ) : EReal) := by
  simp only [val_main_v89_apply, val_main_v88_apply, val_main_v87_apply, val_main_cst_14_apply, v1 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v110 (A : Args D x0 x1 x4 x5 x6 x7 x8 x9) (i : S8192x1024.Idx) : val_main_v110 (F := Ideal) x0 i = ((3 * ((vv D (i 0).val ((i 1).val / 256) ((i 1).val % 256)) * (vv D (i 0).val ((i 1).val / 256) ((i 1).val % 256))) : ℝ) : EReal) := by
  simp only [val_main_v110_apply, val_main_v109_apply, val_main_v108_apply, val_main_cst_21_apply, v2 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
/-! ## The gate -/

theorem sig_real (z : ℝ) : Ideal.div ((1 : ℝ) : EReal) ((1 + Real.exp (-z) : ℝ) : EReal) = ((sig z : ℝ) : EReal) :=
  div_real _ _ (one_add_exp_ne _)

theorem v174_2 (A : Args D x0 x1 x4 x5 x6 x7 x8 x9) (i : S8192x2048.Idx) : val_main_v174_2 (F := Ideal) x0 i = ((sig (D.H (i 0).val (3072 + (i 1).val)) : ℝ) : EReal) := by
  simp only [val_main_v174_2_apply, val_main_call3_v4_apply, val_main_call3_v3_apply, val_main_call3_v2_apply, val_main_call3_v1_apply, val_main_call3_v0_apply, val_main_call3_cst_apply, val_main_call3_cst_0_apply, v3 A, sdiv, smul, sadd, ssub, sneg, sexp, stanh, c_zero, c_one, c_two, c_three, c_eps, c_c0, c_c1, c_half, c_neg_half, EReal.coe_zero, zero_add, coe_mul', coe_add', coe_sub', coe_neg', coe_sum, tanh_real, exp_real]
  exact sig_real _
theorem v174_1 (A : Args D x0 x1 x4 x5 x6 x7 x8 x9) (i : S8192x2048.Idx) : val_main_v174_1 (F := Ideal) x0 i = ((sig (D.H (i 0).val (3072 + (i 1).val)) * (1 - sig (D.H (i 0).val (3072 + (i 1).val))) : ℝ) : EReal) := by
  simp only [val_main_v174_1_apply, val_main_call3_v7_apply, val_main_call3_v6_apply, val_main_call3_cst_1_apply, v174_2 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v174_0 (A : Args D x0 x1 x4 x5 x6 x7 x8 x9) (i : S8192x2048.Idx) : val_main_v174_0 (F := Ideal) x0 i = ((silu (D.H (i 0).val (3072 + (i 1).val)) : ℝ) : EReal) := by
  simp only [val_main_v174_0_apply, v3 A, v174_2 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v177 (A : Args D x0 x1 x4 x5 x6 x7 x8 x9) (i : S8192x2048.Idx) : val_main_v177 (F := Ideal) x0 x1 i = ((D.DY (i 0).val (i 1).val * silu (D.H (i 0).val (3072 + (i 1).val)) : ℝ) : EReal) := by
  simp only [val_main_v177_apply, A.h1, v174_0 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v179 (A : Args D x0 x1 x4 x5 x6 x7 x8 x9) (i : S8192x1024.Idx) : val_main_v179 (F := Ideal) x0 x1 i = ((dms D (i 0).val ((i 1).val / 256) ((i 1).val % 256) : ℝ) : EReal) := by
  rw [val_main_v179_apply, v177 A]
  have e : (i 1).val = (i 1).val / 256 * 256 + (i 1).val % 256 := by omega
  show ((D.DY (i 0).val (i 1).val * silu (D.H (i 0).val (3072 + (i 1).val)) : ℝ) : EReal) = _
  unfold dms dyp zp
  rw [← e]
theorem v180 (A : Args D x0 x1 x4 x5 x6 x7 x8 x9) (i : S8192x1024.Idx) : val_main_v180 (F := Ideal) x0 x1 i = ((dyg D (i 0).val ((i 1).val / 256) ((i 1).val % 256) : ℝ) : EReal) := by
  rw [val_main_v180_apply, v177 A]
  have e : (i 1).val = (i 1).val / 256 * 256 + (i 1).val % 256 := by omega
  have e4 : 3072 + (1024 + (i 1).val) = 4096 + (i 1).val := by omega
  show ((D.DY (i 0).val (1024 + (i 1).val) * silu (D.H (i 0).val (3072 + (1024 + (i 1).val))) : ℝ) : EReal) = _
  unfold dyg dys zs
  rw [← e, e4]
theorem v181 (A : Args D x0 x1 x4 x5 x6 x7 x8 x9) (i : S8192x1024.Idx) : val_main_v181 (F := Ideal) x0 x1 i = ((dsv D (i 0).val ((i 1).val / 256) ((i 1).val % 256) : ℝ) : EReal) := by
  simp only [val_main_v181_apply, v105 A, v180 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  exact congrArg Real.toEReal (mul_comm _ _)
end Mixers.R
-- ==== Proof.RefNorm.lean ====
/-
  The reference's layer norm: the row's mean, variance and reciprocal deviation, the normalised row and the result.
-/
module

public import proofs.«01_k».proof.Proof.RefGate

@[expose] public section

set_option maxRecDepth 16384

noncomputable section

namespace Mixers.R

open Cert.ReferenceIdeal Cert.ReferenceIdeal.Read Idealize.ShloMosaic
open scoped BigOperators

variable {D : Data} {x0 : T S8192x5120} {x1 : T S8192x2048} {x4 : T S1x4x256x256} {x5 x6 x7 : T S1x1024}
  {x8 : T S1x4x128x128} {x9 : T S1x4x128}
  (A : Args D x0 x1 x4 x5 x6 x7 x8 x9)
include A

theorem v127 (i : S8192x4x256.Idx) : val_main_v127 (F := Ideal) x0 i = ((gelu (vv D (i 0).val (i 1).val (i 2).val) : ℝ) : EReal) := by
  rw [val_main_v127_apply, v126 A]
  have h1 : (i 1).val < 4 := (i 1).isLt
  have h2 : (i 2).val < 256 := (i 2).isLt
  refine f3 (fun s h k => gelu (vv D s h k)) ?_ ?_ ?_
  · show (((i 0).val * 4 + (i 1).val) * 256 + (i 2).val) / 1024 = _
    omega
  · show (((i 0).val * 4 + (i 1).val) * 256 + (i 2).val) % 1024 / 256 = _
    omega
  · show (((i 0).val * 4 + (i 1).val) * 256 + (i 2).val) % 1024 % 256 = _
    omega
theorem v133 (i : S8192x4x1.Idx) : val_main_v133 (F := Ideal) x0 i = ((mu D (i 0).val (i 1).val : ℝ) : EReal) := by
  simp only [val_main_v133_apply, val_main_v132_apply, val_main_v131_apply, val_main_v130_apply, val_main_cst_28_apply, val_main_cst_29_apply, v127 A, sdiv, div256, c_256, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v135 (i : S8192x4x256.Idx) : val_main_v135 (F := Ideal) x0 i = ((xc D (i 0).val (i 1).val (i 2).val : ℝ) : EReal) := by
  simp only [val_main_v135_apply, val_main_v134_apply, v127 A, v133 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v144 (i : S8192x4x256.Idx) : val_main_v144 (F := Ideal) x0 i = ((xc D (i 0).val (i 1).val (i 2).val : ℝ) : EReal) := by
  simp only [val_main_v144_apply, val_main_v143_apply, v127 A, v133 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v138 (i : S8192x4x256.Idx) : val_main_v138 (F := Ideal) x0 i = ((2 * xc D (i 0).val (i 1).val (i 2).val : ℝ) : EReal) := by
  simp only [val_main_v138_apply, val_main_v137_apply, val_main_cst_30_apply, v135 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v142 (i : S8192x4x1.Idx) : val_main_v142 (F := Ideal) x0 i = ((var D (i 0).val (i 1).val : ℝ) : EReal) := by
  simp only [val_main_v142_apply, val_main_v141_apply, val_main_v140_apply, val_main_v139_apply, val_main_v136_apply, val_main_cst_31_apply, val_main_cst_32_apply, v135 A, sdiv, div256, c_256, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v146 (i : S8192x4x1.Idx) : val_main_v146 (F := Ideal) x0 i = ((var D (i 0).val (i 1).val + EPS : ℝ) : EReal) := by
  simp only [val_main_v146_apply, val_main_v145_apply, val_main_cst_33_apply, v142 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v147 (i : S8192x4x1.Idx) : val_main_v147 (F := Ideal) x0 i = ((rstd D (i 0).val (i 1).val : ℝ) : EReal) := by
  simp only [val_main_v147_apply, v146 A, srsqrt, smul, sadd, ssub, sneg, sexp, stanh, c_zero, c_one, c_two, c_three, c_eps, c_c0, c_c1, c_half, c_neg_half, EReal.coe_zero, zero_add, coe_mul', coe_add', coe_sub', coe_neg', coe_sum, tanh_real, exp_real]
  exact rsqrt_real _ (var_eps_pos D _ _)
theorem v150 (i : S8192x4x1.Idx) : val_main_v150 (F := Ideal) x0 i = ((-(1 / 2) * (rstd D (i 0).val (i 1).val / (var D (i 0).val (i 1).val + EPS)) : ℝ) : EReal) := by
  simp only [val_main_v150_apply, val_main_v149_apply, val_main_v148_apply, val_main_cst_34_apply, v146 A, v147 A, sdiv, smul, sadd, ssub, sneg, sexp, stanh, c_zero, c_one, c_two, c_three, c_eps, c_c0, c_c1, c_half, c_neg_half, EReal.coe_zero, zero_add, coe_mul', coe_add', coe_sub', coe_neg', coe_sum, tanh_real, exp_real]
  rw [div_real _ _ (var_eps_pos D _ _).ne', coe_mul']
theorem v152 (i : S8192x4x256.Idx) : val_main_v152 (F := Ideal) x0 i = ((xhat D (i 0).val (i 1).val (i 2).val : ℝ) : EReal) := by
  simp only [val_main_v152_apply, val_main_v151_apply, v144 A, v147 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v154 (i : S8192x4x256.Idx) : val_main_v154 (F := Ideal) x6 i = ((D.LG ((i 1).val * 256 + (i 2).val) : ℝ) : EReal) := by
  have h1 : (i 1).val < 4 := (i 1).isLt
  have h2 : (i 2).val < 256 := (i 2).isLt
  simp only [val_main_v154_apply, val_main_v153_apply, val_main_v128_apply, val_main_v81_apply, A.h6]
  have e : ((i 1).val * 256 + (i 2).val) % 1024 = (i 1).val * 256 + (i 2).val := by omega
  exact congrArg (fun n => ((D.LG n : ℝ) : EReal)) e
theorem v157 (i : S8192x4x256.Idx) : val_main_v157 (F := Ideal) x7 i = ((D.LB ((i 1).val * 256 + (i 2).val) : ℝ) : EReal) := by
  have h1 : (i 1).val < 4 := (i 1).isLt
  have h2 : (i 2).val < 256 := (i 2).isLt
  simp only [val_main_v157_apply, val_main_v156_apply, val_main_v129_apply, val_main_v82_apply, A.h7]
  have e : ((i 1).val * 256 + (i 2).val) % 1024 = (i 1).val * 256 + (i 2).val := by omega
  exact congrArg (fun n => ((D.LB n : ℝ) : EReal)) e
theorem v200 (i : S8192x4x256.Idx) : val_main_v200 (F := Ideal) x6 i = ((D.LG ((i 1).val * 256 + (i 2).val) : ℝ) : EReal) := by
  have h1 : (i 1).val < 4 := (i 1).isLt
  have h2 : (i 2).val < 256 := (i 2).isLt
  simp only [val_main_v200_apply, val_main_v153_apply, val_main_v128_apply, val_main_v81_apply, A.h6]
  have e : ((i 1).val * 256 + (i 2).val) % 1024 = (i 1).val * 256 + (i 2).val := by omega
  exact congrArg (fun n => ((D.LG n : ℝ) : EReal)) e
theorem v158 (i : S8192x4x256.Idx) : val_main_v158 (F := Ideal) x0 x6 x7 i = ((vln D (i 0).val (i 1).val (i 2).val : ℝ) : EReal) := by
  simp only [val_main_v158_apply, val_main_v155_apply, v152 A, v154 A, v157 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v159 (i : S64x128x4x256.Idx) : val_main_v159 (F := Ideal) x0 x6 x7 i = ((vln D ((i 0).val * 128 + (i 1).val) (i 2).val (i 3).val : ℝ) : EReal) := by
  rw [val_main_v159_apply, v158 A]
  have h1 : (i 1).val < 128 := (i 1).isLt
  have h2 : (i 2).val < 4 := (i 2).isLt
  have h3 : (i 3).val < 256 := (i 3).isLt
  refine f3 (fun s h k => vln D s h k) ?_ ?_ ?_
  · show ((((i 0).val * 128 + (i 1).val) * 4 + (i 2).val) * 256 + (i 3).val) / 1024 = _
    omega
  · show ((((i 0).val * 128 + (i 1).val) * 4 + (i 2).val) * 256 + (i 3).val) / 256 % 4 = _
    omega
  · show ((((i 0).val * 128 + (i 1).val) * 4 + (i 2).val) * 256 + (i 3).val) % 256 = _
    omega
end Mixers.R
-- ==== Proof.RefMix.lean ====
/-
  The reference's gating unit: the masked weights, the spatial mix, and the gradients of the mix and of the layer norm's result.
-/
module

public import proofs.«01_k».proof.Proof.RefNorm

@[expose] public section

set_option maxRecDepth 16384

noncomputable section

namespace Mixers.R

open Cert.ReferenceIdeal Cert.ReferenceIdeal.Read Idealize.ShloMosaic
open scoped BigOperators

theorem mask_word (a b : ℕ) (ha : a < 128) (hb : b < 128) :
    Scalar.select (α := BitVec 1) (IntOp.cmpi .sge (IntOp.addi (BitVec.ofNat 32 a) 0#32) (BitVec.ofNat 32 b)) 1#1 0#1 = BitVec.ofBool (decide (b ≤ a)) := by
  have ea : (BitVec.ofNat 32 a + 0#32).toInt = (a : ℤ) := by
    rw [BitVec.add_zero, BitVec.toInt_eq_toNat_bmod, BitVec.toNat_ofNat]
    simp only [Int.bmod_def]
    omega
  have eb : (BitVec.ofNat 32 b).toInt = (b : ℤ) := by
    rw [BitVec.toInt_eq_toNat_bmod, BitVec.toNat_ofNat]
    simp only [Int.bmod_def]
    omega
  have e1 : (BitVec.ofNat 32 b).sle (BitVec.ofNat 32 a + 0#32) = decide (b ≤ a) := by
    rw [BitVec.sle, ea, eb]
    exact decide_eq_decide.mpr (by omega)
  simp only [IntOp.cmpi, IntOp.addi]
  rw [e1]
  by_cases h : b ≤ a <;> simp [h, Scalar.select]

theorem v164_1 (i : S4x128x128.Idx) : val_main_v164_1 (F := Ideal) i = BitVec.ofBool (decide ((i 2).val ≤ (i 1).val)) := by
  simp only [val_main_v164_1_apply, val_main_v162_apply, val_main_v161_apply, val_main_v160_apply, val_main_c_35_apply, val_main_call1_v5_apply, val_main_call1_c_0_apply, val_main_call1_v4_apply, val_main_call1_v3_apply, val_main_call1_v2_apply, val_main_call1_v1_apply, val_main_call1_c_apply, val_main_call1_v0_apply]
  exact mask_word _ _ (i 1).isLt (i 2).isLt

variable {D : Data} {x0 : T S8192x5120} {x1 : T S8192x2048} {x4 : T S1x4x256x256} {x5 x6 x7 : T S1x1024}
  {x8 : T S1x4x128x128} {x9 : T S1x4x128}
  (A : Args D x0 x1 x4 x5 x6 x7 x8 x9)
include A

theorem v83 (i : S4x128x128.Idx) : val_main_v83 (F := Ideal) x8 i = ((D.SW (i 0).val (i 1).val (i 2).val : ℝ) : EReal) := by
  have h0 : (i 0).val < 4 := (i 0).isLt
  have h1 : (i 1).val < 128 := (i 1).isLt
  have h2 : (i 2).val < 128 := (i 2).isLt
  simp only [val_main_v83_apply, A.h8]
  refine f3 (fun a b c => D.SW a b c) ?_ ?_ ?_
  · show _ = (i 0).val
    simp only [Fin.val_mk]
    omega
  · show _ = (i 1).val
    omega
  · show _ = (i 2).val
    omega
theorem v164_0 (i : S4x128x128.Idx) : val_main_v164_0 (F := Ideal) x8 i = ((wm D (i 0).val (i 1).val (i 2).val : ℝ) : EReal) := by
  simp only [val_main_v164_0_apply, v164_1, v83 A, val_main_v163_apply, val_main_cst_36_apply, c_zero]
  unfold wm
  by_cases h : (i 2).val ≤ (i 1).val <;> simp [h, Scalar.select]
theorem v166 (i : S64x128x4x256.Idx) : val_main_v166 (F := Ideal) x0 x6 x7 x8 i
    = ((∑ j : Fin 128, wm D (i 2).val (i 1).val j.val * vln D ((i 0).val * 128 + j.val) (i 2).val (i 3).val : ℝ) : EReal) := by
  simp only [val_main_v166_apply, val_main_v165_apply, v159 A, v164_0 A, coe_mul', coe_sum]
  exact congrArg Real.toEReal (Finset.sum_congr rfl fun j _ => mul_comm _ _)
theorem v169 (i : S64x128x4x256.Idx) : val_main_v169 (F := Ideal) x9 i = ((D.SB (i 2).val (i 1).val : ℝ) : EReal) := by
  have h1 : (i 1).val < 128 := (i 1).isLt
  have h2 : (i 2).val < 4 := (i 2).isLt
  simp only [val_main_v169_apply, val_main_v168_apply, val_main_v167_apply, val_main_v84_apply, A.h9]
  refine f3 (fun a b _ => D.SB a b) (c := 0) (c' := 0) ?_ ?_ rfl
  · show _ = (i 2).val
    omega
  · show _ = (i 1).val
    omega
theorem v170 (i : S64x128x4x256.Idx) : val_main_v170 (F := Ideal) x0 x6 x7 x8 x9 i = ((sv D ((i 0).val * 128) (i 1).val (i 2).val (i 3).val : ℝ) : EReal) := by
  simp only [val_main_v170_apply, v166 A, v169 A, sadd, coe_add']
  rfl
theorem v171 (i : S8192x1024.Idx) : val_main_v171 (F := Ideal) x0 x6 x7 x8 x9 i
    = ((sv D (cb (i 0).val) ((i 0).val % 128) ((i 1).val / 256) ((i 1).val % 256) : ℝ) : EReal) := by
  rw [val_main_v171_apply, v170 A]
  have h1 : (i 1).val < 1024 := (i 1).isLt
  refine f4 (fun b j h k => sv D b j h k) ?_ ?_ ?_ ?_
  · show ((i 0).val * 1024 + (i 1).val) / 131072 * 128 = (i 0).val / 128 * 128
    omega
  · show ((i 0).val * 1024 + (i 1).val) / 1024 % 128 = _
    omega
  · show ((i 0).val * 1024 + (i 1).val) / 256 % 4 = _
    omega
  · show ((i 0).val * 1024 + (i 1).val) % 256 = _
    omega
theorem v182 (i : S8192x1024.Idx) : val_main_v182 (F := Ideal) x0 x1 x6 x7 x8 x9 i
    = ((dyg D (i 0).val ((i 1).val / 256) ((i 1).val % 256) * sv D (cb (i 0).val) ((i 0).val % 128) ((i 1).val / 256) ((i 1).val % 256) : ℝ) : EReal) := by
  simp only [val_main_v182_apply, v180 A, v171 A, smul, coe_mul']
theorem v183 (i : S64x128x4x256.Idx) : val_main_v183 (F := Ideal) x0 x1 i = ((dsv D ((i 0).val * 128 + (i 1).val) (i 2).val (i 3).val : ℝ) : EReal) := by
  rw [val_main_v183_apply, v181 A]
  have h1 : (i 1).val < 128 := (i 1).isLt
  have h2 : (i 2).val < 4 := (i 2).isLt
  have h3 : (i 3).val < 256 := (i 3).isLt
  refine f3 (fun s h k => dsv D s h k) ?_ ?_ ?_
  · show ((((i 0).val * 128 + (i 1).val) * 4 + (i 2).val) * 256 + (i 3).val) / 1024 = _
    omega
  · show ((((i 0).val * 128 + (i 1).val) * 4 + (i 2).val) * 256 + (i 3).val) % 1024 / 256 = _
    omega
  · show ((((i 0).val * 128 + (i 1).val) * 4 + (i 2).val) * 256 + (i 3).val) % 1024 % 256 = _
    omega
theorem v191 (i : S64x128x4x256.Idx) : val_main_v191 (F := Ideal) x0 x1 x8 i = ((dvln D ((i 0).val * 128) (i 1).val (i 2).val (i 3).val : ℝ) : EReal) := by
  simp only [val_main_v191_apply, val_main_v190_apply, val_main_v188_apply, v183 A, v164_0 A, coe_mul', coe_sum]
  exact congrArg Real.toEReal (Finset.sum_congr rfl fun j _ => mul_comm _ _)
theorem v193 (i : S8192x4x256.Idx) : val_main_v193 (F := Ideal) x0 x1 x8 i = ((dvln D (cb (i 0).val) ((i 0).val % 128) (i 1).val (i 2).val : ℝ) : EReal) := by
  rw [val_main_v193_apply, v191 A]
  have h1 : (i 1).val < 4 := (i 1).isLt
  have h2 : (i 2).val < 256 := (i 2).isLt
  refine f4 (fun b j h k => dvln D b j h k) ?_ ?_ ?_ ?_
  · show (((i 0).val * 4 + (i 1).val) * 256 + (i 2).val) / 131072 * 128 = (i 0).val / 128 * 128
    omega
  · show (((i 0).val * 4 + (i 1).val) * 256 + (i 2).val) / 1024 % 128 = _
    omega
  · show (((i 0).val * 4 + (i 1).val) * 256 + (i 2).val) / 256 % 4 = _
    omega
  · show (((i 0).val * 4 + (i 1).val) * 256 + (i 2).val) % 256 = _
    omega
end Mixers.R
-- ==== Proof.RefLn.lean ====
/-
  The reference's gradient of the layer norm and of the two halves of the gating unit's input.
-/
module

public import proofs.«01_k».proof.Proof.RefMix

@[expose] public section

set_option maxRecDepth 16384

noncomputable section

namespace Mixers.R

open Cert.ReferenceIdeal Cert.ReferenceIdeal.Read Idealize.ShloMosaic
open scoped BigOperators

theorem cb_add (s : ℕ) : cb s + s % 128 = s := by unfold cb; omega

theorem gelu_vjp (u g : ℝ) :
    g * cdf u + C0 * (1 / 2 * (u * g) * (4 * cdf u * (1 - cdf u))) + C1 * (C0 * (1 / 2 * (u * g) * (4 * cdf u * (1 - cdf u)))) * (3 * (u * u))
      = g * dgelu u := by
  unfold dgelu gelu
  ring

theorem xc_sum (D : Data) (s h : ℕ) : ∑ k : Fin 256, xc D s h k.val = 0 := by
  unfold xc mu
  rw [Finset.sum_sub_distrib, Finset.sum_const, Finset.card_univ, Fintype.card_fin, nsmul_eq_mul]
  push_cast
  ring

/-- The gradient of a row's norm, as the reference takes it and in the usual form. -/
theorem ln_vjp (x d : Fin 256 → ℝ) (v : ℝ) (hv : 0 < v) (hx : ∑ k, x k = 0) (k : Fin 256) :
    d k * (Real.sqrt v)⁻¹ + (∑ q, x q * d q) * (-(1 / 2) * ((Real.sqrt v)⁻¹ / v)) / 256 * (2 * x k)
        + (∑ q, -(d q * (Real.sqrt v)⁻¹) + ∑ q, -((∑ p, x p * d p) * (-(1 / 2) * ((Real.sqrt v)⁻¹ / v)) / 256 * (2 * x q))) / 256
      = (Real.sqrt v)⁻¹ * (d k - (∑ q, d q) / 256 - x k * (Real.sqrt v)⁻¹ * ((∑ q, d q * (x q * (Real.sqrt v)⁻¹)) / 256)) := by
  have hr : (Real.sqrt v)⁻¹ / v = (Real.sqrt v)⁻¹ * ((Real.sqrt v)⁻¹ * (Real.sqrt v)⁻¹) := by
    rw [← mul_inv (Real.sqrt v) (Real.sqrt v), Real.mul_self_sqrt hv.le, div_eq_mul_inv]
  rw [hr]
  generalize (Real.sqrt v)⁻¹ = r
  have e1 : ∑ q, -(d q * r) = -((∑ q, d q) * r) := by rw [Finset.sum_neg_distrib, Finset.sum_mul]
  have e2 : ∀ c : ℝ, ∑ q, -(c * (2 * x q)) = 0 := fun c => by
    rw [Finset.sum_neg_distrib, ← Finset.mul_sum, ← Finset.mul_sum, hx]; ring
  have e3 : ∑ q, d q * (x q * r) = (∑ q, x q * d q) * r := by
    rw [Finset.sum_mul]; exact Finset.sum_congr rfl fun q _ => by ring
  rw [e1, e2, e3]
  ring

variable {D : Data} {x0 : T S8192x5120} {x1 : T S8192x2048} {x4 : T S1x4x256x256} {x5 x6 x7 : T S1x1024}
  {x8 : T S1x4x128x128} {x9 : T S1x4x128}
  (A : Args D x0 x1 x4 x5 x6 x7 x8 x9)
include A

theorem v201 (i : S8192x4x256.Idx) : val_main_v201 (F := Ideal) x0 x1 x6 x8 i = ((dxh D (cb (i 0).val) ((i 0).val % 128) (i 1).val (i 2).val : ℝ) : EReal) := by
  simp only [val_main_v201_apply, v193 A, v200 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v207 (i : S8192x4x256.Idx) : val_main_v207 (F := Ideal) x0 x1 x6 x8 i = ((dxh D (cb (i 0).val) ((i 0).val % 128) (i 1).val (i 2).val * rstd D (i 0).val (i 1).val : ℝ) : EReal) := by
  simp only [val_main_v207_apply, val_main_v206_apply, v201 A, v147 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v204 (i : S8192x4.Idx) : val_main_v204 (F := Ideal) x0 x1 x6 x8 i = (((∑ k : Fin 256, xc D (i 0).val (i 1).val k.val * dxh D (cb (i 0).val) ((i 0).val % 128) (i 1).val k.val) : ℝ) : EReal) := by
  simp only [val_main_v204_apply, val_main_v203_apply, val_main_cst_43_apply, v144 A, v201 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v205 (i : S8192x4x1.Idx) : val_main_v205 (F := Ideal) x0 x1 x6 x8 i = ((∑ k : Fin 256, xc D (i 0).val (i 1).val k.val * dxh D (cb (i 0).val) ((i 0).val % 128) (i 1).val k.val : ℝ) : EReal) := by
  rw [val_main_v205_apply, v204 A]
  have h1 : (i 1).val < 4 := (i 1).isLt
  have h2 : (i 2).val < 1 := (i 2).isLt
  refine f3 (fun s h _ => ∑ k : Fin 256, xc D s h k.val * dxh D (cb s) (s % 128) h k.val) (c := 0) (c' := 0) ?_ ?_ rfl
  · show (((i 0).val * 4 + (i 1).val) * 1 + (i 2).val) / 4 = _
    omega
  · show (((i 0).val * 4 + (i 1).val) * 1 + (i 2).val) % 4 = _
    omega
theorem v213 (i : S8192x4x1.Idx) : val_main_v213 (F := Ideal) x0 x1 x6 x8 i = (((∑ k : Fin 256, xc D (i 0).val (i 1).val k.val * dxh D (cb (i 0).val) ((i 0).val % 128) (i 1).val k.val) * (-(1 / 2) * (rstd D (i 0).val (i 1).val / (var D (i 0).val (i 1).val + EPS))) / 256 : ℝ) : EReal) := by
  simp only [val_main_v213_apply, val_main_v212_apply, val_main_v208_apply, val_main_cst_45_apply, v205 A, v150 A, sdiv, c_256, div256, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v214 (i : S8192x4.Idx) : val_main_v214 (F := Ideal) x0 x1 x6 x8 i = (((∑ k : Fin 256, xc D (i 0).val (i 1).val k.val * dxh D (cb (i 0).val) ((i 0).val % 128) (i 1).val k.val) * (-(1 / 2) * (rstd D (i 0).val (i 1).val / (var D (i 0).val (i 1).val + EPS))) / 256 : ℝ) : EReal) := by
  simp only [val_main_v214_apply, val_main_cst_46_apply, v213 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  simp only [Finset.univ_unique, Finset.sum_singleton]
  all_goals rfl
theorem v216 (i : S8192x4x256.Idx) : val_main_v216 (F := Ideal) x0 x1 x6 x8 i = (((∑ k : Fin 256, xc D (i 0).val (i 1).val k.val * dxh D (cb (i 0).val) ((i 0).val % 128) (i 1).val k.val) * (-(1 / 2) * (rstd D (i 0).val (i 1).val / (var D (i 0).val (i 1).val + EPS))) / 256 * (2 * xc D (i 0).val (i 1).val (i 2).val) : ℝ) : EReal) := by
  simp only [val_main_v216_apply, val_main_v215_apply, v214 A, v138 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v218 (i : S8192x4.Idx) : val_main_v218 (F := Ideal) x0 x1 x6 x8 i = ((∑ q : Fin 256, -((∑ k : Fin 256, xc D (i 0).val (i 1).val k.val * dxh D (cb (i 0).val) ((i 0).val % 128) (i 1).val k.val) * (-(1 / 2) * (rstd D (i 0).val (i 1).val / (var D (i 0).val (i 1).val + EPS))) / 256 * (2 * xc D (i 0).val (i 1).val q.val)) : ℝ) : EReal) := by
  simp only [val_main_v218_apply, val_main_v217_apply, val_main_cst_47_apply, v216 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v210 (i : S8192x4.Idx) : val_main_v210 (F := Ideal) x0 x1 x6 x8 i = ((∑ q : Fin 256, -(dxh D (cb (i 0).val) ((i 0).val % 128) (i 1).val q.val * rstd D (i 0).val (i 1).val) : ℝ) : EReal) := by
  simp only [val_main_v210_apply, val_main_v209_apply, val_main_cst_44_apply, v207 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v211 (i : S8192x4x1.Idx) : val_main_v211 (F := Ideal) x0 x1 x6 x8 i = ((∑ q : Fin 256, -(dxh D (cb (i 0).val) ((i 0).val % 128) (i 1).val q.val * rstd D (i 0).val (i 1).val) : ℝ) : EReal) := by
  rw [val_main_v211_apply, v210 A]
  have h1 : (i 1).val < 4 := (i 1).isLt
  have h2 : (i 2).val < 1 := (i 2).isLt
  refine f3 (fun s h _ => ∑ q : Fin 256, -(dxh D (cb s) (s % 128) h q.val * rstd D s h)) (c := 0) (c' := 0) ?_ ?_ rfl
  · show (((i 0).val * 4 + (i 1).val) * 1 + (i 2).val) / 4 = _
    omega
  · show (((i 0).val * 4 + (i 1).val) * 1 + (i 2).val) % 4 = _
    omega
theorem v219 (i : S8192x4x1.Idx) : val_main_v219 (F := Ideal) x0 x1 x6 x8 i = ((∑ q : Fin 256, -((∑ k : Fin 256, xc D (i 0).val (i 1).val k.val * dxh D (cb (i 0).val) ((i 0).val % 128) (i 1).val k.val) * (-(1 / 2) * (rstd D (i 0).val (i 1).val / (var D (i 0).val (i 1).val + EPS))) / 256 * (2 * xc D (i 0).val (i 1).val q.val)) : ℝ) : EReal) := by
  rw [val_main_v219_apply, v218 A]
  have h1 : (i 1).val < 4 := (i 1).isLt
  have h2 : (i 2).val < 1 := (i 2).isLt
  refine f3 (fun s h _ => ∑ q : Fin 256, -((∑ k : Fin 256, xc D s h k.val * dxh D (cb s) (s % 128) h k.val) * (-(1 / 2) * (rstd D s h / (var D s h + EPS))) / 256 * (2 * xc D s h q.val))) (c := 0) (c' := 0) ?_ ?_ rfl
  · show (((i 0).val * 4 + (i 1).val) * 1 + (i 2).val) / 4 = _
    omega
  · show (((i 0).val * 4 + (i 1).val) * 1 + (i 2).val) % 4 = _
    omega
theorem v224 (i : S8192x4.Idx) : val_main_v224 (F := Ideal) x0 x1 x6 x8 i = (((∑ q : Fin 256, -(dxh D (cb (i 0).val) ((i 0).val % 128) (i 1).val q.val * rstd D (i 0).val (i 1).val) + ∑ q : Fin 256, -((∑ k : Fin 256, xc D (i 0).val (i 1).val k.val * dxh D (cb (i 0).val) ((i 0).val % 128) (i 1).val k.val) * (-(1 / 2) * (rstd D (i 0).val (i 1).val / (var D (i 0).val (i 1).val + EPS))) / 256 * (2 * xc D (i 0).val (i 1).val q.val))) / 256 : ℝ) : EReal) := by
  simp only [val_main_v224_apply, val_main_v223_apply, val_main_v222_apply, val_main_v221_apply, val_main_cst_48_apply, val_main_cst_49_apply, v211 A, v219 A, sdiv, c_256, div256, smul, sadd, ssub, sneg, sexp, stanh, c_zero, c_one, c_two, c_three, c_eps, c_c0, c_c1, c_half, c_neg_half, EReal.coe_zero, zero_add, coe_mul', coe_add', coe_sub', coe_neg', coe_sum, tanh_real, exp_real]
  simp only [Finset.univ_unique, Finset.sum_singleton]
  all_goals rfl
theorem v226 (i : S8192x4x256.Idx) : val_main_v226 (F := Ideal) x0 x1 x6 x8 i = ((dgv D (cb (i 0).val) ((i 0).val % 128) (i 1).val (i 2).val : ℝ) : EReal) := by
  simp only [val_main_v226_apply, val_main_v225_apply, val_main_v220_apply, v207 A, v216 A, v224 A, sadd, coe_add']
  refine congrArg Real.toEReal ?_
  unfold dgv m1 m2 xhat
  rw [cb_add]
  exact ln_vjp (fun k => xc D (i 0).val (i 1).val k.val) (fun k => dxh D (cb (i 0).val) ((i 0).val % 128) (i 1).val k.val) _
    (var_eps_pos D _ _) (xc_sum D _ _) ⟨(i 2).val, (i 2).isLt⟩
theorem v229 (i : S8192x1024.Idx) : val_main_v229 (F := Ideal) x0 x1 x6 x8 i = ((dgv D (cb (i 0).val) ((i 0).val % 128) ((i 1).val / 256) ((i 1).val % 256) : ℝ) : EReal) := by
  rw [val_main_v229_apply, v226 A]
  have h1 : (i 1).val < 1024 := (i 1).isLt
  refine f3 (fun s h k => dgv D (cb s) (s % 128) h k) ?_ ?_ ?_
  · show ((i 0).val * 1024 + (i 1).val) / 1024 = _
    omega
  · show ((i 0).val * 1024 + (i 1).val) / 256 % 4 = _
    omega
  · show ((i 0).val * 1024 + (i 1).val) % 256 = _
    omega
theorem v241 (i : S8192x1024.Idx) : val_main_v241 (F := Ideal) x0 x1 x6 x8 i = ((dv D (cb (i 0).val) ((i 0).val % 128) ((i 1).val / 256) ((i 1).val % 256) : ℝ) : EReal) := by
  simp only [val_main_v241_apply, val_main_v240_apply, val_main_v239_apply, val_main_v238_apply, val_main_v237_apply, val_main_v236_apply, val_main_v235_apply, val_main_v234_apply, val_main_v233_apply, val_main_v232_apply, val_main_v231_apply, val_main_v230_apply, val_main_cst_50_apply, val_main_cst_51_apply, val_main_cst_52_apply, v2 A, v229 A, v125 A, v121 A, v110 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  refine congrArg Real.toEReal ?_
  unfold dv
  rw [cb_add]
  exact gelu_vjp _ _
theorem v253 (i : S8192x1024.Idx) : val_main_v253 (F := Ideal) x0 x1 x6 x7 x8 x9 i = ((du D (cb (i 0).val) ((i 0).val % 128) ((i 1).val / 256) ((i 1).val % 256) : ℝ) : EReal) := by
  simp only [val_main_v253_apply, val_main_v252_apply, val_main_v251_apply, val_main_v250_apply, val_main_v249_apply, val_main_v248_apply, val_main_v247_apply, val_main_v246_apply, val_main_v245_apply, val_main_v244_apply, val_main_v243_apply, val_main_v242_apply, val_main_cst_53_apply, val_main_cst_54_apply, val_main_cst_55_apply, v1 A, v182 A, v104 A, v100 A, v89 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  refine congrArg Real.toEReal ?_
  unfold du
  rw [cb_add]
  exact gelu_vjp _ _
end Mixers.R
-- ==== Proof.RefPool.lean ====
/-
  The reference's mixing of the pooled rows and its gradients, up to the gradient of the pooled rows.
-/
module

public import proofs.«01_k».proof.Proof.RefLn

@[expose] public section

set_option maxRecDepth 16384

noncomputable section

namespace Mixers.R

open Cert.ReferenceIdeal Cert.ReferenceIdeal.Read Idealize.ShloMosaic
open scoped BigOperators

variable {D : Data} {x0 : T S8192x5120} {x1 : T S8192x2048} {x4 : T S1x4x256x256} {x5 x6 x7 : T S1x1024}
  {x8 : T S1x4x128x128} {x9 : T S1x4x128}
  (A : Args D x0 x1 x4 x5 x6 x7 x8 x9)
include A

theorem v4 (i : S4x256x256.Idx) : val_main_v4 (F := Ideal) x4 i = ((D.PW (i 0).val (i 1).val (i 2).val : ℝ) : EReal) := by
  have h1 : (i 1).val < 256 := (i 1).isLt
  have h2 : (i 2).val < 256 := (i 2).isLt
  have h0 : (i 0).val < 4 := (i 0).isLt
  simp only [val_main_v4_apply, A.h4]
  refine f3 (fun a b c => D.PW a b c) ?_ ?_ ?_
  · show (((i 0).val * 256 + (i 1).val) * 256 + (i 2).val) / 65536 % 4 = _
    omega
  · show (((i 0).val * 256 + (i 1).val) * 256 + (i 2).val) / 256 % 256 = _
    omega
  · show (((i 0).val * 256 + (i 1).val) * 256 + (i 2).val) % 256 = _
    omega
theorem v75 (i : S4x256x8192.Idx) : val_main_v75 (F := Ideal) x0 x4 i = ((mixed D (i 2).val (i 0).val (i 1).val : ℝ) : EReal) := by
  simp only [val_main_v75_apply, v4 A, A.hp, coe_mul', coe_sum]
  exact congrArg Real.toEReal (Finset.sum_congr rfl fun j _ => mul_comm _ _)
theorem v77 (i : S8192x1024.Idx) : val_main_v77 (F := Ideal) x0 x4 i = ((mixed D (i 0).val ((i 1).val / 256) ((i 1).val % 256) : ℝ) : EReal) := by
  rw [val_main_v77_apply, val_main_v76_apply, v75 A]
  have h1 : (i 1).val < 1024 := (i 1).isLt
  refine f3 (fun s h k => mixed D s h k) ?_ ?_ ?_
  · show ((i 0).val * 1024 + (i 1).val) / 1024 = _
    omega
  · show ((i 0).val * 1024 + (i 1).val) / 256 % 4 = _
    omega
  · show ((i 0).val * 1024 + (i 1).val) % 256 = _
    omega
theorem v79 (i : S8192x1024.Idx) : val_main_v79 (F := Ideal) x5 i = ((D.PS ((i 1).val / 256 * 256 + (i 1).val % 256) : ℝ) : EReal) := by
  simp only [val_main_v79_apply, val_main_v78_apply, val_main_v5_apply, A.h5]
  have h1 : (i 1).val < 1024 := (i 1).isLt
  have e : (i 1).val % 1024 = (i 1).val / 256 * 256 + (i 1).val % 256 := by omega
  rw [← e]
  all_goals rfl
theorem v261 (i : S8192x1024.Idx) : val_main_v261 (F := Ideal) x5 i = ((D.PS ((i 1).val / 256 * 256 + (i 1).val % 256) : ℝ) : EReal) := by
  simp only [val_main_v261_apply, val_main_v78_apply, val_main_v5_apply, A.h5]
  have h1 : (i 1).val < 1024 := (i 1).isLt
  have e : (i 1).val % 1024 = (i 1).val / 256 * 256 + (i 1).val % 256 := by omega
  rw [← e]
  all_goals rfl
theorem v80 (i : S8192x1024.Idx) : val_main_v80 (F := Ideal) x0 x4 x5 i = ((mixed D (i 0).val ((i 1).val / 256) ((i 1).val % 256) * D.PS ((i 1).val / 256 * 256 + (i 1).val % 256) : ℝ) : EReal) := by
  simp only [val_main_v80_apply, v77 A, v79 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v262 (i : S8192x1024.Idx) : val_main_v262 (F := Ideal) x0 x1 x5 i = ((dmixed D (i 0).val ((i 1).val / 256) ((i 1).val % 256) : ℝ) : EReal) := by
  simp only [val_main_v262_apply, v179 A, v261 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v264 (i : S8192x4x256.Idx) : val_main_v264 (F := Ideal) x0 x1 x5 i = ((dmixed D (i 0).val (i 1).val (i 2).val : ℝ) : EReal) := by
  rw [val_main_v264_apply, v262 A]
  have h1 : (i 1).val < 4 := (i 1).isLt
  have h2 : (i 2).val < 256 := (i 2).isLt
  refine f3 (fun s h k => dmixed D s h k) ?_ ?_ ?_
  · show (((i 0).val * 4 + (i 1).val) * 256 + (i 2).val) / 1024 = _
    omega
  · show (((i 0).val * 4 + (i 1).val) * 256 + (i 2).val) % 1024 / 256 = _
    omega
  · show (((i 0).val * 4 + (i 1).val) * 256 + (i 2).val) % 1024 % 256 = _
    omega
theorem v267 (i : S8192x4x256.Idx) : val_main_v267 (F := Ideal) x0 x1 x4 x5 i = ((dpooled D (i 0).val (i 1).val (i 2).val : ℝ) : EReal) := by
  simp only [val_main_v267_apply, val_main_v266_apply, val_main_v265_apply, v264 A, v4 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v268 (i : S4x256x256.Idx) : val_main_v268 (F := Ideal) x0 x1 x5 i = ((∑ s : Fin 8192, dmixed D s.val (i 0).val (i 1).val * D.P s.val ((i 0).val * 256 + (i 2).val) : ℝ) : EReal) := by
  simp only [val_main_v268_apply, val_main_v265_apply, v264 A, A.hp, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v269 (i : S4x256x256.Idx) : val_main_v269 (F := Ideal) x0 x1 x5 i = ((DPW D (i 0).val (i 1).val (i 2).val : ℝ) : EReal) := by
  rw [val_main_v269_apply, v268 A]
  unfold DPW dpwT
  exact congrArg Real.toEReal (Finset.sum_congr rfl fun j _ => mul_comm _ _)
/-- The result `dpw`. -/
theorem v328 (i : S8x4x32x256.Idx) : val_main_v328 (F := Ideal) x0 x1 x5 i = ((DPW D (i 1).val ((i 0).val * 32 + (i 2).val) (i 3).val : ℝ) : EReal) := by
  simp only [val_main_v328_apply, val_main_v327_apply, val_main_v322_apply, v269 A]
  have h0 : (i 0).val < 8 := (i 0).isLt
  have h1 : (i 1).val < 4 := (i 1).isLt
  have h2 : (i 2).val < 32 := (i 2).isLt
  have h3 : (i 3).val < 256 := (i 3).isLt
  refine f3 (fun a b c => DPW D a b c) ?_ ?_ ?_
  · show ((((i 1).val * 8 + (i 0).val) * 32 + (i 2).val) * 256 + (i 3).val) / 65536 % 4 = _
    omega
  · show ((((i 1).val * 8 + (i 0).val) * 32 + (i 2).val) * 256 + (i 3).val) / 256 % 256 = _
    omega
  · show ((((i 1).val * 8 + (i 0).val) * 32 + (i 2).val) * 256 + (i 3).val) % 256 = _
    omega
theorem v259 (i : S1024.Idx) : val_main_v259 (F := Ideal) x0 x1 x4 i = ((∑ s : Fin 8192, dpsT D s.val ((i 0).val / 256) ((i 0).val % 256) : ℝ) : EReal) := by
  simp only [val_main_v259_apply, val_main_v258_apply, val_main_cst_56_apply, v77 A, v179 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  exact congrArg Real.toEReal (Finset.sum_congr rfl fun j _ => mul_comm _ _)
theorem v260 (i : S1x1024.Idx) : val_main_v260 (F := Ideal) x0 x1 x4 i = ((DPS D (i 1).val : ℝ) : EReal) := by
  rw [val_main_v260_apply, v259 A]
  have h0 : (i 0).val < 1 := (i 0).isLt
  have e : (i 0).val * 1024 + (i 1).val = (i 1).val := by omega
  exact congrArg (fun n => ((DPS D n : ℝ) : EReal)) e
/-- The result `dps`. -/
theorem v321 (i : S1x1024.Idx) : val_main_v321 (F := Ideal) x0 x1 x4 i = ((DPS D (i 1).val : ℝ) : EReal) := by
  simp only [val_main_v321_apply, val_main_v263_apply, val_main_cst_57_apply, v260 A, c_zero, Finset.univ_unique, Finset.sum_singleton, EReal.coe_zero, zero_add]
  all_goals rfl
end Mixers.R
-- ==== Proof.RefWin.lean ====
/-
  A running sum along the first axis, written as a window over the padded array: what it is of an array of reals.
-/
module

public import proofs.«01_k».proof.Proof.RefOps

@[expose] public section

set_option maxRecDepth 16384

noncomputable section

namespace Mixers.R

open Cert.ReferenceIdeal Cert.ReferenceIdeal.Read Idealize.ShloMosaic
open scoped BigOperators

theorem foldl_add {ι : Type*} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The window's positions are those of its first axis. -/
def winEquiv (N : ℕ) : Fin N ≃ (⟨3, ![N, 1, 1]⟩ : Shape).Idx where
  toFun n := ix3 n 0 0
  invFun p := p 0
  left_inv _ := rfl
  right_inv p := by
    obtain ⟨q, r, k, rfl⟩ := ex3 p
    obtain rfl : r = 0 := Subsingleton.elim _ _
    obtain rfl : k = 0 := Subsingleton.elim _ _
    rfl

/-- The window's sum, at an array of reals, as a sum of reals. -/
theorem window_sum {N G C lo hi : ℕ} (h : (⟨3, ![N, G, C]⟩ : Shape).ReduceWindows ![N, 1, 1] ![1, 1, 1] ![lo, 0, 0] ![hi, 0, 0] ⟨3, ![N, G, C]⟩)
    (x : (⟨3, ![N, G, C]⟩ : Shape).Idx → EReal) (f : ℕ → ℕ → ℕ → ℝ) (hx : ∀ i, x i = ((f (i 0).val (i 1).val (i 2).val : ℝ) : EReal))
    (s : Fin N) (g : Fin G) (c : Fin C) :
    Ideal.hostReduceWindowAdd ![N, 1, 1] ![1, 1, 1] ![lo, 0, 0] ![hi, 0, 0] h x 0 (ix3 s g c)
      = ((∑ n : Fin N, (if lo ≤ s.val + n.val ∧ s.val + n.val - lo < N then f (s.val + n.val - lo) g.val c.val else 0) : ℝ) : EReal) := by
  unfold Ideal.hostReduceWindowAdd Host.reduceWindow
  rw [foldl_add, ← Fin.sum_univ_def, zero_add]
  refine (Fintype.sum_equiv ((Shape.rowMajor (⟨3, ![N, 1, 1]⟩ : Shape)).symm.trans (winEquiv N).symm) _
    (fun n : Fin N => ((if lo ≤ s.val + n.val ∧ s.val + n.val - lo < N then f (s.val + n.val - lo) g.val c.val else 0 : ℝ) : EReal))
    fun i => ?_).trans (coe_sum _ _)
  have p0 : ((((Shape.rowMajor (⟨3, ![N, 1, 1]⟩ : Shape)).symm.trans (winEquiv N).symm) i : Fin N)).val
      = ((Shape.rowMajor (⟨3, ![N, 1, 1]⟩ : Shape)).symm i 0).val := rfl
  rw [p0]
  have p1 : ((Shape.rowMajor (⟨3, ![N, 1, 1]⟩ : Shape)).symm i 1).val < 1 := ((Shape.rowMajor (⟨3, ![N, 1, 1]⟩ : Shape)).symm i 1).isLt
  have p2 : ((Shape.rowMajor (⟨3, ![N, 1, 1]⟩ : Shape)).symm i 2).val < 1 := ((Shape.rowMajor (⟨3, ![N, 1, 1]⟩ : Shape)).symm i 2).isLt
  split_ifs with h1 h2 h2
  · rw [hx]
    refine f3 f ?_ ?_ ?_
    · show s.val * 1 + ((Shape.rowMajor (⟨3, ![N, 1, 1]⟩ : Shape)).symm i 0).val - lo = _
      omega
    · show g.val * 1 + ((Shape.rowMajor (⟨3, ![N, 1, 1]⟩ : Shape)).symm i 1).val - 0 = _
      omega
    · show c.val * 1 + ((Shape.rowMajor (⟨3, ![N, 1, 1]⟩ : Shape)).symm i 2).val - 0 = _
      omega
  · exfalso
    have := h1 0
    change lo ≤ s.val * 1 + ((Shape.rowMajor (⟨3, ![N, 1, 1]⟩ : Shape)).symm i 0).val ∧ s.val * 1 + ((Shape.rowMajor (⟨3, ![N, 1, 1]⟩ : Shape)).symm i 0).val - lo < N at this
    omega
  · exfalso
    refine h1 fun a => ?_
    have hg := g.isLt
    have hc := c.isLt
    match a with
    | ⟨0, _⟩ => show lo ≤ s.val * 1 + ((Shape.rowMajor (⟨3, ![N, 1, 1]⟩ : Shape)).symm i 0).val ∧ s.val * 1 + ((Shape.rowMajor (⟨3, ![N, 1, 1]⟩ : Shape)).symm i 0).val - lo < N; omega
    | ⟨1, _⟩ => show 0 ≤ g.val * 1 + ((Shape.rowMajor (⟨3, ![N, 1, 1]⟩ : Shape)).symm i 1).val ∧ g.val * 1 + ((Shape.rowMajor (⟨3, ![N, 1, 1]⟩ : Shape)).symm i 1).val - 0 < G; omega
    | ⟨2, _⟩ => show 0 ≤ c.val * 1 + ((Shape.rowMajor (⟨3, ![N, 1, 1]⟩ : Shape)).symm i 2).val ∧ c.val * 1 + ((Shape.rowMajor (⟨3, ![N, 1, 1]⟩ : Shape)).symm i 2).val - 0 < C; omega
  · rfl

/-- A concatenation's elements are its parts'. -/
theorem concat_all {t : Shape} {a : Fin t.rank} {α : Type} (P : α → Prop) (xs : List ((s : Shape) × (s.Idx → α)))
    (h : Shape.Concatenates (xs.map (·.1)) t a) (hP : ∀ p ∈ xs, ∀ k, P (p.2 k)) (j : t.Idx) : P (concatenate t a xs h j) := by
  unfold concatenate
  exact hP _ (List.getElem_mem _) _

/-- What is left of the differences of a row and the row `w` on, summed. -/
theorem tele (a : ℕ → ℝ) (N w : ℕ) : ∑ n ∈ Finset.range N, (a n - a (n + w)) = ∑ n ∈ Finset.range w, a n - ∑ n ∈ Finset.range w, a (N + n) := by
  induction N with
  | zero => rw [Finset.sum_range_zero]; simp only [Nat.zero_add, sub_self]
  | succ N ih =>
    rw [Finset.sum_range_succ, ih]
    have e : ∑ n ∈ Finset.range w, a (N + n) + a (N + w) = a N + ∑ n ∈ Finset.range w, a (N + 1 + n) := by
      rw [← Finset.sum_range_succ (fun n => a (N + n)), Finset.sum_range_succ' (fun n => a (N + n))]
      have : ∀ n, N + (n + 1) = N + 1 + n := fun n => by omega
      rw [add_comm, Finset.sum_congr rfl fun n _ => congrArg a (this n)]
      rfl
    linarith

end Mixers.R
-- ==== Proof.RefDa.lean ====
/-
  The reference's gradient of the pooling mixer's input.
-/
module

public import Idealize.ShloMosaic.Lib.KernelVsHost
public import proofs.«01_k».proof.Proof.RefPool
public import proofs.«01_k».proof.Proof.RefWin

@[expose] public section

set_option maxRecDepth 16384

noncomputable section

namespace Mixers.R

open Cert.ReferenceIdeal Cert.ReferenceIdeal.Read Idealize.ShloMosaic
open scoped BigOperators

/-- The number of tokens in a window, counted in 32-bit words. -/
theorem count_word (n w : ℕ) (hn : n < 8192) (hw : w < 32) :
    (FloatOps.sitofp .f32 (IntOp.minsi (IntOp.addi (BitVec.ofNat 32 n) 1#32) (BitVec.ofNat 32 w)) : Ideal .f32) = (((min (n + 1) w : ℕ) : ℝ) : EReal) := by
  have em : ∀ a b : BitVec 32, (IntOp.minsi a b).toInt = min a.toInt b.toInt := by
    intro a b
    unfold IntOp.minsi
    simp only [BitVec.slt, decide_eq_true_eq]
    split_ifs with h
    · exact (min_eq_left (le_of_lt h)).symm
    · exact (min_eq_right (not_lt.mp h)).symm
  have e1 : (IntOp.addi (BitVec.ofNat 32 n) 1#32).toInt = ((n + 1 : ℕ) : ℤ) := by
    show (BitVec.ofNat 32 n + 1#32).toInt = _
    rw [BitVec.toInt_eq_toNat_bmod, BitVec.toNat_add, BitVec.toNat_ofNat, BitVec.toNat_ofNat, Int.bmod_def]
    omega
  have e2 : (BitVec.ofNat 32 w).toInt = (w : ℤ) := by
    rw [BitVec.toInt_eq_toNat_bmod, BitVec.toNat_ofNat, Int.bmod_def]
    omega
  show (((IntOp.minsi (IntOp.addi (BitVec.ofNat 32 n) 1#32) (BitVec.ofNat 32 w)).toInt : ℝ) : EReal) = _
  rw [em, e1, e2, ← Nat.cast_min]
  rfl

theorem v20 (i : S8192x1.Idx) : val_main_v20 (F := Ideal) i = (((min ((i 0).val + 1) 2 : ℕ) : ℝ) : EReal) := by
  have h0 : (i 0).val < 8192 := (i 0).isLt
  simp only [val_main_v20_apply, val_main_v19_apply, val_main_v18_apply, val_main_v17_apply, val_main_v16_apply, val_main_v15_apply, val_main_v8_apply, val_main_c_apply, val_main_c_1_apply]
  exact count_word (i 0).val 2 h0 (by norm_num)
theorem v35 (i : S8192x1.Idx) : val_main_v35 (F := Ideal) i = (((min ((i 0).val + 1) 4 : ℕ) : ℝ) : EReal) := by
  have h0 : (i 0).val < 8192 := (i 0).isLt
  simp only [val_main_v35_apply, val_main_v34_apply, val_main_v33_apply, val_main_v32_apply, val_main_v31_apply, val_main_v30_apply, val_main_v8_apply, val_main_c_4_apply, val_main_c_5_apply]
  exact count_word (i 0).val 4 h0 (by norm_num)
theorem v50 (i : S8192x1.Idx) : val_main_v50 (F := Ideal) i = (((min ((i 0).val + 1) 8 : ℕ) : ℝ) : EReal) := by
  have h0 : (i 0).val < 8192 := (i 0).isLt
  simp only [val_main_v50_apply, val_main_v49_apply, val_main_v48_apply, val_main_v47_apply, val_main_v46_apply, val_main_v45_apply, val_main_v8_apply, val_main_c_8_apply, val_main_c_9_apply]
  exact count_word (i 0).val 8 h0 (by norm_num)
theorem v65 (i : S8192x1.Idx) : val_main_v65 (F := Ideal) i = (((min ((i 0).val + 1) 16 : ℕ) : ℝ) : EReal) := by
  have h0 : (i 0).val < 8192 := (i 0).isLt
  simp only [val_main_v65_apply, val_main_v64_apply, val_main_v63_apply, val_main_v62_apply, val_main_v61_apply, val_main_v60_apply, val_main_v8_apply, val_main_c_12_apply, val_main_c_13_apply]
  exact count_word (i 0).val 16 h0 (by norm_num)

theorem qv_div (D : Data) (s g c w : ℕ) (h : win g = w) (hw : w ≠ 0) :
    Ideal.div ((dpooled D s g c : ℝ) : EReal) (((min (s + 1) w : ℕ) : ℝ) : EReal) = ((qv D s g c : ℝ) : EReal) := by
  rw [div_real _ _ (Nat.cast_ne_zero.mpr (by omega))]
  refine congrArg Real.toEReal ?_
  unfold qv
  rw [h, mul_one_div]

variable {D : Data} {x0 : T S8192x5120} {x1 : T S8192x2048} {x4 : T S1x4x256x256} {x5 x6 x7 : T S1x1024}
  {x8 : T S1x4x128x128} {x9 : T S1x4x128}
  (A : Args D x0 x1 x4 x5 x6 x7 x8 x9)
include A

theorem v278 (i : S8192x256.Idx) : val_main_v278 (F := Ideal) x0 x1 x4 x5 i = ((dpooled D (i 0).val 3 (i 1).val : ℝ) : EReal) := by
  have h1 : (i 1).val < 256 := (i 1).isLt
  rw [val_main_v278_apply, val_main_v277_apply, v267 A]
  refine f3 (dpooled D) ?_ ?_ ?_
  · show ((i 0).val * 256 + (i 1).val) / 256 = (i 0).val
    omega
  · rfl
  · show ((i 0).val * 256 + (i 1).val) % 256 = (i 1).val
    omega
theorem v280 (i : S8192x256.Idx) : val_main_v280 (F := Ideal) x0 x1 x4 x5 i = ((qv D (i 0).val 3 (i 1).val : ℝ) : EReal) := by
  rw [val_main_v280_apply, v278 A, val_main_v279_apply, v65, sdiv]
  exact qv_div D _ 3 _ 16 (by norm_num [win]) (by norm_num)
theorem v283 (i : S8176x256.Idx) : val_main_v283 (F := Ideal) x0 x1 x4 x5 i = ((-qv D (16 + (i 0).val) 3 (i 1).val : ℝ) : EReal) := by
  rw [val_main_v283_apply, val_main_v281_apply, v280 A, sneg, coe_neg']
  all_goals rfl
theorem v284 (i : S8192x256.Idx) : val_main_v284 (F := Ideal) x0 x1 x4 x5 i = ((-qx D ((i 0).val + 16) 3 (i 1).val : ℝ) : EReal) := by
  unfold val_main_v284 qx
  by_cases h : (i 0).val + 16 < 8192
  · rw [if_pos h]
    refine (pad_apply_of_inside _ _ _ _ _ _ _ i (ix2 (⟨(i 0).val, by omega⟩ : Fin 8176) (⟨(i 1).val, (i 1).isLt⟩ : Fin 256)) (fun a => match a with
      | ⟨0, _⟩ => by show (i 0).val = 0 + (i 0).val * (0 + 1); omega
      | ⟨1, _⟩ => by show (i 1).val = 0 + (i 1).val * (0 + 1); omega)).trans ?_
    refine (v283 A _).trans ?_
    refine f3 (fun a b c => -qv D a b c) ?_ rfl rfl
    show 16 + (i 0).val = (i 0).val + 16
    omega
  · rw [if_neg h, neg_zero]
    refine (pad_apply_of_not_inside _ _ _ _ _ _ _ i 0 ?_).trans c_zero
    rintro ⟨-, -, h2⟩
    have h2 : ((i 0).val - 0) / (0 + 1) < 8176 := h2
    omega
theorem v286 (i : S8192x1x256.Idx) : val_main_v286 (F := Ideal) x0 x1 x4 x5 i = ((qv D (i 0).val 3 (i 2).val + -qx D ((i 0).val + 16) 3 (i 2).val : ℝ) : EReal) := by
  rw [val_main_v286_apply, val_main_v285_apply, v280 A, v284 A, sadd, coe_add']
  all_goals rfl
theorem v287 (i : S8192x4x256.Idx) : val_main_v287 (F := Ideal) x0 x1 x4 x5 i
    = (((if (i 1).val = 3 then qx D (i 0).val 3 (i 2).val - qx D ((i 0).val + 16) 3 (i 2).val else 0 : ℝ)) : EReal) := by
  have h0 : (i 0).val < 8192 := (i 0).isLt
  have h1 : (i 1).val < 4 := (i 1).isLt
  unfold val_main_v287
  by_cases h : (i 1).val = 3
  · rw [if_pos h]
    refine (pad_apply_of_inside _ _ _ _ _ _ _ i (ix3 (⟨(i 0).val, (i 0).isLt⟩ : Fin 8192) (0 : Fin 1) (⟨(i 2).val, (i 2).isLt⟩ : Fin 256)) (fun a => match a with
      | ⟨0, _⟩ => by show (i 0).val = 0 + (i 0).val * (0 + 1); omega
      | ⟨1, _⟩ => by show (i 1).val = 3 + 0 * (0 + 1); omega
      | ⟨2, _⟩ => by show (i 2).val = 0 + (i 2).val * (0 + 1); omega)).trans ?_
    refine (v286 A _).trans ?_
    refine congrArg Real.toEReal ?_
    show qv D (i 0).val 3 (i 2).val + -qx D ((i 0).val + 16) 3 (i 2).val = _
    rw [← sub_eq_add_neg, show qx D (i 0).val 3 (i 2).val = qv D (i 0).val 3 (i 2).val from if_pos h0]
  · rw [if_neg h]
    refine (pad_apply_of_not_inside _ _ _ _ _ _ _ i 1 ?_).trans c_zero
    rintro ⟨h3, -, h2⟩
    have h2 : ((i 1).val - 3) / (0 + 1) < 1 := h2
    have h3 : 3 ≤ (i 1).val := h3
    omega
theorem v276 (i : S8192x256.Idx) : val_main_v276 (F := Ideal) x0 x1 x4 x5 i = ((dpooled D (i 0).val 2 (i 1).val : ℝ) : EReal) := by
  have h1 : (i 1).val < 256 := (i 1).isLt
  rw [val_main_v276_apply, val_main_v275_apply, v267 A]
  refine f3 (dpooled D) ?_ ?_ ?_
  · show ((i 0).val * 256 + (i 1).val) / 256 = (i 0).val
    omega
  · rfl
  · show ((i 0).val * 256 + (i 1).val) % 256 = (i 1).val
    omega
theorem v289 (i : S8192x256.Idx) : val_main_v289 (F := Ideal) x0 x1 x4 x5 i = ((qv D (i 0).val 2 (i 1).val : ℝ) : EReal) := by
  rw [val_main_v289_apply, v276 A, val_main_v288_apply, v50, sdiv]
  exact qv_div D _ 2 _ 8 (by norm_num [win]) (by norm_num)
theorem v292 (i : S8184x256.Idx) : val_main_v292 (F := Ideal) x0 x1 x4 x5 i = ((-qv D (8 + (i 0).val) 2 (i 1).val : ℝ) : EReal) := by
  rw [val_main_v292_apply, val_main_v290_apply, v289 A, sneg, coe_neg']
  all_goals rfl
theorem v293 (i : S8192x256.Idx) : val_main_v293 (F := Ideal) x0 x1 x4 x5 i = ((-qx D ((i 0).val + 8) 2 (i 1).val : ℝ) : EReal) := by
  unfold val_main_v293 qx
  by_cases h : (i 0).val + 8 < 8192
  · rw [if_pos h]
    refine (pad_apply_of_inside _ _ _ _ _ _ _ i (ix2 (⟨(i 0).val, by omega⟩ : Fin 8184) (⟨(i 1).val, (i 1).isLt⟩ : Fin 256)) (fun a => match a with
      | ⟨0, _⟩ => by show (i 0).val = 0 + (i 0).val * (0 + 1); omega
      | ⟨1, _⟩ => by show (i 1).val = 0 + (i 1).val * (0 + 1); omega)).trans ?_
    refine (v292 A _).trans ?_
    refine f3 (fun a b c => -qv D a b c) ?_ rfl rfl
    show 8 + (i 0).val = (i 0).val + 8
    omega
  · rw [if_neg h, neg_zero]
    refine (pad_apply_of_not_inside _ _ _ _ _ _ _ i 0 ?_).trans c_zero
    rintro ⟨-, -, h2⟩
    have h2 : ((i 0).val - 0) / (0 + 1) < 8184 := h2
    omega
theorem v295 (i : S8192x1x256.Idx) : val_main_v295 (F := Ideal) x0 x1 x4 x5 i = ((qv D (i 0).val 2 (i 2).val + -qx D ((i 0).val + 8) 2 (i 2).val : ℝ) : EReal) := by
  rw [val_main_v295_apply, val_main_v294_apply, v289 A, v293 A, sadd, coe_add']
  all_goals rfl
theorem v296 (i : S8192x4x256.Idx) : val_main_v296 (F := Ideal) x0 x1 x4 x5 i
    = (((if (i 1).val = 2 then qx D (i 0).val 2 (i 2).val - qx D ((i 0).val + 8) 2 (i 2).val else 0 : ℝ)) : EReal) := by
  have h0 : (i 0).val < 8192 := (i 0).isLt
  have h1 : (i 1).val < 4 := (i 1).isLt
  unfold val_main_v296
  by_cases h : (i 1).val = 2
  · rw [if_pos h]
    refine (pad_apply_of_inside _ _ _ _ _ _ _ i (ix3 (⟨(i 0).val, (i 0).isLt⟩ : Fin 8192) (0 : Fin 1) (⟨(i 2).val, (i 2).isLt⟩ : Fin 256)) (fun a => match a with
      | ⟨0, _⟩ => by show (i 0).val = 0 + (i 0).val * (0 + 1); omega
      | ⟨1, _⟩ => by show (i 1).val = 2 + 0 * (0 + 1); omega
      | ⟨2, _⟩ => by show (i 2).val = 0 + (i 2).val * (0 + 1); omega)).trans ?_
    refine (v295 A _).trans ?_
    refine congrArg Real.toEReal ?_
    show qv D (i 0).val 2 (i 2).val + -qx D ((i 0).val + 8) 2 (i 2).val = _
    rw [← sub_eq_add_neg, show qx D (i 0).val 2 (i 2).val = qv D (i 0).val 2 (i 2).val from if_pos h0]
  · rw [if_neg h]
    refine (pad_apply_of_not_inside _ _ _ _ _ _ _ i 1 ?_).trans c_zero
    rintro ⟨h3, -, h2⟩
    have h2 : ((i 1).val - 2) / (0 + 1) < 1 := h2
    have h3 : 2 ≤ (i 1).val := h3
    omega
theorem v274 (i : S8192x256.Idx) : val_main_v274 (F := Ideal) x0 x1 x4 x5 i = ((dpooled D (i 0).val 1 (i 1).val : ℝ) : EReal) := by
  have h1 : (i 1).val < 256 := (i 1).isLt
  rw [val_main_v274_apply, val_main_v273_apply, v267 A]
  refine f3 (dpooled D) ?_ ?_ ?_
  · show ((i 0).val * 256 + (i 1).val) / 256 = (i 0).val
    omega
  · rfl
  · show ((i 0).val * 256 + (i 1).val) % 256 = (i 1).val
    omega
theorem v299 (i : S8192x256.Idx) : val_main_v299 (F := Ideal) x0 x1 x4 x5 i = ((qv D (i 0).val 1 (i 1).val : ℝ) : EReal) := by
  rw [val_main_v299_apply, v274 A, val_main_v298_apply, v35, sdiv]
  exact qv_div D _ 1 _ 4 (by norm_num [win]) (by norm_num)
theorem v302 (i : S8188x256.Idx) : val_main_v302 (F := Ideal) x0 x1 x4 x5 i = ((-qv D (4 + (i 0).val) 1 (i 1).val : ℝ) : EReal) := by
  rw [val_main_v302_apply, val_main_v300_apply, v299 A, sneg, coe_neg']
  all_goals rfl
theorem v303 (i : S8192x256.Idx) : val_main_v303 (F := Ideal) x0 x1 x4 x5 i = ((-qx D ((i 0).val + 4) 1 (i 1).val : ℝ) : EReal) := by
  unfold val_main_v303 qx
  by_cases h : (i 0).val + 4 < 8192
  · rw [if_pos h]
    refine (pad_apply_of_inside _ _ _ _ _ _ _ i (ix2 (⟨(i 0).val, by omega⟩ : Fin 8188) (⟨(i 1).val, (i 1).isLt⟩ : Fin 256)) (fun a => match a with
      | ⟨0, _⟩ => by show (i 0).val = 0 + (i 0).val * (0 + 1); omega
      | ⟨1, _⟩ => by show (i 1).val = 0 + (i 1).val * (0 + 1); omega)).trans ?_
    refine (v302 A _).trans ?_
    refine f3 (fun a b c => -qv D a b c) ?_ rfl rfl
    show 4 + (i 0).val = (i 0).val + 4
    omega
  · rw [if_neg h, neg_zero]
    refine (pad_apply_of_not_inside _ _ _ _ _ _ _ i 0 ?_).trans c_zero
    rintro ⟨-, -, h2⟩
    have h2 : ((i 0).val - 0) / (0 + 1) < 8188 := h2
    omega
theorem v305 (i : S8192x1x256.Idx) : val_main_v305 (F := Ideal) x0 x1 x4 x5 i = ((qv D (i 0).val 1 (i 2).val + -qx D ((i 0).val + 4) 1 (i 2).val : ℝ) : EReal) := by
  rw [val_main_v305_apply, val_main_v304_apply, v299 A, v303 A, sadd, coe_add']
  all_goals rfl
theorem v306 (i : S8192x4x256.Idx) : val_main_v306 (F := Ideal) x0 x1 x4 x5 i
    = (((if (i 1).val = 1 then qx D (i 0).val 1 (i 2).val - qx D ((i 0).val + 4) 1 (i 2).val else 0 : ℝ)) : EReal) := by
  have h0 : (i 0).val < 8192 := (i 0).isLt
  have h1 : (i 1).val < 4 := (i 1).isLt
  unfold val_main_v306
  by_cases h : (i 1).val = 1
  · rw [if_pos h]
    refine (pad_apply_of_inside _ _ _ _ _ _ _ i (ix3 (⟨(i 0).val, (i 0).isLt⟩ : Fin 8192) (0 : Fin 1) (⟨(i 2).val, (i 2).isLt⟩ : Fin 256)) (fun a => match a with
      | ⟨0, _⟩ => by show (i 0).val = 0 + (i 0).val * (0 + 1); omega
      | ⟨1, _⟩ => by show (i 1).val = 1 + 0 * (0 + 1); omega
      | ⟨2, _⟩ => by show (i 2).val = 0 + (i 2).val * (0 + 1); omega)).trans ?_
    refine (v305 A _).trans ?_
    refine congrArg Real.toEReal ?_
    show qv D (i 0).val 1 (i 2).val + -qx D ((i 0).val + 4) 1 (i 2).val = _
    rw [← sub_eq_add_neg, show qx D (i 0).val 1 (i 2).val = qv D (i 0).val 1 (i 2).val from if_pos h0]
  · rw [if_neg h]
    refine (pad_apply_of_not_inside _ _ _ _ _ _ _ i 1 ?_).trans c_zero
    rintro ⟨h3, -, h2⟩
    have h2 : ((i 1).val - 1) / (0 + 1) < 1 := h2
    have h3 : 1 ≤ (i 1).val := h3
    omega
theorem v272 (i : S8192x256.Idx) : val_main_v272 (F := Ideal) x0 x1 x4 x5 i = ((dpooled D (i 0).val 0 (i 1).val : ℝ) : EReal) := by
  have h1 : (i 1).val < 256 := (i 1).isLt
  rw [val_main_v272_apply, val_main_v271_apply, v267 A]
  refine f3 (dpooled D) ?_ ?_ ?_
  · show ((i 0).val * 256 + (i 1).val) / 256 = (i 0).val
    omega
  · rfl
  · show ((i 0).val * 256 + (i 1).val) % 256 = (i 1).val
    omega
theorem v309 (i : S8192x256.Idx) : val_main_v309 (F := Ideal) x0 x1 x4 x5 i = ((qv D (i 0).val 0 (i 1).val : ℝ) : EReal) := by
  rw [val_main_v309_apply, v272 A, val_main_v308_apply, v20, sdiv]
  exact qv_div D _ 0 _ 2 (by norm_num [win]) (by norm_num)
theorem v312 (i : S8190x256.Idx) : val_main_v312 (F := Ideal) x0 x1 x4 x5 i = ((-qv D (2 + (i 0).val) 0 (i 1).val : ℝ) : EReal) := by
  rw [val_main_v312_apply, val_main_v310_apply, v309 A, sneg, coe_neg']
  all_goals rfl
theorem v313 (i : S8192x256.Idx) : val_main_v313 (F := Ideal) x0 x1 x4 x5 i = ((-qx D ((i 0).val + 2) 0 (i 1).val : ℝ) : EReal) := by
  unfold val_main_v313 qx
  by_cases h : (i 0).val + 2 < 8192
  · rw [if_pos h]
    refine (pad_apply_of_inside _ _ _ _ _ _ _ i (ix2 (⟨(i 0).val, by omega⟩ : Fin 8190) (⟨(i 1).val, (i 1).isLt⟩ : Fin 256)) (fun a => match a with
      | ⟨0, _⟩ => by show (i 0).val = 0 + (i 0).val * (0 + 1); omega
      | ⟨1, _⟩ => by show (i 1).val = 0 + (i 1).val * (0 + 1); omega)).trans ?_
    refine (v312 A _).trans ?_
    refine f3 (fun a b c => -qv D a b c) ?_ rfl rfl
    show 2 + (i 0).val = (i 0).val + 2
    omega
  · rw [if_neg h, neg_zero]
    refine (pad_apply_of_not_inside _ _ _ _ _ _ _ i 0 ?_).trans c_zero
    rintro ⟨-, -, h2⟩
    have h2 : ((i 0).val - 0) / (0 + 1) < 8190 := h2
    omega
theorem v315 (i : S8192x1x256.Idx) : val_main_v315 (F := Ideal) x0 x1 x4 x5 i = ((qv D (i 0).val 0 (i 2).val + -qx D ((i 0).val + 2) 0 (i 2).val : ℝ) : EReal) := by
  rw [val_main_v315_apply, val_main_v314_apply, v309 A, v313 A, sadd, coe_add']
  all_goals rfl
theorem v316 (i : S8192x4x256.Idx) : val_main_v316 (F := Ideal) x0 x1 x4 x5 i
    = (((if (i 1).val = 0 then qx D (i 0).val 0 (i 2).val - qx D ((i 0).val + 2) 0 (i 2).val else 0 : ℝ)) : EReal) := by
  have h0 : (i 0).val < 8192 := (i 0).isLt
  have h1 : (i 1).val < 4 := (i 1).isLt
  unfold val_main_v316
  by_cases h : (i 1).val = 0
  · rw [if_pos h]
    refine (pad_apply_of_inside _ _ _ _ _ _ _ i (ix3 (⟨(i 0).val, (i 0).isLt⟩ : Fin 8192) (0 : Fin 1) (⟨(i 2).val, (i 2).isLt⟩ : Fin 256)) (fun a => match a with
      | ⟨0, _⟩ => by show (i 0).val = 0 + (i 0).val * (0 + 1); omega
      | ⟨1, _⟩ => by show (i 1).val = 0 + 0 * (0 + 1); omega
      | ⟨2, _⟩ => by show (i 2).val = 0 + (i 2).val * (0 + 1); omega)).trans ?_
    refine (v315 A _).trans ?_
    refine congrArg Real.toEReal ?_
    show qv D (i 0).val 0 (i 2).val + -qx D ((i 0).val + 2) 0 (i 2).val = _
    rw [← sub_eq_add_neg, show qx D (i 0).val 0 (i 2).val = qv D (i 0).val 0 (i 2).val from if_pos h0]
  · rw [if_neg h]
    refine (pad_apply_of_not_inside _ _ _ _ _ _ _ i 1 ?_).trans c_zero
    rintro ⟨h3, -, h2⟩
    have h2 : ((i 1).val - 0) / (0 + 1) < 1 := h2
    have h3 : 0 ≤ (i 1).val := h3
    omega
theorem v317 (i : S8192x4x256.Idx) : val_main_v317 (F := Ideal) x0 x1 x4 x5 i
    = ((qx D (i 0).val (i 1).val (i 2).val - qx D ((i 0).val + win (i 1).val) (i 1).val (i 2).val : ℝ) : EReal) := by
  have h1 : (i 1).val < 4 := (i 1).isLt
  rw [val_main_v317_apply, val_main_v307_apply, val_main_v297_apply, v287 A, v296 A, v306 A, v316 A]
  simp only [sadd, coe_add']
  refine congrArg Real.toEReal ?_
  have hg : (i 1).val = 0 ∨ (i 1).val = 1 ∨ (i 1).val = 2 ∨ (i 1).val = 3 := by omega
  rcases hg with h | h | h | h <;> rw [h] <;> norm_num [win]
omit A in
/-- The running sum, from a token on, of the differences. -/
theorem run_sum (D : Data) (s g c : ℕ) :
    ∑ n : Fin 8192, (if 0 ≤ s + n.val ∧ s + n.val - 0 < 8192 then qx D (s + n.val - 0) g c - qx D (s + n.val - 0 + win g) g c else 0)
      = ∑ k ∈ Finset.range (win g), qx D (s + k) g c := by
  have hz : ∀ k, 8192 ≤ k → qx D k g c = 0 := fun k hk => if_neg (by omega)
  have e : ∀ n : ℕ, (if 0 ≤ s + n ∧ s + n - 0 < 8192 then qx D (s + n - 0) g c - qx D (s + n - 0 + win g) g c else 0)
      = qx D (s + n) g c - qx D (s + (n + win g)) g c := by
    intro n
    rw [Nat.sub_zero, Nat.add_assoc]
    split_ifs with h
    · rfl
    · rw [hz (s + n) (by omega), hz (s + (n + win g)) (by omega), sub_zero]
  rw [Fin.sum_univ_eq_sum_range (fun n => if 0 ≤ s + n ∧ s + n - 0 < 8192 then qx D (s + n - 0) g c - qx D (s + n - 0 + win g) g c else 0) 8192,
    Finset.sum_congr rfl fun n _ => e n, tele (fun n => qx D (s + n) g c) 8192 (win g),
    Finset.sum_eq_zero (f := fun n => qx D (s + (8192 + n)) g c) fun n _ => hz _ (by omega), sub_zero]
theorem v318 (s : Fin 8192) (g : Fin 4) (c : Fin 256) : val_main_v318 (F := Ideal) x0 x1 x4 x5 (ix3 s g c)
    = ((∑ k ∈ Finset.range (win g.val), qx D (s.val + k) g.val c.val : ℝ) : EReal) := by
  have e : (val_main_call6_call0_v0 (F := Ideal)) (Shape.Idx.first Gen.h_S_) = (0 : EReal) := c_zero
  have e' : val_main_v318 (F := Ideal) x0 x1 x4 x5 (ix3 s g c) = Ideal.hostReduceWindowAdd ![8192, 1, 1] ![1, 1, 1] ![0, 0, 0] ![8191, 0, 0]
      Gen.reduceWindows_S8192x4x256_S8192x4x256_w8192s1p0_8191_w1s1p0_0_w1s1p0_0 (val_main_v317 (F := Ideal) x0 x1 x4 x5)
      (val_main_call6_call0_v0 (F := Ideal) (Shape.Idx.first Gen.h_S_)) (ix3 s g c) := by
    unfold val_main_v318 Host.reduceWindowAdd
    rfl
  rw [e', e]
  exact (window_sum (lo := 0) (hi := 8191) _ _ (fun s g c => qx D s g c - qx D (s + win g) g c) (v317 A) s g c).trans (congrArg Real.toEReal (run_sum D s.val g.val c.val))
theorem v319 (i : S8192x4x256.Idx) : val_main_v319 (F := Ideal) x0 x1 x4 x5 i = ((da D (i 0).val (i 1).val (i 2).val : ℝ) : EReal) := by
  obtain ⟨s, g, c, rfl⟩ := ex3 i
  rw [val_main_v319_apply, v318 A, val_main_v270_apply, v267 A, sadd, sneg, coe_neg', coe_add']
  refine congrArg Real.toEReal ?_
  unfold da
  rw [add_comm, ← sub_eq_add_neg]
  all_goals rfl
theorem v320 (i : S8192x1024.Idx) : val_main_v320 (F := Ideal) x0 x1 x4 x5 i = ((da D (i 0).val ((i 1).val / 256) ((i 1).val % 256) : ℝ) : EReal) := by
  have h0 : (i 0).val < 8192 := (i 0).isLt
  have h1 : (i 1).val < 1024 := (i 1).isLt
  rw [val_main_v320_apply, v319 A]
  refine f3 (da D) ?_ ?_ ?_
  · show ((i 0).val * 1024 + (i 1).val) / 1024 = (i 0).val
    omega
  · show ((i 0).val * 1024 + (i 1).val) / 256 % 4 = (i 1).val / 256
    omega
  · show ((i 0).val * 1024 + (i 1).val) % 256 = (i 1).val % 256
    omega
end Mixers.R
-- ==== Proof.RefReal.lean ====
/-
  The reference's pooled rows are real when the step's input is.
-/
module

public import proofs.«01_k».proof.Proof.RefDa

@[expose] public section

set_option maxRecDepth 16384

noncomputable section

namespace Mixers.R

open Cert.ReferenceIdeal Cert.ReferenceIdeal.Read Idealize.ShloMosaic
open scoped BigOperators

/-- A real value. -/
def Re (x : EReal) : Prop := ∃ r : ℝ, x = (r : EReal)

theorem Re.sub {a b : EReal} : Re a → Re b → Re (a - b) := by
  rintro ⟨r, rfl⟩ ⟨s, rfl⟩
  exact ⟨r - s, (EReal.coe_sub r s).symm⟩
theorem Re.count {a b : EReal} {n : ℕ} : Re a → b = ((n : ℝ) : EReal) → n ≠ 0 → Re (Ideal.div a b) := by
  rintro ⟨r, rfl⟩ rfl hn
  exact ⟨_, div_real _ _ (Nat.cast_ne_zero.mpr hn)⟩

variable {x0 : T S8192x5120} (h : ∀ i, Re (x0 i))
include h

theorem re6 (i : S8192x4x256.Idx) : Re (val_main_v6 (F := Ideal) x0 i) := by
  rw [val_main_v6_apply, val_main_v0_apply]
  exact h _
theorem re7 (i : S8192x4x256.Idx) : Re (val_main_v7 (F := Ideal) x0 i) := by
  obtain ⟨s, g, c, rfl⟩ := ex3 i
  choose f hf using re6 h
  let f' : ℕ → ℕ → ℕ → ℝ := fun a b c => if q : a < 8192 ∧ b < 4 ∧ c < 256 then f (ix3 ⟨a, q.1⟩ ⟨b, q.2.1⟩ ⟨c, q.2.2⟩) else 0
  have hx : ∀ i, val_main_v6 (F := Ideal) x0 i = ((f' (i 0).val (i 1).val (i 2).val : ℝ) : EReal) := by
    intro i
    obtain ⟨s, g, c, rfl⟩ := ex3 i
    rw [hf]
    have q : s.val < 8192 ∧ g.val < 4 ∧ c.val < 256 := ⟨s.isLt, g.isLt, c.isLt⟩
    show _ = ((f' s.val g.val c.val : ℝ) : EReal)
    simp only [f']
    rw [dif_pos q]
  have e : (val_main_call0_call0_v0 (F := Ideal)) (Shape.Idx.first Gen.h_S_) = (0 : EReal) := c_zero
  have e' : val_main_v7 (F := Ideal) x0 (ix3 s g c) = Ideal.hostReduceWindowAdd ![8192, 1, 1] ![1, 1, 1] ![8191, 0, 0] ![0, 0, 0]
      Gen.reduceWindows_S8192x4x256_S8192x4x256_w8192s1p8191_0_w1s1p0_0_w1s1p0_0 (val_main_v6 (F := Ideal) x0)
      (val_main_call0_call0_v0 (F := Ideal) (Shape.Idx.first Gen.h_S_)) (ix3 s g c) := by
    unfold val_main_v7 Host.reduceWindowAdd
    rfl
  rw [e', e]
  exact ⟨_, window_sum (lo := 8191) (hi := 0) _ _ f' hx s g c⟩
theorem rev10 (i : S8192x256.Idx) : Re (val_main_v10 (F := Ideal) x0 i) := by
  rw [val_main_v10_apply, val_main_v9_apply]
  exact re7 h _
theorem rev13 (i : S8192x256.Idx) : Re (val_main_v13 (F := Ideal) x0 i) := by
  unfold val_main_v13
  refine concat_all Re _ _ (fun p hp k => ?_) i
  simp only [List.mem_cons, List.not_mem_nil, or_false] at hp
  rcases hp with rfl | rfl
  · exact ⟨0, c_zero⟩
  · show Re (val_main_v12 (F := Ideal) x0 k)
    rw [val_main_v12_apply]
    exact rev10 h _
theorem re69 (i : S8192x1x256.Idx) : Re (val_main_v69 (F := Ideal) x0 i) := by
  rw [val_main_v69_apply, val_main_v23_apply, val_main_v21_apply, val_main_v22_apply]
  exact Re.count (Re.sub (rev10 h _) (rev13 h _)) (v20 _) (by omega)
theorem rev25 (i : S8192x256.Idx) : Re (val_main_v25 (F := Ideal) x0 i) := by
  rw [val_main_v25_apply, val_main_v24_apply]
  exact re7 h _
theorem rev28 (i : S8192x256.Idx) : Re (val_main_v28 (F := Ideal) x0 i) := by
  unfold val_main_v28
  refine concat_all Re _ _ (fun p hp k => ?_) i
  simp only [List.mem_cons, List.not_mem_nil, or_false] at hp
  rcases hp with rfl | rfl
  · exact ⟨0, c_zero⟩
  · show Re (val_main_v27 (F := Ideal) x0 k)
    rw [val_main_v27_apply]
    exact rev25 h _
theorem re70 (i : S8192x1x256.Idx) : Re (val_main_v70 (F := Ideal) x0 i) := by
  rw [val_main_v70_apply, val_main_v38_apply, val_main_v36_apply, val_main_v37_apply]
  exact Re.count (Re.sub (rev25 h _) (rev28 h _)) (v35 _) (by omega)
theorem rev40 (i : S8192x256.Idx) : Re (val_main_v40 (F := Ideal) x0 i) := by
  rw [val_main_v40_apply, val_main_v39_apply]
  exact re7 h _
theorem rev43 (i : S8192x256.Idx) : Re (val_main_v43 (F := Ideal) x0 i) := by
  unfold val_main_v43
  refine concat_all Re _ _ (fun p hp k => ?_) i
  simp only [List.mem_cons, List.not_mem_nil, or_false] at hp
  rcases hp with rfl | rfl
  · exact ⟨0, c_zero⟩
  · show Re (val_main_v42 (F := Ideal) x0 k)
    rw [val_main_v42_apply]
    exact rev40 h _
theorem re71 (i : S8192x1x256.Idx) : Re (val_main_v71 (F := Ideal) x0 i) := by
  rw [val_main_v71_apply, val_main_v53_apply, val_main_v51_apply, val_main_v52_apply]
  exact Re.count (Re.sub (rev40 h _) (rev43 h _)) (v50 _) (by omega)
theorem rev55 (i : S8192x256.Idx) : Re (val_main_v55 (F := Ideal) x0 i) := by
  rw [val_main_v55_apply, val_main_v54_apply]
  exact re7 h _
theorem rev58 (i : S8192x256.Idx) : Re (val_main_v58 (F := Ideal) x0 i) := by
  unfold val_main_v58
  refine concat_all Re _ _ (fun p hp k => ?_) i
  simp only [List.mem_cons, List.not_mem_nil, or_false] at hp
  rcases hp with rfl | rfl
  · exact ⟨0, c_zero⟩
  · show Re (val_main_v57 (F := Ideal) x0 k)
    rw [val_main_v57_apply]
    exact rev55 h _
theorem re72 (i : S8192x1x256.Idx) : Re (val_main_v72 (F := Ideal) x0 i) := by
  rw [val_main_v72_apply, val_main_v68_apply, val_main_v66_apply, val_main_v67_apply]
  exact Re.count (Re.sub (rev55 h _) (rev58 h _)) (v65 _) (by omega)
theorem re73 (i : S8192x4x256.Idx) : Re (val_main_v73 (F := Ideal) x0 i) := by
  unfold val_main_v73
  refine concat_all Re _ _ (fun p hp k => ?_) i
  simp only [List.mem_cons, List.not_mem_nil, or_false] at hp
  rcases hp with rfl | rfl | rfl | rfl
  · exact re69 h k
  · exact re70 h k
  · exact re71 h k
  · exact re72 h k
/-- The pooled rows. -/
theorem re74 (i : S8192x4x256.Idx) : Re (val_main_v74 (F := Ideal) x0 i) := by
  rw [val_main_v74_apply]
  exact Re.sub (re73 h i) (re6 h i)
end Mixers.R
-- ==== Proof.Holds.lean ====
/-
  Arguments that hold reals hold the real data of some `Data`: each field reads the array where it is, and is zero past it.
-/
module

public import proofs.«01_k».proof.Proof.RefReal

@[expose] public section

set_option maxRecDepth 16384

noncomputable section

namespace Mixers.R

open Cert.ReferenceIdeal Cert.ReferenceIdeal.Read Idealize.ShloMosaic

/-! The reals of an array, as a function of plain positions. -/

def at2 {a b : ℕ} (x : (⟨2, ![a, b]⟩ : Shape).Idx → EReal) (s e : ℕ) : ℝ :=
  if q : s < a ∧ e < b then (x (ix2 ⟨s, q.1⟩ ⟨e, q.2⟩)).toReal else 0
def at3 {a b d : ℕ} (x : (⟨3, ![a, b, d]⟩ : Shape).Idx → EReal) (s e f : ℕ) : ℝ :=
  if q : s < a ∧ e < b ∧ f < d then (x (ix3 ⟨s, q.1⟩ ⟨e, q.2.1⟩ ⟨f, q.2.2⟩)).toReal else 0
def at4 {a b d n : ℕ} (x : (⟨4, ![a, b, d, n]⟩ : Shape).Idx → EReal) (s e f g : ℕ) : ℝ :=
  if q : s < a ∧ e < b ∧ f < d ∧ g < n then (x (ix4 ⟨s, q.1⟩ ⟨e, q.2.1⟩ ⟨f, q.2.2.1⟩ ⟨g, q.2.2.2⟩)).toReal else 0

theorem real_coe {x : EReal} : Re x → x = ((x.toReal : ℝ) : EReal) := by
  rintro ⟨r, rfl⟩
  rw [EReal.toReal_coe]
theorem at2_eq {a b : ℕ} {x : (⟨2, ![a, b]⟩ : Shape).Idx → EReal} (h : ∀ i, Re (x i)) (s : Fin a) (e : Fin b) :
    x (ix2 s e) = ((at2 x s.val e.val : ℝ) : EReal) := by
  unfold at2
  rw [dif_pos ⟨s.isLt, e.isLt⟩]
  exact real_coe (h _)
theorem at3_eq {a b d : ℕ} {x : (⟨3, ![a, b, d]⟩ : Shape).Idx → EReal} (h : ∀ i, Re (x i)) (s : Fin a) (e : Fin b) (f : Fin d) :
    x (ix3 s e f) = ((at3 x s.val e.val f.val : ℝ) : EReal) := by
  unfold at3
  rw [dif_pos ⟨s.isLt, e.isLt, f.isLt⟩]
  exact real_coe (h _)
theorem at4_eq {a b d n : ℕ} {x : (⟨4, ![a, b, d, n]⟩ : Shape).Idx → EReal} (h : ∀ i, Re (x i)) (s : Fin a) (e : Fin b) (f : Fin d)
    (g : Fin n) : x (ix4 s e f g) = ((at4 x s.val e.val f.val g.val : ℝ) : EReal) := by
  unfold at4
  rw [dif_pos ⟨s.isLt, e.isLt, f.isLt, g.isLt⟩]
  exact real_coe (h _)

variable {x0 : T S8192x5120} {x1 : T S8192x2048} {x4 : T S1x4x256x256} {x5 x6 x7 : T S1x1024} {x8 : T S1x4x128x128} {x9 : T S1x4x128}

/-- The data the arguments hold. -/
def dataOf (x0 : T S8192x5120) (x1 : T S8192x2048) (x4 : T S1x4x256x256) (x5 x6 x7 : T S1x1024) (x8 : T S1x4x128x128)
    (x9 : T S1x4x128) : Data where
  H := at2 (a := 8192) (b := 5120) x0
  DY := at2 (a := 8192) (b := 2048) x1
  P := fun s e => at3 (a := 8192) (b := 4) (d := 256) (val_main_v74 (F := Ideal) x0) s (e / 256) (e % 256)
  PW := at4 (a := 1) (b := 4) (d := 256) (n := 256) x4 0
  PS := at2 (a := 1) (b := 1024) x5 0
  LG := at2 (a := 1) (b := 1024) x6 0
  LB := at2 (a := 1) (b := 1024) x7 0
  SW := at4 (a := 1) (b := 4) (d := 128) (n := 128) x8 0
  SB := at3 (a := 1) (b := 4) (d := 128) x9 0

/-- Arguments of reals hold their data. -/
theorem holds (h0 : ∀ i, Re (x0 i)) (h1 : ∀ i, Re (x1 i)) (h4 : ∀ i, Re (x4 i)) (h5 : ∀ i, Re (x5 i)) (h6 : ∀ i, Re (x6 i))
    (h7 : ∀ i, Re (x7 i)) (h8 : ∀ i, Re (x8 i)) (h9 : ∀ i, Re (x9 i)) :
    Args (dataOf x0 x1 x4 x5 x6 x7 x8 x9) x0 x1 x4 x5 x6 x7 x8 x9 where
  h0 i := by
    obtain ⟨s, e, rfl⟩ := ex2 i
    exact at2_eq h0 s e
  h1 i := by
    obtain ⟨s, e, rfl⟩ := ex2 i
    exact at2_eq h1 s e
  h4 i := by
    obtain ⟨z, g, p, q, rfl⟩ := ex4 i
    obtain rfl : z = 0 := Subsingleton.elim _ _
    exact at4_eq h4 0 g p q
  h5 i := by
    obtain ⟨z, e, rfl⟩ := ex2 i
    obtain rfl : z = 0 := Subsingleton.elim _ _
    exact at2_eq h5 0 e
  h6 i := by
    obtain ⟨z, e, rfl⟩ := ex2 i
    obtain rfl : z = 0 := Subsingleton.elim _ _
    exact at2_eq h6 0 e
  h7 i := by
    obtain ⟨z, e, rfl⟩ := ex2 i
    obtain rfl : z = 0 := Subsingleton.elim _ _
    exact at2_eq h7 0 e
  h8 i := by
    obtain ⟨z, g, p, q, rfl⟩ := ex4 i
    obtain rfl : z = 0 := Subsingleton.elim _ _
    exact at4_eq h8 0 g p q
  h9 i := by
    obtain ⟨z, g, p, rfl⟩ := ex3 i
    obtain rfl : z = 0 := Subsingleton.elim _ _
    exact at3_eq h9 0 g p
  hp i := by
    obtain ⟨s, g, e, rfl⟩ := ex3 i
    have hq : (g.val * 256 + e.val) / 256 = g.val := by have := e.isLt; omega
    have hr : (g.val * 256 + e.val) % 256 = e.val := by have := e.isLt; omega
    refine (at3_eq (re74 h0) s g e).trans ?_
    show _ = ((at3 (a := 8192) (b := 4) (d := 256) (val_main_v74 (F := Ideal) x0) s.val ((g.val * 256 + e.val) / 256) ((g.val * 256 + e.val) % 256) : ℝ) : EReal)
    rw [hq, hr]

end Mixers.R
-- ==== Proof.Finite.lean ====
/-
  What finite arguments say: every element of them is a real number.
-/
module

public import proofs.«01_k».proof.Pre_finite
public import Idealize.ShloMosaic.Lib.ReduceAll
public import Idealize.ShloMosaic.PureOps.Ideal

@[expose] public section

set_option maxRecDepth 16384

noncomputable section

namespace Mixers.Fin

open Cert.Pre_finite Idealize.ShloMosaic

/-- The word of the infinity the elements are compared with. -/
theorem top_word : Ideal.ofBits .f32 0x7F800000#32 = (⊤ : EReal) := by
  show Ideal.ieee 8 23 0x7F800000#32 = ⊤
  unfold Ideal.ieee
  rw [if_pos (by decide), if_pos (by decide), if_neg (by decide)]

/-- A value whose size is under the infinity is real. -/
theorem real_of (x : EReal) (h : Ideal.cmp .olt (max x (-x)) ⊤ = 1#1) : ∃ r : ℝ, x = (r : EReal) := by
  have h' : max x (-x) < (⊤ : EReal) := by
    by_contra hc
    have : Ideal.cmp .olt (max x (-x)) ⊤ = BitVec.ofBool (decide (max x (-x) < (⊤ : EReal))) := rfl
    rw [this, decide_eq_false hc] at h
    exact absurd h (by decide)
  induction x with
  | bot => exact absurd h' (by simp)
  | coe r => exact ⟨r, rfl⟩
  | top => exact absurd h' (by simp)

/-- Both of two truth values whose conjunction holds. -/
theorem both {s : Shape} (a b : IVec s 1) (h : andi a b = fun _ => 1#1) : (a = fun _ => 1#1) ∧ b = fun _ => 1#1 := by
  have key : ∀ p q : BitVec 1, p &&& q = 1#1 → p = 1#1 ∧ q = 1#1 := by decide
  exact ⟨funext fun i => (key _ _ (congrFun h i)).1, funext fun i => (key _ _ (congrFun h i)).2⟩

instance : Subsingleton S_.Idx := ⟨fun _ _ => funext fun i => i.elim0⟩

/-- An array whose every element is under the infinity in size holds reals. -/
theorem all_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu = fun _ => 1#1) (i : s.Idx) : ∃ r : ℝ, x i = (r : EReal) := by
  have h := Host.reduce_andi_all _ _ hr hu (fun i => i.elim0) (congrFun e _) i
  have h' : Ideal.cmp .olt (max (x i) (-(x i))) (Ideal.ofBits .f32 0x7F800000#32) = 1#1 := h
  rw [top_word] at h'
  exact real_of _ h'

variable [Facts] {x0 : FVec Ideal S8192x5120 .f32} {x1 : FVec Ideal S8192x2048 .f32} {x2 : FVec Ideal S8192x1024 .f32}
  {x3 : FVec Ideal S1x1024x5120 .f32} {x4 : FVec Ideal S1x4x256x256 .f32} {x5 x6 x7 : FVec Ideal S1x1024 .f32}
  {x8 : FVec Ideal S1x4x128x128 .f32} {x9 : FVec Ideal S1x4x128 .f32}

/-- The finite arguments hold reals. -/
theorem reals (h : fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x4 i = (r : EReal))
    ∧ (∀ i, ∃ r : ℝ, x5 i = (r : EReal)) ∧ (∀ i, ∃ r : ℝ, x6 i = (r : EReal)) ∧ (∀ i, ∃ r : ℝ, x7 i = (r : EReal))
    ∧ (∀ i, ∃ r : ℝ, x8 i = (r : EReal)) ∧ (∀ i, ∃ r : ℝ, x9 i = (r : EReal)) := by
  obtain ⟨h, h9⟩ := both _ _ h
  obtain ⟨h, h8⟩ := both _ _ h
  obtain ⟨h, h7⟩ := both _ _ h
  obtain ⟨h, h6⟩ := both _ _ h
  obtain ⟨h, h5⟩ := both _ _ h
  obtain ⟨h, h4⟩ := both _ _ h
  obtain ⟨h0, h1⟩ := both _ _ h
  exact ⟨all_real x0 _ _ _ h0, all_real x1 _ _ _ h1, all_real x4 _ _ _ h4, all_real x5 _ _ _ h5, all_real x6 _ _ _ h6,
    all_real x7 _ _ _ h7, all_real x8 _ _ _ h8, all_real x9 _ _ _ h9⟩

end Mixers.Fin
-- ==== Proof.RefDz.lean ====
/-
  The reference's gradient of the gate.
-/
module

public import Idealize.ShloMosaic.Lib.Pipeline.Value
public import proofs.«01_k».proof.Proof.RefLn
public import proofs.«01_k».proof.Proof.RefPool

@[expose] public section

set_option maxRecDepth 16384

noncomputable section

namespace Mixers.R

open Cert.ReferenceIdeal Cert.ReferenceIdeal.Read Idealize.ShloMosaic
open scoped BigOperators

/-- What the gate multiplies: the scaled mix of the pooled rows, then the gated rows of the other mixer. -/
def MG (D : Data) (s e : ℕ) : ℝ :=
  if e < 1024 then mixed D s (e / 256) (e % 256) * D.PS (e / 256 * 256 + e % 256)
  else gelu (uu D s ((e - 1024) / 256) ((e - 1024) % 256)) * sv D (cb s) (s % 128) ((e - 1024) / 256) ((e - 1024) % 256)

variable {D : Data} {x0 : T S8192x5120} {x1 : T S8192x2048} {x4 : T S1x4x256x256} {x5 x6 x7 : T S1x1024}
  {x8 : T S1x4x128x128} {x9 : T S1x4x128}
  (A : Args D x0 x1 x4 x5 x6 x7 x8 x9)
include A

theorem v172 (i : S8192x1024.Idx) : val_main_v172 (F := Ideal) x0 x6 x7 x8 x9 i = ((gelu (uu D (i 0).val ((i 1).val / 256) ((i 1).val % 256)) * sv D (cb (i 0).val) ((i 0).val % 128) ((i 1).val / 256) ((i 1).val % 256) : ℝ) : EReal) := by
  simp only [val_main_v172_apply, v105 A, v171 A, smul, sadd, ssub, sneg, sexp, stanh, c_zero, c_one, c_two, c_three, c_eps, c_c0, c_c1, c_half, c_neg_half, EReal.coe_zero, zero_add, coe_mul', coe_add', coe_sub', coe_neg', coe_sum, tanh_real, exp_real]
  all_goals rfl
theorem v173 (i : S8192x2048.Idx) : val_main_v173 (F := Ideal) x0 x4 x5 x6 x7 x8 x9 i = ((MG D (i 0).val (i 1).val : ℝ) : EReal) := by
  have h1 : (i 1).val < 2048 := (i 1).isLt
  unfold val_main_v173 MG
  by_cases h : (i 1).val < 1024
  · rw [if_pos h]
    refine (concatenate_pair_apply_left (s₁ := S8192x1024) (s₂ := S8192x1024) _ _ _ _ i rfl (ix2 (⟨(i 0).val, (i 0).isLt⟩ : Fin 8192) (⟨(i 1).val, h⟩ : Fin 1024)) (fun b => match b with
      | ⟨0, _⟩ => rfl
      | ⟨1, _⟩ => rfl)).trans ?_
    exact v80 A _
  · rw [if_neg h]
    refine (concatenate_pair_apply_right (s₁ := S8192x1024) (s₂ := S8192x1024) _ _ _ _ i rfl rfl (ix2 (⟨(i 0).val, (i 0).isLt⟩ : Fin 8192) (⟨(i 1).val - 1024, by omega⟩ : Fin 1024)) (by
      intro b hb
      match b with
      | ⟨0, _⟩ => rfl
      | ⟨1, _⟩ => exact absurd rfl hb) ?_).trans ?_
    · show (i 1).val - 1024 + 1024 = (i 1).val
      omega
    · exact v172 A _
theorem v178 (i : S8192x2048.Idx) : val_main_v178 (F := Ideal) x0 x1 x4 x5 x6 x7 x8 x9 i
    = ((D.DY (i 0).val (i 1).val * MG D (i 0).val (i 1).val * dsilu (D.H (i 0).val (3072 + (i 1).val)) : ℝ) : EReal) := by
  simp only [val_main_v178_apply, val_main_call4_v2_apply, val_main_call4_v1_apply, val_main_call4_v0_apply, val_main_v176_apply, v173 A, v174_1 A, v174_2 A,
    v3 A, A.h1, smul, sadd, coe_mul', coe_add']
  refine congrArg Real.toEReal ?_
  unfold dsilu
  ring
end Mixers.R
-- ==== Proof.RefSums.lean ====
/-
  The reference's gradients of the gating unit's weights, bias and norm: sums over the tokens.
-/
module

public import Idealize.ShloMosaic.Lib.TwoAxisContraction
public import proofs.«01_k».proof.Proof.RefLn

@[expose] public section

set_option maxRecDepth 16384

noncomputable section

namespace Mixers.R

open Cert.ReferenceIdeal Cert.ReferenceIdeal.Read Idealize.ShloMosaic
open scoped BigOperators

/-- The tokens, chunk by chunk. -/
theorem sum_split (f : ℕ → ℝ) (a b n : ℕ) (h : a * b = n) : ∑ s : Fin n, f s.val = ∑ p : Fin a, ∑ q : Fin b, f (p.val * b + q.val) := by
  subst h
  rw [← finProdFinEquiv.sum_comp, Fintype.sum_prod_type]
  refine Finset.sum_congr rfl fun p _ => Finset.sum_congr rfl fun q _ => congrArg f ?_
  show q.val + b * p.val = p.val * b + q.val
  rw [Nat.mul_comm, Nat.add_comm]

/-- A four-axis array summed along its first and last axes. -/
theorem reduce_03 {n0 n1 n2 n3 : ℕ} (h : (⟨4, ![n0, n1, n2, n3]⟩ : Shape).ReducesTo [0, 3] ⟨2, ![n1, n2]⟩) (v : (⟨4, ![n0, n1, n2, n3]⟩ : Shape).Idx → EReal)
    (init : EReal) (j : Fin n1) (k : Fin n2) :
    Ideal.hostReduceAdd h v init (ix2 j k) = init + ∑ a : Fin n0, ∑ b : Fin n3, v (ix4 a j k b) := by
  refine congrArg (init + ·) ?_
  refine (Finset.sum_filter_eq_sum_of_fiber _ (fun p : Fin n0 × Fin n3 => ix4 p.1 j k p.2)
    (fun _ _ e => Prod.ext (congrFun e 0) (congrFun e 3)) (fun i => ⟨fun e => ?_, ?_⟩) v).trans ?_
  · refine ⟨(i 0, i 3), ?_⟩
    funext a
    apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨p, rfl⟩
    funext b
    apply Fin.ext
    match b with
    | ⟨0, _⟩ => rfl
    | ⟨1, _⟩ => rfl
  · simp only [Fintype.sum_prod_type]

/-! ## The product over chunks and lanes -/

theorem lhs_189_0 (i : S4x128x128.Idx) (q : dot_S4x64x256x128_S64x128x4x256_S4x128x128_12_03_3_1_0_2.contr.Idx) :
    (dot_S4x64x256x128_S64x128x4x256_S4x128x128_12_03_3_1_0_2.lhsIdx i q 0).val = (i 0).val := by
  unfold DotDims.lhsIdx
  rw [dif_pos (show (0 : Fin S4x64x256x128.rank) ∈ dot_S4x64x256x128_S64x128x4x256_S4x128x128_12_03_3_1_0_2.lhsBatch by decide)]
  rfl
theorem lhs_189_1 (i : S4x128x128.Idx) (q : dot_S4x64x256x128_S64x128x4x256_S4x128x128_12_03_3_1_0_2.contr.Idx) :
    (dot_S4x64x256x128_S64x128x4x256_S4x128x128_12_03_3_1_0_2.lhsIdx i q 1).val = (q ⟨0, by decide⟩).val := by
  unfold DotDims.lhsIdx
  rw [dif_neg (show ¬(1 : Fin S4x64x256x128.rank) ∈ dot_S4x64x256x128_S64x128x4x256_S4x128x128_12_03_3_1_0_2.lhsBatch by decide), dif_neg (show ¬(1 : Fin S4x64x256x128.rank) ∈ dot_S4x64x256x128_S64x128x4x256_S4x128x128_12_03_3_1_0_2.lhsNonContracting by decide)]
  rfl
theorem lhs_189_2 (i : S4x128x128.Idx) (q : dot_S4x64x256x128_S64x128x4x256_S4x128x128_12_03_3_1_0_2.contr.Idx) :
    (dot_S4x64x256x128_S64x128x4x256_S4x128x128_12_03_3_1_0_2.lhsIdx i q 2).val = (q ⟨1, by decide⟩).val := by
  unfold DotDims.lhsIdx
  rw [dif_neg (show ¬(2 : Fin S4x64x256x128.rank) ∈ dot_S4x64x256x128_S64x128x4x256_S4x128x128_12_03_3_1_0_2.lhsBatch by decide), dif_neg (show ¬(2 : Fin S4x64x256x128.rank) ∈ dot_S4x64x256x128_S64x128x4x256_S4x128x128_12_03_3_1_0_2.lhsNonContracting by decide)]
  rfl
theorem lhs_189_3 (i : S4x128x128.Idx) (q : dot_S4x64x256x128_S64x128x4x256_S4x128x128_12_03_3_1_0_2.contr.Idx) :
    (dot_S4x64x256x128_S64x128x4x256_S4x128x128_12_03_3_1_0_2.lhsIdx i q 3).val = (i 1).val := by
  unfold DotDims.lhsIdx
  rw [dif_neg (show ¬(3 : Fin S4x64x256x128.rank) ∈ dot_S4x64x256x128_S64x128x4x256_S4x128x128_12_03_3_1_0_2.lhsBatch by decide), dif_pos (show (3 : Fin S4x64x256x128.rank) ∈ dot_S4x64x256x128_S64x128x4x256_S4x128x128_12_03_3_1_0_2.lhsNonContracting by decide)]
  rfl
theorem rhs_189_0 (i : S4x128x128.Idx) (q : dot_S4x64x256x128_S64x128x4x256_S4x128x128_12_03_3_1_0_2.contr.Idx) :
    (dot_S4x64x256x128_S64x128x4x256_S4x128x128_12_03_3_1_0_2.rhsIdx i q 0).val = (q ⟨0, by decide⟩).val := by
  unfold DotDims.rhsIdx
  rw [dif_neg (show ¬(0 : Fin S64x128x4x256.rank) ∈ dot_S4x64x256x128_S64x128x4x256_S4x128x128_12_03_3_1_0_2.rhsBatch by decide), dif_neg (show ¬(0 : Fin S64x128x4x256.rank) ∈ dot_S4x64x256x128_S64x128x4x256_S4x128x128_12_03_3_1_0_2.rhsNonContracting by decide)]
  rfl
theorem rhs_189_1 (i : S4x128x128.Idx) (q : dot_S4x64x256x128_S64x128x4x256_S4x128x128_12_03_3_1_0_2.contr.Idx) :
    (dot_S4x64x256x128_S64x128x4x256_S4x128x128_12_03_3_1_0_2.rhsIdx i q 1).val = (i 2).val := by
  unfold DotDims.rhsIdx
  rw [dif_neg (show ¬(1 : Fin S64x128x4x256.rank) ∈ dot_S4x64x256x128_S64x128x4x256_S4x128x128_12_03_3_1_0_2.rhsBatch by decide), dif_pos (show (1 : Fin S64x128x4x256.rank) ∈ dot_S4x64x256x128_S64x128x4x256_S4x128x128_12_03_3_1_0_2.rhsNonContracting by decide)]
  rfl
theorem rhs_189_2 (i : S4x128x128.Idx) (q : dot_S4x64x256x128_S64x128x4x256_S4x128x128_12_03_3_1_0_2.contr.Idx) :
    (dot_S4x64x256x128_S64x128x4x256_S4x128x128_12_03_3_1_0_2.rhsIdx i q 2).val = (i 0).val := by
  unfold DotDims.rhsIdx
  rw [dif_pos (show (2 : Fin S64x128x4x256.rank) ∈ dot_S4x64x256x128_S64x128x4x256_S4x128x128_12_03_3_1_0_2.rhsBatch by decide)]
  rfl
theorem rhs_189_3 (i : S4x128x128.Idx) (q : dot_S4x64x256x128_S64x128x4x256_S4x128x128_12_03_3_1_0_2.contr.Idx) :
    (dot_S4x64x256x128_S64x128x4x256_S4x128x128_12_03_3_1_0_2.rhsIdx i q 3).val = (q ⟨1, by decide⟩).val := by
  unfold DotDims.rhsIdx
  rw [dif_neg (show ¬(3 : Fin S64x128x4x256.rank) ∈ dot_S4x64x256x128_S64x128x4x256_S4x128x128_12_03_3_1_0_2.rhsBatch by decide), dif_neg (show ¬(3 : Fin S64x128x4x256.rank) ∈ dot_S4x64x256x128_S64x128x4x256_S4x128x128_12_03_3_1_0_2.rhsNonContracting by decide)]
  rfl

theorem dot_189 (y0 : S4x64x256x128.Idx → EReal) (y1 : S64x128x4x256.Idx → EReal) (h : Fin 4) (r : Fin 128) (c : Fin 128) :
    Host.dotGeneral (F := Ideal) (φ₁ := .f32) (φ₂ := .f32) dot_S4x64x256x128_S64x128x4x256_S4x128x128_12_03_3_1_0_2 none y0 y1 (ix3 h r c) = ∑ n : Fin 64, ∑ k : Fin 256, y0 (ix4 h n k r) * y1 (ix4 n c h k) := by
  simp only [Host.dotGeneral]
  rw [Ideal.dotGeneral_apply, ValueIdx.sum_contr2 dot_S4x64x256x128_S64x128x4x256_S4x128x128_12_03_3_1_0_2 64 256 rfl rfl rfl]
  refine Finset.sum_congr rfl fun n _ => Finset.sum_congr rfl fun k _ => ?_
  have h0 := ValueIdx.contrEquiv2_symm_val0 dot_S4x64x256x128_S64x128x4x256_S4x128x128_12_03_3_1_0_2 64 256 rfl rfl rfl (n, k)
  have h1 := ValueIdx.contrEquiv2_symm_val1 dot_S4x64x256x128_S64x128x4x256_S4x128x128_12_03_3_1_0_2 64 256 rfl rfl rfl (n, k)
  refine congrArg₂ (· * ·) (congrArg y0 (funext fun a => Fin.ext ?_)) (congrArg y1 (funext fun a => Fin.ext ?_))
  · match a with
    | ⟨0, _⟩ => exact lhs_189_0 _ _
    | ⟨1, _⟩ => exact (lhs_189_1 _ _).trans h0
    | ⟨2, _⟩ => exact (lhs_189_2 _ _).trans h1
    | ⟨3, _⟩ => exact lhs_189_3 _ _
  · match a with
    | ⟨0, _⟩ => exact (rhs_189_0 _ _).trans h0
    | ⟨1, _⟩ => exact rhs_189_1 _ _
    | ⟨2, _⟩ => exact rhs_189_2 _ _
    | ⟨3, _⟩ => exact (rhs_189_3 _ _).trans h1

variable {D : Data} {x0 : T S8192x5120} {x1 : T S8192x2048} {x4 : T S1x4x256x256} {x5 x6 x7 : T S1x1024}
  {x8 : T S1x4x128x128} {x9 : T S1x4x128}
  (A : Args D x0 x1 x4 x5 x6 x7 x8 x9)
include A

theorem v184 (r : Fin 128) (h : Fin 4) : val_main_v184 (F := Ideal) x0 x1 (ix2 r h) = ((DSB D h.val r.val : ℝ) : EReal) := by
  unfold val_main_v184
  refine (reduce_03 _ _ _ r h).trans ?_
  simp only [v183 A, val_main_cst_37_apply, c_zero, coe_sum, EReal.coe_zero, zero_add]
  rfl
theorem v186 (r : Fin 128) (h : Fin 4) : val_main_v186 (F := Ideal) x0 x1 (ix2 r h) = ((DSB D h.val r.val : ℝ) : EReal) := by
  unfold val_main_v186
  refine (reduce_03 _ _ _ r h).trans ?_
  rw [Fintype.sum_unique, Fintype.sum_unique, val_main_cst_38_apply, c_zero, EReal.coe_zero, zero_add, val_main_v185_apply,
    show idx_main_v185 (ix4 (default : Fin 1) r h (default : Fin 1)) = ix2 r h from funext fun a => Fin.ext (by
      have hh := h.isLt
      match a with
      | ⟨0, _⟩ => show (((0 * 128 + r.val) * 4 + h.val) * 1 + 0) / 4 = r.val; omega
      | ⟨1, _⟩ => show (((0 * 128 + r.val) * 4 + h.val) * 1 + 0) % 4 = h.val; omega), v184 A]
/-- The result `dsb`. -/
theorem v331 (i : S4x128.Idx) : val_main_v331 (F := Ideal) x0 x1 i = ((DSB D (i 0).val (i 1).val : ℝ) : EReal) := by
  obtain ⟨h, r, rfl⟩ := ex2 i
  rw [val_main_v331_apply, val_main_v254_apply, val_main_v187_apply,
    show idx_main_v187 (idx_main_v254 (idx_main_v331 (ix2 h r))) = ix2 r h from funext fun a => Fin.ext (by
      have hh := h.isLt
      have hr := r.isLt
      match a with
      | ⟨0, _⟩ => show (h.val * 128 + r.val) % 128 = r.val; omega
      | ⟨1, _⟩ => show (h.val * 128 + r.val) / 128 % 4 = h.val; omega), v186 A]
  all_goals rfl
theorem v189 (h : Fin 4) (r c : Fin 128) : val_main_v189 (F := Ideal) x0 x1 x6 x7 (ix3 h r c)
    = ((∑ n : Fin 64, dswT D (n.val * 128) h.val r.val c.val : ℝ) : EReal) := by
  unfold val_main_v189
  rw [dot_189]
  simp only [val_main_v188_apply, v183 A, v159 A, coe_mul', coe_sum]
  rfl
theorem v192 (i : S4x128x128.Idx) : val_main_v192 (F := Ideal) x0 x1 x6 x7 i = ((DSW D (i 0).val (i 1).val (i 2).val : ℝ) : EReal) := by
  obtain ⟨h, r, c, rfl⟩ := ex3 i
  rw [val_main_v192_apply, v164_1, v189 A, val_main_call5_v0_apply]
  show Scalar.select (BitVec.ofBool (decide (c.val ≤ r.val))) _ _ = ((DSW D h.val r.val c.val : ℝ) : EReal)
  unfold DSW
  by_cases hc : c.val ≤ r.val
  · simp [hc, Scalar.select]
  · simp only [hc, Scalar.select, decide_false, BitVec.ofBool_false, if_false]
    exact c_zero
/-- The result `dsw`. -/
theorem v330 (i : S4x128x128.Idx) : val_main_v330 (F := Ideal) x0 x1 x6 x7 i = ((DSW D (i 0).val (i 1).val (i 2).val : ℝ) : EReal) := by
  have h0 : (i 0).val < 4 := (i 0).isLt
  have h1 : (i 1).val < 128 := (i 1).isLt
  have h2 : (i 2).val < 128 := (i 2).isLt
  rw [val_main_v330_apply, val_main_v255_apply, v192 A]
  refine f3 (fun a b c => DSW D a b c) ?_ ?_ ?_
  · show (((i 0).val * 128 + (i 1).val) * 128 + (i 2).val) / 16384 % 4 = _
    omega
  · show (((i 0).val * 128 + (i 1).val) * 128 + (i 2).val) / 128 % 128 = _
    omega
  · show (((i 0).val * 128 + (i 1).val) * 128 + (i 2).val) % 128 = _
    omega
omit A in
theorem sum_dlb (D : Data) (h k : ℕ) : ∑ s : Fin 8192, dvln D (cb s.val) (s.val % 128) h k = ∑ n : Fin 64, dlbT D (n.val * 128) h k := by
  rw [sum_split (fun s => dvln D (cb s) (s % 128) h k) 64 128 8192 rfl]
  refine Finset.sum_congr rfl fun n _ => Finset.sum_congr rfl fun j _ => ?_
  have e1 : cb (n.val * 128 + j.val) = n.val * 128 := by unfold cb; omega
  have e2 : (n.val * 128 + j.val) % 128 = j.val := by omega
  rw [e1, e2]
omit A in
theorem sum_dlg (D : Data) (h k : ℕ) :
    ∑ s : Fin 8192, xhat D s.val h k * dvln D (cb s.val) (s.val % 128) h k = ∑ n : Fin 64, dlgT D (n.val * 128) h k := by
  rw [sum_split (fun s => xhat D s h k * dvln D (cb s) (s % 128) h k) 64 128 8192 rfl]
  refine Finset.sum_congr rfl fun n _ => Finset.sum_congr rfl fun j _ => ?_
  have e1 : cb (n.val * 128 + j.val) = n.val * 128 := by unfold cb; omega
  have e2 : (n.val * 128 + j.val) % 128 = j.val := by omega
  rw [e1, e2, mul_comm]
theorem v194 (i : S4x256.Idx) : val_main_v194 (F := Ideal) x0 x1 x8 i = ((∑ n : Fin 64, dlbT D (n.val * 128) (i 0).val (i 1).val : ℝ) : EReal) := by
  simp only [val_main_v194_apply, val_main_cst_39_apply, v193 A, c_zero, coe_sum, EReal.coe_zero, zero_add]
  exact congrArg Real.toEReal (sum_dlb D _ _)
theorem v198 (i : S4x256.Idx) : val_main_v198 (F := Ideal) x0 x1 x8 i = ((∑ n : Fin 64, dlgT D (n.val * 128) (i 0).val (i 1).val : ℝ) : EReal) := by
  simp only [val_main_v198_apply, val_main_v197_apply, val_main_cst_41_apply, v193 A, v152 A, smul, coe_mul', c_zero, coe_sum, EReal.coe_zero, zero_add]
  exact congrArg Real.toEReal (sum_dlg D _ _)
theorem v195 (i : S1x4x256.Idx) : val_main_v195 (F := Ideal) x0 x1 x8 i = ((∑ n : Fin 64, dlbT D (n.val * 128) (i 1).val (i 2).val : ℝ) : EReal) := by
  rw [val_main_v195_apply, v194 A]
  have h0 : (i 0).val < 1 := (i 0).isLt
  have h1 : (i 1).val < 4 := (i 1).isLt
  have h2 : (i 2).val < 256 := (i 2).isLt
  refine f3 (fun h k _ => ∑ n : Fin 64, dlbT D (n.val * 128) h k) (c := 0) (c' := 0) ?_ ?_ rfl
  · show (((i 0).val * 4 + (i 1).val) * 256 + (i 2).val) / 256 = _
    omega
  · show (((i 0).val * 4 + (i 1).val) * 256 + (i 2).val) % 256 = _
    omega
theorem v196 (i : S4x256.Idx) : val_main_v196 (F := Ideal) x0 x1 x8 i = ((∑ n : Fin 64, dlbT D (n.val * 128) (i 0).val (i 1).val : ℝ) : EReal) := by
  rw [val_main_v196_apply, Fintype.sum_unique, v195 A, val_main_cst_40_apply, c_zero, EReal.coe_zero, zero_add]
  all_goals rfl
/-- The result `dlb`. -/
theorem v256 (i : S1x1024.Idx) : val_main_v256 (F := Ideal) x0 x1 x8 i = ((DLB D (i 1).val : ℝ) : EReal) := by
  rw [val_main_v256_apply, val_main_v227_apply, v196 A]
  all_goals rfl
theorem v199 (i : S1x4x256.Idx) : val_main_v199 (F := Ideal) x0 x1 x8 i = ((∑ n : Fin 64, dlgT D (n.val * 128) (i 1).val (i 2).val : ℝ) : EReal) := by
  rw [val_main_v199_apply, v198 A]
  have h0 : (i 0).val < 1 := (i 0).isLt
  have h1 : (i 1).val < 4 := (i 1).isLt
  have h2 : (i 2).val < 256 := (i 2).isLt
  refine f3 (fun h k _ => ∑ n : Fin 64, dlgT D (n.val * 128) h k) (c := 0) (c' := 0) ?_ ?_ rfl
  · show (((i 0).val * 4 + (i 1).val) * 256 + (i 2).val) / 256 = _
    omega
  · show (((i 0).val * 4 + (i 1).val) * 256 + (i 2).val) % 256 = _
    omega
theorem v202 (i : S4x256.Idx) : val_main_v202 (F := Ideal) x0 x1 x8 i = ((∑ n : Fin 64, dlgT D (n.val * 128) (i 0).val (i 1).val : ℝ) : EReal) := by
  rw [val_main_v202_apply, Fintype.sum_unique, v199 A, val_main_cst_42_apply, c_zero, EReal.coe_zero, zero_add]
  all_goals rfl
/-- The result `dlg`. -/
theorem v257 (i : S1x1024.Idx) : val_main_v257 (F := Ideal) x0 x1 x8 i = ((DLG D (i 1).val : ℝ) : EReal) := by
  rw [val_main_v257_apply, val_main_v228_apply, v202 A]
  all_goals rfl
end Mixers.R
-- ==== Proof.RefOut.lean ====
/-
  The reference's results: the gradient of the step's input, and the residual's gradient.
-/
module

public import proofs.«01_k».proof.Proof.RefDz
public import proofs.«01_k».proof.Proof.RefDa
public import proofs.«01_k».proof.Proof.RefSums

@[expose] public section

set_option maxRecDepth 16384

noncomputable section

namespace Mixers.R

open Cert.ReferenceIdeal Cert.ReferenceIdeal.Read Idealize.ShloMosaic
open scoped BigOperators

variable {D : Data} {x0 : T S8192x5120} {x1 : T S8192x2048} {x4 : T S1x4x256x256} {x5 x6 x7 : T S1x1024}
  {x8 : T S1x4x128x128} {x9 : T S1x4x128}
  (A : Args D x0 x1 x4 x5 x6 x7 x8 x9)
include A

theorem v323 (i : S8192x5120.Idx) : val_main_v323 (F := Ideal) x0 x1 x4 x5 x6 x7 x8 x9 i = ((DH D (i 0).val (i 1).val : ℝ) : EReal) := by
  have h1 : (i 1).val < 5120 := (i 1).isLt
  unfold val_main_v323 DH
  by_cases c1 : (i 1).val < 1024
  · rw [if_pos c1]
    refine (concatenate_apply_piece _ _ _ i 0 (by show 0 < 4; decide) S8192x1024 (val_main_v320 (F := Ideal) x0 x1 x4 x5) rfl rfl 0 rfl (ix2 (⟨(i 0).val, (i 0).isLt⟩ : Fin 8192) (⟨(i 1).val - 0, by omega⟩ : Fin 1024)) (by
      intro b hb
      match b with
      | ⟨0, _⟩ => rfl
      | ⟨1, _⟩ => exact absurd rfl hb) (by show 0 + ((i 1).val - 0) = (i 1).val; omega)).trans ?_
    refine (v320 A _).trans ?_
    all_goals rfl
  rw [if_neg c1]
  by_cases c2 : (i 1).val < 2048
  · rw [if_pos c2]
    refine (concatenate_apply_piece _ _ _ i 1 (by show 1 < 4; decide) S8192x1024 (val_main_v253 (F := Ideal) x0 x1 x6 x7 x8 x9) rfl rfl 1024 rfl (ix2 (⟨(i 0).val, (i 0).isLt⟩ : Fin 8192) (⟨(i 1).val - 1024, by omega⟩ : Fin 1024)) (by
      intro b hb
      match b with
      | ⟨0, _⟩ => rfl
      | ⟨1, _⟩ => exact absurd rfl hb) (by show 1024 + ((i 1).val - 1024) = (i 1).val; omega)).trans ?_
    refine (v253 A _).trans ?_
    rw [show (i 1).val % 256 = ((i 1).val - 1024) % 256 by omega]
    all_goals rfl
  rw [if_neg c2]
  by_cases c3 : (i 1).val < 3072
  · rw [if_pos c3]
    refine (concatenate_apply_piece _ _ _ i 2 (by show 2 < 4; decide) S8192x1024 (val_main_v241 (F := Ideal) x0 x1 x6 x8) rfl rfl 2048 rfl (ix2 (⟨(i 0).val, (i 0).isLt⟩ : Fin 8192) (⟨(i 1).val - 2048, by omega⟩ : Fin 1024)) (by
      intro b hb
      match b with
      | ⟨0, _⟩ => rfl
      | ⟨1, _⟩ => exact absurd rfl hb) (by show 2048 + ((i 1).val - 2048) = (i 1).val; omega)).trans ?_
    refine (v241 A _).trans ?_
    rw [show (i 1).val % 256 = ((i 1).val - 2048) % 256 by omega]
    all_goals rfl
  rw [if_neg c3]
  refine (concatenate_apply_piece _ _ _ i 3 (by show 3 < 4; decide) S8192x2048 (val_main_v178 (F := Ideal) x0 x1 x4 x5 x6 x7 x8 x9) rfl rfl 3072 rfl (ix2 (⟨(i 0).val, (i 0).isLt⟩ : Fin 8192) (⟨(i 1).val - 3072, by omega⟩ : Fin 2048)) (by
    intro b hb
    match b with
    | ⟨0, _⟩ => rfl
    | ⟨1, _⟩ => exact absurd rfl hb) (by show 3072 + ((i 1).val - 3072) = (i 1).val; omega)).trans ?_
  refine (v178 A _).trans ?_
  refine congrArg Real.toEReal ?_
  show D.DY (i 0).val ((i 1).val - 3072) * MG D (i 0).val ((i 1).val - 3072) * dsilu (D.H (i 0).val (3072 + ((i 1).val - 3072))) = _
  by_cases c4 : (i 1).val < 4096
  · rw [if_pos c4, show (i 1).val % 256 = ((i 1).val - 3072) % 256 by omega]
    have e : ((i 1).val - 3072) / 256 * 256 + ((i 1).val - 3072) % 256 = (i 1).val - 3072 := by omega
    unfold dzp MG dyp zp
    rw [if_pos (by omega), e]
  · rw [if_neg c4, show (i 1).val % 256 = ((i 1).val - 4096) % 256 by omega]
    have e2 : (i 1).val - 3072 - 1024 = (i 1).val - 4096 := by omega
    have e3 : 1024 + (((i 1).val - 4096) / 256 * 256 + ((i 1).val - 4096) % 256) = (i 1).val - 3072 := by omega
    have e4 : 4096 + (((i 1).val - 4096) / 256 * 256 + ((i 1).val - 4096) % 256) = 3072 + ((i 1).val - 3072) := by omega
    unfold dzs MG dys zs
    rw [if_neg (by omega), e2, e3, e4, cb_add]
/-- The result `dh`. -/
theorem v329 (i : S8192x5120.Idx) : val_main_v329 (F := Ideal) x0 x1 x4 x5 x6 x7 x8 x9 i = ((DH D (i 0).val (i 1).val : ℝ) : EReal) :=
  v323 A i
/-- The result `dx`. -/
theorem v326 (x2 : T S8192x1024) (x3 : T S1x1024x5120) (i : S8192x1024.Idx) : val_main_v326 (F := Ideal) x0 x1 x2 x3 x4 x5 x6 x7 x8 x9 i
    = x2 i + ∑ e : Fin 5120, ((DH D (i 0).val e.val : ℝ) : EReal) * x3 (ix3 (0 : Fin 1) (i 1) e) := by
  rw [val_main_v326_apply, sadd, val_main_v325_apply]
  refine congrArg (x2 i + ·) (Finset.sum_congr rfl fun e _ => ?_)
  rw [v323 A, val_main_v324_apply]
  refine congrArg₂ (· * ·) rfl (congrArg x3 (funext fun a => Fin.ext ?_))
  have h1 : (i 1).val < 1024 := (i 1).isLt
  have h2 := e.isLt
  match a with
  | ⟨0, _⟩ => rfl
  | ⟨1, _⟩ => show ((i 1).val * 5120 + e.val) / 5120 % 1024 = (i 1).val; omega
  | ⟨2, _⟩ => show ((i 1).val * 5120 + e.val) % 5120 = e.val; omega
end Mixers.R
-- ==== Proof.Equation.lean ====
/-
  The equation: each array the launch leaves is the reference's result of the same arguments.
-/
module

public import proofs.«01_k».proof.Proof.Arrays
public import proofs.«01_k».proof.Proof.Holds
public import proofs.«01_k».proof.Proof.Finite
public import proofs.«01_k».proof.Proof.RefOut
public import proofs.«01_k».proof.Proof.In
public import proofs.«01_k».proof.Proof.Gen.Pre_finite

@[expose] public section

set_option maxRecDepth 16384

noncomputable section

namespace Mixers.K

open Idealize.ShloMosaic.TcCoe Cert.KernelIdeal Cert.KernelIdeal.Gen Idealize.ShloMosaic Idealize.ShloMosaic.Pipeline
open Cert.ReferenceIdeal.Read
open scoped BigOperators

variable {m : (ℓ : Loc nD τ Cert.KernelIdeal.sig) → Buf (Elt Ideal) ℓ} {c : Dev nD}

/-- The data that one device's arguments hold. -/
def data (m : (ℓ : Loc nD τ Cert.KernelIdeal.sig) → Buf (Elt Ideal) ℓ) (c : Dev nD) : Data :=
  Mixers.R.dataOf (m (Thread.loc (c : Thread nD τ) main_arg0)) (m (Thread.loc (c : Thread nD τ) main_arg1)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9))

/-- Finite arguments hold it. -/
theorem args (h : Cert.Pre_finite.fn (F := Ideal) (m (Thread.loc (c : Thread nD τ) main_arg0)) (m (Thread.loc (c : Thread nD τ) main_arg1)) (m (Thread.loc (c : Thread nD τ) main_arg2)) (m (Thread.loc (c : Thread nD τ) main_arg3)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9)) = fun _ => 1#1) :
    Mixers.R.Args (data m c) (m (Thread.loc (c : Thread nD τ) main_arg0)) (m (Thread.loc (c : Thread nD τ) main_arg1)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9)) := by
  obtain ⟨h0, h1, h4, h5, h6, h7, h8, h9⟩ := Mixers.Fin.reals h
  exact Mixers.R.holds h0 h1 h4 h5 h6 h7 h8 h9

theorem eq12 {D : Data} (A : Mixers.R.Args D (m (Thread.loc (c : Thread nD τ) main_arg0)) (m (Thread.loc (c : Thread nD τ) main_arg1)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9))) :
    (dats m 0 c).arrAt 12 cfg0.N = val_main_v329 (F := Ideal) (m (Thread.loc (c : Thread nD τ) main_arg0)) (m (Thread.loc (c : Thread nD τ) main_arg1)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9)) := by
  refine (arr12 (points A)).trans (funext fun i => ?_)
  exact (Mixers.R.v329 A i).symm
theorem eq13 {D : Data} (A : Mixers.R.Args D (m (Thread.loc (c : Thread nD τ) main_arg0)) (m (Thread.loc (c : Thread nD τ) main_arg1)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9))) :
    (dats m 0 c).arrAt 13 cfg0.N = val_main_v326 (F := Ideal) (m (Thread.loc (c : Thread nD τ) main_arg0)) (m (Thread.loc (c : Thread nD τ) main_arg1)) (m (Thread.loc (c : Thread nD τ) main_arg2)) (m (Thread.loc (c : Thread nD τ) main_arg3)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9)) := by
  refine (arr13 (points A)).trans (funext fun i => ?_)
  exact (Mixers.R.v326 A (m (Thread.loc (c : Thread nD τ) main_arg2)) (m (Thread.loc (c : Thread nD τ) main_arg3)) i).symm
theorem eq14 {D : Data} (A : Mixers.R.Args D (m (Thread.loc (c : Thread nD τ) main_arg0)) (m (Thread.loc (c : Thread nD τ) main_arg1)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9))) :
    (dats m 0 c).arrAt 14 cfg0.N = val_main_v328 (F := Ideal) (m (Thread.loc (c : Thread nD τ) main_arg0)) (m (Thread.loc (c : Thread nD τ) main_arg1)) (m (Thread.loc (c : Thread nD τ) main_arg5)) := by
  refine (arr14 (points A)).trans (funext fun i => ?_)
  exact (Mixers.R.v328 A i).symm
theorem eq15 {D : Data} (A : Mixers.R.Args D (m (Thread.loc (c : Thread nD τ) main_arg0)) (m (Thread.loc (c : Thread nD τ) main_arg1)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9))) :
    (dats m 0 c).arrAt 15 cfg0.N = val_main_v321 (F := Ideal) (m (Thread.loc (c : Thread nD τ) main_arg0)) (m (Thread.loc (c : Thread nD τ) main_arg1)) (m (Thread.loc (c : Thread nD τ) main_arg4)) := by
  refine (arr15 (points A)).trans (funext fun i => ?_)
  exact (Mixers.R.v321 A i).symm
theorem eq16 {D : Data} (A : Mixers.R.Args D (m (Thread.loc (c : Thread nD τ) main_arg0)) (m (Thread.loc (c : Thread nD τ) main_arg1)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9))) :
    (dats m 0 c).arrAt 16 cfg0.N = val_main_v257 (F := Ideal) (m (Thread.loc (c : Thread nD τ) main_arg0)) (m (Thread.loc (c : Thread nD τ) main_arg1)) (m (Thread.loc (c : Thread nD τ) main_arg8)) := by
  refine (arr16 (points A)).trans (funext fun i => ?_)
  exact (Mixers.R.v257 A i).symm
theorem eq17 {D : Data} (A : Mixers.R.Args D (m (Thread.loc (c : Thread nD τ) main_arg0)) (m (Thread.loc (c : Thread nD τ) main_arg1)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9))) :
    (dats m 0 c).arrAt 17 cfg0.N = val_main_v256 (F := Ideal) (m (Thread.loc (c : Thread nD τ) main_arg0)) (m (Thread.loc (c : Thread nD τ) main_arg1)) (m (Thread.loc (c : Thread nD τ) main_arg8)) := by
  refine (arr17 (points A)).trans (funext fun i => ?_)
  exact (Mixers.R.v256 A i).symm
theorem eq18 {D : Data} (A : Mixers.R.Args D (m (Thread.loc (c : Thread nD τ) main_arg0)) (m (Thread.loc (c : Thread nD τ) main_arg1)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9))) :
    (dats m 0 c).arrAt 18 cfg0.N = val_main_v330 (F := Ideal) (m (Thread.loc (c : Thread nD τ) main_arg0)) (m (Thread.loc (c : Thread nD τ) main_arg1)) (m (Thread.loc (c : Thread nD τ) main_arg6)) (m (Thread.loc (c : Thread nD τ) main_arg7)) := by
  refine (arr18 (points A)).trans (funext fun i => ?_)
  exact (Mixers.R.v330 A i).symm
theorem eq19 {D : Data} (A : Mixers.R.Args D (m (Thread.loc (c : Thread nD τ) main_arg0)) (m (Thread.loc (c : Thread nD τ) main_arg1)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9))) :
    (dats m 0 c).arrAt 19 cfg0.N = val_main_v331 (F := Ideal) (m (Thread.loc (c : Thread nD τ) main_arg0)) (m (Thread.loc (c : Thread nD τ) main_arg1)) := by
  refine (arr19 (points A)).trans (funext fun i => ?_)
  exact (Mixers.R.v331 A i).symm

end Mixers.K
-- ==== Proof.WOut.lean ====
/-
  The output projection's gradient: the array the launch leaves is the product the reference takes.
-/
module

public import proofs.«01_k».proof.Proof.Lift
public import proofs.«01_k».proof.Proof.Gen.Kernel2Ideal.Value
public import proofs.«01_k».proof.Proof.Gen.Reference2Ideal.Read
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

namespace WOut

open scoped BigOperators
open Mixers (ex2 ex3)
open Idealize.ShloMosaic.TcCoe Cert.Kernel2Ideal Cert.Kernel2Ideal.Gen Idealize.ShloMosaic Idealize.ShloMosaic.Pipeline

/-- A tile's share of the product. -/
def share (y : S8192x2048.Idx → EReal) (dr : S8192x1024.Idx → EReal) (n : ℕ) (h : n < 8) (e : Fin 2048) (d : Fin 1024) : EReal :=
  ∑ r : Fin 1024, y (ix2 ⟨n * 1024 + r.val, by omega⟩ e) * dr (ix2 ⟨n * 1024 + r.val, by omega⟩ d)

variable (m : (ℓ : Loc nD τ Cert.Kernel2Ideal.sig) → Buf (Elt Ideal) ℓ) (c : Dev nD)

theorem tiles : ∀ t : Fin cfg0.N, win0_0.index t = ![t.val, 0] ∧ win0_1.index t = ![t.val, 0] := by decide +kernel

theorem V_dr : Cert.Kernel2Ideal.Gen.V m c main_v0 = m (Thread.loc (c : Thread nD τ) main_arg1) := by
  funext i
  unfold Cert.Kernel2Ideal.Gen.V
  after_reads_at
  all_goals rfl

theorem in0 (t : Fin cfg0.N) (ht : t.val < 8) (r : Fin 1024) (e : Fin 2048) :
    (iblk m c 0 t : S1024x2048.Idx → EReal) (ix2 r e) = m (Thread.loc (c : Thread nD τ) main_arg0) (ix2 ⟨t.val * 1024 + r.val, by omega⟩ e) := by
  show Cert.Kernel2Ideal.Gen.V m c main_arg0 (((cfg0.win 0).blk t).view.emb (ix2 r e)) = _
  rw [V_main_arg0]
  refine congrArg (m (Thread.loc (c : Thread nD τ) main_arg0)) (funext fun a => Fin.ext ?_)
  match a with
  | ⟨0, _⟩ => blk_simp [(tiles t).1]
  | ⟨1, _⟩ => blk_simp [(tiles t).1]
theorem in1 (t : Fin cfg0.N) (ht : t.val < 8) (r : Fin 1024) (d : Fin 1024) :
    (iblk m c 1 t : S1024x1024.Idx → EReal) (ix2 r d) = m (Thread.loc (c : Thread nD τ) main_arg1) (ix2 ⟨t.val * 1024 + r.val, by omega⟩ d) := by
  show Cert.Kernel2Ideal.Gen.V m c main_v0 (((cfg0.win 1).blk t).view.emb (ix2 r d)) = _
  rw [V_dr]
  refine congrArg (m (Thread.loc (c : Thread nD τ) main_arg1)) (funext fun a => Fin.ext ?_)
  match a with
  | ⟨0, _⟩ => blk_simp [(tiles t).2]
  | ⟨1, _⟩ => blk_simp [(tiles t).2]

theorem pay_at (a : FVec Ideal S1024x2048 .f32) (b : FVec Ideal S1024x1024 .bf16) (acc : FVec Ideal S1x2048x1024 .f32) (q : Fin 1) (e : Fin 2048) (d : Fin 1024) :
    k0_pay2 (F := Ideal) a b acc (ix3 q e d) = acc (ix3 q e d) + ∑ r : Fin 1024, a (ix2 r e) * b (ix2 r d) := by
  obtain rfl : q = 0 := Subsingleton.elim _ _
  unfold k0_pay2
  pointwise []

/-- A tile's share of the product, for every number. -/
def part (y : S8192x2048.Idx → EReal) (dr : S8192x1024.Idx → EReal) (n : ℕ) (i : S1x2048x1024.Idx) : EReal :=
  if h : n < 8 then share y dr n h (i 1) (i 2) else 0

/-- A tile's step adds its share. -/
theorem step_at (n : ℕ) (h : n < cfg0.N) (acc : FVec Ideal S1x2048x1024 .f32) (i : S1x2048x1024.Idx) :
    k0_pay2 (F := Ideal) (iblk m c 0 ⟨n, h⟩) (iblk m c 1 ⟨n, h⟩) acc i
      = acc i + part (m (Thread.loc (c : Thread nD τ) main_arg0)) (m (Thread.loc (c : Thread nD τ) main_arg1)) n i := by
  have h8 : n < 8 := h
  obtain ⟨q, e, d, rfl⟩ := ex3 i
  refine (pay_at _ _ acc q e d).trans ?_
  unfold part
  rw [dif_pos h8]
  unfold share
  exact congrArg (acc (ix3 q e d) + ·) (Finset.sum_congr rfl fun r _ => congrArg₂ (· * ·) (in0 m c ⟨n, h⟩ h8 r e) (in1 m c ⟨n, h⟩ h8 r d))

/-- Eight runs of 1024 are the 8192 tokens. -/
theorem sum_tiles (f : Fin 8192 → EReal) (g : ℕ → EReal) (hg : ∀ n (h : n < 8), g n = ∑ r : Fin 1024, f ⟨n * 1024 + r.val, by omega⟩) :
    ∑ n ∈ Finset.range 8, g n = ∑ k : Fin 8192, f k := by
  rw [Finset.sum_range g]
  rw [← (finProdFinEquiv (m := 8) (n := 1024)).sum_comp f, Fintype.sum_prod_type]
  refine Finset.sum_congr rfl fun n _ => (hg n.val n.isLt).trans (Finset.sum_congr rfl fun r _ => congrArg f (Fin.ext ?_))
  show n.val * 1024 + r.val = r.val + 1024 * n.val
  omega

/-- The product over all tokens. -/
def prod (y : S8192x2048.Idx → EReal) (dr : S8192x1024.Idx → EReal) : S1x2048x1024.Idx → EReal :=
  fun i => ∑ k : Fin 8192, y (ix2 k (i 1)) * dr (ix2 k (i 2))

/-- The array the launch leaves. -/
theorem arr : (dats m 0 c).arrAt 2 cfg0.N = prod (m (Thread.loc (c : Thread nD τ) main_arg0)) (m (Thread.loc (c : Thread nD τ) main_arg1)) := by
  rw [Cert.Kernel2Ideal.Value.final2]
  funext i
  have h0 : (i 0).val < 1 := (i 0).isLt
  have h1 : (i 1).val < 2048 := (i 1).isLt
  have h2 : (i 2).val < 1024 := (i 2).isLt
  have hr : Cert.Kernel2Ideal.Value.run2Of i = 0 := by
    show 1 * ((i 0).val / 1 - 0) + 1 * ((i 1).val / 2048 - 0) + 1 * ((i 2).val / 1024 - 0) = 0
    omega
  have hl : Cert.Kernel2Ideal.Value.loc2Of i = i := by
    funext a
    apply Fin.ext
    match a with
    | ⟨0, _⟩ => show (i 0).val % 1 = (i 0).val; omega
    | ⟨1, _⟩ => show (i 1).val % 2048 = (i 1).val; omega
    | ⟨2, _⟩ => show (i 2).val % 1024 = (i 2).val; omega
  unfold Cert.Kernel2Ideal.Value.G2
  rw [dif_pos (by rw [hr]; decide +kernel), hl]
  rw [Pipeline.accAt_add_apply (Cert.Kernel2Ideal.Value.reset2 m c) (Cert.Kernel2Ideal.Value.step2 m c) (fun _ => (0 : EReal))
    (part (m (Thread.loc (c : Thread nD τ) main_arg0)) (m (Thread.loc (c : Thread nD τ) main_arg1))) _ 7 ?_ ?_ 7 (le_refl _)]
  · rw [zero_add, hr]
    refine sum_tiles _ _ fun n h => ?_
    show part _ _ (8 * 0 + n) i = _
    rw [show 8 * 0 + n = n by omega]
    unfold part
    rw [dif_pos h]
    rfl
  · intro h i
    exact (step_at m c _ h _ i).trans (congrArg (· + _) Ideal.ofBits_zero_f32)
  · intro n h acc i _ _
    exact step_at m c n h acc i

/-- The reference's product. -/
theorem ref (x0 : (⟨Cert.Reference2Ideal.S8192x2048, .f32⟩ : BufTy).Contents (Elt Ideal)) (x1 : (⟨Cert.Reference2Ideal.S8192x1024, .f32⟩ : BufTy).Contents (Elt Ideal)) :
    Cert.Reference2Ideal.Read.val_main_v4 (F := Ideal) x0 x1
      = prod x0 x1 := by
  funext i
  obtain ⟨q, e, d, rfl⟩ := ex3 i
  rw [Cert.Reference2Ideal.Read.val_main_v4_apply, Cert.Reference2Ideal.Read.val_main_v3_apply, Cert.Reference2Ideal.Read.val_main_v2_apply]
  refine Finset.sum_congr rfl fun k _ => (mul_comm _ _).trans (congrArg₂ (· * ·) (congrArg x0 ?_) (congrArg x1 ?_))
  · funext a
    match a with
    | ⟨0, _⟩ => rfl
    | ⟨1, _⟩ => rfl
  · funext a
    match a with
    | ⟨0, _⟩ => rfl
    | ⟨1, _⟩ => rfl

end WOut
-- ==== Proof.HeadSpec.lean ====
/-
  The mathematics of the head over the real numbers: the residual, its layer norm, the gated embedding, the loss, and
  the gradients back to the mixers. Plain functions of natural-number coordinates; a token is numbered `s` (0 to 8191).
-/
module

public import proofs.«01_k».proof.Proof.Spec

@[expose] public section

noncomputable section

namespace Head

open scoped BigOperators
open Mixers (sig EPS)

/-- The residual's factor, the fourth root of two as a 32-bit float has it. -/
def AL : ℝ := 9975792 / 8388608

/-- The arrays the head reads, as real functions of their coordinates: the block's input, the mixers' result, the
    embedding's input, the target, the output projection, the gate's weights, the embedding's weights, the layer norm's
    gain and offset, the gate's offset. -/
structure Data where
  X : ℕ → ℕ → ℝ
  Y : ℕ → ℕ → ℝ
  P : ℕ → ℕ → ℝ
  T : ℕ → ℕ → ℝ
  WO : ℕ → ℕ → ℝ
  GW : ℕ → ℕ → ℝ
  PW : ℕ → ℕ → ℝ
  G : ℕ → ℝ
  B : ℕ → ℝ
  GB : ℕ → ℝ

variable (D : Data)

/-- The residual. -/
def r (s d : ℕ) : ℝ := AL * D.X s d + ∑ e : Fin 2048, D.Y s e * D.WO e d
/-- Its row mean. -/
def mu (s : ℕ) : ℝ := (∑ k : Fin 1024, r D s k) / 1024
/-- The residual, centred. -/
def xc (s d : ℕ) : ℝ := r D s d - mu D s
/-- Its row variance. -/
def var (s : ℕ) : ℝ := (∑ k : Fin 1024, xc D s k * xc D s k) / 1024
/-- The reciprocal standard deviation. -/
def rstd (s : ℕ) : ℝ := (Real.sqrt (var D s + EPS))⁻¹
/-- The normalised row. -/
def xhat (s d : ℕ) : ℝ := xc D s d * rstd D s
/-- The layer norm's result. -/
def xn (s d : ℕ) : ℝ := xhat D s d * D.G d + D.B d
/-- The gate. -/
def gate (s d : ℕ) : ℝ := sig ((∑ k : Fin 1024, xn D s k * D.GW k d) + D.GB d)
/-- The embedding. -/
def pe (s d : ℕ) : ℝ := ∑ k : Fin 256, D.P s k * D.PW k d
/-- The block's result minus the target. -/
def err (s d : ℕ) : ℝ := xn D s d + gate D s d * pe D s d - D.T s d
/-- The loss's gradient at the block's result. -/
def dout (s d : ℕ) : ℝ := err D s d * (1 / 1024)
/-- The gradient of the embedding. -/
def dpe (s d : ℕ) : ℝ := dout D s d * gate D s d
/-- The gradient of the gate's input. -/
def dgp (s d : ℕ) : ℝ := dout D s d * pe D s d * gate D s d * (1 - gate D s d)
/-- The gradient of the layer norm's result. -/
def dxn (s d : ℕ) : ℝ := dout D s d + ∑ e : Fin 1024, dgp D s e * D.GW d e
/-- The gradient of the normalised row. -/
def dxh (s d : ℕ) : ℝ := dxn D s d * D.G d
/-- Its row mean. -/
def m1 (s : ℕ) : ℝ := (∑ k : Fin 1024, dxh D s k) / 1024
/-- The row mean of its product with the normalised row. -/
def m2 (s : ℕ) : ℝ := (∑ k : Fin 1024, dxh D s k * xhat D s k) / 1024
/-- The gradient of the residual. -/
def dr (s d : ℕ) : ℝ := rstd D s * (dxh D s d - m1 D s - xhat D s d * m2 D s)
/-- The gradient of the block's input along the residual. -/
def dx (s d : ℕ) : ℝ := AL * dr D s d
/-- The gradient of the mixers' result. -/
def dy (s e : ℕ) : ℝ := ∑ d : Fin 1024, dr D s d * D.WO e d
/-- One token's sum of squares. -/
def sq (s : ℕ) : ℝ := ∑ d : Fin 1024, err D s d * err D s d
/-- The loss. -/
def loss : ℝ := ∑ s : Fin 8192, 1 / 2048 * sq D s
/-- The gain's gradient. -/
def dg (d : ℕ) : ℝ := ∑ s : Fin 8192, dxn D s d * xhat D s d
/-- The offset's gradient. -/
def db (d : ℕ) : ℝ := ∑ s : Fin 8192, dxn D s d
/-- The gradient of the gate's offset. -/
def dgb (d : ℕ) : ℝ := ∑ s : Fin 8192, dgp D s d

theorem var_pos (s : ℕ) : 0 < var D s + EPS := by
  have h : 0 ≤ var D s := div_nonneg (Finset.sum_nonneg fun k _ => mul_self_nonneg _) (by norm_num)
  have e : 0 < EPS := by unfold EPS; norm_num
  linarith

end Head
-- ==== Proof.HeadK.lean ====
/-
  What the head computes of one half of a tile, 256 tokens, as vector functions, and their values: over vectors whose
  elements are real, each is the real function of `HeadSpec.lean` element by element.
-/
module

public import proofs.«01_k».proof.Proof.HeadSpec
public import proofs.«01_k».proof.Proof.Lift
public import proofs.«01_k».proof.Proof.Gen.Kernel3Ideal.Skeleton

@[expose] public section

set_option maxRecDepth 16384

noncomputable section

namespace Head.K

open Idealize.ShloMosaic Cert.Kernel3Ideal Cert.Kernel3Ideal.Gen
open Mixers (sig EPS coe_sum div_real rsqrt_real coe_sub' coe_add' coe_mul' coe_neg' zero_sub_coe one_add_exp_ne bits_one bits_eps
  vmul vadd vsub vdiv vexp vrsqrt vtrunc vext ex2 ex3)
open scoped BigOperators

abbrev V (s : Shape) := FVec Ideal s .f32
abbrev B (s : Shape) := FVec Ideal s .bf16
/-- A number at every element. -/
def splat (s : Shape) (b : BitVec 32) : V s := broadcast s (Scalar.ofBits (F := Ideal) .f32 b)

variable {s : Shape}
theorem splat_zero (i : s.Idx) : splat s 0x00000000#32 i = 0 := Ideal.ofBits_zero_f32
theorem splat_one (i : s.Idx) : splat s 0x3F800000#32 i = ((1 : ℝ) : EReal) := bits_one
theorem splat_eps (i : s.Idx) : splat s 0x3727C5AC#32 i = ((EPS : ℝ) : EReal) := bits_eps
theorem bits_1024 : Ideal.ofBits .f32 0x44800000#32 = ((1024 : ℝ) : EReal) := by
  simp [Ideal.ofBits, Ideal.ieee, -EReal.coe_mul]; norm_num
theorem splat_1024 (i : s.Idx) : splat s 0x44800000#32 i = ((1024 : ℝ) : EReal) := bits_1024
theorem bits_al : Ideal.ofBits .f32 0x3F9837F0#32 = ((AL : ℝ) : EReal) := by
  simp [Ideal.ofBits, Ideal.ieee, -EReal.coe_mul, AL]; norm_num
theorem splat_al (i : s.Idx) : splat s 0x3F9837F0#32 i = ((AL : ℝ) : EReal) := bits_al
theorem bits_inv1024 : Ideal.ofBits .f32 0x3A800000#32 = ((1 / 1024 : ℝ) : EReal) := by
  simp [Ideal.ofBits, Ideal.ieee, -EReal.coe_mul]; norm_num
theorem splat_inv1024 (i : s.Idx) : splat s 0x3A800000#32 i = ((1 / 1024 : ℝ) : EReal) := bits_inv1024
theorem bits_inv2048 : Ideal.ofBits .f32 0x3A000000#32 = ((1 / 2048 : ℝ) : EReal) := by
  simp [Ideal.ofBits, Ideal.ieee, -EReal.coe_mul]; norm_num
theorem splat_inv2048 (i : s.Idx) : splat s 0x3A000000#32 i = ((1 / 2048 : ℝ) : EReal) := bits_inv2048

/-- The elements of a half's vector, the tokens counted from `S`. -/
def At (S : ℕ) (v : S256x1024.Idx → EReal) (f : ℕ → ℕ → ℝ) : Prop := ∀ i, v i = ((f (S + (i 0).val) (i 1).val : ℝ) : EReal)
/-- One number for each token of a half. -/
def AtC (S : ℕ) (v : S256x1.Idx → EReal) (f : ℕ → ℝ) : Prop := ∀ i, v i = ((f (S + (i 0).val) : ℝ) : EReal)
/-- One number for each column. -/
def AtR (v : S1x1024.Idx → EReal) (f : ℕ → ℝ) : Prop := ∀ i, v i = ((f (i 1).val : ℝ) : EReal)

variable {D : Data} {S : ℕ} {f g h : ℕ → ℕ → ℝ} {u w z : V S256x1024}

/-- A row's mean, as one column. -/
def kMean (x : V S256x1024) : V S256x1 :=
  divf (shapeCast S256x1 (multiReduction .add [1] S256 x 0x00000000#32 reduces_S256x1024_S256 (.inl rfl) rfl) shapeCasts_S256_S256x1)
    (splat S256x1 0x44800000#32)
/-- A column repeated along the rows. -/
def kCol (x : V S256x1) : V S256x1024 := broadcastTo S256x1024 x broadcasts_S256x1_S256x1024
/-- A row repeated down the columns. -/
def kRow (x : V S1x1024) : V S256x1024 := broadcastTo S256x1024 x broadcasts_S1x1024_S256x1024
/-- A column's sum, as one row. -/
def kTot (x : V S256x1024) : V S1x1024 :=
  shapeCast S1x1024 (multiReduction .add [0] S1024 x 0x00000000#32 reduces_S256x1024_S1024 (.inl rfl) rfl) shapeCasts_S1024_S1x1024
/-- The sum of all elements. -/
def kAll (x : V S256x1024) : V S1x1 :=
  broadcast S1x1 (extractAt ![0, 0, 0] (shapeCast S1x1x1 (multiReduction .add [1, 2] S1 (shapeCast S1x256x1024 x shapeCasts_S256x1024_S1x256x1024)
    0x00000000#32 reduces_S1x256x1024_S1 (.inl rfl) rfl) shapeCasts_S1_S1x1x1) inpos_S1x1x1_p0_0_0)

theorem kMean_at (hu : At S u f) : AtC S (kMean u) (fun s => (∑ k : Fin 1024, f s k) / 1024) := by
  intro i
  obtain ⟨r, q, rfl⟩ := ex2 i
  unfold kMean
  rw [vdiv, splat_1024]
  have e : (shapeCast S256x1 (multiReduction (F := Ideal) .add [1] S256 u 0x00000000#32 reduces_S256x1024_S256 (.inl rfl) rfl) shapeCasts_S256_S256x1 :
      V S256x1) (ix2 r q) = ∑ k : Fin 1024, u (ix2 r k) := by
    pointwise []
  rw [e, Finset.sum_congr rfl (fun k _ => hu (ix2 r k)), coe_sum, div_real _ _ (by norm_num)]
  rfl
theorem kCol_at {c : V S256x1} {a : ℕ → ℝ} (hc : AtC S c a) : At S (kCol c) (fun s _ => a s) := by
  intro i
  obtain ⟨r, k, rfl⟩ := ex2 i
  refine Eq.trans ?_ (hc (ix2 r 0))
  unfold kCol; pointwise []
theorem kRow_at {c : V S1x1024} {a : ℕ → ℝ} (hc : AtR c a) : At S (kRow c) (fun _ d => a d) := by
  intro i
  obtain ⟨r, k, rfl⟩ := ex2 i
  refine Eq.trans ?_ (hc (ix2 0 k))
  unfold kRow; pointwise []
theorem kTot_at (hu : At S u f) : AtR (kTot u) (fun d => ∑ r : Fin 256, f (S + r.val) d) := by
  intro i
  obtain ⟨q, k, rfl⟩ := ex2 i
  have e : kTot u (ix2 q k) = ∑ r : Fin 256, u (ix2 r k) := by
    unfold kTot; pointwise []
  rw [e, Finset.sum_congr rfl (fun r _ => hu (ix2 r k)), coe_sum]
  rfl
theorem kAll_at (hu : At S u f) (i : S1x1.Idx) : kAll u i = ((∑ r : Fin 256, ∑ k : Fin 1024, f (S + r.val) k.val : ℝ) : EReal) := by
  have e : kAll u i = ∑ r : Fin 256, ∑ k : Fin 1024, u (ix2 r k) := by
    unfold kAll; pointwise []
  rw [e, ← coe_sum]
  refine Finset.sum_congr rfl fun r _ => ?_
  rw [Finset.sum_congr rfl (fun k _ => hu (ix2 r k)), coe_sum]
  rfl

theorem mul_at (hu : At S u f) (hw : At S w g) : At S (mulf u w) (fun s d => f s d * g s d) := fun i => by rw [vmul, hu, hw, coe_mul']
theorem add_at (hu : At S u f) (hw : At S w g) : At S (addf u w) (fun s d => f s d + g s d) := fun i => by rw [vadd, hu, hw, coe_add']
theorem sub_at (hu : At S u f) (hw : At S w g) : At S (subf u w) (fun s d => f s d - g s d) := fun i => by rw [vsub, hu, hw, coe_sub']

/-- The matrices' elements. -/
def AtM {r c : ℕ} (v : (⟨2, ![r, c]⟩ : Shape).Idx → EReal) (f : ℕ → ℕ → ℝ) : Prop := ∀ i, v i = ((f (i 0).val (i 1).val : ℝ) : EReal)

/-! ## The layer norm -/

variable {x : V S256x1024} {y : V S256x2048} {p : V S256x256} {t : V S256x1024} {wo : B S2048x1024} {gw : B S1024x1024} {pw : B S256x1024}
  {lg lb gb : V S1x1024}

/-- The vectors a half reads hold the data of the tokens from `S` on. -/
structure Half (D : Data) (S : ℕ) (x : V S256x1024) (y : V S256x2048) (p : V S256x256) (t : V S256x1024) (wo : B S2048x1024) (gw : B S1024x1024)
    (pw : B S256x1024) (lg lb gb : V S1x1024) : Prop where
  hx : At S x D.X
  hy : ∀ i, y i = ((D.Y (S + (i 0).val) (i 1).val : ℝ) : EReal)
  hp : ∀ i, p i = ((D.P (S + (i 0).val) (i 1).val : ℝ) : EReal)
  ht : At S t D.T
  hwo : ∀ i, wo i = ((D.WO (i 0).val (i 1).val : ℝ) : EReal)
  hgw : ∀ i, gw i = ((D.GW (i 0).val (i 1).val : ℝ) : EReal)
  hpw : ∀ i, pw i = ((D.PW (i 0).val (i 1).val : ℝ) : EReal)
  hlg : AtR lg D.G
  hlb : AtR lb D.B
  hgb : AtR gb D.GB

/-- The residual. -/
def kR (x : V S256x1024) (y : V S256x2048) (wo : B S2048x1024) : V S256x1024 :=
  addf (mulf (splat S256x1024 0x3F9837F0#32) x)
    (matmul dot_S256x2048_S2048x1024_S256x1024_1_0_0_1_n_n none y (shapeCast S2048x1024 wo shapeCasts_S2048x1024_S2048x1024) (constant S256x1024 .f32 0x00000000#32))

theorem kR_at (H : Half D S x y p t wo gw pw lg lb gb) : At S (kR x y wo) (r D) := by
  intro i
  obtain ⟨a, k, rfl⟩ := ex2 i
  unfold kR
  have e : matmul (F := Ideal) dot_S256x2048_S2048x1024_S256x1024_1_0_0_1_n_n none y (shapeCast S2048x1024 wo shapeCasts_S2048x1024_S2048x1024)
      (constant S256x1024 .f32 0x00000000#32) (ix2 a k) = ∑ e : Fin 2048, y (ix2 a e) * wo (ix2 e k) := by
    pointwise []
  rw [vadd, vmul, splat_al, H.hx, e]
  simp only [H.hy, H.hwo, coe_mul', coe_sum, coe_add']
  rfl
theorem xc_at (H : Half D S x y p t wo gw pw lg lb gb) : At S (k0_pay7 (F := Ideal) x y wo) (xc D) :=
  sub_at (kR_at H) (kCol_at (kMean_at (kR_at H)))
theorem rstd_at (H : Half D S x y p t wo gw pw lg lb gb) : AtC S (k0_pay8 (F := Ideal) x y wo) (rstd D) := by
  intro i
  have e : k0_pay8 (F := Ideal) x y wo = rsqrt (addf (kMean (mulf (k0_pay7 (F := Ideal) x y wo) (k0_pay7 (F := Ideal) x y wo))) (splat S256x1 0x3727C5AC#32)) := rfl
  rw [e, vrsqrt, vadd, kMean_at (mul_at (xc_at H) (xc_at H)) i, splat_eps, coe_add']
  exact rsqrt_real _ (var_pos D _)
theorem xhat_at (H : Half D S x y p t wo gw pw lg lb gb) : At S (k0_pay9 (F := Ideal) x y wo) (xhat D) := mul_at (xc_at H) (kCol_at (rstd_at H))
theorem xn_at (H : Half D S x y p t wo gw pw lg lb gb) : At S (k0_pay10 (F := Ideal) x y wo lg lb) (xn D) :=
  add_at (mul_at (xhat_at H) (kRow_at H.hlg)) (kRow_at H.hlb)
theorem xnb_at (H : Half D S x y p t wo gw pw lg lb gb) : At S (k0_pay11 (F := Ideal) x y wo lg lb) (xn D) := xn_at H

/-! ## The gate, the embedding and the error -/

theorem cast_at {v : B S256x1024} (hv : At S v f) : At S (k0_pay19 (F := Ideal) v) f := fun i => by
  rw [← hv i]; unfold k0_pay19; obtain ⟨a, k, rfl⟩ := ex2 i; pointwise []

/-- The gate's argument. -/
def kPre (v : B S256x1024) (gw : B S1024x1024) (gb : V S1x1024) : V S256x1024 :=
  addf (matmul dot_S256x1024_S1024x1024_S256x1024_1_0_0_1_n_n none v (shapeCast S1024x1024 gw shapeCasts_S1024x1024_S1024x1024) (constant S256x1024 .f32 0x00000000#32))
    (kRow gb)
theorem gate_at (H : Half D S x y p t wo gw pw lg lb gb) {v : B S256x1024} (hv : At S v (xn D)) : At S (k0_pay20 (F := Ideal) v gw gb) (gate D) := by
  intro i
  have hz : kPre v gw gb i = (((∑ k : Fin 1024, xn D (S + (i 0).val) k * D.GW k (i 1).val) + D.GB (i 1).val : ℝ) : EReal) := by
    unfold kPre
    rw [vadd, kRow_at (S := S) H.hgb i]
    obtain ⟨a, k, rfl⟩ := ex2 i
    have e : matmul (F := Ideal) dot_S256x1024_S1024x1024_S256x1024_1_0_0_1_n_n none v (shapeCast S1024x1024 gw shapeCasts_S1024x1024_S1024x1024)
        (constant S256x1024 .f32 0x00000000#32) (ix2 a k) = ∑ e : Fin 1024, v (ix2 a e) * gw (ix2 e k) := by
      pointwise []
    have hv' : ∀ i, v i = ((xn D (S + (i 0).val) (i 1).val : ℝ) : EReal) := hv
    rw [e]
    simp only [hv', H.hgw, coe_mul', coe_sum, coe_add']
    rfl
  have e : k0_pay20 (F := Ideal) v gw gb = divf (splat S256x1024 0x3F800000#32) (addf (splat S256x1024 0x3F800000#32) (exp (subf (splat S256x1024 0x00000000#32) (kPre v gw gb)))) := rfl
  rw [e, vdiv, vadd, vexp, vsub, splat_one, splat_zero, hz, zero_sub_coe, Ideal.exp_coe, coe_add', div_real _ _ (one_add_exp_ne _)]
  rfl
theorem pe_at (H : Half D S x y p t wo gw pw lg lb gb) : At S (k0_pay21 (F := Ideal) p pw) (pe D) := by
  intro i
  obtain ⟨a, k, rfl⟩ := ex2 i
  have e : k0_pay21 (F := Ideal) p pw (ix2 a k) = ∑ e : Fin 256, p (ix2 a e) * pw (ix2 e k) := by
    unfold k0_pay21
    pointwise []
  rw [e]
  simp only [H.hp, H.hpw, coe_mul', coe_sum]
  rfl
theorem err_at (H : Half D S x y p t wo gw pw lg lb gb) {v32 : V S256x1024} {v70 : B S256x1024} (h32 : At S v32 (xn D)) (h70 : At S v70 (xn D)) :
    At S (k0_pay22 (F := Ideal) v32 v70 gw gb p pw t) (err D) :=
  sub_at (add_at h32 (mul_at (gate_at H h70) (pe_at H))) H.ht
theorem sq_at (H : Half D S x y p t wo gw pw lg lb gb) {v32 : V S256x1024} {v70 : B S256x1024} (h32 : At S v32 (xn D)) (h70 : At S v70 (xn D))
    {v67 : V S1x1} {a : ℝ} (i : S1x1.Idx) (h67 : v67 i = ((a : ℝ) : EReal)) :
    k0_pay23 (F := Ideal) v32 v67 v70 gw gb p pw t i = ((a + ∑ r : Fin 256, sq D (S + r.val) : ℝ) : EReal) := by
  have e : k0_pay23 (F := Ideal) v32 v67 v70 gw gb p pw t = addf v67 (kAll (mulf (k0_pay22 (F := Ideal) v32 v70 gw gb p pw t) (k0_pay22 (F := Ideal) v32 v70 gw gb p pw t))) := rfl
  rw [e, vadd, h67, kAll_at (mul_at (err_at H h32 h70) (err_at H h32 h70)) i, coe_add']
  rfl
theorem dout_at (H : Half D S x y p t wo gw pw lg lb gb) {v32 : V S256x1024} {v70 : B S256x1024} (h32 : At S v32 (xn D)) (h70 : At S v70 (xn D)) :
    At S (k0_pay24 (F := Ideal) v32 v70 gw gb p pw t) (dout D) :=
  mul_at (err_at H h32 h70) (fun i => splat_inv1024 i)
theorem dpe_at {a b : V S256x1024} (ha : At S a (gate D)) (hb : At S b (dout D)) : At S (k0_pay34 (F := Ideal) a b) (dpe D) := mul_at hb ha
theorem dgp_at {a e b : V S256x1024} (ha : At S a (gate D)) (he : At S e (pe D)) (hb : At S b (dout D)) : At S (k0_pay35 (F := Ideal) a e b) (dgp D) :=
  mul_at (mul_at (mul_at hb he) ha) (sub_at (fun i => splat_one i) ha)

/-! ## The gradients of the norm -/

/-- The product with the transposed gate weights. -/
theorem dxn_at (H : Half D S x y p t wo gw pw lg lb gb) {a : V S256x1024} {v : B S256x1024} (ha : At S a (dout D)) (hv : At S v (dgp D)) :
    At S (k0_pay41 (F := Ideal) a v gw) (dxn D) := by
  intro i
  obtain ⟨q, k, rfl⟩ := ex2 i
  have e : k0_pay41 (F := Ideal) a v gw (ix2 q k) = a (ix2 q k) + ∑ e : Fin 1024, v (ix2 q e) * gw (ix2 k e) := by
    unfold k0_pay41
    pointwise []
  have hv' : ∀ i, v i = ((dgp D (S + (i 0).val) (i 1).val : ℝ) : EReal) := hv
  rw [e, ha]
  simp only [hv', H.hgw, coe_mul', coe_sum, coe_add']
  rfl
theorem dr_at (H : Half D S x y p t wo gw pw lg lb gb) {a : V S256x1} {b c : V S256x1024} (ha : AtC S a (rstd D)) (hb : At S b (xhat D))
    (hc : At S c (dxn D)) : At S (k0_pay44 (F := Ideal) a b c lg) (dr D) := by
  have h1 : At S (mulf c (kRow lg)) (dxh D) := mul_at hc (kRow_at H.hlg)
  exact mul_at (kCol_at ha) (sub_at (sub_at h1 (kCol_at (kMean_at h1))) (mul_at hb (kCol_at (kMean_at (mul_at h1 hb)))))
theorem dx_at {v : V S256x1024} (hv : At S v (dr D)) : At S (mulf (splat S256x1024 0x3F9837F0#32) v) (dx D) := mul_at (fun i => splat_al i) hv
theorem dy_at (H : Half D S x y p t wo gw pw lg lb gb) {v : B S256x1024} (hv : At S v (dr D)) (i : S256x2048.Idx) :
    k0_pay1 (F := Ideal) v wo i = ((dy D (S + (i 0).val) (i 1).val : ℝ) : EReal) := by
  obtain ⟨q, k, rfl⟩ := ex2 i
  have e : k0_pay1 (F := Ideal) v wo (ix2 q k) = ∑ e : Fin 1024, v (ix2 q e) * wo (ix2 k e) := by
    unfold k0_pay1
    pointwise []
  have hv' : ∀ i, v i = ((dr D (S + (i 0).val) (i 1).val : ℝ) : EReal) := hv
  rw [e]
  simp only [hv', H.hwo, coe_mul', coe_sum]
  rfl

end Head.K
-- ==== Proof.HeadHalf.lean ====
/-
  The whole chains of the two halves of a tile, and the sums a tile adds to what the tiles before it left.
-/
module

public import proofs.«01_k».proof.Proof.HeadK

@[expose] public section

set_option maxRecDepth 16384

noncomputable section

namespace Head.K

open Idealize.ShloMosaic Cert.Kernel3Ideal Cert.Kernel3Ideal.Gen
open Mixers (coe_sum coe_add' coe_mul' vmul vadd ex2)
open scoped BigOperators

variable {D : Data} {S S' : ℕ} {f : ℕ → ℕ → ℝ} {x x' : V S256x1024} {y y' : V S256x2048} {p p' : V S256x256} {t t' : V S256x1024}
  {wo : B S2048x1024} {gw : B S1024x1024} {pw : B S256x1024} {lg lb gb : V S1x1024}

theorem xn2 (H : Half D S x y p t wo gw pw lg lb gb) : At S (k0_pay15 (F := Ideal) x y wo lg lb) (xn D) := xn_at H
theorem xnb2 (H : Half D S x y p t wo gw pw lg lb gb) : At S (k0_pay16 (F := Ideal) x y wo lg lb) (xn D) := xn_at H
theorem c1 (H : Half D S x y p t wo gw pw lg lb gb) : At S (k0_pay19 (F := Ideal) (k0_pay11 (F := Ideal) x y wo lg lb)) (xn D) := cast_at (xnb_at H)
theorem rstd2 (H : Half D S x y p t wo gw pw lg lb gb) : AtC S (k0_pay13 (F := Ideal) x y wo) (rstd D) := rstd_at H
theorem xhat2 (H : Half D S x y p t wo gw pw lg lb gb) : At S (k0_pay14 (F := Ideal) x y wo) (xhat D) := xhat_at H
theorem gate2 (H : Half D S x y p t wo gw pw lg lb gb) : At S (k0_pay29 (F := Ideal) (k0_pay16 (F := Ideal) x y wo lg lb) gw gb) (gate D) := gate_at H (cast_at (xnb2 H))
theorem pe2 (H : Half D S x y p t wo gw pw lg lb gb) : At S (k0_pay30 (F := Ideal) p pw) (pe D) := pe_at H
theorem dout1 (H : Half D S x y p t wo gw pw lg lb gb) : At S (k0_pay24 (F := Ideal) (k0_pay10 (F := Ideal) x y wo lg lb) (k0_pay19 (F := Ideal) (k0_pay11 (F := Ideal) x y wo lg lb)) gw gb p pw t) (dout D) := dout_at H (xn_at H) (c1 H)
theorem dout2 (H : Half D S x y p t wo gw pw lg lb gb) : At S (k0_pay33 (F := Ideal) (k0_pay15 (F := Ideal) x y wo lg lb) (k0_pay16 (F := Ideal) x y wo lg lb) gw gb p pw t) (dout D) := dout_at H (xn2 H) (cast_at (xnb2 H))
theorem dpe1 (H : Half D S x y p t wo gw pw lg lb gb) : At S (k0_pay25 (F := Ideal) (k0_pay10 (F := Ideal) x y wo lg lb) (k0_pay19 (F := Ideal) (k0_pay11 (F := Ideal) x y wo lg lb)) gw gb p pw t) (dpe D) := dpe_at (gate_at H (c1 H)) (dout1 H)
theorem dpe2 (H : Half D S x y p t wo gw pw lg lb gb) : At S (k0_pay34 (F := Ideal) (k0_pay29 (F := Ideal) (k0_pay16 (F := Ideal) x y wo lg lb) gw gb) (k0_pay33 (F := Ideal) (k0_pay15 (F := Ideal) x y wo lg lb) (k0_pay16 (F := Ideal) x y wo lg lb) gw gb p pw t)) (dpe D) := dpe_at (gate2 H) (dout2 H)
theorem dgp1 (H : Half D S x y p t wo gw pw lg lb gb) : At S (k0_pay26 (F := Ideal) (k0_pay10 (F := Ideal) x y wo lg lb) (k0_pay19 (F := Ideal) (k0_pay11 (F := Ideal) x y wo lg lb)) gw gb p pw t) (dgp D) := dgp_at (gate_at H (c1 H)) (pe_at H) (dout1 H)
theorem dgpb1 (H : Half D S x y p t wo gw pw lg lb gb) : At S (k0_pay28 (F := Ideal) (k0_pay26 (F := Ideal) (k0_pay10 (F := Ideal) x y wo lg lb) (k0_pay19 (F := Ideal) (k0_pay11 (F := Ideal) x y wo lg lb)) gw gb p pw t)) (dgp D) := dgp1 H
theorem dgp2 (H : Half D S x y p t wo gw pw lg lb gb) : At S (k0_pay35 (F := Ideal) (k0_pay29 (F := Ideal) (k0_pay16 (F := Ideal) x y wo lg lb) gw gb) (k0_pay30 (F := Ideal) p pw) (k0_pay33 (F := Ideal) (k0_pay15 (F := Ideal) x y wo lg lb) (k0_pay16 (F := Ideal) x y wo lg lb) gw gb p pw t)) (dgp D) := dgp_at (gate2 H) (pe2 H) (dout2 H)
theorem dgpb2 (H : Half D S x y p t wo gw pw lg lb gb) : At S (k0_pay36 (F := Ideal) (k0_pay29 (F := Ideal) (k0_pay16 (F := Ideal) x y wo lg lb) gw gb) (k0_pay30 (F := Ideal) p pw) (k0_pay33 (F := Ideal) (k0_pay15 (F := Ideal) x y wo lg lb) (k0_pay16 (F := Ideal) x y wo lg lb) gw gb p pw t)) (dgp D) := dgp2 H
theorem dxn1 (H : Half D S x y p t wo gw pw lg lb gb) : At S (k0_pay41 (F := Ideal) (k0_pay24 (F := Ideal) (k0_pay10 (F := Ideal) x y wo lg lb) (k0_pay19 (F := Ideal) (k0_pay11 (F := Ideal) x y wo lg lb)) gw gb p pw t) (k0_pay28 (F := Ideal) (k0_pay26 (F := Ideal) (k0_pay10 (F := Ideal) x y wo lg lb) (k0_pay19 (F := Ideal) (k0_pay11 (F := Ideal) x y wo lg lb)) gw gb p pw t)) gw) (dxn D) := dxn_at H (dout1 H) (dgpb1 H)
theorem dxn2 (H : Half D S x y p t wo gw pw lg lb gb) : At S (k0_pay47 (F := Ideal) (k0_pay33 (F := Ideal) (k0_pay15 (F := Ideal) x y wo lg lb) (k0_pay16 (F := Ideal) x y wo lg lb) gw gb p pw t) (k0_pay36 (F := Ideal) (k0_pay29 (F := Ideal) (k0_pay16 (F := Ideal) x y wo lg lb) gw gb) (k0_pay30 (F := Ideal) p pw) (k0_pay33 (F := Ideal) (k0_pay15 (F := Ideal) x y wo lg lb) (k0_pay16 (F := Ideal) x y wo lg lb) gw gb p pw t)) gw) (dxn D) := dxn_at H (dout2 H) (dgpb2 H)
theorem drb1 (H : Half D S x y p t wo gw pw lg lb gb) : At S (k0_pay46 (F := Ideal) (k0_pay8 (F := Ideal) x y wo) (k0_pay9 (F := Ideal) x y wo) (k0_pay41 (F := Ideal) (k0_pay24 (F := Ideal) (k0_pay10 (F := Ideal) x y wo lg lb) (k0_pay19 (F := Ideal) (k0_pay11 (F := Ideal) x y wo lg lb)) gw gb p pw t) (k0_pay28 (F := Ideal) (k0_pay26 (F := Ideal) (k0_pay10 (F := Ideal) x y wo lg lb) (k0_pay19 (F := Ideal) (k0_pay11 (F := Ideal) x y wo lg lb)) gw gb p pw t)) gw) lg) (dr D) := dr_at H (rstd_at H) (xhat_at H) (dxn1 H)
theorem drb2 (H : Half D S x y p t wo gw pw lg lb gb) : At S (k0_pay51 (F := Ideal) (k0_pay13 (F := Ideal) x y wo) (k0_pay14 (F := Ideal) x y wo) (k0_pay47 (F := Ideal) (k0_pay33 (F := Ideal) (k0_pay15 (F := Ideal) x y wo lg lb) (k0_pay16 (F := Ideal) x y wo lg lb) gw gb p pw t) (k0_pay36 (F := Ideal) (k0_pay29 (F := Ideal) (k0_pay16 (F := Ideal) x y wo lg lb) gw gb) (k0_pay30 (F := Ideal) p pw) (k0_pay33 (F := Ideal) (k0_pay15 (F := Ideal) x y wo lg lb) (k0_pay16 (F := Ideal) x y wo lg lb) gw gb p pw t)) gw) lg) (dr D) := dr_at H (rstd2 H) (xhat2 H) (dxn2 H)
theorem dx1 (H : Half D S x y p t wo gw pw lg lb gb) : At S (k0_pay45 (F := Ideal) (k0_pay8 (F := Ideal) x y wo) (k0_pay9 (F := Ideal) x y wo) (k0_pay41 (F := Ideal) (k0_pay24 (F := Ideal) (k0_pay10 (F := Ideal) x y wo lg lb) (k0_pay19 (F := Ideal) (k0_pay11 (F := Ideal) x y wo lg lb)) gw gb p pw t) (k0_pay28 (F := Ideal) (k0_pay26 (F := Ideal) (k0_pay10 (F := Ideal) x y wo lg lb) (k0_pay19 (F := Ideal) (k0_pay11 (F := Ideal) x y wo lg lb)) gw gb p pw t)) gw) lg) (dx D) := dx_at (drb1 H)
theorem dx2 (H : Half D S x y p t wo gw pw lg lb gb) : At S (k0_pay50 (F := Ideal) (k0_pay13 (F := Ideal) x y wo) (k0_pay14 (F := Ideal) x y wo) (k0_pay47 (F := Ideal) (k0_pay33 (F := Ideal) (k0_pay15 (F := Ideal) x y wo lg lb) (k0_pay16 (F := Ideal) x y wo lg lb) gw gb p pw t) (k0_pay36 (F := Ideal) (k0_pay29 (F := Ideal) (k0_pay16 (F := Ideal) x y wo lg lb) gw gb) (k0_pay30 (F := Ideal) p pw) (k0_pay33 (F := Ideal) (k0_pay15 (F := Ideal) x y wo lg lb) (k0_pay16 (F := Ideal) x y wo lg lb) gw gb p pw t)) gw) lg) (dx D) := dx_at (drb2 H)
theorem dy1 (H : Half D S x y p t wo gw pw lg lb gb) (i : S256x2048.Idx) : (k0_pay1 (F := Ideal) (k0_pay46 (F := Ideal) (k0_pay8 (F := Ideal) x y wo) (k0_pay9 (F := Ideal) x y wo) (k0_pay41 (F := Ideal) (k0_pay24 (F := Ideal) (k0_pay10 (F := Ideal) x y wo lg lb) (k0_pay19 (F := Ideal) (k0_pay11 (F := Ideal) x y wo lg lb)) gw gb p pw t) (k0_pay28 (F := Ideal) (k0_pay26 (F := Ideal) (k0_pay10 (F := Ideal) x y wo lg lb) (k0_pay19 (F := Ideal) (k0_pay11 (F := Ideal) x y wo lg lb)) gw gb p pw t)) gw) lg) wo) i = ((dy D (S + (i 0).val) (i 1).val : ℝ) : EReal) := dy_at H (drb1 H) i
theorem dy2 (H : Half D S x y p t wo gw pw lg lb gb) (i : S256x2048.Idx) : (k0_pay2 (F := Ideal) (k0_pay51 (F := Ideal) (k0_pay13 (F := Ideal) x y wo) (k0_pay14 (F := Ideal) x y wo) (k0_pay47 (F := Ideal) (k0_pay33 (F := Ideal) (k0_pay15 (F := Ideal) x y wo lg lb) (k0_pay16 (F := Ideal) x y wo lg lb) gw gb p pw t) (k0_pay36 (F := Ideal) (k0_pay29 (F := Ideal) (k0_pay16 (F := Ideal) x y wo lg lb) gw gb) (k0_pay30 (F := Ideal) p pw) (k0_pay33 (F := Ideal) (k0_pay15 (F := Ideal) x y wo lg lb) (k0_pay16 (F := Ideal) x y wo lg lb) gw gb p pw t)) gw) lg) wo) i = ((dy D (S + (i 0).val) (i 1).val : ℝ) : EReal) := dy_at H (drb2 H) i

/-! ## The sums -/

/-- What two halves leave of a column's sum over what was there. -/
theorem acc_step {u u' : V S256x1024} (hu : At S u f) (hu' : At S' u' f) {old : V S1x1024} {a : ℕ → ℝ} (ho : AtR old a) {sc} (i : S1x1024.Idx) :
    addf (shapeCast S1x1024 old sc) (addf (addf (splat S1x1024 0x00000000#32) (kTot u)) (kTot u')) i
      = ((a (i 1).val + ((0 + ∑ r : Fin 256, f (S + r.val) (i 1).val) + ∑ r : Fin 256, f (S' + r.val) (i 1).val) : ℝ) : EReal) := by
  rw [vadd, vadd, vadd, shapeCast_self, ho, splat_zero, kTot_at hu, kTot_at hu', ← EReal.coe_zero, coe_add', coe_add', coe_add']
/-- What a tile adds to the loss. -/
theorem scaled_step {v : V S1x1} {old : V S1x128} {a b : ℝ} (hv : ∀ j, v j = ((b : ℝ) : EReal)) (i : S1x128.Idx) (ho : old i = ((a : ℝ) : EReal)) :
    k0_pay37 (F := Ideal) v old i = ((a + 1 / 2048 * b : ℝ) : EReal) := by
  obtain ⟨q, k, rfl⟩ := ex2 i
  have e : k0_pay37 (F := Ideal) v old (ix2 q k) = old (ix2 q k) + splat S1x1 0x3A000000#32 (ix2 0 0) * v (ix2 0 0) := by
    unfold k0_pay37
    pointwise []
    rfl
  rw [e, ho, hv, splat_inv2048, coe_mul', coe_add']

theorem loss_step (H : Half D S x y p t wo gw pw lg lb gb) (H' : Half D S' x' y' p' t' wo gw pw lg lb gb)
    {old : V S1x128} {a : ℝ} (i : S1x128.Idx) (ho : old i = ((a : ℝ) : EReal)) :
    k0_pay37 (F := Ideal) (k0_pay32 (F := Ideal) (k0_pay15 (F := Ideal) x' y' wo lg lb) (k0_pay23 (F := Ideal) (k0_pay10 (F := Ideal) x y wo lg lb) (k0_pay17 (F := Ideal)) (k0_pay19 (F := Ideal) (k0_pay11 (F := Ideal) x y wo lg lb)) gw gb p pw t) (k0_pay16 (F := Ideal) x' y' wo lg lb) gw gb p' pw t') old i
      = ((a + 1 / 2048 * ((0 + ∑ r : Fin 256, sq D (S + r.val)) + ∑ r : Fin 256, sq D (S' + r.val)) : ℝ) : EReal) :=
  scaled_step (fun j => sq_at H' (xn2 H') (cast_at (xnb2 H')) j (sq_at H (xn_at H) (c1 H) j ((splat_zero j).trans EReal.coe_zero.symm))) i ho
theorem dgb_step (H : Half D S x y p t wo gw pw lg lb gb) (H' : Half D S' x' y' p' t' wo gw pw lg lb gb)
    {old : V S1x1024} {a : ℕ → ℝ} (ho : AtR old a) (i : S1x1024.Idx) :
    (k0_pay38 (F := Ideal) (k0_pay27 (F := Ideal) (k0_pay18 (F := Ideal)) (k0_pay26 (F := Ideal) (k0_pay10 (F := Ideal) x y wo lg lb) (k0_pay19 (F := Ideal) (k0_pay11 (F := Ideal) x y wo lg lb)) gw gb p pw t)) (k0_pay29 (F := Ideal) (k0_pay16 (F := Ideal) x' y' wo lg lb) gw gb) (k0_pay30 (F := Ideal) p' pw) (k0_pay33 (F := Ideal) (k0_pay15 (F := Ideal) x' y' wo lg lb) (k0_pay16 (F := Ideal) x' y' wo lg lb) gw gb p' pw t') old) i
      = ((a (i 1).val + ((0 + ∑ r : Fin 256, (dgp D) (S + r.val) (i 1).val) + ∑ r : Fin 256, (dgp D) (S' + r.val) (i 1).val) : ℝ) : EReal) :=
  acc_step (dgp1 H) (dgp2 H') ho i
theorem dlng_step (H : Half D S x y p t wo gw pw lg lb gb) (H' : Half D S' x' y' p' t' wo gw pw lg lb gb)
    {old : V S1x1024} {a : ℕ → ℝ} (ho : AtR old a) (i : S1x1024.Idx) :
    (k0_pay52 (F := Ideal) (k0_pay48 (F := Ideal) (k0_pay14 (F := Ideal) x' y' wo) (k0_pay33 (F := Ideal) (k0_pay15 (F := Ideal) x' y' wo lg lb) (k0_pay16 (F := Ideal) x' y' wo lg lb) gw gb p' pw t') (k0_pay39 (F := Ideal)) (k0_pay42 (F := Ideal) (k0_pay9 (F := Ideal) x y wo) (k0_pay24 (F := Ideal) (k0_pay10 (F := Ideal) x y wo lg lb) (k0_pay19 (F := Ideal) (k0_pay11 (F := Ideal) x y wo lg lb)) gw gb p pw t) (k0_pay28 (F := Ideal) (k0_pay26 (F := Ideal) (k0_pay10 (F := Ideal) x y wo lg lb) (k0_pay19 (F := Ideal) (k0_pay11 (F := Ideal) x y wo lg lb)) gw gb p pw t)) gw) (k0_pay36 (F := Ideal) (k0_pay29 (F := Ideal) (k0_pay16 (F := Ideal) x' y' wo lg lb) gw gb) (k0_pay30 (F := Ideal) p' pw) (k0_pay33 (F := Ideal) (k0_pay15 (F := Ideal) x' y' wo lg lb) (k0_pay16 (F := Ideal) x' y' wo lg lb) gw gb p' pw t')) gw) old) i
      = ((a (i 1).val + ((0 + ∑ r : Fin 256, (fun s d => dxn D s d * xhat D s d) (S + r.val) (i 1).val) + ∑ r : Fin 256, (fun s d => dxn D s d * xhat D s d) (S' + r.val) (i 1).val) : ℝ) : EReal) :=
  acc_step (mul_at (dxn1 H) (xhat_at H)) (mul_at (dxn2 H') (xhat2 H')) ho i
theorem dlnb_step (H : Half D S x y p t wo gw pw lg lb gb) (H' : Half D S' x' y' p' t' wo gw pw lg lb gb)
    {old : V S1x1024} {a : ℕ → ℝ} (ho : AtR old a) (i : S1x1024.Idx) :
    (k0_pay53 (F := Ideal) (k0_pay43 (F := Ideal) (k0_pay40 (F := Ideal)) (k0_pay41 (F := Ideal) (k0_pay24 (F := Ideal) (k0_pay10 (F := Ideal) x y wo lg lb) (k0_pay19 (F := Ideal) (k0_pay11 (F := Ideal) x y wo lg lb)) gw gb p pw t) (k0_pay28 (F := Ideal) (k0_pay26 (F := Ideal) (k0_pay10 (F := Ideal) x y wo lg lb) (k0_pay19 (F := Ideal) (k0_pay11 (F := Ideal) x y wo lg lb)) gw gb p pw t)) gw)) (k0_pay47 (F := Ideal) (k0_pay33 (F := Ideal) (k0_pay15 (F := Ideal) x' y' wo lg lb) (k0_pay16 (F := Ideal) x' y' wo lg lb) gw gb p' pw t') (k0_pay36 (F := Ideal) (k0_pay29 (F := Ideal) (k0_pay16 (F := Ideal) x' y' wo lg lb) gw gb) (k0_pay30 (F := Ideal) p' pw) (k0_pay33 (F := Ideal) (k0_pay15 (F := Ideal) x' y' wo lg lb) (k0_pay16 (F := Ideal) x' y' wo lg lb) gw gb p' pw t')) gw) old) i
      = ((a (i 1).val + ((0 + ∑ r : Fin 256, (dxn D) (S + r.val) (i 1).val) + ∑ r : Fin 256, (dxn D) (S' + r.val) (i 1).val) : ℝ) : EReal) :=
  acc_step (dxn1 H) (dxn2 H') ho i

end Head.K
-- ==== Proof.HeadPoint.lean ====
/-
  What a grid point of the head leaves in its outputs: the six blocks of its tile, and the four sums carried on.
-/
module

public import proofs.«01_k».proof.Proof.HeadHalf
public import proofs.«01_k».proof.Proof.Pieces
public import proofs.«01_k».proof.Proof.Gen.Kernel3Ideal.Frame
public import Idealize.ShloMosaic.Lib.Claim
public import Idealize.ShloMosaic.Lib.Pipeline.ValueKit
public import Idealize.ShloMosaic.Lib.Pipeline.ReadBack

@[expose] public section

set_option maxRecDepth 16384

noncomputable section

namespace Head.K

open scoped BigOperators
open Mixers.K (emb_val canon_pieces)
open Cert.Kernel3Ideal Cert.Kernel3Ideal.Gen Idealize.ShloMosaic Idealize.ShloMosaic.Pipeline

/-- The sum over the first `n` tiles. -/
def cum (f : ℕ → ℕ → ℝ) (n d : ℕ) : ℝ := ∑ s ∈ Finset.range (512 * n), f s d
theorem cum_zero (f : ℕ → ℕ → ℝ) (d : ℕ) : cum f 0 d = 0 := by unfold cum; simp
theorem cum_step (f : ℕ → ℕ → ℝ) (n d : ℕ) :
    cum f n d + ((0 + ∑ r : Fin 256, f (n * 512 + 0 + r.val) d) + ∑ r : Fin 256, f (n * 512 + 256 + r.val) d) = cum f (n + 1) d := by
  unfold cum
  rw [show 512 * (n + 1) = 512 * n + 256 + 256 by ring, Finset.sum_range_add, Finset.sum_range_add, ← Finset.sum_range (fun r => f (n * 512 + 0 + r) d),
    ← Finset.sum_range (fun r => f (n * 512 + 256 + r) d), show n * 512 = 512 * n by ring]
  ring_nf
/-- The whole sum. -/
theorem cum_all (f : ℕ → ℕ → ℝ) (d : ℕ) : cum f 16 d = ∑ s : Fin 8192, f s.val d := by
  unfold cum
  exact Finset.sum_range (fun s => f s d)

/-- A tile's block of a function. -/
def GB (f : ℕ → ℕ → ℝ) (T : ℕ) : S512x1024.Idx → EReal := fun y => ((f (T * 512 + (y 0).val) (y 1).val : ℝ) : EReal)
def GY (f : ℕ → ℕ → ℝ) (T : ℕ) : S512x2048.Idx → EReal := fun y => ((f (T * 512 + (y 0).val) (y 1).val : ℝ) : EReal)

theorem f2 (f : ℕ → ℕ → ℝ) {a b a' b' : ℕ} (ha : a = a') (hb : b = b') : ((f a b : ℝ) : EReal) = ((f a' b' : ℝ) : EReal) := by rw [ha, hb]

theorem pcB {f : ℕ → ℕ → ℝ} {T o : ℕ} {v : S256x1024.Idx → EReal} (h : At (T * 512 + o) v f) (inb) (x : S256x1024.Idx) :
    v x = GB f T ((Rect.unit (s := S512x1024) ![o, 0] ![256, 1024] inb).emb x) := by
  rw [h x]
  unfold GB
  refine f2 f ?_ ?_
  · rw [emb_val]; show T * 512 + o + (x 0).val = T * 512 + (o + (x 0).val); omega
  · rw [emb_val]; show (x 1).val = 0 + (x 1).val; omega
theorem pcY {f : ℕ → ℕ → ℝ} {T o : ℕ} {v : S256x2048.Idx → EReal} (h : ∀ i, v i = ((f (T * 512 + o + (i 0).val) (i 1).val : ℝ) : EReal)) (inb) (x : S256x2048.Idx) :
    v x = GY f T ((Rect.unit (s := S512x2048) ![o, 0] ![256, 2048] inb).emb x) := by
  rw [h x]
  unfold GY
  refine f2 f ?_ ?_
  · rw [emb_val]; show T * 512 + o + (x 0).val = T * 512 + (o + (x 0).val); omega
  · rw [emb_val]; show (x 1).val = 0 + (x 1).val; omega

/-- Rows `o` and the following of a tile's block. -/
theorem ld_rows {n : ℕ} {f : ℕ → ℕ → ℝ} {T o : ℕ} {R : (⟨2, ![512, n]⟩ : Shape).Idx → EReal} (h : ∀ i, R i = ((f (T * 512 + (i 0).val) (i 1).val : ℝ) : EReal))
    (inb) (x : (⟨2, ![256, n]⟩ : Shape).Idx) :
    View.ld (e' := .f32) (Val := Elt Ideal) R (Rect.unit (s := ⟨2, ![512, n]⟩) ![o, 0] ![256, n] inb) x = ((f (T * 512 + o + (x 0).val) (x 1).val : ℝ) : EReal) := by
  show R ((Rect.unit (s := ⟨2, ![512, n]⟩) ![o, 0] ![256, n] inb).emb x) = _
  rw [h]
  refine f2 f ?_ ?_
  · rw [emb_val]; show T * 512 + (o + (x 0).val) = T * 512 + o + (x 0).val; omega
  · rw [emb_val]; show 0 + (x 1).val = (x 1).val; omega

variable (m : (ℓ : Loc nD τ Cert.Kernel3Ideal.sig) → Buf (Elt Ideal) ℓ) (c : Dev nD)

/-- The blocks a point reads hold the data of tile `T`. -/
structure PIn (D : Data) (T : ℕ) (t : Fin cfg0.N) : Prop where
  h0 : ∀ i : S512x1024.Idx, (iblk m c 0 t : S512x1024.Idx → EReal) i = ((D.X (T * 512 + (i 0).val) (i 1).val : ℝ) : EReal)
  h1 : ∀ i : S512x2048.Idx, (iblk m c 1 t : S512x2048.Idx → EReal) i = ((D.Y (T * 512 + (i 0).val) (i 1).val : ℝ) : EReal)
  h2 : ∀ i : S512x256.Idx, (iblk m c 2 t : S512x256.Idx → EReal) i = ((D.P (T * 512 + (i 0).val) (i 1).val : ℝ) : EReal)
  h3 : ∀ i : S512x1024.Idx, (iblk m c 3 t : S512x1024.Idx → EReal) i = ((D.T (T * 512 + (i 0).val) (i 1).val : ℝ) : EReal)
  h4 : ∀ i : S2048x1024.Idx, (iblk m c 4 t : S2048x1024.Idx → EReal) i = ((D.WO (i 0).val (i 1).val : ℝ) : EReal)
  h5 : ∀ i : S1024x1024.Idx, (iblk m c 5 t : S1024x1024.Idx → EReal) i = ((D.GW (i 0).val (i 1).val : ℝ) : EReal)
  h6 : ∀ i : S256x1024.Idx, (iblk m c 6 t : S256x1024.Idx → EReal) i = ((D.PW (i 0).val (i 1).val : ℝ) : EReal)
  h7 : ∀ i : S1x1024.Idx, (iblk m c 7 t : S1x1024.Idx → EReal) i = ((D.G (i 1).val : ℝ) : EReal)
  h8 : ∀ i : S1x1024.Idx, (iblk m c 8 t : S1x1024.Idx → EReal) i = ((D.B (i 1).val : ℝ) : EReal)
  h9 : ∀ i : S1x1024.Idx, (iblk m c 9 t : S1x1024.Idx → EReal) i = ((D.GB (i 1).val : ℝ) : EReal)

variable {m c}
variable {D : Data} {T : ℕ} {t : Fin cfg0.N}

theorem PIn.half (X : PIn m c D T t) (o : ℕ) (i0 i1 i2 i3) : Half D (T * 512 + o)
    (View.ld (iblk m c 0 t) (Rect.unit (s := S512x1024) ![o, 0] ![256, 1024] i0)) (View.ld (iblk m c 1 t) (Rect.unit (s := S512x2048) ![o, 0] ![256, 2048] i1))
    (View.ld (iblk m c 2 t) (Rect.unit (s := S512x256) ![o, 0] ![256, 256] i2)) (View.ld (iblk m c 3 t) (Rect.unit (s := S512x1024) ![o, 0] ![256, 1024] i3))
    (iblk m c 4 t) (iblk m c 5 t) (iblk m c 6 t) (iblk m c 7 t) (iblk m c 8 t) (iblk m c 9 t) where
  hx := ld_rows X.h0 i0
  hy := ld_rows X.h1 i1
  hp := ld_rows X.h2 i2
  ht := ld_rows X.h3 i3
  hwo := X.h4
  hgw := X.h5
  hpw := X.h6
  hlg := X.h7
  hlb := X.h8
  hgb := X.h9

/-- The first and the second half of a point's tile. -/
abbrev PIn.fst (X : PIn m c D T t) := X.half 0 inb_S512x1024_S256x1024_0_0 inb_S512x2048_S256x2048_0_0 inb_S512x256_S256x256_0_0 inb_S512x1024_S256x1024_0_0
abbrev PIn.snd (X : PIn m c D T t) := X.half 256 inb_S512x1024_S256x1024_256_0 inb_S512x2048_S256x2048_256_0 inb_S512x256_S256x256_256_0 inb_S512x1024_S256x1024_256_0

end Head.K
-- ==== Proof.HeadRef.lean ====
/-
  The reference of the head, stage by stage: over real arguments each is the real function of `HeadSpec.lean`.
-/
module

public import proofs.«01_k».proof.Proof.HeadSpec
public import proofs.«01_k».proof.Proof.RefOps
public import proofs.«01_k».proof.Proof.Gen.Reference3Ideal.Read

@[expose] public section

set_option maxRecDepth 16384

noncomputable section

namespace Head.R

open Cert.Reference3Ideal Cert.Reference3Ideal.Read Idealize.ShloMosaic
open Mixers (sig EPS coe_sum div_real rsqrt_real coe_sub' coe_add' coe_mul' coe_neg' one_add_exp_ne)
open Mixers.R (smul sadd ssub sneg sdiv sexp srsqrt c_zero c_one c_two c_eps c_half c_neg_half exp_real)
open scoped BigOperators

abbrev T (s : Shape) := (⟨s, .f32⟩ : BufTy).Contents (Elt Ideal)

/-- The reference's arguments hold the data. -/
structure Args (D : Data) (x0 : T S8192x1024) (x1 : T S8192x2048) (x2 : T S8192x256) (x3 : T S8192x1024) (x4 : T S1x2048x1024)
    (x5 : T S1x1024x1024) (x6 : T S1x256x1024) (x7 x8 x9 : T S1x1024) : Prop where
  h0 : ∀ i, x0 i = ((D.X (i 0).val (i 1).val : ℝ) : EReal)
  h1 : ∀ i, x1 i = ((D.Y (i 0).val (i 1).val : ℝ) : EReal)
  h2 : ∀ i, x2 i = ((D.P (i 0).val (i 1).val : ℝ) : EReal)
  h3 : ∀ i, x3 i = ((D.T (i 0).val (i 1).val : ℝ) : EReal)
  h4 : ∀ i, x4 i = ((D.WO (i 1).val (i 2).val : ℝ) : EReal)
  h5 : ∀ i, x5 i = ((D.GW (i 1).val (i 2).val : ℝ) : EReal)
  h6 : ∀ i, x6 i = ((D.PW (i 1).val (i 2).val : ℝ) : EReal)
  h7 : ∀ i, x7 i = ((D.G (i 1).val : ℝ) : EReal)
  h8 : ∀ i, x8 i = ((D.B (i 1).val : ℝ) : EReal)
  h9 : ∀ i, x9 i = ((D.GB (i 1).val : ℝ) : EReal)

theorem strunc {φ ψ : FTy} (h : ψ.bits < φ.bits) (a : Ideal φ) : (FloatOps.truncf ψ h a : Ideal ψ) = (show EReal from a) := rfl
theorem c_1024 : (FloatOps.ofBits .f32 0x44800000#32 : Ideal .f32) = ((1024 : ℝ) : EReal) := by
  show Ideal.ofBits .f32 0x44800000#32 = _; simp [Ideal.ofBits, Ideal.ieee, -EReal.coe_mul]; norm_num
theorem c_al : (FloatOps.ofBits .f32 0x3F9837F0#32 : Ideal .f32) = ((AL : ℝ) : EReal) := by
  show Ideal.ofBits .f32 0x3F9837F0#32 = _; simp [Ideal.ofBits, Ideal.ieee, -EReal.coe_mul, AL]; norm_num
theorem div1024 (a : ℝ) : Ideal.div (a : EReal) ((1024 : ℝ) : EReal) = ((a / 1024 : ℝ) : EReal) := div_real _ _ (by norm_num)
theorem f1 (f : ℕ → ℝ) {a a' : ℕ} (ha : a = a') : f a = f a' := by rw [ha]
theorem f2 (f : ℕ → ℕ → ℝ) {a b a' b' : ℕ} (ha : a = a') (hb : b = b') : f a b = f a' b' := by rw [ha, hb]

/-- A sum over the places of a line. -/
theorem sum_line (f : ℕ → EReal) : ∑ j : S8192.Idx, f (j 0).val = ∑ k : Fin 8192, f k.val :=
  Fintype.sum_equiv ⟨fun j => j 0, fun k => fun a => match a with | ⟨0, _⟩ => k, fun j => by funext a; match a with | ⟨0, _⟩ => rfl, fun _ => rfl⟩ _ _ fun _ => rfl

theorem xc_sum (D : Data) (s : ℕ) : ∑ k : Fin 1024, xc D s k.val = 0 := by
  unfold xc mu
  rw [Finset.sum_sub_distrib, Finset.sum_const, Finset.card_univ, Fintype.card_fin, nsmul_eq_mul]
  push_cast
  ring

/-- The gradient of a row's norm, as the reference takes it and in the usual form. -/
theorem ln_vjp (x d : Fin 1024 → ℝ) (v : ℝ) (hv : 0 < v) (hx : ∑ k, x k = 0) (k : Fin 1024) :
    d k * (Real.sqrt v)⁻¹ + (∑ q, x q * d q) * (-(1 / 2) * ((Real.sqrt v)⁻¹ / v)) / 1024 * (2 * x k)
        + ((∑ q, -(d q * (Real.sqrt v)⁻¹)) + ∑ q, -((∑ p, x p * d p) * (-(1 / 2) * ((Real.sqrt v)⁻¹ / v)) / 1024 * (2 * x q))) / 1024
      = (Real.sqrt v)⁻¹ * (d k - (∑ q, d q) / 1024 - x k * (Real.sqrt v)⁻¹ * ((∑ q, d q * (x q * (Real.sqrt v)⁻¹)) / 1024)) := by
  have hr : (Real.sqrt v)⁻¹ / v = (Real.sqrt v)⁻¹ * ((Real.sqrt v)⁻¹ * (Real.sqrt v)⁻¹) := by
    rw [← mul_inv (Real.sqrt v) (Real.sqrt v), Real.mul_self_sqrt hv.le, div_eq_mul_inv]
  rw [hr]
  generalize (Real.sqrt v)⁻¹ = r
  have e1 : ∑ q, -(d q * r) = -((∑ q, d q) * r) := by rw [Finset.sum_neg_distrib, Finset.sum_mul]
  have e2 : ∀ c : ℝ, ∑ q, -(c * (2 * x q)) = 0 := fun c => by
    rw [Finset.sum_neg_distrib, ← Finset.mul_sum, ← Finset.mul_sum, hx]; ring
  have e3 : ∑ q, d q * (x q * r) = (∑ q, x q * d q) * r := by
    rw [Finset.sum_mul]; exact Finset.sum_congr rfl fun q _ => by ring
  rw [e1, e2, e3]
  ring

theorem v0 (i : S8192x1024.Idx) : val_main_v0 (F := Ideal) i = ((0 : ℝ) : EReal) := by
  simp only [val_main_v0_apply, val_main_cst_apply, c_zero]

variable {D : Data} {x0 : T S8192x1024} {x1 : T S8192x2048} {x2 : T S8192x256} {x3 : T S8192x1024} {x4 : T S1x2048x1024}
  {x5 : T S1x1024x1024} {x6 : T S1x256x1024} {x7 x8 x9 : T S1x1024} (A : Args D x0 x1 x2 x3 x4 x5 x6 x7 x8 x9)
include A
theorem v1 (i : S1024.Idx) : val_main_v1 (F := Ideal) x7 i = ((D.G (i 0).val : ℝ) : EReal) := by
  rw [val_main_v1_apply, A.h7]
  have h0 : (i 0).val < 1024 := (i 0).isLt
  refine congrArg Real.toEReal (f1 D.G ?_)
  · show (i 0).val % 1024 = (i 0).val
    omega
theorem v2 (i : S1024.Idx) : val_main_v2 (F := Ideal) x8 i = ((D.B (i 0).val : ℝ) : EReal) := by
  rw [val_main_v2_apply, A.h8]
  have h0 : (i 0).val < 1024 := (i 0).isLt
  refine congrArg Real.toEReal (f1 D.B ?_)
  · show (i 0).val % 1024 = (i 0).val
    omega
theorem v3 (i : S1024.Idx) : val_main_v3 (F := Ideal) x9 i = ((D.GB (i 0).val : ℝ) : EReal) := by
  rw [val_main_v3_apply, A.h9]
  have h0 : (i 0).val < 1024 := (i 0).isLt
  refine congrArg Real.toEReal (f1 D.GB ?_)
  · show (i 0).val % 1024 = (i 0).val
    omega
theorem v6 (i : S2048x1024.Idx) : val_main_v6 (F := Ideal) x4 i = ((D.WO (i 0).val (i 1).val : ℝ) : EReal) := by
  rw [val_main_v6_apply, A.h4]
  have h0 : (i 0).val < 2048 := (i 0).isLt
  have h1 : (i 1).val < 1024 := (i 1).isLt
  refine congrArg Real.toEReal (f2 D.WO ?_ ?_)
  · show ((i 0).val * 1024 + (i 1).val) / 1024 % 2048 = (i 0).val
    omega
  · show ((i 0).val * 1024 + (i 1).val) % 1024 = (i 1).val
    omega
theorem v9 (i : S8192x1024.Idx) : val_main_v9 (F := Ideal) x0 x1 x4 i = ((r D (i 0).val (i 1).val : ℝ) : EReal) := by
  simp only [val_main_v9_apply, val_main_v8_apply, val_main_v5_apply, val_main_v4_apply, val_main_cst_0_apply, val_main_v7_apply, v6 A, v0, A.h0, A.h1, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v13 (i : S8192x1.Idx) : val_main_v13 (F := Ideal) x0 x1 x4 i = ((mu D (i 0).val : ℝ) : EReal) := by
  simp only [val_main_v13_apply, val_main_v11_apply, val_main_v10_apply, val_main_cst_1_apply, val_main_v12_apply, val_main_cst_2_apply, v9 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v15 (i : S8192x1024.Idx) : val_main_v15 (F := Ideal) x0 x1 x4 i = ((xc D (i 0).val (i 1).val : ℝ) : EReal) := by
  simp only [val_main_v15_apply, val_main_v14_apply, v9 A, v13 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v18 (i : S8192x1024.Idx) : val_main_v18 (F := Ideal) x0 x1 x4 i = ((2 * xc D (i 0).val (i 1).val : ℝ) : EReal) := by
  simp only [val_main_v18_apply, val_main_v17_apply, val_main_cst_3_apply, v15 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v24 (i : S8192x1024.Idx) : val_main_v24 (F := Ideal) x0 x1 x4 i = ((xc D (i 0).val (i 1).val : ℝ) : EReal) := by
  simp only [val_main_v24_apply, val_main_v23_apply, v9 A, v13 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v26 (i : S8192x1.Idx) : val_main_v26 (F := Ideal) x0 x1 x4 i = ((var D (i 0).val + EPS : ℝ) : EReal) := by
  simp only [val_main_v26_apply, val_main_v22_apply, val_main_v20_apply, val_main_v19_apply, val_main_cst_4_apply, val_main_v16_apply, val_main_v21_apply, val_main_cst_5_apply, val_main_v25_apply, val_main_cst_6_apply, v15 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v27 (i : S8192x1.Idx) : val_main_v27 (F := Ideal) x0 x1 x4 i = ((rstd D (i 0).val : ℝ) : EReal) := by
  rw [val_main_v27_apply, v26 A, srsqrt]
  exact rsqrt_real _ (var_pos D _)
theorem v30 (i : S8192x1.Idx) : val_main_v30 (F := Ideal) x0 x1 x4 i = ((-(1 / 2) * (rstd D (i 0).val / (var D (i 0).val + EPS)) : ℝ) : EReal) := by
  rw [val_main_v30_apply, val_main_v29_apply, val_main_cst_7_apply, val_main_v28_apply, v27 A, v26 A, sdiv, div_real _ _ (var_pos D _).ne', smul, c_neg_half, coe_mul']
theorem v32 (i : S8192x1024.Idx) : val_main_v32 (F := Ideal) x0 x1 x4 i = ((xhat D (i 0).val (i 1).val : ℝ) : EReal) := by
  simp only [val_main_v32_apply, val_main_v31_apply, v24 A, v27 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v33 (i : S1x1024.Idx) : val_main_v33 (F := Ideal) x7 i = ((D.G (i 1).val : ℝ) : EReal) := by
  simp only [val_main_v33_apply, v1 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v38 (i : S8192x1024.Idx) : val_main_v38 (F := Ideal) x0 x1 x4 x7 x8 i = ((xn D (i 0).val (i 1).val : ℝ) : EReal) := by
  simp only [val_main_v38_apply, val_main_v35_apply, val_main_v34_apply, val_main_v37_apply, val_main_v36_apply, v32 A, v33 A, v2 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v39 (i : S1024x1024.Idx) : val_main_v39 (F := Ideal) x5 i = ((D.GW (i 0).val (i 1).val : ℝ) : EReal) := by
  rw [val_main_v39_apply, A.h5]
  have h0 : (i 0).val < 1024 := (i 0).isLt
  have h1 : (i 1).val < 1024 := (i 1).isLt
  refine congrArg Real.toEReal (f2 D.GW ?_ ?_)
  · show ((i 0).val * 1024 + (i 1).val) / 1024 % 1024 = (i 0).val
    omega
  · show ((i 0).val * 1024 + (i 1).val) % 1024 = (i 1).val
    omega
theorem v44 (i : S8192x1024.Idx) : val_main_v44 (F := Ideal) x0 x1 x4 x5 x7 x8 x9 i = (((∑ k : Fin 1024, xn D (i 0).val k * D.GW k (i 1).val) + D.GB (i 1).val : ℝ) : EReal) := by
  simp only [val_main_v44_apply, val_main_v43_apply, val_main_v40_apply, val_main_v42_apply, val_main_v41_apply, v38 A, v39 A, v3 A, v0, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v48 (i : S8192x1024.Idx) : val_main_v48 (F := Ideal) x0 x1 x4 x5 x7 x8 x9 i = ((1 + Real.exp (-((∑ k : Fin 1024, xn D (i 0).val k * D.GW k (i 1).val) + D.GB (i 1).val)) : ℝ) : EReal) := by
  simp only [val_main_v48_apply, val_main_v47_apply, val_main_cst_8_apply, val_main_v46_apply, val_main_v45_apply, v44 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v50 (i : S8192x1024.Idx) : val_main_v50 (F := Ideal) x0 x1 x4 x5 x7 x8 x9 i = ((gate D (i 0).val (i 1).val : ℝ) : EReal) := by
  rw [val_main_v50_apply, val_main_v49_apply, val_main_cst_9_apply, v48 A, sdiv, c_one, div_real _ _ (one_add_exp_ne _)]
  rfl
theorem v53 (i : S8192x1024.Idx) : val_main_v53 (F := Ideal) x0 x1 x4 x5 x7 x8 x9 i = ((gate D (i 0).val (i 1).val * (1 - gate D (i 0).val (i 1).val) : ℝ) : EReal) := by
  simp only [val_main_v53_apply, val_main_v52_apply, val_main_v51_apply, val_main_cst_10_apply, v50 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v54 (i : S256x1024.Idx) : val_main_v54 (F := Ideal) x6 i = ((D.PW (i 0).val (i 1).val : ℝ) : EReal) := by
  rw [val_main_v54_apply, A.h6]
  have h0 : (i 0).val < 256 := (i 0).isLt
  have h1 : (i 1).val < 1024 := (i 1).isLt
  refine congrArg Real.toEReal (f2 D.PW ?_ ?_)
  · show ((i 0).val * 1024 + (i 1).val) / 1024 % 256 = (i 0).val
    omega
  · show ((i 0).val * 1024 + (i 1).val) % 1024 = (i 1).val
    omega
theorem v56 (i : S8192x1024.Idx) : val_main_v56 (F := Ideal) x2 x6 i = ((pe D (i 0).val (i 1).val : ℝ) : EReal) := by
  simp only [val_main_v56_apply, val_main_v55_apply, v54 A, v0, A.h2, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v59 (i : S8192x1024.Idx) : val_main_v59 (F := Ideal) x0 x1 x2 x3 x4 x5 x6 x7 x8 x9 i = ((err D (i 0).val (i 1).val : ℝ) : EReal) := by
  simp only [val_main_v59_apply, val_main_v58_apply, val_main_v57_apply, v38 A, v50 A, v56 A, A.h3, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v62 (i : S8192x1024.Idx) : val_main_v62 (F := Ideal) x0 x1 x2 x3 x4 x5 x6 x7 x8 x9 i = ((2 * err D (i 0).val (i 1).val : ℝ) : EReal) := by
  simp only [val_main_v62_apply, val_main_v61_apply, val_main_cst_11_apply, v59 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v65 (i : S8192.Idx) : val_main_v65 (F := Ideal) x0 x1 x2 x3 x4 x5 x6 x7 x8 x9 i = ((sq D (i 0).val / 1024 : ℝ) : EReal) := by
  simp only [val_main_v65_apply, val_main_v63_apply, val_main_cst_12_apply, val_main_v60_apply, val_main_v64_apply, val_main_cst_13_apply, v59 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v67 (i : S_.Idx) : val_main_v67 (F := Ideal) x0 x1 x2 x3 x4 x5 x6 x7 x8 x9 i = ((loss D : ℝ) : EReal) := by
  simp only [val_main_v67_apply, val_main_v66_apply, val_main_cst_14_apply, val_main_cst_15_apply, v65 A, smul, c_zero, c_half, EReal.coe_zero, zero_add]
  rw [sum_line fun s => ((sq D s / 1024 : ℝ) : EReal)]
  simp only [coe_sum, coe_mul']
  refine congrArg Real.toEReal ?_
  unfold loss
  rw [Finset.mul_sum]
  exact Finset.sum_congr rfl fun k _ => by ring
theorem v72 (i : S8192x1024.Idx) : val_main_v72 (F := Ideal) i = ((1 / 2 * 1 / 1024 : ℝ) : EReal) := by
  simp only [val_main_v72_apply, val_main_v71_apply, val_main_v69_apply, val_main_v68_apply, val_main_cst_16_apply, val_main_cst_17_apply, val_main_v70_apply, val_main_cst_18_apply, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v73 (i : S8192x1024.Idx) : val_main_v73 (F := Ideal) x0 x1 x2 x3 x4 x5 x6 x7 x8 x9 i = ((dout D (i 0).val (i 1).val : ℝ) : EReal) := by
  simp only [val_main_v73_apply, v72 A, v62 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  refine congrArg Real.toEReal ?_
  unfold dout
  ring
theorem v74 (i : S8192x1024.Idx) : val_main_v74 (F := Ideal) x0 x1 x2 x3 x4 x5 x6 x7 x8 x9 i = ((dpe D (i 0).val (i 1).val : ℝ) : EReal) := by
  simp only [val_main_v74_apply, v50 A, v73 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  refine congrArg Real.toEReal ?_
  unfold dpe
  ring
theorem v76 (i : S8192x1024.Idx) : val_main_v76 (F := Ideal) x0 x1 x2 x3 x4 x5 x6 x7 x8 x9 i = ((dgp D (i 0).val (i 1).val : ℝ) : EReal) := by
  simp only [val_main_v76_apply, val_main_v75_apply, v73 A, v56 A, v53 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  refine congrArg Real.toEReal ?_
  unfold dgp
  ring
theorem v77 (i : S1024.Idx) : val_main_v77 (F := Ideal) x0 x1 x2 x3 x4 x5 x6 x7 x8 x9 i = ((dgb D (i 0).val : ℝ) : EReal) := by
  simp only [val_main_v77_apply, val_main_cst_19_apply, v76 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v78 (i : S1x1024.Idx) : val_main_v78 (F := Ideal) x0 x1 x2 x3 x4 x5 x6 x7 x8 x9 i = ((dgb D (i 1).val : ℝ) : EReal) := by
  rw [val_main_v78_apply, v77 A]
  have h0 : (i 0).val < 1 := (i 0).isLt
  have h1 : (i 1).val < 1024 := (i 1).isLt
  refine congrArg Real.toEReal (f1 (dgb D) ?_)
  · show (i 0).val * 1024 + (i 1).val = (i 1).val
    omega
theorem v79 (i : S1024.Idx) : val_main_v79 (F := Ideal) x0 x1 x2 x3 x4 x5 x6 x7 x8 x9 i = ((dgb D (i 0).val : ℝ) : EReal) := by
  simp only [val_main_v79_apply, val_main_cst_20_apply, v78 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  simp only [Finset.univ_unique, Finset.sum_singleton]
  all_goals rfl
theorem v81 (i : S8192x1024.Idx) : val_main_v81 (F := Ideal) x0 x1 x2 x3 x4 x5 x6 x7 x8 x9 i = ((dxn D (i 0).val (i 1).val : ℝ) : EReal) := by
  simp only [val_main_v81_apply, val_main_v80_apply, v73 A, v76 A, v39 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v82 (i : S1024.Idx) : val_main_v82 (F := Ideal) x0 x1 x2 x3 x4 x5 x6 x7 x8 x9 i = ((db D (i 0).val : ℝ) : EReal) := by
  simp only [val_main_v82_apply, val_main_cst_21_apply, v81 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v83 (i : S1x1024.Idx) : val_main_v83 (F := Ideal) x0 x1 x2 x3 x4 x5 x6 x7 x8 x9 i = ((db D (i 1).val : ℝ) : EReal) := by
  rw [val_main_v83_apply, v82 A]
  have h0 : (i 0).val < 1 := (i 0).isLt
  have h1 : (i 1).val < 1024 := (i 1).isLt
  refine congrArg Real.toEReal (f1 (db D) ?_)
  · show (i 0).val * 1024 + (i 1).val = (i 1).val
    omega
theorem v84 (i : S1024.Idx) : val_main_v84 (F := Ideal) x0 x1 x2 x3 x4 x5 x6 x7 x8 x9 i = ((db D (i 0).val : ℝ) : EReal) := by
  simp only [val_main_v84_apply, val_main_cst_22_apply, v83 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  simp only [Finset.univ_unique, Finset.sum_singleton]
  all_goals rfl
theorem v86 (i : S1024.Idx) : val_main_v86 (F := Ideal) x0 x1 x2 x3 x4 x5 x6 x7 x8 x9 i = ((dg D (i 0).val : ℝ) : EReal) := by
  simp only [val_main_v86_apply, val_main_cst_23_apply, val_main_v85_apply, v32 A, v81 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  refine congrArg Real.toEReal ?_
  unfold dg
  exact Finset.sum_congr rfl fun k _ => mul_comm _ _
theorem v87 (i : S1x1024.Idx) : val_main_v87 (F := Ideal) x0 x1 x2 x3 x4 x5 x6 x7 x8 x9 i = ((dg D (i 1).val : ℝ) : EReal) := by
  rw [val_main_v87_apply, v86 A]
  have h0 : (i 0).val < 1 := (i 0).isLt
  have h1 : (i 1).val < 1024 := (i 1).isLt
  refine congrArg Real.toEReal (f1 (dg D) ?_)
  · show (i 0).val * 1024 + (i 1).val = (i 1).val
    omega
theorem v90 (i : S1024.Idx) : val_main_v90 (F := Ideal) x0 x1 x2 x3 x4 x5 x6 x7 x8 x9 i = ((dg D (i 0).val : ℝ) : EReal) := by
  simp only [val_main_v90_apply, val_main_cst_24_apply, v87 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  simp only [Finset.univ_unique, Finset.sum_singleton]
  all_goals rfl
theorem v89 (i : S8192x1024.Idx) : val_main_v89 (F := Ideal) x0 x1 x2 x3 x4 x5 x6 x7 x8 x9 i = ((dxh D (i 0).val (i 1).val : ℝ) : EReal) := by
  simp only [val_main_v89_apply, val_main_v88_apply, v81 A, v33 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v92 (i : S8192.Idx) : val_main_v92 (F := Ideal) x0 x1 x2 x3 x4 x5 x6 x7 x8 x9 i = (((∑ k : Fin 1024, xc D (i 0).val k * dxh D (i 0).val k) : ℝ) : EReal) := by
  simp only [val_main_v92_apply, val_main_cst_25_apply, val_main_v91_apply, v24 A, v89 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v93 (i : S8192x1.Idx) : val_main_v93 (F := Ideal) x0 x1 x2 x3 x4 x5 x6 x7 x8 x9 i = (((∑ k : Fin 1024, xc D (i 0).val k * dxh D (i 0).val k) : ℝ) : EReal) := by
  rw [val_main_v93_apply, v92 A]
  have h0 : (i 0).val < 8192 := (i 0).isLt
  have h1 : (i 1).val < 1 := (i 1).isLt
  refine congrArg Real.toEReal (f1 (fun s => ∑ k : Fin 1024, xc D s k * dxh D s k) ?_)
  · show (i 0).val * 1 + (i 1).val = (i 0).val
    omega
theorem v95 (i : S8192x1024.Idx) : val_main_v95 (F := Ideal) x0 x1 x2 x3 x4 x5 x6 x7 x8 x9 i = ((dxh D (i 0).val (i 1).val * rstd D (i 0).val : ℝ) : EReal) := by
  simp only [val_main_v95_apply, val_main_v94_apply, v89 A, v27 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v98 (i : S8192.Idx) : val_main_v98 (F := Ideal) x0 x1 x2 x3 x4 x5 x6 x7 x8 x9 i = ((∑ q : Fin 1024, -(dxh D (i 0).val q * rstd D (i 0).val) : ℝ) : EReal) := by
  simp only [val_main_v98_apply, val_main_cst_26_apply, val_main_v97_apply, v95 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v99 (i : S8192x1.Idx) : val_main_v99 (F := Ideal) x0 x1 x2 x3 x4 x5 x6 x7 x8 x9 i = ((∑ q : Fin 1024, -(dxh D (i 0).val q * rstd D (i 0).val) : ℝ) : EReal) := by
  rw [val_main_v99_apply, v98 A]
  have h0 : (i 0).val < 8192 := (i 0).isLt
  have h1 : (i 1).val < 1 := (i 1).isLt
  refine congrArg Real.toEReal (f1 (fun s => ∑ q : Fin 1024, -(dxh D s q * rstd D s)) ?_)
  · show (i 0).val * 1 + (i 1).val = (i 0).val
    omega
theorem v101 (i : S8192x1.Idx) : val_main_v101 (F := Ideal) x0 x1 x2 x3 x4 x5 x6 x7 x8 x9 i = (((∑ k : Fin 1024, xc D (i 0).val k * dxh D (i 0).val k) * (-(1 / 2) * (rstd D (i 0).val / (var D (i 0).val + EPS))) / 1024 : ℝ) : EReal) := by
  simp only [val_main_v101_apply, val_main_v96_apply, val_main_v100_apply, val_main_cst_27_apply, v93 A, v30 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v102 (i : S8192.Idx) : val_main_v102 (F := Ideal) x0 x1 x2 x3 x4 x5 x6 x7 x8 x9 i = (((∑ k : Fin 1024, xc D (i 0).val k * dxh D (i 0).val k) * (-(1 / 2) * (rstd D (i 0).val / (var D (i 0).val + EPS))) / 1024 : ℝ) : EReal) := by
  simp only [val_main_v102_apply, val_main_cst_28_apply, v101 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  simp only [Finset.univ_unique, Finset.sum_singleton]
  all_goals rfl
theorem v104 (i : S8192x1024.Idx) : val_main_v104 (F := Ideal) x0 x1 x2 x3 x4 x5 x6 x7 x8 x9 i = (((∑ k : Fin 1024, xc D (i 0).val k * dxh D (i 0).val k) * (-(1 / 2) * (rstd D (i 0).val / (var D (i 0).val + EPS))) / 1024 * (2 * xc D (i 0).val (i 1).val) : ℝ) : EReal) := by
  simp only [val_main_v104_apply, val_main_v103_apply, v102 A, v18 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v106 (i : S8192.Idx) : val_main_v106 (F := Ideal) x0 x1 x2 x3 x4 x5 x6 x7 x8 x9 i = ((∑ q : Fin 1024, -((∑ k : Fin 1024, xc D (i 0).val k * dxh D (i 0).val k) * (-(1 / 2) * (rstd D (i 0).val / (var D (i 0).val + EPS))) / 1024 * (2 * xc D (i 0).val q)) : ℝ) : EReal) := by
  simp only [val_main_v106_apply, val_main_cst_29_apply, val_main_v105_apply, v104 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v107 (i : S8192x1.Idx) : val_main_v107 (F := Ideal) x0 x1 x2 x3 x4 x5 x6 x7 x8 x9 i = ((∑ q : Fin 1024, -((∑ k : Fin 1024, xc D (i 0).val k * dxh D (i 0).val k) * (-(1 / 2) * (rstd D (i 0).val / (var D (i 0).val + EPS))) / 1024 * (2 * xc D (i 0).val q)) : ℝ) : EReal) := by
  rw [val_main_v107_apply, v106 A]
  have h0 : (i 0).val < 8192 := (i 0).isLt
  have h1 : (i 1).val < 1 := (i 1).isLt
  refine congrArg Real.toEReal (f1 (fun s => ∑ q : Fin 1024, -((∑ k : Fin 1024, xc D s k * dxh D s k) * (-(1 / 2) * (rstd D s / (var D s + EPS))) / 1024 * (2 * xc D s q))) ?_)
  · show (i 0).val * 1 + (i 1).val = (i 0).val
    omega
theorem v111 (i : S8192x1.Idx) : val_main_v111 (F := Ideal) x0 x1 x2 x3 x4 x5 x6 x7 x8 x9 i = ((((∑ q : Fin 1024, -(dxh D (i 0).val q * rstd D (i 0).val)) + ∑ q : Fin 1024, -((∑ k : Fin 1024, xc D (i 0).val k * dxh D (i 0).val k) * (-(1 / 2) * (rstd D (i 0).val / (var D (i 0).val + EPS))) / 1024 * (2 * xc D (i 0).val q))) / 1024 : ℝ) : EReal) := by
  simp only [val_main_v111_apply, val_main_v109_apply, val_main_v110_apply, val_main_cst_30_apply, v99 A, v107 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v112 (i : S8192.Idx) : val_main_v112 (F := Ideal) x0 x1 x2 x3 x4 x5 x6 x7 x8 x9 i = ((((∑ q : Fin 1024, -(dxh D (i 0).val q * rstd D (i 0).val)) + ∑ q : Fin 1024, -((∑ k : Fin 1024, xc D (i 0).val k * dxh D (i 0).val k) * (-(1 / 2) * (rstd D (i 0).val / (var D (i 0).val + EPS))) / 1024 * (2 * xc D (i 0).val q))) / 1024 : ℝ) : EReal) := by
  simp only [val_main_v112_apply, val_main_cst_31_apply, v111 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  simp only [Finset.univ_unique, Finset.sum_singleton]
  all_goals rfl
theorem v114 (i : S8192x1024.Idx) : val_main_v114 (F := Ideal) x0 x1 x2 x3 x4 x5 x6 x7 x8 x9 i = ((dr D (i 0).val (i 1).val : ℝ) : EReal) := by
  simp only [val_main_v114_apply, val_main_v108_apply, val_main_v113_apply, v95 A, v104 A, v112 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  refine congrArg Real.toEReal ?_
  unfold dr m1 m2 xhat
  exact ln_vjp (fun k => xc D (i 0).val k.val) (fun k => dxh D (i 0).val k.val) _ (var_pos D _) (xc_sum D _) ⟨(i 1).val, (i 1).isLt⟩
theorem v115 (i : S8192x2048.Idx) : val_main_v115 (F := Ideal) x0 x1 x2 x3 x4 x5 x6 x7 x8 x9 i = ((dy D (i 0).val (i 1).val : ℝ) : EReal) := by
  simp only [val_main_v115_apply, v114 A, v6 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v117 (i : S8192x1024.Idx) : val_main_v117 (F := Ideal) x0 x1 x2 x3 x4 x5 x6 x7 x8 x9 i = ((dx D (i 0).val (i 1).val : ℝ) : EReal) := by
  simp only [val_main_v117_apply, val_main_v116_apply, val_main_cst_32_apply, v114 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v118 (i : S8192x1024.Idx) : val_main_v118 (F := Ideal) x0 x1 x4 x7 x8 i = ((xn D (i 0).val (i 1).val : ℝ) : EReal) := by
  simp only [val_main_v118_apply, v38 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v119 (i : S8192x1024.Idx) : val_main_v119 (F := Ideal) x0 x1 x2 x3 x4 x5 x6 x7 x8 x9 i = ((dgp D (i 0).val (i 1).val : ℝ) : EReal) := by
  simp only [val_main_v119_apply, v76 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v120 (i : S8192x1024.Idx) : val_main_v120 (F := Ideal) x0 x1 x2 x3 x4 x5 x6 x7 x8 x9 i = ((dpe D (i 0).val (i 1).val : ℝ) : EReal) := by
  simp only [val_main_v120_apply, v74 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v121 (i : S8192x1024.Idx) : val_main_v121 (F := Ideal) x0 x1 x2 x3 x4 x5 x6 x7 x8 x9 i = ((dr D (i 0).val (i 1).val : ℝ) : EReal) := by
  simp only [val_main_v121_apply, v114 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v122 (i : S1x128.Idx) : val_main_v122 (F := Ideal) x0 x1 x2 x3 x4 x5 x6 x7 x8 x9 i = ((loss D : ℝ) : EReal) := by
  simp only [val_main_v122_apply, v67 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v123 (i : S1x1024.Idx) : val_main_v123 (F := Ideal) x0 x1 x2 x3 x4 x5 x6 x7 x8 x9 i = ((dg D (i 1).val : ℝ) : EReal) := by
  simp only [val_main_v123_apply, v90 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v124 (i : S1x1024.Idx) : val_main_v124 (F := Ideal) x0 x1 x2 x3 x4 x5 x6 x7 x8 x9 i = ((db D (i 1).val : ℝ) : EReal) := by
  simp only [val_main_v124_apply, v84 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl
theorem v125 (i : S1x1024.Idx) : val_main_v125 (F := Ideal) x0 x1 x2 x3 x4 x5 x6 x7 x8 x9 i = ((dgb D (i 1).val : ℝ) : EReal) := by
  simp only [val_main_v125_apply, v79 A, smul, sadd, ssub, sneg, sdiv, sexp, srsqrt, strunc, c_zero, c_one, c_two, c_eps, c_half, c_neg_half, c_1024, c_al, div1024, add_zero, EReal.coe_zero, zero_add, coe_mul', coe_add', coe_sub', coe_neg', coe_sum, exp_real]
  all_goals rfl

end Head.R
-- ==== Proof.HeadIn.lean ====
/-
  The blocks of every grid point of the head are the real data of its tile.
-/
module

public import proofs.«01_k».proof.Proof.HeadPoint
public import proofs.«01_k».proof.Proof.HeadRef
public import Idealize.ShloMosaic.Lib.StableHlo.RunRead
public import Idealize.ShloMosaic.Lib.StableHlo.ReadAt

@[expose] public section

set_option maxRecDepth 16384

noncomputable section

namespace Head.K

open Idealize.ShloMosaic.TcCoe Cert.Kernel3Ideal Cert.Kernel3Ideal.Gen Idealize.ShloMosaic Idealize.ShloMosaic.Pipeline

section
variable (m : (ℓ : Loc nD τ Cert.Kernel3Ideal.sig) → Buf (Elt Ideal) ℓ) (c : Dev nD)

theorem V_wo (i : S2048x1024.Idx) : Cert.Kernel3Ideal.Gen.V m c main_v1 i = m (Thread.loc (c : Thread nD τ) main_arg4) (ix3 0 (i 0) (i 1)) := by
  unfold Cert.Kernel3Ideal.Gen.V
  after_reads_at
theorem V_gw (i : S1024x1024.Idx) : Cert.Kernel3Ideal.Gen.V m c main_v3 i = m (Thread.loc (c : Thread nD τ) main_arg5) (ix3 0 (i 0) (i 1)) := by
  unfold Cert.Kernel3Ideal.Gen.V
  after_reads_at
theorem V_pw (i : S256x1024.Idx) : Cert.Kernel3Ideal.Gen.V m c main_v5 i = m (Thread.loc (c : Thread nD τ) main_arg6) (ix3 0 (i 0) (i 1)) := by
  unfold Cert.Kernel3Ideal.Gen.V
  after_reads_at
end

theorem tiles : ∀ t : Fin cfg0.N, win0_0.index t = ![t.val, 0] ∧ win0_1.index t = ![t.val, 0] ∧ win0_2.index t = ![t.val, 0]
    ∧ win0_3.index t = ![t.val, 0] := by decide +kernel
theorem whole : ∀ t : Fin cfg0.N, win0_4.index t = ![0, 0] ∧ win0_5.index t = ![0, 0] ∧ win0_6.index t = ![0, 0] ∧ win0_7.index t = ![0, 0]
    ∧ win0_8.index t = ![0, 0] ∧ win0_9.index t = ![0, 0] := by decide +kernel

variable {m : (ℓ : Loc nD τ Cert.Kernel3Ideal.sig) → Buf (Elt Ideal) ℓ} {c : Dev nD}
variable {D : Data}
  (A : Head.R.Args D (m (Thread.loc (c : Thread nD τ) main_arg0)) (m (Thread.loc (c : Thread nD τ) main_arg1))
    (m (Thread.loc (c : Thread nD τ) main_arg2)) (m (Thread.loc (c : Thread nD τ) main_arg3)) (m (Thread.loc (c : Thread nD τ) main_arg4))
    (m (Thread.loc (c : Thread nD τ) main_arg5)) (m (Thread.loc (c : Thread nD τ) main_arg6)) (m (Thread.loc (c : Thread nD τ) main_arg7))
    (m (Thread.loc (c : Thread nD τ) main_arg8)) (m (Thread.loc (c : Thread nD τ) main_arg9)))
include A

theorem in0 (t : Fin cfg0.N) (i : S512x1024.Idx) : (iblk m c 0 t : S512x1024.Idx → EReal) i = ((D.X (t.val * 512 + (i 0).val) (i 1).val : ℝ) : EReal) := by
  show Cert.Kernel3Ideal.Gen.V m c main_arg0 (((cfg0.win 0).blk t).view.emb i) = _
  rw [V_main_arg0, A.h0]
  blk_simp [(tiles t).1]
theorem in1 (t : Fin cfg0.N) (i : S512x2048.Idx) : (iblk m c 1 t : S512x2048.Idx → EReal) i = ((D.Y (t.val * 512 + (i 0).val) (i 1).val : ℝ) : EReal) := by
  show Cert.Kernel3Ideal.Gen.V m c main_arg1 (((cfg0.win 1).blk t).view.emb i) = _
  rw [V_main_arg1, A.h1]
  blk_simp [(tiles t).2.1]
theorem in2 (t : Fin cfg0.N) (i : S512x256.Idx) : (iblk m c 2 t : S512x256.Idx → EReal) i = ((D.P (t.val * 512 + (i 0).val) (i 1).val : ℝ) : EReal) := by
  show Cert.Kernel3Ideal.Gen.V m c main_arg2 (((cfg0.win 2).blk t).view.emb i) = _
  rw [V_main_arg2, A.h2]
  blk_simp [(tiles t).2.2.1]
theorem in3 (t : Fin cfg0.N) (i : S512x1024.Idx) : (iblk m c 3 t : S512x1024.Idx → EReal) i = ((D.T (t.val * 512 + (i 0).val) (i 1).val : ℝ) : EReal) := by
  show Cert.Kernel3Ideal.Gen.V m c main_arg3 (((cfg0.win 3).blk t).view.emb i) = _
  rw [V_main_arg3, A.h3]
  blk_simp [(tiles t).2.2.2]
theorem in4 (t : Fin cfg0.N) (i : S2048x1024.Idx) : (iblk m c 4 t : S2048x1024.Idx → EReal) i = ((D.WO (i 0).val (i 1).val : ℝ) : EReal) := by
  show Cert.Kernel3Ideal.Gen.V m c main_v1 (((cfg0.win 4).blk t).view.emb i) = _
  rw [V_wo, A.h4]
  blk_simp [(whole t).1]
theorem in5 (t : Fin cfg0.N) (i : S1024x1024.Idx) : (iblk m c 5 t : S1024x1024.Idx → EReal) i = ((D.GW (i 0).val (i 1).val : ℝ) : EReal) := by
  show Cert.Kernel3Ideal.Gen.V m c main_v3 (((cfg0.win 5).blk t).view.emb i) = _
  rw [V_gw, A.h5]
  blk_simp [(whole t).2.1]
theorem in6 (t : Fin cfg0.N) (i : S256x1024.Idx) : (iblk m c 6 t : S256x1024.Idx → EReal) i = ((D.PW (i 0).val (i 1).val : ℝ) : EReal) := by
  show Cert.Kernel3Ideal.Gen.V m c main_v5 (((cfg0.win 6).blk t).view.emb i) = _
  rw [V_pw, A.h6]
  blk_simp [(whole t).2.2.1]
theorem in7 (t : Fin cfg0.N) (i : S1x1024.Idx) : (iblk m c 7 t : S1x1024.Idx → EReal) i = ((D.G (i 1).val : ℝ) : EReal) := by
  show Cert.Kernel3Ideal.Gen.V m c main_arg7 (((cfg0.win 7).blk t).view.emb i) = _
  rw [V_main_arg7, A.h7]
  blk_simp [(whole t).2.2.2.1]
theorem in8 (t : Fin cfg0.N) (i : S1x1024.Idx) : (iblk m c 8 t : S1x1024.Idx → EReal) i = ((D.B (i 1).val : ℝ) : EReal) := by
  show Cert.Kernel3Ideal.Gen.V m c main_arg8 (((cfg0.win 8).blk t).view.emb i) = _
  rw [V_main_arg8, A.h8]
  blk_simp [(whole t).2.2.2.2.1]
theorem in9 (t : Fin cfg0.N) (i : S1x1024.Idx) : (iblk m c 9 t : S1x1024.Idx → EReal) i = ((D.GB (i 1).val : ℝ) : EReal) := by
  show Cert.Kernel3Ideal.Gen.V m c main_arg9 (((cfg0.win 9).blk t).view.emb i) = _
  rw [V_main_arg9, A.h9]
  blk_simp [(whole t).2.2.2.2.2]

theorem points (t : Fin cfg0.N) : PIn m c D t.val t :=
  { h0 := in0 A t, h1 := in1 A t, h2 := in2 A t, h3 := in3 A t, h4 := in4 A t, h5 := in5 A t, h6 := in6 A t, h7 := in7 A t, h8 := in8 A t, h9 := in9 A t }

end Head.K
-- ==== Proof.HeadOutA.lean ====
/-
  What a first grid point of the head leaves in its outputs.
-/
module

public import proofs.«01_k».proof.Proof.HeadPoint

@[expose] public section

set_option maxRecDepth 16384

noncomputable section

namespace Head.K

open scoped BigOperators
open Mixers.K (canon_pieces)
open Cert.Kernel3Ideal Cert.Kernel3Ideal.Gen Idealize.ShloMosaic Idealize.ShloMosaic.Pipeline

variable {m : (ℓ : Loc nD τ Cert.Kernel3Ideal.sig) → Buf (Elt Ideal) ℓ} {c : Dev nD} {D : Data} {T : ℕ} {t : Fin cfg0.N} (X : PIn m c D T t)
include X

set_option maxHeartbeats 0 in
set_option pp.maxSteps 60 in
theorem dy_A (h0 : t.val % 16 = 0) (y : S512x2048.Idx) : (outsAt0 m c t.val t.isLt).1 y = GY (dy D) T y := by
  rw [outsAt0_A m c t h0]
  dsimp only
  frame_open
  simp (disch := decide) only [↓ View.readCov_skip, ↓ View.readCov_cons_toLoadRect, ↓ View.readCov_fill]
  frame_out
  refine canon_pieces (e := .f32) (G := GY (dy D) T) ?_ y (View.cover_of_tiledBy _ ![256, 2048] (by sl_kernel_rfl) y)
  exact ⟨fun x => pcY (dy2 X.snd) inb_S512x2048_S256x2048_256_0 x, fun x => pcY (dy1 X.fst) inb_S512x2048_S256x2048_0_0 x, trivial⟩
set_option maxHeartbeats 0 in
set_option pp.maxSteps 60 in
theorem dx_A (h0 : t.val % 16 = 0) (y : S512x1024.Idx) : (outsAt0 m c t.val t.isLt).2.1 y = GB (dx D) T y := by
  rw [outsAt0_A m c t h0]
  dsimp only
  frame_open
  simp (disch := decide) only [↓ View.readCov_skip, ↓ View.readCov_cons_toLoadRect, ↓ View.readCov_fill]
  frame_out
  refine canon_pieces (e := .f32) (G := GB (dx D) T) ?_ y (View.cover_of_tiledBy _ ![256, 1024] (by sl_kernel_rfl) y)
  exact ⟨fun x => pcB (dx2 X.snd) inb_S512x1024_S256x1024_256_0 x, fun x => pcB (dx1 X.fst) inb_S512x1024_S256x1024_0_0 x, trivial⟩
set_option maxHeartbeats 0 in
set_option pp.maxSteps 60 in
theorem xn_A (h0 : t.val % 16 = 0) (y : S512x1024.Idx) : (outsAt0 m c t.val t.isLt).2.2.1 y = GB (xn D) T y := by
  rw [outsAt0_A m c t h0]
  dsimp only
  frame_open
  simp (disch := decide) only [↓ View.readCov_skip, ↓ View.readCov_cons_toLoadRect, ↓ View.readCov_fill]
  frame_out
  refine canon_pieces (e := .bf16) (G := GB (xn D) T) ?_ y (View.cover_of_tiledBy _ ![256, 1024] (by sl_kernel_rfl) y)
  exact ⟨fun x => pcB (xnb2 X.snd) inb_S512x1024_S256x1024_256_0 x, fun x => pcB (xnb_at X.fst) inb_S512x1024_S256x1024_0_0 x, trivial⟩
set_option maxHeartbeats 0 in
set_option pp.maxSteps 60 in
theorem dgp_A (h0 : t.val % 16 = 0) (y : S512x1024.Idx) : (outsAt0 m c t.val t.isLt).2.2.2.1 y = GB (dgp D) T y := by
  rw [outsAt0_A m c t h0]
  dsimp only
  frame_open
  simp (disch := decide) only [↓ View.readCov_skip, ↓ View.readCov_cons_toLoadRect, ↓ View.readCov_fill]
  frame_out
  refine canon_pieces (e := .bf16) (G := GB (dgp D) T) ?_ y (View.cover_of_tiledBy _ ![256, 1024] (by sl_kernel_rfl) y)
  exact ⟨fun x => pcB (dgpb2 X.snd) inb_S512x1024_S256x1024_256_0 x, fun x => pcB (dgpb1 X.fst) inb_S512x1024_S256x1024_0_0 x, trivial⟩
set_option maxHeartbeats 0 in
set_option pp.maxSteps 60 in
theorem dpe_A (h0 : t.val % 16 = 0) (y : S512x1024.Idx) : (outsAt0 m c t.val t.isLt).2.2.2.2.1 y = GB (dpe D) T y := by
  rw [outsAt0_A m c t h0]
  dsimp only
  frame_open
  simp (disch := decide) only [↓ View.readCov_skip, ↓ View.readCov_cons_toLoadRect, ↓ View.readCov_fill]
  frame_out
  refine canon_pieces (e := .bf16) (G := GB (dpe D) T) ?_ y (View.cover_of_tiledBy _ ![256, 1024] (by sl_kernel_rfl) y)
  exact ⟨fun x => pcB (dpe2 X.snd) inb_S512x1024_S256x1024_256_0 x, fun x => pcB (dpe1 X.fst) inb_S512x1024_S256x1024_0_0 x, trivial⟩
set_option maxHeartbeats 0 in
set_option pp.maxSteps 60 in
theorem dr_A (h0 : t.val % 16 = 0) (y : S512x1024.Idx) : (outsAt0 m c t.val t.isLt).2.2.2.2.2.1 y = GB (dr D) T y := by
  rw [outsAt0_A m c t h0]
  dsimp only
  frame_open
  simp (disch := decide) only [↓ View.readCov_skip, ↓ View.readCov_cons_toLoadRect, ↓ View.readCov_fill]
  frame_out
  refine canon_pieces (e := .bf16) (G := GB (dr D) T) ?_ y (View.cover_of_tiledBy _ ![256, 1024] (by sl_kernel_rfl) y)
  exact ⟨fun x => pcB (drb2 X.snd) inb_S512x1024_S256x1024_256_0 x, fun x => pcB (drb1 X.fst) inb_S512x1024_S256x1024_0_0 x, trivial⟩
set_option maxHeartbeats 0 in
set_option pp.maxSteps 60 in
theorem loss_A (h0 : t.val % 16 = 0) (y : S1x128.Idx) : (outsAt0 m c t.val t.isLt).2.2.2.2.2.2.1 y = ((0 + 1 / 2048 * ((0 + ∑ r : Fin 256, sq D (T * 512 + 0 + r.val)) + ∑ r : Fin 256, sq D (T * 512 + 256 + r.val)) : ℝ) : EReal) := by
  rw [outsAt0_A m c t h0]
  dsimp only
  frame_open
  simp (disch := decide) only [↓ View.readCov_skip, ↓ View.readCov_cons_toLoadRect, ↓ View.readCov_fill]
  frame_out
  exact loss_step X.fst X.snd y ((splat_zero y).trans EReal.coe_zero.symm)
set_option maxHeartbeats 0 in
set_option pp.maxSteps 60 in
theorem dlng_A (h0 : t.val % 16 = 0) (y : S1x1024.Idx) : (outsAt0 m c t.val t.isLt).2.2.2.2.2.2.2.1 y = ((0 + ((0 + ∑ r : Fin 256, (fun s d => dxn D s d * xhat D s d) (T * 512 + 0 + r.val) (y 1).val) + ∑ r : Fin 256, (fun s d => dxn D s d * xhat D s d) (T * 512 + 256 + r.val) (y 1).val) : ℝ) : EReal) := by
  rw [outsAt0_A m c t h0]
  dsimp only
  frame_open
  simp (disch := decide) only [↓ View.readCov_skip, ↓ View.readCov_cons_toLoadRect, ↓ View.readCov_fill]
  frame_out
  exact dlng_step (a := fun _ => 0) X.fst X.snd (fun i => (splat_zero i).trans EReal.coe_zero.symm) y
set_option maxHeartbeats 0 in
set_option pp.maxSteps 60 in
theorem dlnb_A (h0 : t.val % 16 = 0) (y : S1x1024.Idx) : (outsAt0 m c t.val t.isLt).2.2.2.2.2.2.2.2.1 y = ((0 + ((0 + ∑ r : Fin 256, (dxn D) (T * 512 + 0 + r.val) (y 1).val) + ∑ r : Fin 256, (dxn D) (T * 512 + 256 + r.val) (y 1).val) : ℝ) : EReal) := by
  rw [outsAt0_A m c t h0]
  dsimp only
  frame_open
  simp (disch := decide) only [↓ View.readCov_skip, ↓ View.readCov_cons_toLoadRect, ↓ View.readCov_fill]
  frame_out
  exact dlnb_step (a := fun _ => 0) X.fst X.snd (fun i => (splat_zero i).trans EReal.coe_zero.symm) y
set_option maxHeartbeats 0 in
set_option pp.maxSteps 60 in
theorem dgb_A (h0 : t.val % 16 = 0) (y : S1x1024.Idx) : (outsAt0 m c t.val t.isLt).2.2.2.2.2.2.2.2.2 y = ((0 + ((0 + ∑ r : Fin 256, (dgp D) (T * 512 + 0 + r.val) (y 1).val) + ∑ r : Fin 256, (dgp D) (T * 512 + 256 + r.val) (y 1).val) : ℝ) : EReal) := by
  rw [outsAt0_A m c t h0]
  dsimp only
  frame_open
  simp (disch := decide) only [↓ View.readCov_skip, ↓ View.readCov_cons_toLoadRect, ↓ View.readCov_fill]
  frame_out
  exact dgb_step (a := fun _ => 0) X.fst X.snd (fun i => (splat_zero i).trans EReal.coe_zero.symm) y

end Head.K
-- ==== Proof.HeadOutB.lean ====
/-
  What a later grid point of the head leaves in its outputs.
-/
module

public import proofs.«01_k».proof.Proof.HeadPoint

@[expose] public section

set_option maxRecDepth 16384

noncomputable section

namespace Head.K

open scoped BigOperators
open Mixers.K (canon_pieces)
open Cert.Kernel3Ideal Cert.Kernel3Ideal.Gen Idealize.ShloMosaic Idealize.ShloMosaic.Pipeline

variable {m : (ℓ : Loc nD τ Cert.Kernel3Ideal.sig) → Buf (Elt Ideal) ℓ} {c : Dev nD} {D : Data} {T : ℕ} {t : Fin cfg0.N} (X : PIn m c D T t)
include X

set_option maxHeartbeats 0 in
set_option pp.maxSteps 60 in
theorem dy_B (h0 : ¬t.val % 16 = 0) (y : S512x2048.Idx) : (outsAt0 m c t.val t.isLt).1 y = GY (dy D) T y := by
  rw [outsAt0_B m c t h0]
  dsimp only
  frame_open
  simp (disch := decide) only [↓ View.readCov_skip, ↓ View.readCov_cons_toLoadRect, ↓ View.readCov_fill]
  frame_out
  refine canon_pieces (e := .f32) (G := GY (dy D) T) ?_ y (View.cover_of_tiledBy _ ![256, 2048] (by sl_kernel_rfl) y)
  exact ⟨fun x => pcY (dy2 X.snd) inb_S512x2048_S256x2048_256_0 x, fun x => pcY (dy1 X.fst) inb_S512x2048_S256x2048_0_0 x, trivial⟩
set_option maxHeartbeats 0 in
set_option pp.maxSteps 60 in
theorem dx_B (h0 : ¬t.val % 16 = 0) (y : S512x1024.Idx) : (outsAt0 m c t.val t.isLt).2.1 y = GB (dx D) T y := by
  rw [outsAt0_B m c t h0]
  dsimp only
  frame_open
  simp (disch := decide) only [↓ View.readCov_skip, ↓ View.readCov_cons_toLoadRect, ↓ View.readCov_fill]
  frame_out
  refine canon_pieces (e := .f32) (G := GB (dx D) T) ?_ y (View.cover_of_tiledBy _ ![256, 1024] (by sl_kernel_rfl) y)
  exact ⟨fun x => pcB (dx2 X.snd) inb_S512x1024_S256x1024_256_0 x, fun x => pcB (dx1 X.fst) inb_S512x1024_S256x1024_0_0 x, trivial⟩
set_option maxHeartbeats 0 in
set_option pp.maxSteps 60 in
theorem xn_B (h0 : ¬t.val % 16 = 0) (y : S512x1024.Idx) : (outsAt0 m c t.val t.isLt).2.2.1 y = GB (xn D) T y := by
  rw [outsAt0_B m c t h0]
  dsimp only
  frame_open
  simp (disch := decide) only [↓ View.readCov_skip, ↓ View.readCov_cons_toLoadRect, ↓ View.readCov_fill]
  frame_out
  refine canon_pieces (e := .bf16) (G := GB (xn D) T) ?_ y (View.cover_of_tiledBy _ ![256, 1024] (by sl_kernel_rfl) y)
  exact ⟨fun x => pcB (xnb2 X.snd) inb_S512x1024_S256x1024_256_0 x, fun x => pcB (xnb_at X.fst) inb_S512x1024_S256x1024_0_0 x, trivial⟩
set_option maxHeartbeats 0 in
set_option pp.maxSteps 60 in
theorem dgp_B (h0 : ¬t.val % 16 = 0) (y : S512x1024.Idx) : (outsAt0 m c t.val t.isLt).2.2.2.1 y = GB (dgp D) T y := by
  rw [outsAt0_B m c t h0]
  dsimp only
  frame_open
  simp (disch := decide) only [↓ View.readCov_skip, ↓ View.readCov_cons_toLoadRect, ↓ View.readCov_fill]
  frame_out
  refine canon_pieces (e := .bf16) (G := GB (dgp D) T) ?_ y (View.cover_of_tiledBy _ ![256, 1024] (by sl_kernel_rfl) y)
  exact ⟨fun x => pcB (dgpb2 X.snd) inb_S512x1024_S256x1024_256_0 x, fun x => pcB (dgpb1 X.fst) inb_S512x1024_S256x1024_0_0 x, trivial⟩
set_option maxHeartbeats 0 in
set_option pp.maxSteps 60 in
theorem dpe_B (h0 : ¬t.val % 16 = 0) (y : S512x1024.Idx) : (outsAt0 m c t.val t.isLt).2.2.2.2.1 y = GB (dpe D) T y := by
  rw [outsAt0_B m c t h0]
  dsimp only
  frame_open
  simp (disch := decide) only [↓ View.readCov_skip, ↓ View.readCov_cons_toLoadRect, ↓ View.readCov_fill]
  frame_out
  refine canon_pieces (e := .bf16) (G := GB (dpe D) T) ?_ y (View.cover_of_tiledBy _ ![256, 1024] (by sl_kernel_rfl) y)
  exact ⟨fun x => pcB (dpe2 X.snd) inb_S512x1024_S256x1024_256_0 x, fun x => pcB (dpe1 X.fst) inb_S512x1024_S256x1024_0_0 x, trivial⟩
set_option maxHeartbeats 0 in
set_option pp.maxSteps 60 in
theorem dr_B (h0 : ¬t.val % 16 = 0) (y : S512x1024.Idx) : (outsAt0 m c t.val t.isLt).2.2.2.2.2.1 y = GB (dr D) T y := by
  rw [outsAt0_B m c t h0]
  dsimp only
  frame_open
  simp (disch := decide) only [↓ View.readCov_skip, ↓ View.readCov_cons_toLoadRect, ↓ View.readCov_fill]
  frame_out
  refine canon_pieces (e := .bf16) (G := GB (dr D) T) ?_ y (View.cover_of_tiledBy _ ![256, 1024] (by sl_kernel_rfl) y)
  exact ⟨fun x => pcB (drb2 X.snd) inb_S512x1024_S256x1024_256_0 x, fun x => pcB (drb1 X.fst) inb_S512x1024_S256x1024_0_0 x, trivial⟩
set_option maxHeartbeats 0 in
set_option pp.maxSteps 60 in
theorem loss_B (h0 : ¬t.val % 16 = 0) (y : S1x128.Idx) (a : ℝ) (ha : (outsAt0 m c (t.val - 1) (by have := t.isLt; omega)).2.2.2.2.2.2.1 y = ((a : ℝ) : EReal)) : (outsAt0 m c t.val t.isLt).2.2.2.2.2.2.1 y = ((a + 1 / 2048 * ((0 + ∑ r : Fin 256, sq D (T * 512 + 0 + r.val)) + ∑ r : Fin 256, sq D (T * 512 + 256 + r.val)) : ℝ) : EReal) := by
  rw [outsAt0_B m c t h0]
  dsimp only
  frame_open
  simp (disch := decide) only [↓ View.readCov_skip, ↓ View.readCov_cons_toLoadRect, ↓ View.readCov_fill]
  frame_out
  exact loss_step X.fst X.snd y ha
set_option maxHeartbeats 0 in
set_option pp.maxSteps 60 in
theorem dlng_B (h0 : ¬t.val % 16 = 0) (y : S1x1024.Idx) (a : ℕ → ℝ) (ha : ∀ y : S1x1024.Idx, (outsAt0 m c (t.val - 1) (by have := t.isLt; omega)).2.2.2.2.2.2.2.1 y = ((a (y 1).val : ℝ) : EReal)) : (outsAt0 m c t.val t.isLt).2.2.2.2.2.2.2.1 y = ((a (y 1).val + ((0 + ∑ r : Fin 256, (fun s d => dxn D s d * xhat D s d) (T * 512 + 0 + r.val) (y 1).val) + ∑ r : Fin 256, (fun s d => dxn D s d * xhat D s d) (T * 512 + 256 + r.val) (y 1).val) : ℝ) : EReal) := by
  rw [outsAt0_B m c t h0]
  dsimp only
  frame_open
  simp (disch := decide) only [↓ View.readCov_skip, ↓ View.readCov_cons_toLoadRect, ↓ View.readCov_fill]
  frame_out
  exact dlng_step X.fst X.snd ha y
set_option maxHeartbeats 0 in
set_option pp.maxSteps 60 in
theorem dlnb_B (h0 : ¬t.val % 16 = 0) (y : S1x1024.Idx) (a : ℕ → ℝ) (ha : ∀ y : S1x1024.Idx, (outsAt0 m c (t.val - 1) (by have := t.isLt; omega)).2.2.2.2.2.2.2.2.1 y = ((a (y 1).val : ℝ) : EReal)) : (outsAt0 m c t.val t.isLt).2.2.2.2.2.2.2.2.1 y = ((a (y 1).val + ((0 + ∑ r : Fin 256, (dxn D) (T * 512 + 0 + r.val) (y 1).val) + ∑ r : Fin 256, (dxn D) (T * 512 + 256 + r.val) (y 1).val) : ℝ) : EReal) := by
  rw [outsAt0_B m c t h0]
  dsimp only
  frame_open
  simp (disch := decide) only [↓ View.readCov_skip, ↓ View.readCov_cons_toLoadRect, ↓ View.readCov_fill]
  frame_out
  exact dlnb_step X.fst X.snd ha y
set_option maxHeartbeats 0 in
set_option pp.maxSteps 60 in
theorem dgb_B (h0 : ¬t.val % 16 = 0) (y : S1x1024.Idx) (a : ℕ → ℝ) (ha : ∀ y : S1x1024.Idx, (outsAt0 m c (t.val - 1) (by have := t.isLt; omega)).2.2.2.2.2.2.2.2.2 y = ((a (y 1).val : ℝ) : EReal)) : (outsAt0 m c t.val t.isLt).2.2.2.2.2.2.2.2.2 y = ((a (y 1).val + ((0 + ∑ r : Fin 256, (dgp D) (T * 512 + 0 + r.val) (y 1).val) + ∑ r : Fin 256, (dgp D) (T * 512 + 256 + r.val) (y 1).val) : ℝ) : EReal) := by
  rw [outsAt0_B m c t h0]
  dsimp only
  frame_open
  simp (disch := decide) only [↓ View.readCov_skip, ↓ View.readCov_cons_toLoadRect, ↓ View.readCov_fill]
  frame_out
  exact dgb_step X.fst X.snd ha y

end Head.K
-- ==== Proof.HeadArr.lean ====
/-
  The arrays the head leaves: each result as a function of the real data.
-/
module

public import proofs.«01_k».proof.Proof.HeadIn
public import proofs.«01_k».proof.Proof.HeadOutA
public import proofs.«01_k».proof.Proof.HeadOutB

@[expose] public section

set_option maxRecDepth 16384

noncomputable section

namespace Head.K

open scoped BigOperators
open Idealize.ShloMosaic.TcCoe Cert.Kernel3Ideal Cert.Kernel3Ideal.Gen Idealize.ShloMosaic Idealize.ShloMosaic.Pipeline

theorem outs : ∀ t : Fin cfg0.N, win0_10.index t = ![t.val, 0] ∧ win0_11.index t = ![t.val, 0] ∧ win0_12.index t = ![t.val, 0]
    ∧ win0_13.index t = ![t.val, 0] ∧ win0_14.index t = ![t.val, 0] ∧ win0_15.index t = ![t.val, 0] := by decide +kernel

/-- The last grid point. -/
def tLast : Fin cfg0.N := ⟨15, by decide +kernel⟩
theorem outsLast : win0_16.index tLast = ![0, 0] ∧ win0_17.index tLast = ![0, 0] ∧ win0_18.index tLast = ![0, 0]
    ∧ win0_19.index tLast = ![0, 0] := by decide +kernel

theorem loss_run {D : Data} (a : ℝ) (n : ℕ) (ha : a = cum (fun s _ => 1 / 2048 * sq D s) n 0) :
    a + 1 / 2048 * ((0 + ∑ r : Fin 256, sq D (n * 512 + 0 + r.val)) + ∑ r : Fin 256, sq D (n * 512 + 256 + r.val)) = cum (fun s _ => 1 / 2048 * sq D s) (n + 1) 0 := by
  rw [← cum_step, ha]
  simp only [zero_add, mul_add, Finset.mul_sum]

variable {m : (ℓ : Loc nD τ Cert.Kernel3Ideal.sig) → Buf (Elt Ideal) ℓ} {c : Dev nD} {D : Data} (X : ∀ t : Fin cfg0.N, PIn m c D t.val t)
include X

theorem arr10 : (dats m 0 c).arrAt 10 cfg0.N = fun i : S8192x2048.Idx => ((dy D (i 0).val (i 1).val : ℝ) : EReal) := by
  refine (dats m 0 c).arrAt_eq_of_covers 10 _ (by decide +kernel) fun t hf y => ?_
  rw [after0_10]
  have key : (outsAt0 m c t.val t.isLt).1 y = GY (dy D) t.val y := by
    by_cases h0 : t.val % 16 = 0
    · exact dy_A (X t) h0 y
    · exact dy_B (X t) h0 y
  refine key.trans ?_
  unfold GY
  blk_simp [(outs t).1]
  all_goals rfl
theorem arr11 : (dats m 0 c).arrAt 11 cfg0.N = fun i : S8192x1024.Idx => ((dx D (i 0).val (i 1).val : ℝ) : EReal) := by
  refine (dats m 0 c).arrAt_eq_of_covers 11 _ (by decide +kernel) fun t hf y => ?_
  rw [after0_11]
  have key : (outsAt0 m c t.val t.isLt).2.1 y = GB (dx D) t.val y := by
    by_cases h0 : t.val % 16 = 0
    · exact dx_A (X t) h0 y
    · exact dx_B (X t) h0 y
  refine key.trans ?_
  unfold GB
  blk_simp [(outs t).2.1]
  all_goals rfl
theorem arr12 : (dats m 0 c).arrAt 12 cfg0.N = fun i : S8192x1024.Idx => ((xn D (i 0).val (i 1).val : ℝ) : EReal) := by
  refine (dats m 0 c).arrAt_eq_of_covers 12 _ (by decide +kernel) fun t hf y => ?_
  rw [after0_12]
  have key : (outsAt0 m c t.val t.isLt).2.2.1 y = GB (xn D) t.val y := by
    by_cases h0 : t.val % 16 = 0
    · exact xn_A (X t) h0 y
    · exact xn_B (X t) h0 y
  refine key.trans ?_
  unfold GB
  blk_simp [(outs t).2.2.1]
  all_goals rfl
theorem arr13 : (dats m 0 c).arrAt 13 cfg0.N = fun i : S8192x1024.Idx => ((dgp D (i 0).val (i 1).val : ℝ) : EReal) := by
  refine (dats m 0 c).arrAt_eq_of_covers 13 _ (by decide +kernel) fun t hf y => ?_
  rw [after0_13]
  have key : (outsAt0 m c t.val t.isLt).2.2.2.1 y = GB (dgp D) t.val y := by
    by_cases h0 : t.val % 16 = 0
    · exact dgp_A (X t) h0 y
    · exact dgp_B (X t) h0 y
  refine key.trans ?_
  unfold GB
  blk_simp [(outs t).2.2.2.1]
  all_goals rfl
theorem arr14 : (dats m 0 c).arrAt 14 cfg0.N = fun i : S8192x1024.Idx => ((dpe D (i 0).val (i 1).val : ℝ) : EReal) := by
  refine (dats m 0 c).arrAt_eq_of_covers 14 _ (by decide +kernel) fun t hf y => ?_
  rw [after0_14]
  have key : (outsAt0 m c t.val t.isLt).2.2.2.2.1 y = GB (dpe D) t.val y := by
    by_cases h0 : t.val % 16 = 0
    · exact dpe_A (X t) h0 y
    · exact dpe_B (X t) h0 y
  refine key.trans ?_
  unfold GB
  blk_simp [(outs t).2.2.2.2.1]
  all_goals rfl
theorem arr15 : (dats m 0 c).arrAt 15 cfg0.N = fun i : S8192x1024.Idx => ((dr D (i 0).val (i 1).val : ℝ) : EReal) := by
  refine (dats m 0 c).arrAt_eq_of_covers 15 _ (by decide +kernel) fun t hf y => ?_
  rw [after0_15]
  have key : (outsAt0 m c t.val t.isLt).2.2.2.2.2.1 y = GB (dr D) t.val y := by
    by_cases h0 : t.val % 16 = 0
    · exact dr_A (X t) h0 y
    · exact dr_B (X t) h0 y
  refine key.trans ?_
  unfold GB
  blk_simp [(outs t).2.2.2.2.2]
  all_goals rfl

theorem loss_at (n : ℕ) (hn : n < cfg0.N) (y : S1x128.Idx) : (outsAt0 m c n hn).2.2.2.2.2.2.1 y = ((cum (fun s _ => 1 / 2048 * sq D s) (n + 1) 0 : ℝ) : EReal) := by
  have hN : cfg0.N = 16 := by decide +kernel
  induction n generalizing y with
  | zero =>
    refine (loss_A (X ⟨0, hn⟩) rfl y).trans (congrArg Real.toEReal (Eq.trans ?_ (loss_run (D := D) 0 0 (cum_zero _ _).symm)))
    simp
  | succ n ih =>
    exact (loss_B (X ⟨n + 1, hn⟩) (by show ¬(n + 1) % 16 = 0; omega) y _ (ih (by omega) y)).trans (congrArg Real.toEReal (loss_run (D := D) _ (n + 1) rfl))

theorem dlng_at (n : ℕ) (hn : n < cfg0.N) (y : S1x1024.Idx) : (outsAt0 m c n hn).2.2.2.2.2.2.2.1 y = ((cum (fun s d => dxn D s d * xhat D s d) (n + 1) (y 1).val : ℝ) : EReal) := by
  have hN : cfg0.N = 16 := by decide +kernel
  induction n generalizing y with
  | zero =>
    refine (dlng_A (X ⟨0, hn⟩) rfl y).trans (congrArg Real.toEReal (Eq.trans ?_ (cum_step (fun s d => dxn D s d * xhat D s d) 0 (y 1).val)))
    rw [cum_zero]
    all_goals simp
  | succ n ih =>
    exact (dlng_B (X ⟨n + 1, hn⟩) (by show ¬(n + 1) % 16 = 0; omega) y _ (fun z => ih (by omega) z)).trans (congrArg Real.toEReal (cum_step (fun s d => dxn D s d * xhat D s d) (n + 1) (y 1).val))

theorem dlnb_at (n : ℕ) (hn : n < cfg0.N) (y : S1x1024.Idx) : (outsAt0 m c n hn).2.2.2.2.2.2.2.2.1 y = ((cum (dxn D) (n + 1) (y 1).val : ℝ) : EReal) := by
  have hN : cfg0.N = 16 := by decide +kernel
  induction n generalizing y with
  | zero =>
    refine (dlnb_A (X ⟨0, hn⟩) rfl y).trans (congrArg Real.toEReal (Eq.trans ?_ (cum_step (dxn D) 0 (y 1).val)))
    rw [cum_zero]
    all_goals simp
  | succ n ih =>
    exact (dlnb_B (X ⟨n + 1, hn⟩) (by show ¬(n + 1) % 16 = 0; omega) y _ (fun z => ih (by omega) z)).trans (congrArg Real.toEReal (cum_step (dxn D) (n + 1) (y 1).val))

theorem dgb_at (n : ℕ) (hn : n < cfg0.N) (y : S1x1024.Idx) : (outsAt0 m c n hn).2.2.2.2.2.2.2.2.2 y = ((cum (dgp D) (n + 1) (y 1).val : ℝ) : EReal) := by
  have hN : cfg0.N = 16 := by decide +kernel
  induction n generalizing y with
  | zero =>
    refine (dgb_A (X ⟨0, hn⟩) rfl y).trans (congrArg Real.toEReal (Eq.trans ?_ (cum_step (dgp D) 0 (y 1).val)))
    rw [cum_zero]
    all_goals simp
  | succ n ih =>
    exact (dgb_B (X ⟨n + 1, hn⟩) (by show ¬(n + 1) % 16 = 0; omega) y _ (fun z => ih (by omega) z)).trans (congrArg Real.toEReal (cum_step (dgp D) (n + 1) (y 1).val))

theorem arr16 : (dats m 0 c).arrAt 16 cfg0.N = fun i : S1x128.Idx => ((loss D : ℝ) : EReal) := by
  refine (dats m 0 c).arrAt_eq_of_after_last 16 tLast (by decide +kernel) _ fun j => ?_
  blk_simp [outsLast.1]
  rw [after0_16]
  exact (loss_at X tLast.val tLast.isLt j).trans (congrArg Real.toEReal (cum_all _ _))

theorem arr17 : (dats m 0 c).arrAt 17 cfg0.N = fun i : S1x1024.Idx => ((dg D (i 1).val : ℝ) : EReal) := by
  refine (dats m 0 c).arrAt_eq_of_after_last 17 tLast (by decide +kernel) _ fun j => ?_
  blk_simp [outsLast.2.1]
  rw [after0_17]
  exact (dlng_at X tLast.val tLast.isLt j).trans (congrArg Real.toEReal (cum_all _ _))

theorem arr18 : (dats m 0 c).arrAt 18 cfg0.N = fun i : S1x1024.Idx => ((db D (i 1).val : ℝ) : EReal) := by
  refine (dats m 0 c).arrAt_eq_of_after_last 18 tLast (by decide +kernel) _ fun j => ?_
  blk_simp [outsLast.2.2.1]
  rw [after0_18]
  exact (dlnb_at X tLast.val tLast.isLt j).trans (congrArg Real.toEReal (cum_all _ _))

theorem arr19 : (dats m 0 c).arrAt 19 cfg0.N = fun i : S1x1024.Idx => ((dgb D (i 1).val : ℝ) : EReal) := by
  refine (dats m 0 c).arrAt_eq_of_after_last 19 tLast (by decide +kernel) _ fun j => ?_
  blk_simp [outsLast.2.2.2]
  rw [after0_19]
  exact (dgb_at X tLast.val tLast.isLt j).trans (congrArg Real.toEReal (cum_all _ _))

end Head.K
-- ==== Proof.HeadEq.lean ====
/-
  Finite arguments of the head hold real data, and on real data each array the launch leaves is the result of the reference.
-/
module

public import proofs.«01_k».proof.Pre_finite3
public import proofs.«01_k».proof.Proof.Finite
public import proofs.«01_k».proof.Proof.Holds
public import proofs.«01_k».proof.Proof.HeadArr

@[expose] public section

set_option maxRecDepth 16384

noncomputable section

namespace Head

section
open Cert.Pre_finite3 Idealize.ShloMosaic
open Mixers.Fin (both all_real)
open Mixers.R (at2 at3 at2_eq at3_eq)
open Mixers (ex2 ex3)

variable [Facts] {x0 : FVec Ideal S8192x1024 .f32} {x1 : FVec Ideal S8192x2048 .f32} {x2 : FVec Ideal S8192x256 .f32} {x3 : FVec Ideal S8192x1024 .f32} {x4 : FVec Ideal S1x2048x1024 .f32} {x5 : FVec Ideal S1x1024x1024 .f32} {x6 : FVec Ideal S1x256x1024 .f32} {x7 : FVec Ideal S1x1024 .f32} {x8 : FVec Ideal S1x1024 .f32} {x9 : FVec Ideal S1x1024 .f32}

/-- The finite arguments hold reals. -/
theorem reals (h : fn (F := Ideal) x0 x1 x2 x3 x4 x5 x6 x7 x8 x9 = fun _ => 1#1) :
    (∀ i, ∃ r : ℝ, x0 i = (r : EReal))
    ∧ (∀ i, ∃ r : ℝ, x1 i = (r : EReal))
    ∧ (∀ i, ∃ r : ℝ, x2 i = (r : EReal))
    ∧ (∀ i, ∃ r : ℝ, x3 i = (r : EReal))
    ∧ (∀ i, ∃ r : ℝ, x4 i = (r : EReal))
    ∧ (∀ i, ∃ r : ℝ, x5 i = (r : EReal))
    ∧ (∀ i, ∃ r : ℝ, x6 i = (r : EReal))
    ∧ (∀ i, ∃ r : ℝ, x7 i = (r : EReal))
    ∧ (∀ i, ∃ r : ℝ, x8 i = (r : EReal))
    ∧ (∀ i, ∃ r : ℝ, x9 i = (r : EReal)) := by
  obtain ⟨h, h9⟩ := both _ _ h
  obtain ⟨h, h8⟩ := both _ _ h
  obtain ⟨h, h7⟩ := both _ _ h
  obtain ⟨h, h6⟩ := both _ _ h
  obtain ⟨h, h5⟩ := both _ _ h
  obtain ⟨h, h4⟩ := both _ _ h
  obtain ⟨h, h3⟩ := both _ _ h
  obtain ⟨h, h2⟩ := both _ _ h
  obtain ⟨h0, h1⟩ := both _ _ h
  exact ⟨all_real x0 _ _ _ h0, all_real x1 _ _ _ h1, all_real x2 _ _ _ h2, all_real x3 _ _ _ h3, all_real x4 _ _ _ h4, all_real x5 _ _ _ h5, all_real x6 _ _ _ h6, all_real x7 _ _ _ h7, all_real x8 _ _ _ h8, all_real x9 _ _ _ h9⟩

/-- The data the arguments hold. -/
def dataOf (x0 : FVec Ideal S8192x1024 .f32) (x1 : FVec Ideal S8192x2048 .f32) (x2 : FVec Ideal S8192x256 .f32) (x3 : FVec Ideal S8192x1024 .f32) (x4 : FVec Ideal S1x2048x1024 .f32) (x5 : FVec Ideal S1x1024x1024 .f32) (x6 : FVec Ideal S1x256x1024 .f32) (x7 : FVec Ideal S1x1024 .f32) (x8 : FVec Ideal S1x1024 .f32) (x9 : FVec Ideal S1x1024 .f32) : Data where
  X := at2 (a := 8192) (b := 1024) x0
  Y := at2 (a := 8192) (b := 2048) x1
  P := at2 (a := 8192) (b := 256) x2
  T := at2 (a := 8192) (b := 1024) x3
  WO := at3 (a := 1) (b := 2048) (d := 1024) x4 0
  GW := at3 (a := 1) (b := 1024) (d := 1024) x5 0
  PW := at3 (a := 1) (b := 256) (d := 1024) x6 0
  G := at2 (a := 1) (b := 1024) x7 0
  B := at2 (a := 1) (b := 1024) x8 0
  GB := at2 (a := 1) (b := 1024) x9 0

/-- Arguments of reals hold their data. -/
theorem holds (h : fn (F := Ideal) x0 x1 x2 x3 x4 x5 x6 x7 x8 x9 = fun _ => 1#1) : R.Args (dataOf x0 x1 x2 x3 x4 x5 x6 x7 x8 x9) x0 x1 x2 x3 x4 x5 x6 x7 x8 x9 := by
  obtain ⟨h0, h1, h2, h3, h4, h5, h6, h7, h8, h9⟩ := reals h
  exact {
    h0 := fun i => by
      obtain ⟨s, e, rfl⟩ := ex2 i
      exact at2_eq h0 s e
    h1 := fun i => by
      obtain ⟨s, e, rfl⟩ := ex2 i
      exact at2_eq h1 s e
    h2 := fun i => by
      obtain ⟨s, e, rfl⟩ := ex2 i
      exact at2_eq h2 s e
    h3 := fun i => by
      obtain ⟨s, e, rfl⟩ := ex2 i
      exact at2_eq h3 s e
    h4 := fun i => by
      obtain ⟨z, s, e, rfl⟩ := ex3 i
      obtain rfl : z = 0 := Subsingleton.elim _ _
      exact at3_eq h4 0 s e
    h5 := fun i => by
      obtain ⟨z, s, e, rfl⟩ := ex3 i
      obtain rfl : z = 0 := Subsingleton.elim _ _
      exact at3_eq h5 0 s e
    h6 := fun i => by
      obtain ⟨z, s, e, rfl⟩ := ex3 i
      obtain rfl : z = 0 := Subsingleton.elim _ _
      exact at3_eq h6 0 s e
    h7 := fun i => by
      obtain ⟨z, e, rfl⟩ := ex2 i
      obtain rfl : z = 0 := Subsingleton.elim _ _
      exact at2_eq h7 0 e
    h8 := fun i => by
      obtain ⟨z, e, rfl⟩ := ex2 i
      obtain rfl : z = 0 := Subsingleton.elim _ _
      exact at2_eq h8 0 e
    h9 := fun i => by
      obtain ⟨z, e, rfl⟩ := ex2 i
      obtain rfl : z = 0 := Subsingleton.elim _ _
      exact at2_eq h9 0 e
  }
end

namespace K

open Idealize.ShloMosaic.TcCoe Cert.Kernel3Ideal Cert.Kernel3Ideal.Gen Cert.Reference3Ideal.Read Idealize.ShloMosaic Idealize.ShloMosaic.Pipeline

variable {m : (ℓ : Loc nD τ Cert.Kernel3Ideal.sig) → Buf (Elt Ideal) ℓ} {c : Dev nD} {D : Data}
  (A : Head.R.Args D (m (Thread.loc (c : Thread nD τ) main_arg0))
    (m (Thread.loc (c : Thread nD τ) main_arg1))
    (m (Thread.loc (c : Thread nD τ) main_arg2))
    (m (Thread.loc (c : Thread nD τ) main_arg3))
    (m (Thread.loc (c : Thread nD τ) main_arg4))
    (m (Thread.loc (c : Thread nD τ) main_arg5))
    (m (Thread.loc (c : Thread nD τ) main_arg6))
    (m (Thread.loc (c : Thread nD τ) main_arg7))
    (m (Thread.loc (c : Thread nD τ) main_arg8))
    (m (Thread.loc (c : Thread nD τ) main_arg9)))
include A

theorem eq10 : (dats m 0 c).arrAt 10 cfg0.N
    = val_main_v115 (F := Ideal) (m (Thread.loc (c : Thread nD τ) main_arg0)) (m (Thread.loc (c : Thread nD τ) main_arg1)) (m (Thread.loc (c : Thread nD τ) main_arg2)) (m (Thread.loc (c : Thread nD τ) main_arg3)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9)) :=
  (arr10 (points A)).trans (funext fun i => (Head.R.v115 A i).symm)
theorem eq11 : (dats m 0 c).arrAt 11 cfg0.N
    = val_main_v117 (F := Ideal) (m (Thread.loc (c : Thread nD τ) main_arg0)) (m (Thread.loc (c : Thread nD τ) main_arg1)) (m (Thread.loc (c : Thread nD τ) main_arg2)) (m (Thread.loc (c : Thread nD τ) main_arg3)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9)) :=
  (arr11 (points A)).trans (funext fun i => (Head.R.v117 A i).symm)
theorem eq12 : (dats m 0 c).arrAt 12 cfg0.N
    = val_main_v118 (F := Ideal) (m (Thread.loc (c : Thread nD τ) main_arg0)) (m (Thread.loc (c : Thread nD τ) main_arg1)) (m (Thread.loc (c : Thread nD τ) main_arg4)) (m (Thread.loc (c : Thread nD τ) main_arg7)) (m (Thread.loc (c : Thread nD τ) main_arg8)) :=
  (arr12 (points A)).trans (funext fun i => (Head.R.v118 A i).symm)
theorem eq13 : (dats m 0 c).arrAt 13 cfg0.N
    = val_main_v119 (F := Ideal) (m (Thread.loc (c : Thread nD τ) main_arg0)) (m (Thread.loc (c : Thread nD τ) main_arg1)) (m (Thread.loc (c : Thread nD τ) main_arg2)) (m (Thread.loc (c : Thread nD τ) main_arg3)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9)) :=
  (arr13 (points A)).trans (funext fun i => (Head.R.v119 A i).symm)
theorem eq14 : (dats m 0 c).arrAt 14 cfg0.N
    = val_main_v120 (F := Ideal) (m (Thread.loc (c : Thread nD τ) main_arg0)) (m (Thread.loc (c : Thread nD τ) main_arg1)) (m (Thread.loc (c : Thread nD τ) main_arg2)) (m (Thread.loc (c : Thread nD τ) main_arg3)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9)) :=
  (arr14 (points A)).trans (funext fun i => (Head.R.v120 A i).symm)
theorem eq15 : (dats m 0 c).arrAt 15 cfg0.N
    = val_main_v121 (F := Ideal) (m (Thread.loc (c : Thread nD τ) main_arg0)) (m (Thread.loc (c : Thread nD τ) main_arg1)) (m (Thread.loc (c : Thread nD τ) main_arg2)) (m (Thread.loc (c : Thread nD τ) main_arg3)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9)) :=
  (arr15 (points A)).trans (funext fun i => (Head.R.v121 A i).symm)
theorem eq16 : (dats m 0 c).arrAt 16 cfg0.N
    = val_main_v122 (F := Ideal) (m (Thread.loc (c : Thread nD τ) main_arg0)) (m (Thread.loc (c : Thread nD τ) main_arg1)) (m (Thread.loc (c : Thread nD τ) main_arg2)) (m (Thread.loc (c : Thread nD τ) main_arg3)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9)) :=
  (arr16 (points A)).trans (funext fun i => (Head.R.v122 A i).symm)
theorem eq17 : (dats m 0 c).arrAt 17 cfg0.N
    = val_main_v123 (F := Ideal) (m (Thread.loc (c : Thread nD τ) main_arg0)) (m (Thread.loc (c : Thread nD τ) main_arg1)) (m (Thread.loc (c : Thread nD τ) main_arg2)) (m (Thread.loc (c : Thread nD τ) main_arg3)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9)) :=
  (arr17 (points A)).trans (funext fun i => (Head.R.v123 A i).symm)
theorem eq18 : (dats m 0 c).arrAt 18 cfg0.N
    = val_main_v124 (F := Ideal) (m (Thread.loc (c : Thread nD τ) main_arg0)) (m (Thread.loc (c : Thread nD τ) main_arg1)) (m (Thread.loc (c : Thread nD τ) main_arg2)) (m (Thread.loc (c : Thread nD τ) main_arg3)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9)) :=
  (arr18 (points A)).trans (funext fun i => (Head.R.v124 A i).symm)
theorem eq19 : (dats m 0 c).arrAt 19 cfg0.N
    = val_main_v125 (F := Ideal) (m (Thread.loc (c : Thread nD τ) main_arg0)) (m (Thread.loc (c : Thread nD τ) main_arg1)) (m (Thread.loc (c : Thread nD τ) main_arg2)) (m (Thread.loc (c : Thread nD τ) main_arg3)) (m (Thread.loc (c : Thread nD τ) main_arg4)) (m (Thread.loc (c : Thread nD τ) main_arg5)) (m (Thread.loc (c : Thread nD τ) main_arg6)) (m (Thread.loc (c : Thread nD τ) main_arg7)) (m (Thread.loc (c : Thread nD τ) main_arg8)) (m (Thread.loc (c : Thread nD τ) main_arg9)) :=
  (arr19 (points A)).trans (funext fun i => (Head.R.v125 A i).symm)

end K

end Head
-- ==== Proof.lean ====
/-
  The proof of `Cert.Claim`: the frames are the generated ones, the two named constants are the values they are named by, and
  the value claims are `Proof/Equation.lean` (the mixers), `Proof/WOut.lean` (the output projection's gradient) and
  `Proof/HeadEq.lean` (the head): each array a launch leaves is the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite3
public import proofs.«01_k».proof.Proof.Gen.Reference2Ideal
public import proofs.«01_k».proof.Proof.Gen.Reference3Ideal
public import proofs.«01_k».proof.Proof.Equation
public import proofs.«01_k».proof.Proof.WOut
public import proofs.«01_k».proof.Proof.HeadEq
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference's frame: its run read at the arguments; it declares no semaphore. -/
theorem frame_r : Cert.quiescent_ReferenceIdeal := fun m g _ =>
  (θ_run Cert.ReferenceIdeal.defs _ _).mono (fun r h => ⟨fun c => (h c).2.2.2.2.2.2.2.2, sem_eq_zero_of_no_sems (by decide) r.2⟩)
    (Cert.ReferenceIdeal.Value.run (F := Ideal) m g)

/-- The two named constants. -/
theorem preserves : Cert.preserves_Kernel_KernelIdeal :=
  ⟨IdealRules.named_const.statement Cert.KernelIdeal.κ "neg_two_c0_c1" .f32 0xBD922279#32 ((-80338380498831 / 1125899906842624 : ℝ) : EReal) rfl,
    IdealRules.named_const.statement Cert.KernelIdeal.κ "six_c0_c1" .f32 0x3E5B33B6#32 ((241015141496493 / 1125899906842624 : ℝ) : EReal) rfl⟩

/-- The kernel and the reference end with equal results. -/
theorem algebraic : Cert.algebraic_KernelIdeal_ReferenceIdeal_pre_finite := by
  intro m g m' g' hpre hagree
  refine ⟨fun c => (Cert.KernelIdeal.Gen.dats m 0 c).arrAt 12 Cert.KernelIdeal.cfg0.N, fun c => (Cert.KernelIdeal.Gen.dats m 0 c).arrAt 13 Cert.KernelIdeal.cfg0.N, fun c => (Cert.KernelIdeal.Gen.dats m 0 c).arrAt 14 Cert.KernelIdeal.cfg0.N, fun c => (Cert.KernelIdeal.Gen.dats m 0 c).arrAt 15 Cert.KernelIdeal.cfg0.N, fun c => (Cert.KernelIdeal.Gen.dats m 0 c).arrAt 16 Cert.KernelIdeal.cfg0.N, fun c => (Cert.KernelIdeal.Gen.dats m 0 c).arrAt 17 Cert.KernelIdeal.cfg0.N, fun c => (Cert.KernelIdeal.Gen.dats m 0 c).arrAt 18 Cert.KernelIdeal.cfg0.N, fun c => (Cert.KernelIdeal.Gen.dats m 0 c).arrAt 19 Cert.KernelIdeal.cfg0.N, Cert.KernelIdeal.Value.run_blocks (F := Ideal) m g, ?_⟩
  refine (θ_run Cert.ReferenceIdeal.defs _ _).mono (fun _ h c => ?_) (Cert.ReferenceIdeal.Value.run (F := Ideal) m' g')
  have A := Mixers.K.args (hpre c)
  obtain ⟨e0, e1, e2, e3, e4, e5, e6, e7, e8, e9⟩ := hagree c
  obtain ⟨h0, h1, h2, h3, h4, h5, h6, h7, hk⟩ := h c
  refine ⟨h0.trans ?_, h1.trans ?_, h2.trans ?_, h3.trans ?_, h4.trans ?_, h5.trans ?_, h6.trans ?_, h7.trans ?_, hk⟩
  · refine (Cert.ReferenceIdeal.Read.val_main_v329_eq _).trans ?_
    refine Eq.trans ?_ (Mixers.K.eq12 A).symm
    have f0 : StableHlo.launchContents m' c (Proc.devRef .tc Cert.ReferenceIdeal.main_arg0) = _ := e0
    have f1 : StableHlo.launchContents m' c (Proc.devRef .tc Cert.ReferenceIdeal.main_arg1) = _ := e1
    have f4 : StableHlo.launchContents m' c (Proc.devRef .tc Cert.ReferenceIdeal.main_arg4) = _ := e4
    have f5 : StableHlo.launchContents m' c (Proc.devRef .tc Cert.ReferenceIdeal.main_arg5) = _ := e5
    have f6 : StableHlo.launchContents m' c (Proc.devRef .tc Cert.ReferenceIdeal.main_arg6) = _ := e6
    have f7 : StableHlo.launchContents m' c (Proc.devRef .tc Cert.ReferenceIdeal.main_arg7) = _ := e7
    have f8 : StableHlo.launchContents m' c (Proc.devRef .tc Cert.ReferenceIdeal.main_arg8) = _ := e8
    have f9 : StableHlo.launchContents m' c (Proc.devRef .tc Cert.ReferenceIdeal.main_arg9) = _ := e9
    rw [f0, f1, f4, f5, f6, f7, f8, f9]
  · refine (Cert.ReferenceIdeal.Read.val_main_v326_eq _).trans ?_
    refine Eq.trans ?_ (Mixers.K.eq13 A).symm
    have f0 : StableHlo.launchContents m' c (Proc.devRef .tc Cert.ReferenceIdeal.main_arg0) = _ := e0
    have f1 : StableHlo.launchContents m' c (Proc.devRef .tc Cert.ReferenceIdeal.main_arg1) = _ := e1
    have f2 : StableHlo.launchContents m' c (Proc.devRef .tc Cert.ReferenceIdeal.main_arg2) = _ := e2
    have f3 : StableHlo.launchContents m' c (Proc.devRef .tc Cert.ReferenceIdeal.main_arg3) = _ := e3
    have f4 : StableHlo.launchContents m' c (Proc.devRef .tc Cert.ReferenceIdeal.main_arg4) = _ := e4
    have f5 : StableHlo.launchContents m' c (Proc.devRef .tc Cert.ReferenceIdeal.main_arg5) = _ := e5
    have f6 : StableHlo.launchContents m' c (Proc.devRef .tc Cert.ReferenceIdeal.main_arg6) = _ := e6
    have f7 : StableHlo.launchContents m' c (Proc.devRef .tc Cert.ReferenceIdeal.main_arg7) = _ := e7
    have f8 : StableHlo.launchContents m' c (Proc.devRef .tc Cert.ReferenceIdeal.main_arg8) = _ := e8
    have f9 : StableHlo.launchContents m' c (Proc.devRef .tc Cert.ReferenceIdeal.main_arg9) = _ := e9
    rw [f0, f1, f2, f3, f4, f5, f6, f7, f8, f9]
  · refine (Cert.ReferenceIdeal.Read.val_main_v328_eq _).trans ?_
    refine Eq.trans ?_ (Mixers.K.eq14 A).symm
    have f0 : StableHlo.launchContents m' c (Proc.devRef .tc Cert.ReferenceIdeal.main_arg0) = _ := e0
    have f1 : StableHlo.launchContents m' c (Proc.devRef .tc Cert.ReferenceIdeal.main_arg1) = _ := e1
    have f5 : StableHlo.launchContents m' c (Proc.devRef .tc Cert.ReferenceIdeal.main_arg5) = _ := e5
    rw [f0, f1, f5]
  · refine (Cert.ReferenceIdeal.Read.val_main_v321_eq _).trans ?_
    refine Eq.trans ?_ (Mixers.K.eq15 A).symm
    have f0 : StableHlo.launchContents m' c (Proc.devRef .tc Cert.ReferenceIdeal.main_arg0) = _ := e0
    have f1 : StableHlo.launchContents m' c (Proc.devRef .tc Cert.ReferenceIdeal.main_arg1) = _ := e1
    have f4 : StableHlo.launchContents m' c (Proc.devRef .tc Cert.ReferenceIdeal.main_arg4) = _ := e4
    rw [f0, f1, f4]
  · refine (Cert.ReferenceIdeal.Read.val_main_v257_eq _).trans ?_
    refine Eq.trans ?_ (Mixers.K.eq16 A).symm
    have f0 : StableHlo.launchContents m' c (Proc.devRef .tc Cert.ReferenceIdeal.main_arg0) = _ := e0
    have f1 : StableHlo.launchContents m' c (Proc.devRef .tc Cert.ReferenceIdeal.main_arg1) = _ := e1
    have f8 : StableHlo.launchContents m' c (Proc.devRef .tc Cert.ReferenceIdeal.main_arg8) = _ := e8
    rw [f0, f1, f8]
  · refine (Cert.ReferenceIdeal.Read.val_main_v256_eq _).trans ?_
    refine Eq.trans ?_ (Mixers.K.eq17 A).symm
    have f0 : StableHlo.launchContents m' c (Proc.devRef .tc Cert.ReferenceIdeal.main_arg0) = _ := e0
    have f1 : StableHlo.launchContents m' c (Proc.devRef .tc Cert.ReferenceIdeal.main_arg1) = _ := e1
    have f8 : StableHlo.launchContents m' c (Proc.devRef .tc Cert.ReferenceIdeal.main_arg8) = _ := e8
    rw [f0, f1, f8]
  · refine (Cert.ReferenceIdeal.Read.val_main_v330_eq _).trans ?_
    refine Eq.trans ?_ (Mixers.K.eq18 A).symm
    have f0 : StableHlo.launchContents m' c (Proc.devRef .tc Cert.ReferenceIdeal.main_arg0) = _ := e0
    have f1 : StableHlo.launchContents m' c (Proc.devRef .tc Cert.ReferenceIdeal.main_arg1) = _ := e1
    have f6 : StableHlo.launchContents m' c (Proc.devRef .tc Cert.ReferenceIdeal.main_arg6) = _ := e6
    have f7 : StableHlo.launchContents m' c (Proc.devRef .tc Cert.ReferenceIdeal.main_arg7) = _ := e7
    rw [f0, f1, f6, f7]
  · refine (Cert.ReferenceIdeal.Read.val_main_v331_eq _).trans ?_
    refine Eq.trans ?_ (Mixers.K.eq19 A).symm
    have f0 : StableHlo.launchContents m' c (Proc.devRef .tc Cert.ReferenceIdeal.main_arg0) = _ := e0
    have f1 : StableHlo.launchContents m' c (Proc.devRef .tc Cert.ReferenceIdeal.main_arg1) = _ := e1
    rw [f0, f1]

/-- The reference of the output projection's gradient: its run read at the arguments; it declares no semaphore. -/
theorem frame_r2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The output projection's gradient: the kernel and the reference end with equal results. -/
theorem algebraic2 : Cert.algebraic_Kernel2Ideal_Reference2Ideal := by
  intro m g m' g' _ hagree
  refine ⟨fun c => (Cert.Kernel2Ideal.Gen.dats m 0 c).arrAt 2 Cert.Kernel2Ideal.cfg0.N, Cert.Kernel2Ideal.Value.run_blocks (F := Ideal) m g, ?_⟩
  refine (θ_run Cert.Reference2Ideal.defs _ _).mono (fun _ h c => ?_) (Cert.Reference2Ideal.Value.run (F := Ideal) m' g')
  obtain ⟨e0, e1⟩ := hagree c
  obtain ⟨h0, hk⟩ := h c
  refine ⟨h0.trans ?_, hk⟩
  refine (Cert.Reference2Ideal.Read.val_main_v4_eq _ _).trans ((WOut.ref _ _).trans (Eq.trans ?_ (WOut.arr m c).symm))
  rw [e0, e1]

/-- The head's reference: its run read at the arguments; it declares no semaphore. -/
theorem frame_r3 : Cert.quiescent_Reference3Ideal := fun m g _ =>
  (θ_run Cert.Reference3Ideal.defs _ _).mono (fun r h => ⟨fun c => (h c).2.2.2.2.2.2.2.2.2.2, sem_eq_zero_of_no_sems (by decide) r.2⟩)
    (Cert.Reference3Ideal.Value.run (F := Ideal) m g)

set_option maxHeartbeats 0 in
/-- The head: the kernel and the reference end with equal results. -/
theorem algebraic3 : Cert.algebraic_Kernel3Ideal_Reference3Ideal_pre_finite3 := by
  intro m g m' g' hpre hagree
  refine ⟨fun c => (Cert.Kernel3Ideal.Gen.dats m 0 c).arrAt 10 Cert.Kernel3Ideal.cfg0.N, fun c => (Cert.Kernel3Ideal.Gen.dats m 0 c).arrAt 11 Cert.Kernel3Ideal.cfg0.N, fun c => (Cert.Kernel3Ideal.Gen.dats m 0 c).arrAt 12 Cert.Kernel3Ideal.cfg0.N, fun c => (Cert.Kernel3Ideal.Gen.dats m 0 c).arrAt 13 Cert.Kernel3Ideal.cfg0.N, fun c => (Cert.Kernel3Ideal.Gen.dats m 0 c).arrAt 14 Cert.Kernel3Ideal.cfg0.N, fun c => (Cert.Kernel3Ideal.Gen.dats m 0 c).arrAt 15 Cert.Kernel3Ideal.cfg0.N, fun c => (Cert.Kernel3Ideal.Gen.dats m 0 c).arrAt 16 Cert.Kernel3Ideal.cfg0.N, fun c => (Cert.Kernel3Ideal.Gen.dats m 0 c).arrAt 17 Cert.Kernel3Ideal.cfg0.N, fun c => (Cert.Kernel3Ideal.Gen.dats m 0 c).arrAt 18 Cert.Kernel3Ideal.cfg0.N, fun c => (Cert.Kernel3Ideal.Gen.dats m 0 c).arrAt 19 Cert.Kernel3Ideal.cfg0.N, Cert.Kernel3Ideal.Value.run_blocks (F := Ideal) m g, ?_⟩
  refine (θ_run Cert.Reference3Ideal.defs _ _).mono (fun _ h c => ?_) (Cert.Reference3Ideal.Value.run (F := Ideal) m' g')
  have A := Head.holds (hpre c)
  obtain ⟨e0, e1, e2, e3, e4, e5, e6, e7, e8, e9⟩ := hagree c
  have f0 : StableHlo.launchContents m' c (Proc.devRef .tc Cert.Reference3Ideal.main_arg0) = _ := e0
  have f1 : StableHlo.launchContents m' c (Proc.devRef .tc Cert.Reference3Ideal.main_arg1) = _ := e1
  have f2 : StableHlo.launchContents m' c (Proc.devRef .tc Cert.Reference3Ideal.main_arg2) = _ := e2
  have f3 : StableHlo.launchContents m' c (Proc.devRef .tc Cert.Reference3Ideal.main_arg3) = _ := e3
  have f4 : StableHlo.launchContents m' c (Proc.devRef .tc Cert.Reference3Ideal.main_arg4) = _ := e4
  have f5 : StableHlo.launchContents m' c (Proc.devRef .tc Cert.Reference3Ideal.main_arg5) = _ := e5
  have f6 : StableHlo.launchContents m' c (Proc.devRef .tc Cert.Reference3Ideal.main_arg6) = _ := e6
  have f7 : StableHlo.launchContents m' c (Proc.devRef .tc Cert.Reference3Ideal.main_arg7) = _ := e7
  have f8 : StableHlo.launchContents m' c (Proc.devRef .tc Cert.Reference3Ideal.main_arg8) = _ := e8
  have f9 : StableHlo.launchContents m' c (Proc.devRef .tc Cert.Reference3Ideal.main_arg9) = _ := e9
  obtain ⟨h0, h1, h2, h3, h4, h5, h6, h7, h8, h9, hk⟩ := h c
  refine ⟨h0.trans ?_, h1.trans ?_, h2.trans ?_, h3.trans ?_, h4.trans ?_, h5.trans ?_, h6.trans ?_, h7.trans ?_, h8.trans ?_, h9.trans ?_, hk⟩
  · refine (Cert.Reference3Ideal.Read.val_main_v115_eq _).trans (Eq.trans ?_ (Head.K.eq10 A).symm)
    rw [f0, f1, f2, f3, f4, f5, f6, f7, f8, f9]
  · refine (Cert.Reference3Ideal.Read.val_main_v117_eq _).trans (Eq.trans ?_ (Head.K.eq11 A).symm)
    rw [f0, f1, f2, f3, f4, f5, f6, f7, f8, f9]
  · refine (Cert.Reference3Ideal.Read.val_main_v118_eq _).trans (Eq.trans ?_ (Head.K.eq12 A).symm)
    rw [f0, f1, f4, f7, f8]
  · refine (Cert.Reference3Ideal.Read.val_main_v119_eq _).trans (Eq.trans ?_ (Head.K.eq13 A).symm)
    rw [f0, f1, f2, f3, f4, f5, f6, f7, f8, f9]
  · refine (Cert.Reference3Ideal.Read.val_main_v120_eq _).trans (Eq.trans ?_ (Head.K.eq14 A).symm)
    rw [f0, f1, f2, f3, f4, f5, f6, f7, f8, f9]
  · refine (Cert.Reference3Ideal.Read.val_main_v121_eq _).trans (Eq.trans ?_ (Head.K.eq15 A).symm)
    rw [f0, f1, f2, f3, f4, f5, f6, f7, f8, f9]
  · refine (Cert.Reference3Ideal.Read.val_main_v122_eq _).trans (Eq.trans ?_ (Head.K.eq16 A).symm)
    rw [f0, f1, f2, f3, f4, f5, f6, f7, f8, f9]
  · refine (Cert.Reference3Ideal.Read.val_main_v123_eq _).trans (Eq.trans ?_ (Head.K.eq17 A).symm)
    rw [f0, f1, f2, f3, f4, f5, f6, f7, f8, f9]
  · refine (Cert.Reference3Ideal.Read.val_main_v124_eq _).trans (Eq.trans ?_ (Head.K.eq18 A).symm)
    rw [f0, f1, f2, f3, f4, f5, f6, f7, f8, f9]
  · refine (Cert.Reference3Ideal.Read.val_main_v125_eq _).trans (Eq.trans ?_ (Head.K.eq19 A).symm)
    rw [f0, f1, f2, f3, f4, f5, f6, f7, f8, f9]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite.Gen.facts, Cert.Pre_finite3.Gen.facts,
  fun m g _ => Cert.Kernel.Gen.frame m g,
  fun m g _ => Cert.KernelIdeal.Gen.frame m g,
  fun m g _ => Cert.KernelIdeal.Gen.frame m g,
  frame_r,
  fun m g _ => frame_r m g trivial,
  fun m g _ => Cert.Kernel2.Gen.frame m g,
  fun m g _ => Cert.Kernel2Ideal.Gen.frame m g,
  frame_r2,
  fun m g _ => Cert.Kernel3.Gen.frame m g,
  fun m g _ => Cert.Kernel3Ideal.Gen.frame m g,
  fun m g _ => Cert.Kernel3Ideal.Gen.frame m g,
  frame_r3,
  fun m g _ => frame_r3 m g trivial,
  preserves,
  algebraic,
  trivial,
  algebraic2,
  trivial,
  algebraic3⟩

end Cert.Proof

end
